-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v255) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v55_0)) (v1 : (c : Dev Cert.Kernel6Ideal.nD) → Buf (Elt Ideal) ((c.tc : Thread Cert.Kernel6Ideal.nD Cert.Kernel6Ideal.τ).loc Cert.Kernel6Ideal.main_v55_1)) (v2 : (c : Dev Cert.Kernel6Ideal.nD) → Buf (Elt Ideal) ((c.tc : Thread Cert.Kernel6Ideal.nD Cert.Kernel6Ideal.τ).loc Cert.Kernel6Ideal.main_v55_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v55_0) = v0 c
          ∧ r.2.mem ((c.tc : Thread Cert.Kernel6Ideal.nD Cert.Kernel6Ideal.τ).loc Cert.Kernel6Ideal.main_v55_1) = v1 c
          ∧ r.2.mem ((c.tc : Thread Cert.Kernel6Ideal.nD Cert.Kernel6Ideal.τ).loc Cert.Kernel6Ideal.main_v55_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v162) = v0 c
          ∧ r.2.mem ((c.tc : Thread Cert.Reference6Ideal.nD Cert.Reference6Ideal.τ).loc Cert.Reference6Ideal.main_v187) = v1 c
          ∧ r.2.mem ((c.tc : Thread Cert.Reference6Ideal.nD Cert.Reference6Ideal.τ).loc Cert.Reference6Ideal.main_v158) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x32768x128 : Shape := ⟨3, ![16, 32768, 128]⟩
abbrev S_ : Shape := ⟨0, ![]⟩

class Facts : Prop where
  bitsLt_bf16_f32 : FTy.bits .bf16 < FTy.bits .f32
  bcast_S_S16x32768x128 : S_.BroadcastsInDim S16x32768x128 (![] : Fin 0 → Fin S16x32768x128.rank)

variable [Facts]

def fn {F : FTy → Type} [FloatOps F] (main_arg0 : FVec F S16x32768x128 .bf16) (main_arg1 : FVec F S16x32768x128 .bf16) (main_arg2 : FVec F S16x32768x128 .bf16) : IVec S16x32768x128 1 × IVec S16x32768x128 1 :=
  let main_v0 : FVec F S16x32768x128 .f32 := (extf .f32 · bitsLt_bf16_f32) main_arg0
  let main_v1 : FVec F S16x32768x128 .f32 := Host.absf main_v0
  let main_cst : FVec F S_ .f32 := constant S_ .f32 0x7F800000#32
  let main_v2 : FVec F S16x32768x128 .f32 := broadcastInDim S16x32768x128 ![] bcast_S_S16x32768x128 main_cst
  let main_v3 : IVec S16x32768x128 1 := cmpf .olt main_v1 main_v2
  let main_v4 : FVec F S16x32768x128 .f32 := (extf .f32 · bitsLt_bf16_f32) main_arg1
  let main_v5 : FVec F S16x32768x128 .f32 := Host.absf main_v4
  let main_cst_0 : FVec F S_ .f32 := constant S_ .f32 0x7F800000#32
  let main_v6 : FVec F S16x32768x128 .f32 := broadcastInDim S16x32768x128 ![] bcast_S_S16x32768x128 main_cst_0
  let main_v7 : IVec S16x32768x128 1 := cmpf .olt main_v5 main_v6
  (main_v3, main_v7)
-- ==== Kernel.lean ====
abbrev S16x32768x128 : Shape := ⟨3, ![16, 32768, 128]⟩
abbrev S36 : Shape := ⟨1, ![36]⟩
abbrev S1x1024x128 : Shape := ⟨3, ![1, 1024, 128]⟩
abbrev S1 : Shape := ⟨1, ![1]⟩
abbrev S1024x1 : Shape := ⟨2, ![1024, 1]⟩
abbrev S1024x128 : Shape := ⟨2, ![1024, 128]⟩
abbrev S1024x1024 : Shape := ⟨2, ![1024, 1024]⟩
abbrev S1x1024x1024 : Shape := ⟨3, ![1, 1024, 1024]⟩
abbrev S1024 : Shape := ⟨1, ![1024]⟩

abbrev nBuf : Space → Nat
  | .hbm => 4
  | .vmem => 11
  | .smem => 4
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S16x32768x128, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 36], ![false, false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg2 : BitVec 32 := BitVec.ofNat 32 (i 2).val
  let v12 : Index := Scalar.indexCast arg2
  ![v12.toNat]
def k0_cond3 (v13 : BitVec 32) : BitVec 1 :=
  let c1_i32_2 : BitVec 32 := 1#32
  let v14 : BitVec 1 := Scalar.cmpi .eq v13 c1_i32_2
  let v15 : BitVec 32 := Scalar.extui v14
  let c0_i32_3 : BitVec 32 := 0#32
  let v16 : BitVec 1 := Scalar.cmpi .ne v15 c0_i32_3
  v16

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![arg0.toNat, v3.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : Index := Scalar.indexCast arg2
  let v2 : BitVec 32 := pf.at 1 (Rect.unit (s := S36) ![v1.toNat] S1.size (k0_off1_inb i)) numel1_S1
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![arg0.toNat, v4.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : Index := Scalar.indexCast arg2
  let v2 : BitVec 32 := pf.at 1 (Rect.unit (s := S36) ![v1.toNat] S1.size (k0_off1_inb i)) numel1_S1
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![arg0.toNat, v4.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![arg0.toNat, v3.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x32768x128 : Shape := ⟨3, ![16, 32768, 128]⟩
abbrev S16x4x8192x128 : Shape := ⟨4, ![16, 4, 8192, 128]⟩
abbrev S16x4x8192x8192 : Shape := ⟨4, ![16, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S16x4x8192 : Shape := ⟨3, ![16, 4, 8192]⟩
abbrev S16x4x8192x1 : Shape := ⟨4, ![16, 4, 8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S16x32768x128, .f32⟩
  | .hbm, ⟨4, _⟩ => ⟨S16x4x8192x128, .f32⟩
  | .hbm, ⟨5, _⟩ => ⟨S16x32768x128, .f32⟩
  | .hbm, ⟨6, _⟩ => ⟨S16x4x8192x128, .f32⟩
  | .hbm, ⟨7, _⟩ => ⟨S16x32768x128, .f32⟩
  | .hbm, ⟨8, _⟩ => ⟨S16x4x8192x128, .f32⟩
  | .hbm, ⟨9, _⟩ => ⟨S16x4x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S16x4x8192x8192, .i1⟩
  | .hbm, ⟨19, _⟩ => ⟨S16x4x8192x8192, .f32⟩
  | .hbm, ⟨20, _⟩ => ⟨S16x4x8192x8192, .f32⟩
  | .hbm, ⟨21, _⟩ => ⟨S_, .f32⟩
  | .hbm, ⟨22, _⟩ => ⟨S16x4x8192, .f32⟩
  | .hbm, ⟨23, _⟩ => ⟨S_, .f32⟩
  | .hbm, ⟨24, _⟩ => ⟨S16x4x8192, .f32⟩
  | .hbm, ⟨25, _⟩ => ⟨S16x4x8192, .f32⟩
  | .hbm, ⟨26, _⟩ => ⟨S16x4x8192x1, .f32⟩
  | .hbm, ⟨27, _⟩ => ⟨S16x4x8192x8192, .f32⟩
  | .hbm, ⟨28, _⟩ => ⟨S16x4x8192x8192, .f32⟩
  | .hbm, ⟨29, _⟩ => ⟨S16x4x8192x8192, .f32⟩
  | .hbm, ⟨30, _⟩ => ⟨S_, .f32⟩
  | .hbm, ⟨31, _⟩ => ⟨S16x4x8192, .f32⟩
  | .hbm, ⟨32, _⟩ => ⟨S16x4x8192x1, .f32⟩
  | .hbm, ⟨33, _⟩ => ⟨S16x4x8192x8192, .f32⟩
  | .hbm, ⟨34, _⟩ => ⟨S16x4x8192x8192, .f32⟩
  | .hbm, ⟨35, _⟩ => ⟨S16x4x8192x128, .f32⟩
  | .hbm, ⟨36, _⟩ => ⟨S16x32768x128, .f32⟩
  | .hbm, ⟨37, _⟩ => ⟨S16x32768x128, .bf16⟩
  | _, _ => ⟨S16x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S1024 : Shape := ⟨1, ![1024]⟩
abbrev S1024x2048 : Shape := ⟨2, ![1024, 2048]⟩
abbrev S2048 : Shape := ⟨1, ![2048]⟩
abbrev S4x1x1024 : Shape := ⟨3, ![4, 1, 1024]⟩
abbrev S_ : Shape := ⟨0, ![]⟩
abbrev S1x1x1024 : Shape := ⟨3, ![1, 1, 1024]⟩
abbrev S32768x1024 : Shape := ⟨2, ![32768, 1024]⟩
abbrev S1x2048 : Shape := ⟨2, ![1, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x2048 : Shape := ⟨2, ![512, 2048]⟩

abbrev nBuf : Space → Nat
  | .hbm => 18
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S4x1x1024, .f32⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S1x1x1024, .f32⟩
  | .hbm, ⟨12, _⟩ => ⟨S4x1x1024, .f32⟩
  | .hbm, ⟨13, _⟩ => ⟨S4x1x1024, .f32⟩
  | .hbm, ⟨14, _⟩ => ⟨S32768x1024, .f32⟩
  | .hbm, ⟨15, _⟩ => ⟨S1024x2048, .bf16⟩
  | .hbm, ⟨16, _⟩ => ⟨S1x2048, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S4x1024 : Shape := ⟨2, ![4, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2048 : Shape := ⟨3, ![4, 8192, 2048]⟩
abbrev S1x1x2048 : Shape := ⟨3, ![1, 1, 2048]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x2048, .f32⟩
  | .hbm, ⟨32, _⟩ => ⟨S1x1x2048, .f32⟩
  | .hbm, ⟨33, _⟩ => ⟨S4x8192x2048, .f32⟩
  | .hbm, ⟨34, _⟩ => ⟨S4x8192x2048, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S16x32768x128 : Shape := ⟨3, ![16, 32768, 128]⟩
abbrev S4x8192x1024 : Shape := ⟨3, ![4, 8192, 1024]⟩
abbrev S4x1024 : Shape := ⟨2, ![4, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S32768x1024 : Shape := ⟨2, ![32768, 1024]⟩
abbrev S4x1x1024 : Shape := ⟨3, ![4, 1, 1024]⟩
abbrev S16x256x128 : Shape := ⟨3, ![16, 256, 128]⟩
abbrev S256x1024 : Shape := ⟨2, ![256, 1024]⟩
abbrev S1x1x1024 : Shape := ⟨3, ![1, 1, 1024]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S1x1024 : Shape := ⟨2, ![1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16x32768x128, .bf16⟩
  | .hbm, ⟨1, _⟩ => ⟨S4x8192x1024, .f32⟩
  | .hbm, ⟨2, _⟩ => ⟨S4x1024, .f32⟩
  | .hbm, ⟨3, _⟩ => ⟨S1024x1024, .f32⟩
  | .hbm, ⟨4, _⟩ => ⟨S16x64x1024, .f32⟩
  | .hbm, ⟨5, _⟩ => ⟨S_, .i32⟩
  | .hbm, ⟨6, _⟩ => ⟨S_, .f32⟩
  | .hbm, ⟨7, _⟩ => ⟨S16x128x1024, .f32⟩
  | .hbm, ⟨8, _⟩ => ⟨S16x128x1024, .bf16⟩
  | .hbm, ⟨9, _⟩ => ⟨S32768x1024, .f32⟩
  | .hbm, ⟨10, _⟩ => ⟨S4x1x1024, .f32⟩
  | .hbm, ⟨11, _⟩ => ⟨S32768x1024, .f32⟩
  | .local _ .vmem, ⟨0, _⟩ => ⟨S16x256x128, .bf16⟩
  | .local _ .vmem, ⟨1, _⟩ => ⟨S16x256x128, .bf16⟩
  | .local _ .vmem, ⟨2, _⟩ => ⟨S16x128x1024, .bf16⟩
  | .local _ .vmem, ⟨3, _⟩ => ⟨S256x1024, .f32⟩
  | .local _ .vmem, ⟨4, _⟩ => ⟨S256x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x32768x128 : Shape := ⟨3, ![16, 32768, 128]⟩
abbrev S4x8192x1024 : Shape := ⟨3, ![4, 8192, 1024]⟩
abbrev S4x1024 : Shape := ⟨2, ![4, 1024]⟩
abbrev S1024x1024 : Shape := ⟨2, ![1024, 1024]⟩
abbrev S16x32768x64 : Shape := ⟨3, ![16, 32768, 64]⟩
abbrev S16x4x8192x64 : Shape := ⟨4, ![16, 4, 8192, 64]⟩
abbrev S4x8192x16x64 : Shape := ⟨4, ![4, 8192, 16, 64]⟩
abbrev S4x1x1024 : Shape := ⟨3, ![4, 1, 1024]⟩
abbrev S32768x1024 : Shape := ⟨2, ![32768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x32768x128, .bf16⟩
  | .hbm, ⟨1, _⟩ => ⟨S4x8192x1024, .f32⟩
  | .hbm, ⟨2, _⟩ => ⟨S4x1024, .f32⟩
  | .hbm, ⟨3, _⟩ => ⟨S1024x1024, .f32⟩
  | .hbm, ⟨4, _⟩ => ⟨S16x32768x64, .bf16⟩
  | .hbm, ⟨5, _⟩ => ⟨S16x32768x64, .f32⟩
  | .hbm, ⟨6, _⟩ => ⟨S16x4x8192x64, .f32⟩
  | .hbm, ⟨7, _⟩ => ⟨S4x8192x16x64, .f32⟩
  | .hbm, ⟨8, _⟩ => ⟨S4x8192x1024, .f32⟩
  | .hbm, ⟨9, _⟩ => ⟨S4x8192x1024, .f32⟩
  | .hbm, ⟨10, _⟩ => ⟨S4x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S32768x1024, .f32⟩
  | _, _ => ⟨S16x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S16x32768x128 : Shape := ⟨3, ![16, 32768, 128]⟩
abbrev S32768x128 : Shape := ⟨2, ![32768, 128]⟩
abbrev S4x8192x1024 : Shape := ⟨3, ![4, 8192, 1024]⟩
abbrev S4x1024 : Shape := ⟨2, ![4, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S32768x1024 : Shape := ⟨2, ![32768, 1024]⟩
abbrev S4x1x1024 : Shape := ⟨3, ![4, 1, 1024]⟩
abbrev S16x256x128 : Shape := ⟨3, ![16, 256, 128]⟩
abbrev S256x128 : Shape := ⟨2, ![256, 128]⟩
abbrev S256x1024 : Shape := ⟨2, ![256, 1024]⟩
abbrev S1x1x1024 : Shape := ⟨3, ![1, 1, 1024]⟩
abbrev S256x1 : Shape := ⟨2, ![256, 1]⟩
abbrev S1x256x128 : Shape := ⟨3, ![1, 256, 128]⟩
abbrev S1x128x1024 : Shape := ⟨3, ![1, 128, 1024]⟩
abbrev S128x1024 : Shape := ⟨2, ![128, 1024]⟩
abbrev S1x1024 : Shape := ⟨2, ![1, 1024]⟩

abbrev nBuf : Space → Nat
  | .hbm => 15
  | .vmem => 15
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S32768x128, .f32⟩
  | .hbm, ⟨4, _⟩ => ⟨S4x8192x1024, .f32⟩
  | .hbm, ⟨5, _⟩ => ⟨S4x1024, .f32⟩
  | .hbm, ⟨6, _⟩ => ⟨S1024x1024, .f32⟩
  | .hbm, ⟨7, _⟩ => ⟨S16x64x1024, .f32⟩
  | .hbm, ⟨8, _⟩ => ⟨S_, .i32⟩
  | .hbm, ⟨9, _⟩ => ⟨S_, .f32⟩
  | .hbm, ⟨10, _⟩ => ⟨S16x128x1024, .f32⟩
  | .hbm, ⟨11, _⟩ => ⟨S16x128x1024, .bf16⟩
  | .hbm, ⟨12, _⟩ => ⟨S32768x1024, .f32⟩
  | .hbm, ⟨13, _⟩ => ⟨S4x1x1024, .f32⟩
  | .hbm, ⟨14, _⟩ => ⟨S32768x1024, .f32⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .bf16⟩
  | .local _ .vmem, ⟨5, _⟩ => ⟨S16x256x128, .bf16⟩
  | .local _ .vmem, ⟨6, _⟩ => ⟨S256x128, .f32⟩
  | .local _ .vmem, ⟨7, _⟩ => ⟨S256x128, .f32⟩
  | .local _ .vmem, ⟨8, _⟩ => ⟨S16x128x1024, .bf16⟩
  | .local _ .vmem, ⟨9, _⟩ => ⟨S256x1024, .f32⟩
  | .local _ .vmem, ⟨10, _⟩ => ⟨S256x1024, .f32⟩
  | .local _ .vmem, ⟨11, _⟩ => ⟨S1x1x1024, .f32⟩
  | .local _ .vmem, ⟨12, _⟩ => ⟨S1x1x1024, .f32⟩
  | .local _ .vmem, ⟨13, _⟩ => ⟨S256x1024, .f32⟩
  | .local _ .vmem, ⟨14, _⟩ => ⟨S256x1024, .f32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16x32768x128 : Shape := ⟨3, ![16, 32768, 128]⟩
abbrev S32768x128 : Shape := ⟨2, ![32768, 128]⟩
abbrev S4x8192x1024 : Shape := ⟨3, ![4, 8192, 1024]⟩
abbrev S4x1024 : Shape := ⟨2, ![4, 1024]⟩
abbrev S1024x1024 : Shape := ⟨2, ![1024, 1024]⟩
abbrev S32768x48 : Shape := ⟨2, ![32768, 48]⟩
abbrev S_ : Shape := ⟨0, ![]⟩
abbrev S4x8192x16x3 : Shape := ⟨4, ![4, 8192, 16, 3]⟩
abbrev S4x8192x16x1 : Shape := ⟨4, ![4, 8192, 16, 1]⟩
abbrev S16x32768x64 : Shape := ⟨3, ![16, 32768, 64]⟩
abbrev S16x4x8192x64 : Shape := ⟨4, ![16, 4, 8192, 64]⟩
abbrev S4x8192x16x64 : Shape := ⟨4, ![4, 8192, 16, 64]⟩
abbrev S4x1x1024 : Shape := ⟨3, ![4, 1, 1024]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S32768x128, .f32⟩
  | .hbm, ⟨4, _⟩ => ⟨S4x8192x1024, .f32⟩
  | .hbm, ⟨5, _⟩ => ⟨S4x1024, .f32⟩
  | .hbm, ⟨6, _⟩ => ⟨S1024x1024, .f32⟩
  | .hbm, ⟨7, _⟩ => ⟨S32768x48, .f32⟩
  | .hbm, ⟨8, _⟩ => ⟨S32768x48, .f32⟩
  | .hbm, ⟨9, _⟩ => ⟨S32768x48, .f32⟩
  | .hbm, ⟨10, _⟩ => ⟨S_, .f32⟩
  | .hbm, ⟨11, _⟩ => ⟨S32768x48, .f32⟩
  | .hbm, ⟨12, _⟩ => ⟨S32768x48, .f32⟩
  | .hbm, ⟨13, _⟩ => ⟨S_, .f32⟩
  | .hbm, ⟨14, _⟩ => ⟨S32768x48, .f32⟩
  | .hbm, ⟨15, _⟩ => ⟨S32768x48, .f32⟩
  | .hbm, ⟨16, _⟩ => ⟨S4x8192x16x3, .f32⟩
  | .hbm, ⟨17, _⟩ => ⟨S4x8192x16x1, .f32⟩
  | .hbm, ⟨18, _⟩ => ⟨S16x32768x64, .bf16⟩
  | .hbm, ⟨19, _⟩ => ⟨S16x32768x64, .f32⟩
  | .hbm, ⟨20, _⟩ => ⟨S16x4x8192x64, .f32⟩
  | .hbm, ⟨21, _⟩ => ⟨S4x8192x16x64, .f32⟩
  | .hbm, ⟨22, _⟩ => ⟨S4x8192x16x64, .f32⟩
  | .hbm, ⟨23, _⟩ => ⟨S4x8192x16x64, .f32⟩
  | .hbm, ⟨24, _⟩ => ⟨S4x8192x16x1, .f32⟩
  | .hbm, ⟨25, _⟩ => ⟨S16x32768x64, .bf16⟩
  | .hbm, ⟨26, _⟩ => ⟨S16x32768x64, .f32⟩
  | .hbm, ⟨27, _⟩ => ⟨S16x4x8192x64, .f32⟩
  | .hbm, ⟨28, _⟩ => ⟨S4x8192x16x64, .f32⟩
  | .hbm, ⟨29, _⟩ => ⟨S4x8192x16x64, .f32⟩
  | .hbm, ⟨30, _⟩ => ⟨S4x8192x16x64, .f32⟩
  | .hbm, ⟨31, _⟩ => ⟨S4x8192x16x64, .f32⟩
  | .hbm, ⟨32, _⟩ => ⟨S4x8192x16x1, .f32⟩
  | .hbm, ⟨33, _⟩ => ⟨S16x32768x64, .bf16⟩
  | .hbm, ⟨34, _⟩ => ⟨S16x32768x64, .f32⟩
  | .hbm, ⟨35, _⟩ => ⟨S16x4x8192x64, .f32⟩
  | .hbm, ⟨36, _⟩ => ⟨S4x8192x16x64, .f32⟩
  | .hbm, ⟨37, _⟩ => ⟨S4x8192x16x64, .f32⟩
  | .hbm, ⟨38, _⟩ => ⟨S4x8192x16x64, .f32⟩
  | .hbm, ⟨39, _⟩ => ⟨S4x8192x16x64, .f32⟩
  | .hbm, ⟨40, _⟩ => ⟨S4x8192x1024, .f32⟩
  | .hbm, ⟨41, _⟩ => ⟨S4x8192x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S32768x1024, .f32⟩
  | _, _ => ⟨S16x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1024 : Shape := ⟨2, ![4, 1024]⟩
abbrev S31x1024 : Shape := ⟨2, ![31, 1024]⟩
abbrev S1024 : Shape := ⟨1, ![1024]⟩
abbrev S1024x1024 : Shape := ⟨2, ![1024, 1024]⟩
abbrev S32768x1024 : Shape := ⟨2, ![32768, 1024]⟩
abbrev S4x1x1024 : Shape := ⟨3, ![4, 1, 1024]⟩
abbrev S_ : Shape := ⟨0, ![]⟩
abbrev S32x1024 : Shape := ⟨2, ![32, 1024]⟩
abbrev S1x1024 : Shape := ⟨2, ![1, 1024]⟩
abbrev S512x1024 : Shape := ⟨2, ![512, 1024]⟩
abbrev S1x1x1024 : Shape := ⟨3, ![1, 1, 1024]⟩
abbrev S544x1024 : Shape := ⟨2, ![544, 1024]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S4x1x1024, .f32⟩
  | .hbm, ⟨12, _⟩ => ⟨S_, .i32⟩
  | .hbm, ⟨13, _⟩ => ⟨S_, .f32⟩
  | .hbm, ⟨14, _⟩ => ⟨S32x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S544x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4x8192x1024 : Shape := ⟨3, ![4, 8192, 1024]⟩
abbrev S4x1024 : Shape := ⟨2, ![4, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S4x8222x1024 : Shape := ⟨3, ![4, 8222, 1024]⟩
abbrev S1x1024 : Shape := ⟨2, ![1, 1024]⟩
abbrev S1x1x1024 : Shape := ⟨3, ![1, 1, 1024]⟩
abbrev S4x8192 : Shape := ⟨2, ![4, 8192]⟩
abbrev S4x8192x1 : Shape := ⟨3, ![4, 8192, 1]⟩
abbrev S4x1x1024 : Shape := ⟨3, ![4, 1, 1024]⟩
abbrev S32768x1024 : Shape := ⟨2, ![32768, 1024]⟩

abbrev nBuf : Space → Nat
  | .hbm => 281
  | .vmem => 0
  | .smem => 0
  | _ => 0

abbrev hbmTy0_0 (i : Nat) : BufTy := match i % 128 with
  | 0 => ⟨S4x8192x1024, .f32⟩
  | 1 => ⟨S4x8192x1024, .f32⟩
  | 2 => ⟨S4x1024, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S_, .i32⟩
  | 10 => ⟨S_, .f32⟩
  | 11 => ⟨S4x8222x1024, .f32⟩
  | 12 => ⟨S4x8192x1024, .f32⟩
  | 13 => ⟨S1x1024, .f32⟩
  | 14 => ⟨S1024, .f32⟩
  | 15 => ⟨S1x1x1024, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S1x1x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S1x1024, .f32⟩
  | 30 => ⟨S1024, .f32⟩
  | 31 => ⟨S1x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S1x1024, .f32⟩
  | 37 => ⟨S1024, .f32⟩
  | 38 => ⟨S1x1x1024, .f32⟩
  | 39 => ⟨S4x8192x1024, .f32⟩
  | 40 => ⟨S4x8192x1024, .f32⟩
  | 41 => ⟨S4x8192x1024, .f32⟩
  | 42 => ⟨S4x8192x1024, .f32⟩
  | 43 => ⟨S1x1024, .f32⟩
  | 44 => ⟨S1024, .f32⟩
  | 45 => ⟨S1x1x1024, .f32⟩
  | 46 => ⟨S4x8192x1024, .f32⟩
  | 47 => ⟨S4x8192x1024, .f32⟩
  | 48 => ⟨S4x8192x1024, .f32⟩
  | 49 => ⟨S4x8192x1024, .f32⟩
  | 50 => ⟨S1x1024, .f32⟩
  | 51 => ⟨S1024, .f32⟩
  | 52 => ⟨S1x1x1024, .f32⟩
  | 53 => ⟨S4x8192x1024, .f32⟩
  | 54 => ⟨S4x8192x1024, .f32⟩
  | 55 => ⟨S4x8192x1024, .f32⟩
  | 56 => ⟨S4x8192x1024, .f32⟩
  | 57 => ⟨S1x1024, .f32⟩
  | 58 => ⟨S1024, .f32⟩
  | 59 => ⟨S1x1x1024, .f32⟩
  | 60 => ⟨S4x8192x1024, .f32⟩
  | 61 => ⟨S4x8192x1024, .f32⟩
  | 62 => ⟨S4x8192x1024, .f32⟩
  | 63 => ⟨S4x8192x1024, .f32⟩
  | 64 => ⟨S1x1024, .f32⟩
  | 65 => ⟨S1024, .f32⟩
  | 66 => ⟨S1x1x1024, .f32⟩
  | 67 => ⟨S4x8192x1024, .f32⟩
  | 68 => ⟨S4x8192x1024, .f32⟩
  | 69 => ⟨S4x8192x1024, .f32⟩
  | 70 => ⟨S4x8192x1024, .f32⟩
  | 71 => ⟨S1x1024, .f32⟩
  | 72 => ⟨S1024, .f32⟩
  | 73 => ⟨S1x1x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S1x1024, .f32⟩
  | 79 => ⟨S1024, .f32⟩
  | 80 => ⟨S1x1x1024, .f32⟩
  | 81 => ⟨S4x8192x1024, .f32⟩
  | 82 => ⟨S4x8192x1024, .f32⟩
  | 83 => ⟨S4x8192x1024, .f32⟩
  | 84 => ⟨S4x8192x1024, .f32⟩
  | 85 => ⟨S1x1024, .f32⟩
  | 86 => ⟨S1024, .f32⟩
  | 87 => ⟨S1x1x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S1x1024, .f32⟩
  | 93 => ⟨S1024, .f32⟩
  | 94 => ⟨S1x1x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S1x1024, .f32⟩
  | 100 => ⟨S1024, .f32⟩
  | 101 => ⟨S1x1x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S1x1024, .f32⟩
  | 107 => ⟨S1024, .f32⟩
  | 108 => ⟨S1x1x1024, .f32⟩
  | 109 => ⟨S4x8192x1024, .f32⟩
  | 110 => ⟨S4x8192x1024, .f32⟩
  | 111 => ⟨S4x8192x1024, .f32⟩
  | 112 => ⟨S4x8192x1024, .f32⟩
  | 113 => ⟨S1x1024, .f32⟩
  | 114 => ⟨S1024, .f32⟩
  | 115 => ⟨S1x1x1024, .f32⟩
  | 116 => ⟨S4x8192x1024, .f32⟩
  | 117 => ⟨S4x8192x1024, .f32⟩
  | 118 => ⟨S4x8192x1024, .f32⟩
  | 119 => ⟨S4x8192x1024, .f32⟩
  | 120 => ⟨S1x1024, .f32⟩
  | 121 => ⟨S1024, .f32⟩
  | 122 => ⟨S1x1x1024, .f32⟩
  | 123 => ⟨S4x8192x1024, .f32⟩
  | 124 => ⟨S4x8192x1024, .f32⟩
  | 125 => ⟨S4x8192x1024, .f32⟩
  | 126 => ⟨S4x8192x1024, .f32⟩
  | 127 => ⟨S1x1024, .f32⟩
  | _ => ⟨S4x8192x1024, .f32⟩

abbrev hbmTy0_1 (i : Nat) : BufTy := match i % 128 with
  | 0 => ⟨S1024, .f32⟩
  | 1 => ⟨S1x1x1024, .f32⟩
  | 2 => ⟨S4x8192x1024, .f32⟩
  | 3 => ⟨S4x8192x1024, .f32⟩
  | 4 => ⟨S4x8192x1024, .f32⟩
  | 5 => ⟨S4x8192x1024, .f32⟩
  | 6 => ⟨S1x1024, .f32⟩
  | 7 => ⟨S1024, .f32⟩
  | 8 => ⟨S1x1x1024, .f32⟩
  | 9 => ⟨S4x8192x1024, .f32⟩
  | 10 => ⟨S4x8192x1024, .f32⟩
  | 11 => ⟨S4x8192x1024, .f32⟩
  | 12 => ⟨S4x8192x1024, .f32⟩
  | 13 => ⟨S1x1024, .f32⟩
  | 14 => ⟨S1024, .f32⟩
  | 15 => ⟨S1x1x1024, .f32⟩
  | 16 => ⟨S4x8192x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S1x1024, .f32⟩
  | 28 => ⟨S1024, .f32⟩
  | 29 => ⟨S1x1x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1x1024, .f32⟩
  | 35 => ⟨S1024, .f32⟩
  | 36 => ⟨S1x1x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S1x1024, .f32⟩
  | 42 => ⟨S1024, .f32⟩
  | 43 => ⟨S1x1x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S1x1024, .f32⟩
  | 49 => ⟨S1024, .f32⟩
  | 50 => ⟨S1x1x1024, .f32⟩
  | 51 => ⟨S4x8192x1024, .f32⟩
  | 52 => ⟨S4x8192x1024, .f32⟩
  | 53 => ⟨S4x8192x1024, .f32⟩
  | 54 => ⟨S4x8192x1024, .f32⟩
  | 55 => ⟨S1x1024, .f32⟩
  | 56 => ⟨S1024, .f32⟩
  | 57 => ⟨S1x1x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S1x1024, .f32⟩
  | 63 => ⟨S1024, .f32⟩
  | 64 => ⟨S1x1x1024, .f32⟩
  | 65 => ⟨S4x8192x1024, .f32⟩
  | 66 => ⟨S4x8192x1024, .f32⟩
  | 67 => ⟨S4x8192x1024, .f32⟩
  | 68 => ⟨S4x8192x1024, .f32⟩
  | 69 => ⟨S1x1024, .f32⟩
  | 70 => ⟨S1024, .f32⟩
  | 71 => ⟨S1x1x1024, .f32⟩
  | 72 => ⟨S4x8192x1024, .f32⟩
  | 73 => ⟨S4x8192x1024, .f32⟩
  | 74 => ⟨S4x8192x1024, .f32⟩
  | 75 => ⟨S4x8192x1024, .f32⟩
  | 76 => ⟨S1x1024, .f32⟩
  | 77 => ⟨S1024, .f32⟩
  | 78 => ⟨S1x1x1024, .f32⟩
  | 79 => ⟨S4x8192x1024, .f32⟩
  | 80 => ⟨S4x8192x1024, .f32⟩
  | 81 => ⟨S4x8192x1024, .f32⟩
  | 82 => ⟨S4x8192x1024, .f32⟩
  | 83 => ⟨S1x1024, .f32⟩
  | 84 => ⟨S1024, .f32⟩
  | 85 => ⟨S1x1x1024, .f32⟩
  | 86 => ⟨S4x8192x1024, .f32⟩
  | 87 => ⟨S4x8192x1024, .f32⟩
  | 88 => ⟨S4x8192x1024, .f32⟩
  | 89 => ⟨S4x8192x1024, .f32⟩
  | 90 => ⟨S1x1024, .f32⟩
  | 91 => ⟨S1024, .f32⟩
  | 92 => ⟨S1x1x1024, .f32⟩
  | 93 => ⟨S4x8192x1024, .f32⟩
  | 94 => ⟨S4x8192x1024, .f32⟩
  | 95 => ⟨S4x8192x1024, .f32⟩
  | 96 => ⟨S4x8192x1024, .f32⟩
  | 97 => ⟨S1x1024, .f32⟩
  | 98 => ⟨S1024, .f32⟩
  | 99 => ⟨S1x1x1024, .f32⟩
  | 100 => ⟨S4x8192x1024, .f32⟩
  | 101 => ⟨S4x8192x1024, .f32⟩
  | 102 => ⟨S4x8192x1024, .f32⟩
  | 103 => ⟨S1x1x1024, .f32⟩
  | 104 => ⟨S4x8192x1024, .f32⟩
  | 105 => ⟨S4x8192x1024, .f32⟩
  | 106 => ⟨S_, .f32⟩
  | 107 => ⟨S4x8192, .f32⟩
  | 108 => ⟨S4x8192x1, .f32⟩
  | 109 => ⟨S_, .f32⟩
  | 110 => ⟨S4x8192x1, .f32⟩
  | 111 => ⟨S4x8192x1, .f32⟩
  | 112 => ⟨S4x8192x1024, .f32⟩
  | 113 => ⟨S4x8192x1024, .f32⟩
  | 114 => ⟨S4x8192x1024, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S4x8192x1024, .f32⟩
  | 122 => ⟨S4x8192x1024, .f32⟩
  | 123 => ⟨S_, .f32⟩
  | 124 => ⟨S4x8192x1, .f32⟩
  | 125 => ⟨S4x8192x1, .f32⟩
  | 126 => ⟨S4x8192x1, .f32⟩
  | 127 => ⟨S4x8192x1024, .f32⟩
  | _ => ⟨S4x8192x1024, .f32⟩

abbrev hbmTy0_2 (i : Nat) : BufTy := match i % 128 with
  | 0 => ⟨S4x8192x1024, .f32⟩
  | 1 => ⟨S1x1x1024, .f32⟩
  | 2 => ⟨S4x8192x1024, .f32⟩
  | 3 => ⟨S4x8192x1024, .f32⟩
  | 4 => ⟨S1x1x1024, .f32⟩
  | 5 => ⟨S4x8192x1024, .f32⟩
  | 6 => ⟨S4x8192x1024, .f32⟩
  | 7 => ⟨S4x8192x1024, .f32⟩
  | 8 => ⟨S4x8192x1024, .f32⟩
  | 9 => ⟨S_, .f32⟩
  | 10 => ⟨S4x8192x1024, .f32⟩
  | 11 => ⟨S4x8192x1024, .f32⟩
  | 12 => ⟨S_, .f32⟩
  | 13 => ⟨S4x8192x1024, .f32⟩
  | 14 => ⟨S4x8192x1024, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x1x1024, .f32⟩
  | 21 => ⟨S4x8192x1024, .f32⟩
  | 22 => ⟨S4x8192x1024, .f32⟩
  | 23 => ⟨S4x8192x1024, .f32⟩
  | 24 => ⟨S32768x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_cst_0 : Ref sig .tc := ⟨.hbm, 234, rfl⟩
abbrev main_v222 : Ref sig .tc := ⟨.hbm, 235, rfl⟩
abbrev main_v223 : Ref sig .tc := ⟨.hbm, 236, rfl⟩
abbrev main_cst_1 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_cst_2 : Ref sig .tc := ⟨.hbm, 243, rfl⟩
abbrev main_v229 : Ref sig .tc := ⟨.hbm, 244, rfl⟩
abbrev main_v230 : Ref sig .tc := ⟨.hbm, 245, rfl⟩
abbrev main_cst_3 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_cst_4 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_call1_v0 : Ref sig .tc := ⟨.hbm, 263, rfl⟩
abbrev main_call1_v1 : Ref sig .tc := ⟨.hbm, 264, rfl⟩
abbrev main_call1_cst : Ref sig .tc := ⟨.hbm, 265, rfl⟩
abbrev main_call1_v2 : Ref sig .tc := ⟨.hbm, 266, rfl⟩
abbrev main_call1_v3 : Ref sig .tc := ⟨.hbm, 267, rfl⟩
abbrev main_call1_cst_0 : Ref sig .tc := ⟨.hbm, 268, rfl⟩
abbrev main_call1_v4 : Ref sig .tc := ⟨.hbm, 269, rfl⟩
abbrev main_call1_v5 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x1024 : Shape := ⟨2, ![4, 1024]⟩
abbrev S1024 : Shape := ⟨1, ![1024]⟩
abbrev S1024x2608 : Shape := ⟨2, ![1024, 2608]⟩
abbrev S64 : Shape := ⟨1, ![64]⟩
abbrev S3x64 : Shape := ⟨2, ![3, 64]⟩
abbrev S4x1x1024 : Shape := ⟨3, ![4, 1, 1024]⟩
abbrev S_ : Shape := ⟨0, ![]⟩
abbrev S1x1x1024 : Shape := ⟨3, ![1, 1, 1024]⟩
abbrev S32768x1024 : Shape := ⟨2, ![32768, 1024]⟩
abbrev S1024x1024 : Shape := ⟨2, ![1024, 1024]⟩
abbrev S1024x16x64 : Shape := ⟨3, ![1024, 16, 64]⟩
abbrev S1024x16x128 : Shape := ⟨3, ![1024, 16, 128]⟩
abbrev S1024x2048 : Shape := ⟨2, ![1024, 2048]⟩
abbrev S1024x1536 : Shape := ⟨2, ![1024, 1536]⟩
abbrev S1024x24x64 : Shape := ⟨3, ![1024, 24, 64]⟩
abbrev S1024x24x128 : Shape := ⟨3, ![1024, 24, 128]⟩
abbrev S1024x3072 : Shape := ⟨2, ![1024, 3072]⟩
abbrev S1024x48 : Shape := ⟨2, ![1024, 48]⟩
abbrev S1024x128 : Shape := ⟨2, ![1024, 128]⟩
abbrev S1024x5248 : Shape := ⟨2, ![1024, 5248]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x128 : Shape := ⟨2, ![8192, 128]⟩
abbrev S8192x16 : Shape := ⟨2, ![8192, 16]⟩
abbrev S1 : Shape := ⟨1, ![1]⟩
abbrev S1x64 : Shape := ⟨2, ![1, 64]⟩
abbrev S1x128 : Shape := ⟨2, ![1, 128]⟩
abbrev S3x128 : Shape := ⟨2, ![3, 128]⟩
abbrev S16x32768x128 : Shape := ⟨3, ![16, 32768, 128]⟩
abbrev S24x32768x128 : Shape := ⟨3, ![24, 32768, 128]⟩
abbrev S32768x128 : Shape := ⟨2, ![32768, 128]⟩
abbrev S256x1024 : Shape := ⟨2, ![256, 1024]⟩
abbrev S256x128 : Shape := ⟨2, ![256, 128]⟩
abbrev S16x256x128 : Shape := ⟨3, ![16, 256, 128]⟩
abbrev S24x256x128 : Shape := ⟨3, ![24, 256, 128]⟩
abbrev S1x1024 : Shape := ⟨2, ![1, 1024]⟩
abbrev S256 : Shape := ⟨1, ![256]⟩
abbrev S256x1 : Shape := ⟨2, ![256, 1]⟩
abbrev S256x5248 : Shape := ⟨2, ![256, 5248]⟩
abbrev S1x256x128 : Shape := ⟨3, ![1, 256, 128]⟩

abbrev nBuf : Space → Nat
  | .hbm => 87
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2608, .f32⟩
  | .hbm, ⟨5, _⟩ => ⟨S64, .f32⟩
  | .hbm, ⟨6, _⟩ => ⟨S3x64, .f32⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S1x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S32768x1024, .f32⟩
  | .hbm, ⟨16, _⟩ => ⟨S1024x1024, .f32⟩
  | .hbm, ⟨17, _⟩ => ⟨S1024x16x64, .f32⟩
  | .hbm, ⟨18, _⟩ => ⟨S_, .i32⟩
  | .hbm, ⟨19, _⟩ => ⟨S_, .f32⟩
  | .hbm, ⟨20, _⟩ => ⟨S1024x16x128, .f32⟩
  | .hbm, ⟨21, _⟩ => ⟨S1024x2048, .f32⟩
  | .hbm, ⟨22, _⟩ => ⟨S1024x1536, .f32⟩
  | .hbm, ⟨23, _⟩ => ⟨S1024x24x64, .f32⟩
  | .hbm, ⟨24, _⟩ => ⟨S_, .i32⟩
  | .hbm, ⟨25, _⟩ => ⟨S_, .f32⟩
  | .hbm, ⟨26, _⟩ => ⟨S1024x24x128, .f32⟩
  | .hbm, ⟨27, _⟩ => ⟨S1024x3072, .f32⟩
  | .hbm, ⟨28, _⟩ => ⟨S1024x48, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x5248, .f32⟩
  | .hbm, ⟨33, _⟩ => ⟨S1024x5248, .bf16⟩
  | .hbm, ⟨34, _⟩ => ⟨S8192, .i32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8192, .f32⟩
  | .hbm, ⟨50, _⟩ => ⟨S8192x1, .f32⟩
  | .hbm, ⟨51, _⟩ => ⟨S1x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S_, .f32⟩
  | .hbm, ⟨58, _⟩ => ⟨S8192x128, .f32⟩
  | .hbm, ⟨59, _⟩ => ⟨S8192x16, .f32⟩
  | .hbm, ⟨60, _⟩ => ⟨S_, .i32⟩
  | .hbm, ⟨61, _⟩ => ⟨S1, .i32⟩
  | .hbm, ⟨62, _⟩ => ⟨S8192x128, .f32⟩
  | .hbm, ⟨63, _⟩ => ⟨S_, .f32⟩
  | .hbm, ⟨64, _⟩ => ⟨S8192x128, .f32⟩
  | .hbm, ⟨65, _⟩ => ⟨S8192x8, .f32⟩
  | .hbm, ⟨66, _⟩ => ⟨S_, .i32⟩
  | .hbm, ⟨67, _⟩ => ⟨S1, .i32⟩
  | .hbm, ⟨68, _⟩ => ⟨S8192x128, .f32⟩
  | .hbm, ⟨69, _⟩ => ⟨S_, .f32⟩
  | .hbm, ⟨70, _⟩ => ⟨S8192x128, .f32⟩
  | .hbm, ⟨71, _⟩ => ⟨S_, .i32⟩
  | .hbm, ⟨72, _⟩ => ⟨S1, .i32⟩
  | .hbm, ⟨73, _⟩ => ⟨S8192x128, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S_, .i32⟩
  | .hbm, ⟨79, _⟩ => ⟨S_, .f32⟩
  | .hbm, ⟨80, _⟩ => ⟨S1x128, .f32⟩
  | .hbm, ⟨81, _⟩ => ⟨S_, .i32⟩
  | .hbm, ⟨82, _⟩ => ⟨S_, .f32⟩
  | .hbm, ⟨83, _⟩ => ⟨S3x128, .f32⟩
  | .hbm, ⟨84, _⟩ => ⟨S16x32768x128, .bf16⟩
  | .hbm, ⟨85, _⟩ => ⟨S24x32768x128, .bf16⟩
  | .hbm, ⟨86, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x5248, .bf16⟩
  | .local _ .vmem, ⟨7, _⟩ => ⟨S1x128, .f32⟩
  | .local _ .vmem, ⟨8, _⟩ => ⟨S3x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S16x256x128, .bf16⟩
  | .local _ .vmem, ⟨16, _⟩ => ⟨S16x256x128, .bf16⟩
  | .local _ .vmem, ⟨17, _⟩ => ⟨S24x256x128, .bf16⟩
  | .local _ .vmem, ⟨18, _⟩ => ⟨S24x256x128, .bf16⟩
  | .local _ .vmem, ⟨19, _⟩ => ⟨S256x128, .f32⟩
  | .local _ .vmem, ⟨20, _⟩ => ⟨S256x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_call3_v0 : Ref sig .tc := ⟨.hbm, 79, rfl⟩
abbrev main_v53 : Ref sig .tc := ⟨.hbm, 80, rfl⟩
abbrev main_c_14 : Ref sig .tc := ⟨.hbm, 81, rfl⟩
abbrev main_call4_v0 : Ref sig .tc := ⟨.hbm, 82, rfl⟩
abbrev main_v54 : Ref sig .tc := ⟨.hbm, 83, rfl⟩
abbrev main_v55_0 : Ref sig .tc := ⟨.hbm, 84, rfl⟩
abbrev main_v55_1 : Ref sig .tc := ⟨.hbm, 85, rfl⟩
abbrev main_v55_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S24x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S4x8192x1024 : Shape := ⟨3, ![4, 8192, 1024]⟩
abbrev S4x1024 : Shape := ⟨2, ![4, 1024]⟩
abbrev S1024 : Shape := ⟨1, ![1024]⟩
abbrev S1024x2608 : Shape := ⟨2, ![1024, 2608]⟩
abbrev S64 : Shape := ⟨1, ![64]⟩
abbrev S3x64 : Shape := ⟨2, ![3, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2608 : Shape := ⟨3, ![4, 8192, 2608]⟩
abbrev S4x8192x256 : Shape := ⟨3, ![4, 8192, 256]⟩
abbrev S4x8192x48 : Shape := ⟨3, ![4, 8192, 48]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x8 : Shape := ⟨4, ![4, 8192, 16, 8]⟩
abbrev S1x8192x1x8 : Shape := ⟨4, ![1, 8192, 1, 8]⟩
abbrev S4x8192x16x48 : Shape := ⟨4, ![4, 8192, 16, 48]⟩
abbrev S4x8192x4x64 : Shape := ⟨4, ![4, 8192, 4, 64]⟩
abbrev S1x64 : Shape := ⟨2, ![1, 64]⟩
abbrev S4x8192x4 : Shape := ⟨3, ![4, 8192, 4]⟩
abbrev S4x8192x4x1 : Shape := ⟨4, ![4, 8192, 4, 1]⟩
abbrev S4x8192x4x8 : Shape := ⟨4, ![4, 8192, 4, 8]⟩
abbrev S4x8192x4x48 : Shape := ⟨4, ![4, 8192, 4, 48]⟩
abbrev S32768x48 : Shape := ⟨2, ![32768, 48]⟩
abbrev S32768x128 : Shape := ⟨2, ![32768, 128]⟩
abbrev S16x4x8192x64 : Shape := ⟨4, ![16, 4, 8192, 64]⟩
abbrev S16x32768x64 : Shape := ⟨3, ![16, 32768, 64]⟩
abbrev S16x32768x128 : Shape := ⟨3, ![16, 32768, 128]⟩
abbrev S4x4x8192x64 : Shape := ⟨4, ![4, 4, 8192, 64]⟩
abbrev S4x32768x64 : Shape := ⟨3, ![4, 32768, 64]⟩
abbrev S4x32768x128 : Shape := ⟨3, ![4, 32768, 128]⟩
abbrev S24x32768x128 : Shape := ⟨3, ![24, 32768, 128]⟩

abbrev nBuf : Space → Nat
  | .hbm => 229
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024, .f32⟩
  | 4 => ⟨S1024x2608, .f32⟩
  | 5 => ⟨S64, .f32⟩
  | 6 => ⟨S3x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .i32⟩
  | 22 => ⟨S8192, .f32⟩
  | 23 => ⟨S8192x1, .f32⟩
  | 24 => ⟨S1x8, .f32⟩
  | 25 => ⟨S8192x8, .f32⟩
  | 26 => ⟨S8192x8, .f32⟩
  | 27 => ⟨S8192x8, .f32⟩
  | 28 => ⟨S8192x8, .f32⟩
  | 29 => ⟨S8192x1x8, .f32⟩
  | 30 => ⟨S8192x8, .f32⟩
  | 31 => ⟨S8192x1x8, .f32⟩
  | 32 => ⟨S4x8192x1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S_, .f32⟩
  | 40 => ⟨S4x8192x1, .f32⟩
  | 41 => ⟨S4x8192x1, .f32⟩
  | 42 => ⟨S4x8192x1, .f32⟩
  | 43 => ⟨S4x8192x1024, .f32⟩
  | 44 => ⟨S4x8192x1024, .f32⟩
  | 45 => ⟨S1x1x1024, .f32⟩
  | 46 => ⟨S4x8192x1024, .f32⟩
  | 47 => ⟨S4x8192x1024, .f32⟩
  | 48 => ⟨S4x1x1024, .f32⟩
  | 49 => ⟨S_, .f32⟩
  | 50 => ⟨S4x1x1024, .f32⟩
  | 51 => ⟨S4x1x1024, .f32⟩
  | 52 => ⟨S4x8192x1024, .f32⟩
  | 53 => ⟨S4x8192x1024, .f32⟩
  | 54 => ⟨S4x1x1024, .f32⟩
  | 55 => ⟨S4x8192x1024, .f32⟩
  | 56 => ⟨S4x8192x1024, .f32⟩
  | 57 => ⟨S4x8192x2608, .f32⟩
  | 58 => ⟨S4x8192x1024, .f32⟩
  | 59 => ⟨S4x8192x256, .f32⟩
  | 60 => ⟨S4x8192x256, .f32⟩
  | 61 => ⟨S4x8192x256, .f32⟩
  | 62 => ⟨S4x8192x256, .f32⟩
  | 63 => ⟨S4x8192x256, .f32⟩
  | 64 => ⟨S4x8192x256, .f32⟩
  | 65 => ⟨S4x8192x48, .f32⟩
  | 66 => ⟨S4x8192x16x64, .f32⟩
  | 67 => ⟨S4x8192x16x64, .f32⟩
  | 68 => ⟨S_, .f32⟩
  | 69 => ⟨S4x8192x16, .f32⟩
  | 70 => ⟨S4x8192x16x1, .f32⟩
  | 71 => ⟨S_, .f32⟩
  | 72 => ⟨S4x8192x16x1, .f32⟩
  | 73 => ⟨S4x8192x16x1, .f32⟩
  | 74 => ⟨S_, .f32⟩
  | 75 => ⟨S4x8192x16x1, .f32⟩
  | 76 => ⟨S4x8192x16x1, .f32⟩
  | 77 => ⟨S4x8192x16x1, .f32⟩
  | 78 => ⟨S4x8192x16x64, .f32⟩
  | 79 => ⟨S4x8192x16x64, .f32⟩
  | 80 => ⟨S1x1x1x64, .f32⟩
  | 81 => ⟨S4x8192x16x64, .f32⟩
  | 82 => ⟨S4x8192x16x64, .f32⟩
  | 83 => ⟨S_, .f32⟩
  | 84 => ⟨S4x8192x16x64, .f32⟩
  | 85 => ⟨S4x8192x16x64, .f32⟩
  | 86 => ⟨S4x8192x16x8, .f32⟩
  | 87 => ⟨S4x8192x16x8, .f32⟩
  | 88 => ⟨S1x8192x1x8, .f32⟩
  | 89 => ⟨S4x8192x16x8, .f32⟩
  | 90 => ⟨S4x8192x16x8, .f32⟩
  | 91 => ⟨S1x8192x1x8, .f32⟩
  | 92 => ⟨S4x8192x16x8, .f32⟩
  | 93 => ⟨S4x8192x16x8, .f32⟩
  | 94 => ⟨S4x8192x16x8, .f32⟩
  | 95 => ⟨S1x8192x1x8, .f32⟩
  | 96 => ⟨S4x8192x16x8, .f32⟩
  | 97 => ⟨S4x8192x16x8, .f32⟩
  | 98 => ⟨S1x8192x1x8, .f32⟩
  | 99 => ⟨S4x8192x16x8, .f32⟩
  | 100 => ⟨S4x8192x16x8, .f32⟩
  | 101 => ⟨S4x8192x16x8, .f32⟩
  | 102 => ⟨S4x8192x16x48, .f32⟩
  | 103 => ⟨S4x8192x16x64, .f32⟩
  | 104 => ⟨S4x8192x4x64, .f32⟩
  | 105 => ⟨S4x8192x4x64, .f32⟩
  | 106 => ⟨S4x8192x4x64, .f32⟩
  | 107 => ⟨S4x8192x4x64, .f32⟩
  | 108 => ⟨S4x8192x4x64, .f32⟩
  | 109 => ⟨S4x8192x4x64, .f32⟩
  | 110 => ⟨S1x64, .f32⟩
  | 111 => ⟨S64, .f32⟩
  | 112 => ⟨S4x8192x4x64, .f32⟩
  | 113 => ⟨S_, .f32⟩
  | 114 => ⟨S4x8192x4, .f32⟩
  | 115 => ⟨S4x8192x4x1, .f32⟩
  | 116 => ⟨S_, .f32⟩
  | 117 => ⟨S4x8192x4x1, .f32⟩
  | 118 => ⟨S4x8192x4x1, .f32⟩
  | 119 => ⟨S_, .f32⟩
  | 120 => ⟨S4x8192x4x1, .f32⟩
  | 121 => ⟨S4x8192x4x1, .f32⟩
  | 122 => ⟨S4x8192x4x1, .f32⟩
  | 123 => ⟨S4x8192x4x64, .f32⟩
  | 124 => ⟨S4x8192x4x64, .f32⟩
  | 125 => ⟨S1x1x1x64, .f32⟩
  | 126 => ⟨S4x8192x4x64, .f32⟩
  | 127 => ⟨S4x8192x4x64, .f32⟩
  | _ => ⟨S4x8192x1024, .f32⟩

abbrev hbmTy0_1 (i : Nat) : BufTy := match i % 128 with
  | 0 => ⟨S4x8192x4x8, .f32⟩
  | 1 => ⟨S4x8192x4x8, .f32⟩
  | 2 => ⟨S1x8192x1x8, .f32⟩
  | 3 => ⟨S4x8192x4x8, .f32⟩
  | 4 => ⟨S4x8192x4x8, .f32⟩
  | 5 => ⟨S1x8192x1x8, .f32⟩
  | 6 => ⟨S4x8192x4x8, .f32⟩
  | 7 => ⟨S4x8192x4x8, .f32⟩
  | 8 => ⟨S4x8192x4x8, .f32⟩
  | 9 => ⟨S1x8192x1x8, .f32⟩
  | 10 => ⟨S4x8192x4x8, .f32⟩
  | 11 => ⟨S4x8192x4x8, .f32⟩
  | 12 => ⟨S1x8192x1x8, .f32⟩
  | 13 => ⟨S4x8192x4x8, .f32⟩
  | 14 => ⟨S4x8192x4x8, .f32⟩
  | 15 => ⟨S4x8192x4x8, .f32⟩
  | 16 => ⟨S4x8192x4x48, .f32⟩
  | 17 => ⟨S4x8192x4x64, .f32⟩
  | 18 => ⟨S1x64, .f32⟩
  | 19 => ⟨S64, .f32⟩
  | 20 => ⟨S4x8192x4x64, .f32⟩
  | 21 => ⟨S_, .f32⟩
  | 22 => ⟨S4x8192x4, .f32⟩
  | 23 => ⟨S4x8192x4x1, .f32⟩
  | 24 => ⟨S_, .f32⟩
  | 25 => ⟨S4x8192x4x1, .f32⟩
  | 26 => ⟨S4x8192x4x1, .f32⟩
  | 27 => ⟨S_, .f32⟩
  | 28 => ⟨S4x8192x4x1, .f32⟩
  | 29 => ⟨S4x8192x4x1, .f32⟩
  | 30 => ⟨S4x8192x4x1, .f32⟩
  | 31 => ⟨S4x8192x4x64, .f32⟩
  | 32 => ⟨S4x8192x4x64, .f32⟩
  | 33 => ⟨S1x1x1x64, .f32⟩
  | 34 => ⟨S4x8192x4x64, .f32⟩
  | 35 => ⟨S4x8192x4x64, .f32⟩
  | 36 => ⟨S4x8192x4x8, .f32⟩
  | 37 => ⟨S4x8192x4x8, .f32⟩
  | 38 => ⟨S1x8192x1x8, .f32⟩
  | 39 => ⟨S4x8192x4x8, .f32⟩
  | 40 => ⟨S4x8192x4x8, .f32⟩
  | 41 => ⟨S1x8192x1x8, .f32⟩
  | 42 => ⟨S4x8192x4x8, .f32⟩
  | 43 => ⟨S4x8192x4x8, .f32⟩
  | 44 => ⟨S4x8192x4x8, .f32⟩
  | 45 => ⟨S1x8192x1x8, .f32⟩
  | 46 => ⟨S4x8192x4x8, .f32⟩
  | 47 => ⟨S4x8192x4x8, .f32⟩
  | 48 => ⟨S1x8192x1x8, .f32⟩
  | 49 => ⟨S4x8192x4x8, .f32⟩
  | 50 => ⟨S4x8192x4x8, .f32⟩
  | 51 => ⟨S4x8192x4x8, .f32⟩
  | 52 => ⟨S4x8192x4x48, .f32⟩
  | 53 => ⟨S4x8192x4x64, .f32⟩
  | 54 => ⟨S32768x48, .f32⟩
  | 55 => ⟨S_, .i32⟩
  | 56 => ⟨S_, .f32⟩
  | 57 => ⟨S32768x128, .f32⟩
  | 58 => ⟨S16x4x8192x64, .f32⟩
  | 59 => ⟨S16x32768x64, .f32⟩
  | 60 => ⟨S_, .i32⟩
  | 61 => ⟨S_, .f32⟩
  | 62 => ⟨S16x32768x128, .f32⟩
  | 63 => ⟨S16x32768x128, .bf16⟩
  | 64 => ⟨S4x4x8192x64, .f32⟩
  | 65 => ⟨S4x32768x64, .f32⟩
  | 66 => ⟨S_, .i32⟩
  | 67 => ⟨S_, .f32⟩
  | 68 => ⟨S4x32768x128, .f32⟩
  | 69 => ⟨S4x32768x128, .bf16⟩
  | 70 => ⟨S4x4x8192x64, .f32⟩
  | 71 => ⟨S4x32768x64, .f32⟩
  | 72 => ⟨S_, .i32⟩
  | 73 => ⟨S_, .f32⟩
  | 74 => ⟨S4x32768x128, .f32⟩
  | 75 => ⟨S4x32768x128, .bf16⟩
  | 76 => ⟨S4x4x8192x64, .f32⟩
  | 77 => ⟨S4x32768x64, .f32⟩
  | 78 => ⟨S_, .i32⟩
  | 79 => ⟨S_, .f32⟩
  | 80 => ⟨S4x32768x128, .f32⟩
  | 81 => ⟨S4x32768x128, .bf16⟩
  | 82 => ⟨S4x4x8192x64, .f32⟩
  | 83 => ⟨S4x32768x64, .f32⟩
  | 84 => ⟨S_, .i32⟩
  | 85 => ⟨S_, .f32⟩
  | 86 => ⟨S4x32768x128, .f32⟩
  | 87 => ⟨S4x32768x128, .bf16⟩
  | 88 => ⟨S4x4x8192x64, .f32⟩
  | 89 => ⟨S4x32768x64, .f32⟩
  | 90 => ⟨S_, .i32⟩
  | 91 => ⟨S_, .f32⟩
  | 92 => ⟨S4x32768x128, .f32⟩
  | 93 => ⟨S4x32768x128, .bf16⟩
  | 94 => ⟨S4x4x8192x64, .f32⟩
  | 95 => ⟨S4x32768x64, .f32⟩
  | 96 => ⟨S_, .i32⟩
  | 97 => ⟨S_, .f32⟩
  | 98 => ⟨S4x32768x128, .f32⟩
  | 99 => ⟨S4x32768x128, .bf16⟩
  | 100 => ⟨S24x32768x128, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_11 : Ref sig .tc := ⟨.hbm, 113, rfl⟩
abbrev main_v94 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_v97 : Ref sig .tc := ⟨.hbm, 118, rfl⟩
abbrev main_cst_13 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_14 : Ref sig .tc := ⟨.hbm, 149, rfl⟩
abbrev main_v127 : Ref sig .tc := ⟨.hbm, 150, rfl⟩
abbrev main_v128 : Ref sig .tc := ⟨.hbm, 151, rfl⟩
abbrev main_cst_15 : Ref sig .tc := ⟨.hbm, 152, rfl⟩
abbrev main_v129 : Ref sig .tc := ⟨.hbm, 153, rfl⟩
abbrev main_v130 : Ref sig .tc := ⟨.hbm, 154, rfl⟩
abbrev main_cst_16 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_c : Ref sig .tc := ⟨.hbm, 183, rfl⟩
abbrev main_call0_v0 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_c_17 : Ref sig .tc := ⟨.hbm, 188, rfl⟩
abbrev main_call1_v0 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_c_18 : Ref sig .tc := ⟨.hbm, 194, rfl⟩
abbrev main_call2_v0 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_c_19 : Ref sig .tc := ⟨.hbm, 200, rfl⟩
abbrev main_call3_v0 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_c_20 : Ref sig .tc := ⟨.hbm, 206, rfl⟩
abbrev main_call4_v0 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_c_21 : Ref sig .tc := ⟨.hbm, 212, rfl⟩
abbrev main_call5_v0 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_c_22 : Ref sig .tc := ⟨.hbm, 218, rfl⟩
abbrev main_call6_v0 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_c_23 : Ref sig .tc := ⟨.hbm, 224, rfl⟩
abbrev main_call7_v0 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩

abbrev nD : Nat := 1
abbrev τ : Topo := Topo.v7x

variable {F : FTy → Type} [FloatOps F]
-- ==== Proof.Reductions.lean ====
/- Reductions and contractions read at an index, over arrays of any extents, at the extended reals. -/
module

public import Idealize.ShloMosaic.Lib.Pointwise

@[expose] public section

noncomputable section

namespace Cert.Reductions

open Idealize.ShloMosaic

variable {n0 n1 n2 n3 : ℕ}

/-- The f32 word of −∞. -/
theorem bot_word : Ideal.ofBits .f32 0xFF800000#32 = (⊥ : EReal) := by simp [Ideal.ofBits, Ideal.ieee]

/-- A supremum over the first `n` numbers. -/
theorem sup_fin (σ : ℕ → EReal) (n : ℕ) : ((Finset.univ : Finset (Fin n)).sup fun k => σ k.val) = (Finset.range n).sup σ := by
  apply le_antisymm
  · exact Finset.sup_le fun k _ => Finset.le_sup (f := σ) (Finset.mem_range.2 k.isLt)
  · exact Finset.sup_le fun j hj => Finset.le_sup (f := fun k : Fin n => σ k.val) (Finset.mem_univ ⟨j, Finset.mem_range.1 hj⟩)

/-- A row's maximum, from −∞. -/
theorem rowMax (src : FVec Ideal ⟨2, ![n0, n1]⟩ .f32) (h : (⟨2, ![n0, n1]⟩ : Shape).Reduces [1] ⟨1, ![n0]⟩)
    (hφ : FKind.Formats .f32) (hacc : 0xFF800000#32 = FKind.maximumf.neutral .f32 hφ) (j : Fin n0) :
    multiReduction .maximumf [1] ⟨1, ![n0]⟩ src 0xFF800000#32 h hφ hacc (ix1 j) = (Finset.univ : Finset (Fin n1)).sup fun k => src (ix2 j k) := by
  rw [multiReduction_maximumf_eq_fold]
  exact (h.fold_fiber_r2_a1 (ix1 j) _ _ src).trans (by rw [show FloatOps.ofBits (F := Ideal) .f32 0xFF800000#32 = (⊥ : EReal) from bot_word]; rfl)

/-- A row's sum. -/
theorem rowSum (src : FVec Ideal ⟨2, ![n0, n1]⟩ .f32) (acc : BitVec 32) (h : (⟨2, ![n0, n1]⟩ : Shape).Reduces [1] ⟨1, ![n0]⟩)
    (hφ : FKind.Formats .f32) (hacc : acc = FKind.add.neutral .f32 hφ) (j : Fin n0) :
    multiReduction .add [1] ⟨1, ![n0]⟩ src acc h hφ hacc (ix1 j) = ∑ k : Fin n1, src (ix2 j k) :=
  h.sum_fiber_r2_a1 (ix1 j) src

/-- The maximum along the last of four axes, from −∞. -/
theorem lastMax {s0 : Shape} (x : FVec Ideal ⟨4, ![n0, n1, n2, n3]⟩ .f32) (h : (⟨4, ![n0, n1, n2, n3]⟩ : Shape).ReducesTo [3] ⟨3, ![n0, n1, n2]⟩)
    (hu : 0 < s0.numel) (a : Fin n0) (b : Fin n1) (c : Fin n2) :
    Host.reduce FloatOps.maximumf x (constant s0 .f32 0xFF800000#32) h hu (ix3 a b c)
      = (Finset.univ : Finset (Fin n3)).sup fun k => x (ix4 a b c k) := by
  rw [Host.reduce_eq_fold]
  exact (h.fold_fiber_r4_a3 (ix3 a b c) _ _ x).trans (by
    rw [show (constant (F := Ideal) s0 .f32 0xFF800000#32) (Shape.Idx.first hu) = (⊥ : EReal) from bot_word]; rfl)

/-- The sum along the last of four axes, from zero. -/
theorem lastSum {s0 : Shape} (x : FVec Ideal ⟨4, ![n0, n1, n2, n3]⟩ .f32) (h : (⟨4, ![n0, n1, n2, n3]⟩ : Shape).ReducesTo [3] ⟨3, ![n0, n1, n2]⟩)
    (hu : 0 < s0.numel) (a : Fin n0) (b : Fin n1) (c : Fin n2) :
    Host.reduceAdd x (constant s0 .f32 0x00000000#32) h hu (ix3 a b c) = ∑ k : Fin n3, x (ix4 a b c k) := by
  rw [Host.reduceAdd_apply]
  refine (Ideal.hostReduceAdd_r4_a3 h x _ (ix3 a b c)).trans ?_
  rw [show (constant (F := Ideal) s0 .f32 0x00000000#32) (Shape.Idx.first hu) = (0 : EReal) from Ideal.ofBits_zero_f32, zero_add]
  rfl

/-- The sum along the last of three axes, from zero. -/
theorem lastSum3 {s0 : Shape} (x : FVec Ideal ⟨3, ![n0, n1, n2]⟩ .f32) (h : (⟨3, ![n0, n1, n2]⟩ : Shape).ReducesTo [2] ⟨2, ![n0, n1]⟩)
    (hu : 0 < s0.numel) (a : Fin n0) (b : Fin n1) :
    Host.reduceAdd x (constant s0 .f32 0x00000000#32) h hu (ix2 a b) = ∑ k : Fin n2, x (ix3 a b k) := by
  rw [Host.reduceAdd_apply]
  refine (Ideal.hostReduceAdd_r3_a2 h x _ (ix2 a b)).trans ?_
  rw [show (constant (F := Ideal) s0 .f32 0x00000000#32) (Shape.Idx.first hu) = (0 : EReal) from Ideal.ofBits_zero_f32, zero_add]
  rfl

end Cert.Reductions

end
-- ==== Proof.Glu.lean ====
/- The gated linear unit over a normed row, over the extended reals. -/
module

public import Idealize.ShloMosaic.Lib.Pointwise

@[expose] public section

noncomputable section

namespace Cert.Glu

open Idealize.ShloMosaic

/-- The f32 word of one. -/
abbrev one : EReal := Ideal.ofBits .f32 0x3F800000#32

/-- The inverse root mean square of a row of 1024 numbers. -/
def scale (x : Fin 1024 → EReal) : EReal :=
  Ideal.rsqrt (Ideal.div (∑ k, x k * x k) (Ideal.ofBits .f32 0x44800000#32) + Ideal.ofBits .f32 0x358637BD#32)

/-- A row under its inverse root mean square, a factor and a shift. -/
def normed (x a b : Fin 1024 → EReal) (k : Fin 1024) : EReal := x k * scale x * a k + b k

/-- A row under a linear map. -/
def lin {n : ℕ} (y : Fin 1024 → EReal) (w : Fin 1024 → Fin n → EReal) (b : Fin n → EReal) (j : Fin n) : EReal := ∑ k, y k * w k j + b j

/-- A number under the logistic function of another. -/
def gate (z u : EReal) : EReal := z * Ideal.div one (one + Ideal.exp (-u))

/-- Output `j` of the first half and output `1024 + j` of the second. -/
def lo (j : Fin 1024) : Fin 2048 := ⟨j.val, by omega⟩
def hi (j : Fin 1024) : Fin 2048 := ⟨1024 + j.val, by omega⟩

/-- The gated linear unit over a normed row. -/
def glu (x a b : Fin 1024 → EReal) (w : Fin 1024 → Fin 2048 → EReal) (β : Fin 2048 → EReal) (j : Fin 1024) : EReal :=
  gate (lin (normed x a b) w β (lo j)) (lin (normed x a b) w β (hi j))

/-- The arrays of the call. -/
abbrev Xs := FVec Ideal ⟨3, ![4, 8192, 1024]⟩ .f32
abbrev Mods := FVec Ideal ⟨2, ![4, 1024]⟩ .f32
abbrev Gains := FVec Ideal ⟨1, ![1024]⟩ .f32
abbrev Ws := FVec Ideal ⟨2, ![1024, 2048]⟩ .f32
abbrev Bs := FVec Ideal ⟨1, ![2048]⟩ .f32
abbrev Out := FVec Ideal ⟨2, ![32768, 1024]⟩ .f32

/-- The factor of a sequence's column. -/
def factor (g : Gains) (sc : Mods) (s : Fin 4) (k : Fin 1024) : EReal := g (ix1 k) * (one + sc (ix2 s k))

/-- The result at row `p` of sequence `s`. -/
def cell (x : Xs) (sc sh : Mods) (g : Gains) (w : Ws) (β : Bs) (s : Fin 4) (p : Fin 8192) (j : Fin 1024) : EReal :=
  glu (fun k => x (ix3 s p k)) (factor g sc s) (fun k => sh (ix2 s k)) (fun k i => w (ix2 k i)) (fun i => β (ix1 i)) j

/-- The sequence of a row of the result, -/
def seqOf (i : Fin 32768) : Fin 4 := ⟨i.val / 8192, by have := i.isLt; omega⟩
/-- and its place there. -/
def rowOf (i : Fin 32768) : Fin 8192 := ⟨i.val % 8192, Nat.mod_lt _ (by decide)⟩

/-- The whole result. -/
def result (x : Xs) (sc sh : Mods) (g : Gains) (w : Ws) (β : Bs) : Out := fun i => cell x sc sh g w β (seqOf (i 0)) (rowOf (i 0)) (i 1)

end Cert.Glu

end
-- ==== Proof.GluRow.lean ====
/- The payload of the first call of the convolution mixer at an index, over the extended reals. -/
module

public import proofs.«01_k».proof.Proof.Gen.Kernel2Ideal.Skeleton
public import proofs.«01_k».proof.Proof.Reductions
public import proofs.«01_k».proof.Proof.Glu
public import Idealize.ShloMosaic.Lib.Pointwise

@[expose] public section

set_option maxRecDepth 16384

noncomputable section

namespace Cert.Kernel2Ideal.Mix

open Cert.Kernel2Ideal Cert.Kernel2Ideal.Gen
open Idealize.ShloMosaic Idealize.ShloMosaic.TcCoe

/-- The rows' sums of squares. -/
def squares (x : FVec Ideal S512x1024 .f32) : FVec Ideal S512 .f32 :=
  multiReduction .add [1] S512 (mulf (shapeCast S512x1024 x shapeCasts_S512x1024_S512x1024) (shapeCast S512x1024 x shapeCasts_S512x1024_S512x1024))
    0x00000000#32 reduces_S512x1024_S512 (.inl rfl) rfl

/-- Their inverse root means. -/
def scales (q : FVec Ideal S512 .f32) : FVec Ideal S512x1 .f32 :=
  rsqrt (addf (divf (shapeCast S512x1 q shapeCasts_S512_S512x1) (broadcast S512x1 (FloatOps.ofBits .f32 0x44800000#32)))
    (broadcast S512x1 (FloatOps.ofBits .f32 0x358637BD#32)))

/-- The rows scaled and modulated. -/
def mods (x : FVec Ideal S512x1024 .f32) (r : FVec Ideal S512x1 .f32) (a b : FVec Ideal S1x1x1024 .f32) : FVec Ideal S512x1024 .bf16 :=
  truncf .bf16 (addf (mulf (mulf (shapeCast S512x1024 x shapeCasts_S512x1024_S512x1024) (broadcastTo S512x1024 r broadcasts_S512x1_S512x1024))
      (broadcastTo S512x1024 (shapeCast S1x1024 a shapeCasts_S1x1x1024_S1x1024) broadcasts_S1x1024_S512x1024))
    (broadcastTo S512x1024 (shapeCast S1x1024 b shapeCasts_S1x1x1024_S1x1024) broadcasts_S1x1024_S512x1024)) bitsLt_bf16_f32

/-- The rows under the weights. -/
def prods (y : FVec Ideal S512x1024 .bf16) (w : FVec Ideal S1024x2048 .bf16) : FVec Ideal S512x2048 .f32 :=
  matmul dot_S512x1024_S1024x2048_S512x2048_1_0_0_1_n_n none y (shapeCast S1024x2048 w shapeCasts_S1024x2048_S1024x2048)
    (constant S512x2048 .f32 0x00000000#32)

/-- The bias added. -/
def biased (z : FVec Ideal S512x2048 .f32) (β : FVec Ideal S1x2048 .f32) : FVec Ideal S512x2048 .f32 :=
  addf z (broadcastTo S512x2048 (shapeCast S1x2048 β shapeCasts_S1x2048_S1x2048) broadcasts_S1x2048_S512x2048)

/-- One half gated by the other. -/
def gated (z : FVec Ideal S512x2048 .f32) : FVec Ideal S512x1024 .f32 :=
  mulf (extractStridedSlice S512x1024 ![0, 0] z slices_S512x2048_o0_0_S512x1024)
    (divf (broadcast S512x1024 (FloatOps.ofBits .f32 0x3F800000#32))
      (addf (broadcast S512x1024 (FloatOps.ofBits .f32 0x3F800000#32))
        (exp (subf (broadcast S512x1024 (FloatOps.ofBits .f32 0x00000000#32))
          (extractStridedSlice S512x1024 ![0, 1024] z slices_S512x2048_o0_1024_S512x1024)))))

/-- The payload is the stages in turn. -/
theorem pay1_eq (x : FVec Ideal S512x1024 .f32) (a b : FVec Ideal S1x1x1024 .f32) (w : FVec Ideal S1024x2048 .bf16) (β : FVec Ideal S1x2048 .f32) :
    k0_pay1 (F := Ideal) x a b w β = gated (biased (prods (mods x (scales (squares x)) a b) w) β) := rfl

/-- A row's sum of squares. -/
theorem squares_apply (x : FVec Ideal S512x1024 .f32) (r : Fin 512) : squares x (ix1 r) = ∑ k : Fin 1024, x (ix2 r k) * x (ix2 r k) := by
  unfold squares
  rw [Idealize.ShloMosaic.shapeCast_self]
  exact Reductions.rowSum _ _ _ _ _ r

/-- A row's scale. -/
theorem scales_apply (q : FVec Ideal S512 .f32) (r : Fin 512) :
    scales q (ix2 r 0) = Ideal.rsqrt (Ideal.div (q (ix1 r)) (Ideal.ofBits .f32 0x44800000#32) + Ideal.ofBits .f32 0x358637BD#32) := by
  pointwise [scales]

/-- An element of a modulated row. -/
theorem mods_apply (x : FVec Ideal S512x1024 .f32) (r : FVec Ideal S512x1 .f32) (a b : FVec Ideal S1x1x1024 .f32) (i : Fin 512) (k : Fin 1024) :
    mods x r a b (ix2 i k) = x (ix2 i k) * r (ix2 i 0) * a (ix3 0 0 k) + b (ix3 0 0 k) := by
  pointwise [mods]

/-- An output of a row. -/
theorem prods_apply (y : FVec Ideal S512x1024 .bf16) (w : FVec Ideal S1024x2048 .bf16) (i : Fin 512) (j : Fin 2048) :
    prods y w (ix2 i j) = ∑ k : Fin 1024, y (ix2 i k) * w (ix2 k j) := by
  unfold prods
  rw [Idealize.ShloMosaic.shapeCast_self]
  refine (Ideal.matmul_apply₁_of dot_S512x1024_S1024x2048_S512x2048_1_0_0_1_n_n (a := 1) rfl (K := 1024) rfl y w _ (ix2 i j)
    (fun k => ix2 i k) (fun k => ix2 k j) (fun k => ?_) (fun k => ?_)).trans ?_
  · pointwise
  · pointwise
  · rw [show (constant (F := Ideal) S512x2048 .f32 0x00000000#32) (ix2 i j) = (0 : EReal) from Ideal.ofBits_zero_f32]; exact zero_add _

/-- A biased output. -/
theorem biased_apply (z : FVec Ideal S512x2048 .f32) (β : FVec Ideal S1x2048 .f32) (i : Fin 512) (j : Fin 2048) :
    biased z β (ix2 i j) = z (ix2 i j) + β (ix2 0 j) := by
  pointwise [biased]

/-- A gated output. -/
theorem gated_apply (z : FVec Ideal S512x2048 .f32) (i : Fin 512) (j : Fin 1024) :
    gated z (ix2 i j) = Glu.gate (z (ix2 i (Glu.lo j))) (z (ix2 i (Glu.hi j))) := by
  have e : gated z (ix2 i j) = z (ix2 i (Glu.lo j))
      * Ideal.div Glu.one (Glu.one + Ideal.exp (Ideal.ofBits .f32 0x00000000#32 - z (ix2 i (Glu.hi j)))) := by
    pointwise [gated]
    rfl
  rw [e, Ideal.ofBits_zero_f32, zero_sub]
  rfl

/-- The payload at an index is the gated linear unit of the row there. -/
theorem pay1_apply (x : FVec Ideal S512x1024 .f32) (a b : FVec Ideal S1x1x1024 .f32) (w : FVec Ideal S1024x2048 .bf16) (β : FVec Ideal S1x2048 .f32)
    (i : Fin 512) (j : Fin 1024) :
    k0_pay1 (F := Ideal) x a b w β (ix2 i j)
      = Glu.glu (fun k => x (ix2 i k)) (fun k => a (ix3 0 0 k)) (fun k => b (ix3 0 0 k)) (fun k n => w (ix2 k n)) (fun n => β (ix2 0 n)) j := by
  have l : ∀ n : Fin 2048, biased (prods (mods x (scales (squares x)) a b) w) β (ix2 i n)
      = Glu.lin (Glu.normed (fun k => x (ix2 i k)) (fun k => a (ix3 0 0 k)) (fun k => b (ix3 0 0 k))) (fun k n => w (ix2 k n)) (fun n => β (ix2 0 n)) n := fun n => by
    rw [biased_apply, prods_apply]
    simp only [mods_apply, scales_apply, squares_apply]
    rfl
  rw [pay1_eq, gated_apply, l, l]
  rfl

end Cert.Kernel2Ideal.Mix

end
-- ==== Proof.GluValue.lean ====
/- What the first call of the convolution mixer leaves in its output array, over the extended reals. -/
module

public import proofs.«01_k».proof.Proof.Gen.Kernel2Ideal.Value
public import proofs.«01_k».proof.Proof.GluRow
public import Idealize.ShloMosaic.Lib.Pipeline.ValueKit
public import Idealize.ShloMosaic.Lib.Pipeline.Value

@[expose] public section

set_option maxRecDepth 16384

noncomputable section

namespace Cert.Kernel2Ideal.Mix

open Cert.Kernel2Ideal Cert.Kernel2Ideal.Gen
open Idealize.ShloMosaic Idealize.ShloMosaic.TcCoe

variable (m : (ℓ : Loc nD τ sig) → Buf (Elt Ideal) ℓ) (c : Dev nD)

/-! ## The windows' arrays -/

/-- The rows of the four sequences end to end. -/
theorem rows_eq : V m c main_v7 = shapeCast S32768x1024 (m (c.tc.loc main_arg0)) shapeCasts_S4x8192x1024_S32768x1024 := by
  unfold V; after_results; rfl
/-- The factors of the sequences. -/
theorem factors_eq : V m c main_v6
    = mulf (F := Ideal) (s := S4x1x1024) (φ := .f32) (broadcastInDim S4x1x1024 ![0, 1, 2] bcast_S1x1x1024_S4x1x1024_0_1_2 (broadcastInDim S1x1x1024 ![2] bcast_S1024_S1x1x1024_2 (m (c.tc.loc main_arg3))))
      (addf (broadcastInDim S4x1x1024 ![] bcast_S_S4x1x1024 (constant (F := Ideal) S_ .f32 0x3F800000#32))
        (shapeCast S4x1x1024 (m (c.tc.loc main_arg1)) shapeCasts_S4x1024_S4x1x1024)) := by
  unfold V; after_results; rfl
/-- Their shifts. -/
theorem shifts_eq : V m c main_v1 = shapeCast S4x1x1024 (m (c.tc.loc main_arg2)) shapeCasts_S4x1024_S4x1x1024 := by
  unfold V; after_results; rfl
/-- The weights. -/
theorem weights_eq : V m c main_v8 = truncf (F := Ideal) (s := S1024x2048) (φ := .f32) .bf16 (m (c.tc.loc main_arg4)) bitsLt_bf16_f32 := by
  unfold V; after_results
/-- The bias. -/
theorem bias_eq : V m c main_v9 = shapeCast S1x2048 (m (c.tc.loc main_arg5)) shapeCasts_S2048_S1x2048 := by
  unfold V; after_results; rfl

/-- A row of a sequence among all rows, -/
theorem rows_apply (x : FVec Ideal S4x8192x1024 .f32) (i : Fin 32768) (k : Fin 1024) :
    shapeCast S32768x1024 x shapeCasts_S4x8192x1024_S32768x1024 (ix2 i k) = x (ix3 (Glu.seqOf i) (Glu.rowOf i) k) := by
  pointwise
  rfl
/-- a factor, -/
theorem factors_apply (g : FVec Ideal S1024 .f32) (sc : FVec Ideal S4x1024 .f32) (s : Fin 4) (k : Fin 1024) :
    mulf (F := Ideal) (s := S4x1x1024) (φ := .f32) (broadcastInDim S4x1x1024 ![0, 1, 2] bcast_S1x1x1024_S4x1x1024_0_1_2 (broadcastInDim S1x1x1024 ![2] bcast_S1024_S1x1x1024_2 g))
      (addf (broadcastInDim S4x1x1024 ![] bcast_S_S4x1x1024 (constant (F := Ideal) S_ .f32 0x3F800000#32))
        (shapeCast S4x1x1024 sc shapeCasts_S4x1024_S4x1x1024)) (ix3 s 0 k) = g (ix1 k) * (Glu.one + sc (ix2 s k)) := by
  pointwise
/-- a shift, -/
theorem shifts_apply (sh : FVec Ideal S4x1024 .f32) (s : Fin 4) (k : Fin 1024) :
    shapeCast S4x1x1024 sh shapeCasts_S4x1024_S4x1x1024 (ix3 s 0 k) = sh (ix2 s k) := by
  pointwise
/-- and a bias. -/
theorem bias_apply (β : FVec Ideal S2048 .f32) (n : Fin 2048) :
    shapeCast S1x2048 β shapeCasts_S2048_S1x2048 (ix2 0 n) = β (ix1 n) := by
  pointwise

/-! ## The blocks -/

/-- The blocks' numbers at a point. -/
theorem index_x : ∀ t : Fin grid0.N, win0_0.index t 0 = t.val ∧ win0_0.index t 1 = 0 := by decide +kernel
/-- The same for window 1. -/
theorem index_a : ∀ t : Fin grid0.N, win0_1.index t 0 = t.val / 16 ∧ win0_1.index t 1 = 0 ∧ win0_1.index t 2 = 0 := by decide +kernel
/-- The same for window 2. -/
theorem index_b : ∀ t : Fin grid0.N, win0_2.index t 0 = t.val / 16 ∧ win0_2.index t 1 = 0 ∧ win0_2.index t 2 = 0 := by decide +kernel
/-- The same for window 3. -/
theorem index_w : ∀ t : Fin grid0.N, win0_3.index t 0 = 0 ∧ win0_3.index t 1 = 0 := by decide +kernel
/-- The same for window 4. -/
theorem index_β : ∀ t : Fin grid0.N, win0_4.index t 0 = 0 ∧ win0_4.index t 1 = 0 := by decide +kernel
/-- The same for window 5. -/
theorem index_o : ∀ t : Fin grid0.N, win0_5.index t 0 = t.val ∧ win0_5.index t 1 = 0 := by decide +kernel

/-- Row `r` of the block of a point, -/
def at_ (t : Fin grid0.N) (r : Fin 512) : Fin 32768 :=
  ⟨512 * t.val + r.val, by have : t.val < 64 := lt_of_lt_of_eq t.isLt N_0; have := r.isLt; omega⟩
/-- and the sequence it is of. -/
theorem seqOf_at (t : Fin grid0.N) (r : Fin 512) : (Glu.seqOf (at_ t r)).val = t.val / 16 := by
  have := r.isLt
  show (512 * t.val + r.val) / 8192 = t.val / 16
  omega

variable (t : Fin grid0.N)

/-- The rows of a block, -/
theorem x_apply (r : Fin 512) (k : Fin 1024) :
    iblk m c 0 t (ix2 r k) = m (c.tc.loc main_arg0) (ix3 (Glu.seqOf (at_ t r)) (Glu.rowOf (at_ t r)) k) := by
  refine (congrFun (rows_eq m c) _).trans ((congrArg _ ?_).trans (rows_apply _ (at_ t r) k))
  have hr := r.isLt
  funext a
  apply Fin.ext
  match a with
  | 0 =>
    show win0_0.index t 0 * 512 + 1 * r.val = 512 * t.val + r.val
    rw [(index_x t).1]; omega
  | 1 =>
    show win0_0.index t 1 * 1024 + 1 * k.val = k.val
    rw [(index_x t).2]; omega
/-- its sequence's factors, -/
theorem a_apply (r : Fin 512) (k : Fin 1024) :
    iblk m c 1 t (ix3 0 0 k) = Glu.factor (m (c.tc.loc main_arg3)) (m (c.tc.loc main_arg1)) (Glu.seqOf (at_ t r)) k := by
  refine (congrFun (factors_eq m c) _).trans ((congrArg _ ?_).trans (factors_apply _ _ (Glu.seqOf (at_ t r)) k))
  funext a
  apply Fin.ext
  match a with
  | 0 =>
    show win0_1.index t 0 * 1 + 1 * 0 = (Glu.seqOf (at_ t r)).val
    rw [(index_a t).1, seqOf_at]; omega
  | 1 =>
    show win0_1.index t 1 * 1 + 1 * 0 = 0
    rw [(index_a t).2.1]
  | 2 =>
    show win0_1.index t 2 * 1024 + 1 * k.val = k.val
    rw [(index_a t).2.2]; omega
/-- its sequence's shifts, -/
theorem b_apply (r : Fin 512) (k : Fin 1024) :
    iblk m c 2 t (ix3 0 0 k) = m (c.tc.loc main_arg2) (ix2 (Glu.seqOf (at_ t r)) k) := by
  refine (congrFun (shifts_eq m c) _).trans ((congrArg _ ?_).trans (shifts_apply _ (Glu.seqOf (at_ t r)) k))
  funext a
  apply Fin.ext
  match a with
  | 0 =>
    show win0_2.index t 0 * 1 + 1 * 0 = (Glu.seqOf (at_ t r)).val
    rw [(index_b t).1, seqOf_at]; omega
  | 1 =>
    show win0_2.index t 1 * 1 + 1 * 0 = 0
    rw [(index_b t).2.1]
  | 2 =>
    show win0_2.index t 2 * 1024 + 1 * k.val = k.val
    rw [(index_b t).2.2]; omega
/-- the weights -/
theorem w_apply (k : Fin 1024) (n : Fin 2048) : iblk m c 3 t (ix2 k n) = m (c.tc.loc main_arg4) (ix2 k n) := by
  refine (congrFun (weights_eq m c) _).trans (congrArg (m (c.tc.loc main_arg4)) ?_)
  funext a
  apply Fin.ext
  match a with
  | 0 =>
    show win0_3.index t 0 * 1024 + 1 * k.val = k.val
    rw [(index_w t).1]; omega
  | 1 =>
    show win0_3.index t 1 * 2048 + 1 * n.val = n.val
    rw [(index_w t).2]; omega
/-- and the bias. -/
theorem β_apply (n : Fin 2048) : iblk m c 4 t (ix2 0 n) = m (c.tc.loc main_arg5) (ix1 n) := by
  refine (congrFun (bias_eq m c) _).trans ((congrArg _ ?_).trans (bias_apply _ n))
  funext a
  apply Fin.ext
  match a with
  | 0 =>
    show win0_4.index t 0 * 1 + 1 * 0 = 0
    rw [(index_β t).1]
  | 1 =>
    show win0_4.index t 1 * 2048 + 1 * n.val = n.val
    rw [(index_β t).2]; omega

/-! ## The output array -/

/-- The call's result as a function of its arguments. -/
def res : Glu.Out := Glu.result (m (c.tc.loc main_arg0)) (m (c.tc.loc main_arg1)) (m (c.tc.loc main_arg2)) (m (c.tc.loc main_arg3))
  (m (c.tc.loc main_arg4)) (m (c.tc.loc main_arg5))

/-- Offsets of zeros. -/
theorem zero2 : (![0, 0] : Fin 2 → ℕ) = fun _ => 0 := funext fun a => by fin_cases a <;> rfl
/-- Offsets of zeros, on three axes. -/
theorem zero3 : (![0, 0, 0] : Fin 3 → ℕ) = fun _ => 0 := funext fun a => by fin_cases a <;> rfl

/-- A body's one store is its payload. -/
theorem out_eq_pay (x : FVec Ideal S512x1024 .f32) (a b : FVec Ideal S1x1x1024 .f32) (w : FVec Ideal S1024x2048 .bf16) (β : FVec Ideal S1x2048 .f32) :
    out0_5 (F := Ideal) x a b w β = k0_pay1 (F := Ideal) x a b w β := by
  unfold out0_5
  rw [View.canon_unit_zero zero2, View.ld_unit_zero zero2, View.ld_unit_zero zero3, View.ld_unit_zero zero3, View.ld_unit_zero zero2, View.ld_unit_zero zero2]

/-- What a point writes back, at an element. -/
theorem flushed_apply (r : Fin 512) (j : Fin 1024) :
    (dats m 0 c).flushed 5 t (ix2 r j) = res m c (ix2 (at_ t r) j) := by
  refine (congrFun (Value.flushed5 m c t) _).trans ((congrFun (out_eq_pay (iblk m c 0 t) (iblk m c 1 t) (iblk m c 2 t) (iblk m c 3 t) (iblk m c 4 t)) (ix2 r j)).trans ?_)
  refine (pay1_apply (iblk m c 0 t) (iblk m c 1 t) (iblk m c 2 t) (iblk m c 3 t) (iblk m c 4 t) r j).trans ?_
  simp only [x_apply, a_apply m c t r, b_apply m c t r, w_apply, β_apply]
  rfl

/-- The place in the output of an element of the output block. -/
theorem emb_o (r : Fin 512) (j : Fin 1024) : ((cfg0.win 5).blk t).view.emb (ix2 r j) = ix2 (at_ t r) j := by
  funext a
  apply Fin.ext
  match a with
  | 0 =>
    show win0_5.index t 0 * 512 + 1 * r.val = 512 * t.val + r.val
    rw [(index_o t).1]; omega
  | 1 =>
    show win0_5.index t 1 * 1024 + 1 * j.val = j.val
    rw [(index_o t).2]; omega

/-- The output array holds the gated linear unit of every row. -/
theorem out_eq : (dats m 0 c).arrAt 5 cfg0.N = res m c := by
  refine (dats m 0 c).arrAt_eq_of_cover 5 _ (fun t hf => ?_) (fun i => ?_)
  · funext y
    obtain ⟨r, j, rfl⟩ : ∃ (r : Fin 512) (j : Fin 1024), y = ix2 r j := ⟨y 0, y 1, funext fun a => by
      match a with
      | 0 => rfl
      | 1 => rfl⟩
    exact (flushed_apply m c t r j).trans (congrArg (res m c) (emb_o t r j)).symm
  · have h0 : (i 0).val < 32768 := (i 0).isLt
    have h1 : (i 1).val < 1024 := (i 1).isLt
    have hu : (i 0).val / 512 < grid0.N := lt_of_lt_of_eq (show (i 0).val / 512 < 64 by omega) N_0.symm
    have hm := ((cfg0.win 5).blk ⟨(i 0).val / 512, hu⟩).view.emb_mem_set (ix2 (⟨(i 0).val % 512, Nat.mod_lt _ (by decide)⟩ : Fin 512) (⟨(i 1).val, h1⟩ : Fin 1024))
    refine ⟨⟨(i 0).val / 512, hu⟩, flush0_5 _, ?_⟩
    rw [emb_o] at hm
    have e : (ix2 (at_ ⟨(i 0).val / 512, hu⟩ (⟨(i 0).val % 512, Nat.mod_lt _ (by decide)⟩ : Fin 512)) (⟨(i 1).val, h1⟩ : Fin 1024) : S32768x1024.Idx) = i := by
      funext a
      apply Fin.ext
      match a with
      | 0 =>
        show 512 * ((i 0).val / 512) + (i 0).val % 512 = (i 0).val
        omega
      | 1 => rfl
    rw [e] at hm
    exact hm

end Cert.Kernel2Ideal.Mix

end
-- ==== Proof.GluRef.lean ====
/- The reference of the first call of the convolution mixer at an index, over the extended reals. -/
module

public import proofs.«01_k».proof.Proof.Gen.Reference2Ideal.Run
public import proofs.«01_k».proof.Proof.Reductions
public import proofs.«01_k».proof.Proof.Glu
public import Idealize.ShloMosaic.Lib.Pointwise

@[expose] public section

set_option maxRecDepth 16384

noncomputable section

namespace Cert.Reference2Ideal.Mix

open Cert.Reference2Ideal Cert.Reference2Ideal.Gen
open Idealize.ShloMosaic Idealize.ShloMosaic.TcCoe Idealize.SL.Sem

/-- The rows' sums of squares. -/
def squares (x : FVec Ideal S4x8192x1024 .f32) : FVec Ideal S4x8192 .f32 :=
  Host.reduceAdd (mulf x x) (constant S_ .f32 0x00000000#32) reducesTo_S4x8192x1024_S4x8192_d2 h_S_

/-- Their inverse root means. -/
def scales (q : FVec Ideal S4x8192 .f32) : FVec Ideal S4x8192x1 .f32 :=
  Host.rsqrt (addf (Host.divf (broadcastInDim S4x8192x1 ![0, 1] bcast_S4x8192_S4x8192x1_0_1 q)
      (broadcastInDim S4x8192x1 ![] bcast_S_S4x8192x1 (constant S_ .f32 0x44800000#32)))
    (broadcastInDim S4x8192x1 ![] bcast_S_S4x8192x1 (constant S_ .f32 0x358637BD#32)))

/-- The rows scaled and modulated. -/
def mods (x : FVec Ideal S4x8192x1024 .f32) (r : FVec Ideal S4x8192x1 .f32) (g : FVec Ideal S1024 .f32) (sc sh : FVec Ideal S4x1024 .f32) :
    FVec Ideal S4x8192x1024 .f32 :=
  addf (mulf (mulf (mulf x (broadcastInDim S4x8192x1024 ![0, 1, 2] bcast_S4x8192x1_S4x8192x1024_0_1_2 r))
      (broadcastInDim S4x8192x1024 ![0, 1, 2] bcast_S1x1x1024_S4x8192x1024_0_1_2 (broadcastInDim S1x1x1024 ![2] bcast_S1024_S1x1x1024_2 g)))
      (broadcastInDim S4x8192x1024 ![0, 1, 2] bcast_S4x1x1024_S4x8192x1024_0_1_2
        (addf (broadcastInDim S4x1x1024 ![] bcast_S_S4x1x1024 (constant S_ .f32 0x3F800000#32)) (broadcastInDim S4x1x1024 ![0, 2] bcast_S4x1024_S4x1x1024_0_2 sc))))
    (broadcastInDim S4x8192x1024 ![0, 1, 2] bcast_S4x1x1024_S4x8192x1024_0_1_2 (broadcastInDim S4x1x1024 ![0, 2] bcast_S4x1024_S4x1x1024_0_2 sh))

/-- The rows under the weights. -/
def prods (y : FVec Ideal S4x8192x1024 .f32) (w : FVec Ideal S1024x2048 .f32) : FVec Ideal S4x8192x2048 .f32 :=
  Host.dotGeneral dot_S4x8192x1024_S1024x2048_S4x8192x2048_2_0_01_1_n_n none y w

/-- The bias added. -/
def biased (z : FVec Ideal S4x8192x2048 .f32) (β : FVec Ideal S2048 .f32) : FVec Ideal S4x8192x2048 .f32 :=
  addf z (broadcastInDim S4x8192x2048 ![0, 1, 2] bcast_S1x1x2048_S4x8192x2048_0_1_2 (broadcastInDim S1x1x2048 ![2] bcast_S2048_S1x1x2048_2 β))

/-- One half gated by the other. -/
def gated (z : FVec Ideal S4x8192x2048 .f32) : FVec Ideal S4x8192x1024 .f32 :=
  mulf (extractStridedSlice S4x8192x1024 ![0, 0, 0] z slices_S4x8192x2048_S4x8192x1024_0_0_0)
    (Host.divf (broadcastInDim S4x8192x1024 ![] bcast_S_S4x8192x1024 (constant S_ .f32 0x3F800000#32))
      (addf (broadcastInDim S4x8192x1024 ![] bcast_S_S4x8192x1024 (constant S_ .f32 0x3F800000#32))
        (Host.exp (Host.negf (extractStridedSlice S4x8192x1024 ![0, 0, 1024] z slices_S4x8192x2048_S4x8192x1024_0_0_1024)))))

/-- The rows of the four sequences end to end. -/
def joined (x : FVec Ideal S4x8192x1024 .f32) : FVec Ideal S32768x1024 .f32 := shapeCast S32768x1024 x shapeCasts_S4x8192x1024_S32768x1024

/-- The stages in turn. -/
def whole (x : FVec Ideal S4x8192x1024 .f32) (sc sh : FVec Ideal S4x1024 .f32) (g : FVec Ideal S1024 .f32) (w : FVec Ideal S1024x2048 .f32)
    (β : FVec Ideal S2048 .f32) : FVec Ideal S32768x1024 .f32 :=
  joined (gated (biased (prods (mods x (scales (squares x)) g sc sh) w) β))

/-- A row's sum of squares. -/
theorem squares_apply (x : FVec Ideal S4x8192x1024 .f32) (s : Fin 4) (p : Fin 8192) :
    squares x (ix2 s p) = ∑ k : Fin 1024, x (ix3 s p k) * x (ix3 s p k) :=
  Reductions.lastSum3 _ _ _ s p

/-- A row's scale. -/
theorem scales_apply (q : FVec Ideal S4x8192 .f32) (s : Fin 4) (p : Fin 8192) :
    scales q (ix3 s p 0) = Ideal.rsqrt (Ideal.div (q (ix2 s p)) (Ideal.ofBits .f32 0x44800000#32) + Ideal.ofBits .f32 0x358637BD#32) := by
  pointwise [scales]

/-- An element of a modulated row. -/
theorem mods_apply (x : FVec Ideal S4x8192x1024 .f32) (r : FVec Ideal S4x8192x1 .f32) (g : FVec Ideal S1024 .f32) (sc sh : FVec Ideal S4x1024 .f32)
    (s : Fin 4) (p : Fin 8192) (k : Fin 1024) :
    mods x r g sc sh (ix3 s p k) = x (ix3 s p k) * r (ix3 s p 0) * (g (ix1 k) * (Glu.one + sc (ix2 s k))) + sh (ix2 s k) := by
  have e : mods x r g sc sh (ix3 s p k) = x (ix3 s p k) * r (ix3 s p 0) * g (ix1 k) * (Glu.one + sc (ix2 s k)) + sh (ix2 s k) := by
    pointwise [mods]
  rw [e, mul_assoc (x (ix3 s p k) * r (ix3 s p 0))]

/-- An output of a row. -/
theorem prods_apply (y : FVec Ideal S4x8192x1024 .f32) (w : FVec Ideal S1024x2048 .f32) (s : Fin 4) (p : Fin 8192) (j : Fin 2048) :
    prods y w (ix3 s p j) = ∑ k : Fin 1024, y (ix3 s p k) * w (ix2 k j) := by
  unfold prods
  simp only [Host.dotGeneral]
  rw [Ideal.dotGeneral_def]
  refine (Ideal.matmul_apply₁_of dot_S4x8192x1024_S1024x2048_S4x8192x2048_2_0_01_1_n_n (a := 2) rfl (K := 1024) rfl y w _ (ix3 s p j)
    (fun k => ix3 s p k) (fun k => ix2 k j) (fun k => ?_) (fun k => ?_)).trans ?_
  · pointwise
  · pointwise
  · exact zero_add _

/-- A biased output. -/
theorem biased_apply (z : FVec Ideal S4x8192x2048 .f32) (β : FVec Ideal S2048 .f32) (s : Fin 4) (p : Fin 8192) (j : Fin 2048) :
    biased z β (ix3 s p j) = z (ix3 s p j) + β (ix1 j) := by
  pointwise [biased]

/-- A gated output. -/
theorem gated_apply (z : FVec Ideal S4x8192x2048 .f32) (s : Fin 4) (p : Fin 8192) (j : Fin 1024) :
    gated z (ix3 s p j) = Glu.gate (z (ix3 s p (Glu.lo j))) (z (ix3 s p (Glu.hi j))) := by
  unfold Glu.gate Glu.one
  rw [Ideal.ofBits_one_f32]
  pointwise [gated]
  rfl

/-- A row of the result. -/
theorem joined_apply (x : FVec Ideal S4x8192x1024 .f32) (i : Fin 32768) (k : Fin 1024) : joined x (ix2 i k) = x (ix3 (Glu.seqOf i) (Glu.rowOf i) k) := by
  pointwise [joined]
  rfl

/-- The reference's result is the gated linear unit of every row. -/
theorem whole_eq (x : FVec Ideal S4x8192x1024 .f32) (sc sh : FVec Ideal S4x1024 .f32) (g : FVec Ideal S1024 .f32) (w : FVec Ideal S1024x2048 .f32)
    (β : FVec Ideal S2048 .f32) : whole x sc sh g w β = Glu.result x sc sh g w β := by
  have l : ∀ (s : Fin 4) (p : Fin 8192) (n : Fin 2048), biased (prods (mods x (scales (squares x)) g sc sh) w) β (ix3 s p n)
      = Glu.lin (Glu.normed (fun k => x (ix3 s p k)) (fun k => g (ix1 k) * (Glu.one + sc (ix2 s k))) (fun k => sh (ix2 s k)))
        (fun k i => w (ix2 k i)) (fun i => β (ix1 i)) n := fun s p n => by
    rw [biased_apply, prods_apply]
    simp only [mods_apply, scales_apply, squares_apply]
    rfl
  funext i
  obtain ⟨a, j, rfl⟩ : ∃ (a : Fin 32768) (j : Fin 1024), i = ix2 a j := ⟨i 0, i 1, funext fun a => by
    match a with
    | 0 => rfl
    | 1 => rfl⟩
  unfold whole
  rw [joined_apply, gated_apply, l, l]
  rfl

/-- The same at arguments equal to given arrays. -/
theorem whole_of (m : (ℓ : Loc nD τ sig) → Buf (Elt Ideal) ℓ) (c : Dev nD) (x : Glu.Xs) (sc sh : Glu.Mods) (g : Glu.Gains) (w : Glu.Ws) (β : Glu.Bs)
    (h : m (c.tc.loc main_arg0) = x ∧ m (c.tc.loc main_arg1) = sc ∧ m (c.tc.loc main_arg2) = sh ∧ m (c.tc.loc main_arg3) = g
      ∧ m (c.tc.loc main_arg4) = w ∧ m (c.tc.loc main_arg5) = β) :
    whole (m (c.tc.loc main_arg0)) (m (c.tc.loc main_arg1)) (m (c.tc.loc main_arg2)) (m (c.tc.loc main_arg3)) (m (c.tc.loc main_arg4))
      (m (c.tc.loc main_arg5)) = Glu.result x sc sh g w β := by
  obtain ⟨rfl, rfl, rfl, rfl, rfl, rfl⟩ := h
  exact whole_eq _ _ _ _ _ _

end Cert.Reference2Ideal.Mix

end
-- ==== Proof.Heads.lean ====
/- Sixteen heads under the output weights, with a gate and a residual, over the extended reals. -/
module

public import proofs.«01_k».proof.Proof.Glu

@[expose] public section

noncomputable section

namespace Cert.Heads

open Idealize.ShloMosaic

/-- Input `d` of head `h` among the 1024 inputs of the output weights. -/
def col (h : Fin 16) (d : Fin 64) : Fin 1024 := ⟨64 * h.val + d.val, by omega⟩
/-- A head's number among the lanes it is padded to. -/
def lane (d : Fin 64) : Fin 128 := ⟨d.val, by omega⟩

/-- The output weights. -/
abbrev Ws := FVec Ideal ⟨2, ![1024, 1024]⟩ .f32

/-- A row of heads under the weights. -/
def mix (o : Fin 16 → Fin 64 → EReal) (w : Ws) (j : Fin 1024) : EReal := ∑ h, ∑ d, o h d * w (ix2 (col h d) j)

/-- The result: the residual and the gated mix of every row. -/
def result (o : Fin 16 → Fin 32768 → Fin 64 → EReal) (x : Glu.Xs) (g : Glu.Mods) (w : Ws) : Glu.Out := fun i =>
  x (ix3 (Glu.seqOf (i 0)) (Glu.rowOf (i 0)) (i 1)) + g (ix2 (Glu.seqOf (i 0)) (i 1)) * mix (fun h d => o h (i 0) d) w (i 1)

/-- The logistic function. -/
def logistic (u : EReal) : EReal := Ideal.div Glu.one (Glu.one + Ideal.exp (-u))

/-- The column of gate `c` of head `h`. -/
def gateOf (h : Fin 16) (c : Fin 3) : Fin 128 := ⟨3 * h.val + c.val, by omega⟩

/-- Three numbers under the gates of a head. -/
def blend (u : Fin 128 → EReal) (h : Fin 16) (a b c : EReal) : EReal :=
  logistic (u (gateOf h 0)) * a + logistic (u (gateOf h 1)) * b + logistic (u (gateOf h 2)) * c

/-- A sum over 128 lanes of which the last 64 have weight zero. -/
theorem sum_lanes (f w : Fin 128 → EReal) (hw : ∀ l : Fin 128, 64 ≤ l.val → w l = 0) :
    ∑ l, f l * w l = ∑ d : Fin 64, f (lane d) * w (lane d) := by
  refine (Fin.sum_univ_add (a := 64) (b := 64) (fun l : Fin 128 => f l * w l)).trans ?_
  rw [Finset.sum_eq_zero (s := Finset.univ) (f := fun i : Fin 64 => f (Fin.natAdd 64 i) * w (Fin.natAdd 64 i)) (fun i _ => by
    rw [hw _ (by show 64 ≤ 64 + i.val; omega), mul_zero]), add_zero]
  rfl

/-- A sum over the 1024 inputs, head by head. -/
theorem sum_cols (f : Fin 1024 → EReal) : ∑ k, f k = ∑ h, ∑ d, f (col h d) := by
  rw [← Fintype.sum_prod_type' (f := fun h d => f (col h d)), ← (finProdFinEquiv (m := 16) (n := 64)).sum_comp f]
  refine Finset.sum_congr rfl fun p _ => congrArg f (Fin.ext ?_)
  show p.2.val + 64 * p.1.val = 64 * p.1.val + p.2.val
  omega

end Cert.Heads

end
-- ==== Proof.OutRow.lean ====
/- The payload of the output call of the latent attention at an index, over the extended reals. -/
module

public import proofs.«01_k».proof.Proof.Gen.Kernel3Ideal.Frame
public import proofs.«01_k».proof.Proof.Heads
public import Idealize.ShloMosaic.Lib.Pointwise
public import Idealize.ShloMosaic.Lib.Pipeline.ValueKit

@[expose] public section

set_option maxRecDepth 16384

noncomputable section

namespace Cert.Kernel3Ideal.Out

open Cert.Kernel3Ideal Cert.Kernel3Ideal.Gen
open Idealize.ShloMosaic Idealize.ShloMosaic.TcCoe

/-- A head of a block is inside it, -/
theorem inside_o (h : Fin 16) : ∀ a, (![h.val, 0, 0] : Fin 3 → ℕ) a + S1x256x128.size a ≤ S16x256x128.size a := fun a => by
  have := h.isLt
  match a with
  | 0 => show h.val + 1 ≤ 16; omega
  | 1 => show 0 + 256 ≤ 256; omega
  | 2 => show 0 + 128 ≤ 128; omega
/-- and so are its weights. -/
theorem inside_w (h : Fin 16) : ∀ a, (![h.val, 0, 0] : Fin 3 → ℕ) a + S1x128x1024.size a ≤ S16x128x1024.size a := fun a => by
  have := h.isLt
  match a with
  | 0 => show h.val + 1 ≤ 16; omega
  | 1 => show 0 + 128 ≤ 128; omega
  | 2 => show 0 + 1024 ≤ 1024; omega

/-- Head `h` of a block, -/
def head (x : FVec Ideal S16x256x128 .bf16) (h : Fin 16) : FVec Ideal S1x256x128 .bf16 :=
  View.ld (Val := Elt Ideal) (e' := .bf16) x (Rect.unit (s := S16x256x128) ![h.val, 0, 0] S1x256x128.size (inside_o h))
/-- and its weights. -/
def weight (w : FVec Ideal S16x128x1024 .bf16) (h : Fin 16) : FVec Ideal S1x128x1024 .bf16 :=
  View.ld (Val := Elt Ideal) (e' := .bf16) w (Rect.unit (s := S16x128x1024) ![h.val, 0, 0] S1x128x1024.size (inside_w h))

/-- One head added. -/
def step (a : FVec Ideal S256x1024 .f32) (o : FVec Ideal S1x256x128 .bf16) (w : FVec Ideal S1x128x1024 .bf16) : FVec Ideal S256x1024 .f32 :=
  addf a (matmul dot_S256x128_S128x1024_S256x1024_1_0_0_1_n_n none (shapeCast S256x128 o shapeCasts_S1x256x128_S256x128)
    (shapeCast S128x1024 w shapeCasts_S1x128x1024_S128x1024) (constant S256x1024 .f32 0x00000000#32))

/-- The first heads added. -/
def sums (x : FVec Ideal S16x256x128 .bf16) (w : FVec Ideal S16x128x1024 .bf16) : (n : ℕ) → n ≤ 16 → FVec Ideal S256x1024 .f32
  | 0, _ => broadcast S256x1024 (Scalar.ofBits .f32 0x00000000#32)
  | n + 1, hn => step (sums x w n (by omega)) (head x ⟨n, hn⟩) (weight w ⟨n, hn⟩)

/-- The gate and the residual. -/
def finish (a x : FVec Ideal S256x1024 .f32) (g : FVec Ideal S1x1x1024 .f32) : FVec Ideal S256x1024 .f32 :=
  addf (shapeCast S256x1024 x shapeCasts_S256x1024_S256x1024)
    (mulf (broadcastTo S256x1024 (shapeCast S1x1024 g shapeCasts_S1x1x1024_S1x1024) broadcasts_S1x1024_S256x1024) a)

/-- Offsets of zeros. -/
theorem zero2 : (![0, 0] : Fin 2 → ℕ) = fun _ => 0 := funext fun a => by fin_cases a <;> rfl
/-- Offsets of zeros, on three axes. -/
theorem zero3 : (![0, 0, 0] : Fin 3 → ℕ) = fun _ => 0 := funext fun a => by fin_cases a <;> rfl

/-- The sum over all heads, head by head. -/
theorem sums_all (o : FVec Ideal S16x256x128 .bf16) (w : FVec Ideal S16x128x1024 .bf16) (h : 16 ≤ 16) :
    sums o w 16 h = step (step (step (step (step (step (step (step (step (step (step (step (step (step (step (step
      (broadcast S256x1024 (Scalar.ofBits .f32 0x00000000#32)) (head o 0) (weight w 0)) (head o 1) (weight w 1))
      (head o 2) (weight w 2)) (head o 3) (weight w 3)) (head o 4) (weight w 4)) (head o 5) (weight w 5))
      (head o 6) (weight w 6)) (head o 7) (weight w 7)) (head o 8) (weight w 8)) (head o 9) (weight w 9))
      (head o 10) (weight w 10)) (head o 11) (weight w 11)) (head o 12) (weight w 12)) (head o 13) (weight w 13))
      (head o 14) (weight w 14)) (head o 15) (weight w 15) := rfl

/-- The body's one store is the stages in turn. -/
theorem out_eq_stages (o : FVec Ideal S16x256x128 .bf16) (w : FVec Ideal S16x128x1024 .bf16) (x : FVec Ideal S256x1024 .f32)
    (g : FVec Ideal S1x1x1024 .f32) : out0_4 (F := Ideal) o w x g = finish (sums o w 16 le_rfl) x g := by
  unfold out0_4
  rw [View.canon_unit_zero zero2, View.ld_unit_zero zero2, View.ld_unit_zero zero3, sums_all]
  rfl

/-- A head at an index, -/
theorem head_apply (x : FVec Ideal S16x256x128 .bf16) (h : Fin 16) (i : Fin 256) (l : Fin 128) : head x h (ix3 0 i l) = x (ix3 h i l) := by
  refine congrArg x (funext fun a => Fin.ext ?_)
  match a with
  | 0 => show h.val + 1 * 0 = h.val; omega
  | 1 => show 0 + 1 * i.val = i.val; omega
  | 2 => show 0 + 1 * l.val = l.val; omega
/-- and its weights. -/
theorem weight_apply (w : FVec Ideal S16x128x1024 .bf16) (h : Fin 16) (l : Fin 128) (j : Fin 1024) : weight w h (ix3 0 l j) = w (ix3 h l j) := by
  refine congrArg w (funext fun a => Fin.ext ?_)
  match a with
  | 0 => show h.val + 1 * 0 = h.val; omega
  | 1 => show 0 + 1 * l.val = l.val; omega
  | 2 => show 0 + 1 * j.val = j.val; omega

/-- The product of a head and its weights. -/
theorem prod_apply (o : FVec Ideal S256x128 .bf16) (w : FVec Ideal S128x1024 .bf16) (i : Fin 256) (j : Fin 1024) :
    matmul dot_S256x128_S128x1024_S256x1024_1_0_0_1_n_n none o w (constant (F := Ideal) S256x1024 .f32 0x00000000#32) (ix2 i j)
      = ∑ l : Fin 128, o (ix2 i l) * w (ix2 l j) := by
  refine (Ideal.matmul_apply₁_of dot_S256x128_S128x1024_S256x1024_1_0_0_1_n_n (a := 1) rfl (K := 128) rfl o w _ (ix2 i j)
    (fun k => ix2 i k) (fun k => ix2 k j) (fun k => ?_) (fun k => ?_)).trans ?_
  · pointwise
  · pointwise
  · rw [show (constant (F := Ideal) S256x1024 .f32 0x00000000#32) (ix2 i j) = (0 : EReal) from Ideal.ofBits_zero_f32]; exact zero_add _

/-- A block without its leading axis. -/
theorem cast_o (o : FVec Ideal S1x256x128 .bf16) (i : Fin 256) (l : Fin 128) :
    shapeCast S256x128 o shapeCasts_S1x256x128_S256x128 (ix2 i l) = o (ix3 0 i l) := by
  pointwise
/-- A weight of a head, without the head's axis. -/
theorem cast_w (w : FVec Ideal S1x128x1024 .bf16) (l : Fin 128) (j : Fin 1024) :
    shapeCast S128x1024 w shapeCasts_S1x128x1024_S128x1024 (ix2 l j) = w (ix3 0 l j) := by
  pointwise

/-- The first heads' sum at an index. -/
theorem sums_apply (x : FVec Ideal S16x256x128 .bf16) (w : FVec Ideal S16x128x1024 .bf16) (i : Fin 256) (j : Fin 1024) :
    ∀ (n : ℕ) (hn : n ≤ 16), sums x w n hn (ix2 i j)
      = ∑ h : Fin n, ∑ l : Fin 128, x (ix3 ⟨h.val, by omega⟩ i l) * w (ix3 ⟨h.val, by omega⟩ l j)
  | 0, _ => Ideal.ofBits_zero_f32
  | n + 1, hn => by
    rw [Fin.sum_univ_castSucc]
    refine congrArg₂ (· + ·) (sums_apply x w i j n (by omega)) ?_
    rw [prod_apply]
    simp only [cast_o, cast_w, head_apply, weight_apply]
    rfl

/-- The gated sum and the residual at an index. -/
theorem finish_apply (a x : FVec Ideal S256x1024 .f32) (g : FVec Ideal S1x1x1024 .f32) (i : Fin 256) (j : Fin 1024) :
    finish a x g (ix2 i j) = x (ix2 i j) + g (ix3 0 0 j) * a (ix2 i j) := by
  pointwise [finish]

/-- What the body stores, at an index. -/
theorem out_apply (o : FVec Ideal S16x256x128 .bf16) (w : FVec Ideal S16x128x1024 .bf16) (x : FVec Ideal S256x1024 .f32)
    (g : FVec Ideal S1x1x1024 .f32) (i : Fin 256) (j : Fin 1024) :
    out0_4 (F := Ideal) o w x g (ix2 i j) = x (ix2 i j) + g (ix3 0 0 j) * ∑ h : Fin 16, ∑ l : Fin 128, o (ix3 h i l) * w (ix3 h l j) := by
  rw [out_eq_stages, finish_apply, sums_apply]

end Cert.Kernel3Ideal.Out

end
-- ==== Proof.OutValue.lean ====
/- What the output call of the latent attention leaves in its output array, over the extended reals. -/
module

public import proofs.«01_k».proof.Proof.Gen.Kernel3Ideal.Value
public import proofs.«01_k».proof.Proof.OutRow
public import Idealize.ShloMosaic.Lib.Pipeline.ValueKit
public import Idealize.ShloMosaic.Lib.Pipeline.Value

@[expose] public section

set_option maxRecDepth 16384

noncomputable section

namespace Cert.Kernel3Ideal.Out

open Cert.Kernel3Ideal Cert.Kernel3Ideal.Gen
open Idealize.ShloMosaic Idealize.ShloMosaic.TcCoe

variable (m : (ℓ : Loc nD τ sig) → Buf (Elt Ideal) ℓ) (c : Dev nD)

/-! ## The windows' arrays -/

/-- The weights, head by head and padded to 128 lanes. -/
def padded (w : FVec Ideal S1024x1024 .f32) : FVec Ideal S16x128x1024 .bf16 :=
  truncf (F := Ideal) (s := S16x128x1024) (φ := .f32) .bf16
    (pad S16x128x1024 ![0, 0, 0] ![0, 64, 0] ![0, 0, 0] (shapeCast S16x64x1024 w shapeCasts_S1024x1024_S16x64x1024)
      (sitofp (F := Ideal) .f32 (constantI S_ 32 0#32)) pads_S16x64x1024_S16x128x1024_000_0640_000 h_S_) bitsLt_bf16_f32

/-- The heads are an argument. -/
theorem heads_eq : V m c main_arg0 = m (c.tc.loc main_arg0) := V_main_arg0 m c
/-- The weights. -/
theorem weights_eq : V m c main_v2 = padded (m (c.tc.loc main_arg3)) := by
  unfold V; simp only [hostOps0, hostOps0_1, hostOps0_2, List.flatten_cons, List.flatten_nil, List.append_nil, List.cons_append, List.nil_append]; after_results; rfl
/-- The rows of the four sequences end to end. -/
theorem rows_eq : V m c main_v3 = shapeCast S32768x1024 (m (c.tc.loc main_arg1)) shapeCasts_S4x8192x1024_S32768x1024 := by
  unfold V; simp only [hostOps0, hostOps0_1, hostOps0_2, List.flatten_cons, List.flatten_nil, List.append_nil, List.cons_append, List.nil_append]; after_results; rfl
/-- The gates. -/
theorem gates_eq : V m c main_v4 = shapeCast S4x1x1024 (m (c.tc.loc main_arg2)) shapeCasts_S4x1024_S4x1x1024 := by
  unfold V; simp only [hostOps0, hostOps0_1, hostOps0_2, List.flatten_cons, List.flatten_nil, List.append_nil, List.cons_append, List.nil_append]; after_results; rfl

/-- A weight of a head, by its lane. -/
theorem padded_apply (w : FVec Ideal S1024x1024 .f32) (h : Fin 16) (d : Fin 64) (j : Fin 1024) :
    padded w (ix3 h (Heads.lane d) j) = w (ix2 (Heads.col h d) j) := by
  have hh := h.isLt
  have hd := d.isLt
  refine (dif_pos (c := ∀ a : Fin 3, _) ?_).trans ?_
  · intro a
    match a with
    | 0 => exact ⟨Nat.zero_le _, Nat.mod_one _, by show (h.val - 0) / 1 < 16; omega⟩
    | 1 => exact ⟨Nat.zero_le _, Nat.mod_one _, by show (d.val - 0) / 1 < 64; omega⟩
    | 2 => exact ⟨Nat.zero_le _, Nat.mod_one _, by have := j.isLt; show (j.val - 0) / 1 < 1024; omega⟩
  · have e : shapeCast S16x64x1024 w shapeCasts_S1024x1024_S16x64x1024 (ix3 h d j) = w (ix2 (Heads.col h d) j) := by
      pointwise
      exact congrArg (fun n => w (ix2 n j)) (Fin.ext (Nat.add_right_cancel_iff.mpr (Nat.mul_comm _ _)))
    refine (congrArg _ (funext fun a => Fin.ext ?_)).trans e
    match a with
    | 0 => exact Nat.div_one _
    | 1 => exact Nat.div_one _
    | 2 => exact Nat.div_one _

/-- The lanes past a head's have weight zero. -/
theorem padded_zero (w : FVec Ideal S1024x1024 .f32) (h : Fin 16) (l : Fin 128) (hl : 64 ≤ l.val) (j : Fin 1024) : padded w (ix3 h l j) = 0 := by
  refine (dif_neg (c := ∀ a : Fin 3, _) ?_).trans ?_
  · intro hin
    have h1 : (l.val - 0) / 1 < 64 := (hin 1).2.2
    omega
  · show ((((0#32 : BitVec 32).toInt : ℤ) : ℝ) : EReal) = 0
    simp

/-- A row of a sequence among all rows, -/
theorem rows_apply (x : FVec Ideal S4x8192x1024 .f32) (i : Fin 32768) (k : Fin 1024) :
    shapeCast S32768x1024 x shapeCasts_S4x8192x1024_S32768x1024 (ix2 i k) = x (ix3 (Glu.seqOf i) (Glu.rowOf i) k) := by
  pointwise
  rfl
/-- and a gate. -/
theorem gates_apply (g : FVec Ideal S4x1024 .f32) (s : Fin 4) (k : Fin 1024) :
    shapeCast S4x1x1024 g shapeCasts_S4x1024_S4x1x1024 (ix3 s 0 k) = g (ix2 s k) := by
  pointwise

/-! ## The blocks -/

/-- The blocks' numbers at a point. -/
theorem index_o : ∀ t : Fin grid0.N, win0_0.index t 0 = 0 ∧ win0_0.index t 1 = t.val ∧ win0_0.index t 2 = 0 := by decide +kernel
/-- The same for window 1. -/
theorem index_w : ∀ t : Fin grid0.N, win0_1.index t 0 = 0 ∧ win0_1.index t 1 = 0 ∧ win0_1.index t 2 = 0 := by decide +kernel
/-- The same for window 2. -/
theorem index_x : ∀ t : Fin grid0.N, win0_2.index t 0 = t.val ∧ win0_2.index t 1 = 0 := by decide +kernel
/-- The same for window 3. -/
theorem index_g : ∀ t : Fin grid0.N, win0_3.index t 0 = t.val / 32 ∧ win0_3.index t 1 = 0 ∧ win0_3.index t 2 = 0 := by decide +kernel
/-- The same for window 4. -/
theorem index_r : ∀ t : Fin grid0.N, win0_4.index t 0 = t.val ∧ win0_4.index t 1 = 0 := by decide +kernel

/-- Row `r` of the block of a point, -/
def at_ (t : Fin grid0.N) (r : Fin 256) : Fin 32768 :=
  ⟨256 * t.val + r.val, by have : t.val < 128 := lt_of_lt_of_eq t.isLt N_0; have := r.isLt; omega⟩
/-- and the sequence it is of. -/
theorem seqOf_at (t : Fin grid0.N) (r : Fin 256) : (Glu.seqOf (at_ t r)).val = t.val / 32 := by
  have := r.isLt
  show (256 * t.val + r.val) / 8192 = t.val / 32
  omega

variable (t : Fin grid0.N)

/-- The heads of a block, -/
theorem o_apply (h : Fin 16) (r : Fin 256) (l : Fin 128) : iblk m c 0 t (ix3 h r l) = m (c.tc.loc main_arg0) (ix3 h (at_ t r) l) := by
  refine (congrFun (heads_eq m c) _).trans (congrArg (m (c.tc.loc main_arg0)) ?_)
  funext a
  apply Fin.ext
  match a with
  | 0 =>
    show win0_0.index t 0 * 16 + 1 * h.val = h.val
    rw [(index_o t).1]; omega
  | 1 =>
    show win0_0.index t 1 * 256 + 1 * r.val = 256 * t.val + r.val
    rw [(index_o t).2.1]; omega
  | 2 =>
    show win0_0.index t 2 * 128 + 1 * l.val = l.val
    rw [(index_o t).2.2]; omega
/-- their weights, -/
theorem w_apply (h : Fin 16) (l : Fin 128) (j : Fin 1024) : iblk m c 1 t (ix3 h l j) = padded (m (c.tc.loc main_arg3)) (ix3 h l j) := by
  refine (congrFun (weights_eq m c) _).trans (congrArg (padded (m (c.tc.loc main_arg3))) ?_)
  funext a
  apply Fin.ext
  match a with
  | 0 =>
    show win0_1.index t 0 * 16 + 1 * h.val = h.val
    rw [(index_w t).1]; omega
  | 1 =>
    show win0_1.index t 1 * 128 + 1 * l.val = l.val
    rw [(index_w t).2.1]; omega
  | 2 =>
    show win0_1.index t 2 * 1024 + 1 * j.val = j.val
    rw [(index_w t).2.2]; omega
/-- the rows of the residual -/
theorem x_apply (r : Fin 256) (k : Fin 1024) :
    iblk m c 2 t (ix2 r k) = m (c.tc.loc main_arg1) (ix3 (Glu.seqOf (at_ t r)) (Glu.rowOf (at_ t r)) k) := by
  refine (congrFun (rows_eq m c) _).trans ((congrArg _ ?_).trans (rows_apply _ (at_ t r) k))
  funext a
  apply Fin.ext
  match a with
  | 0 =>
    show win0_2.index t 0 * 256 + 1 * r.val = 256 * t.val + r.val
    rw [(index_x t).1]; omega
  | 1 =>
    show win0_2.index t 1 * 1024 + 1 * k.val = k.val
    rw [(index_x t).2]; omega
/-- and the sequence's gates. -/
theorem g_apply (r : Fin 256) (k : Fin 1024) : iblk m c 3 t (ix3 0 0 k) = m (c.tc.loc main_arg2) (ix2 (Glu.seqOf (at_ t r)) k) := by
  refine (congrFun (gates_eq m c) _).trans ((congrArg _ ?_).trans (gates_apply _ (Glu.seqOf (at_ t r)) k))
  funext a
  apply Fin.ext
  match a with
  | 0 =>
    show win0_3.index t 0 * 1 + 1 * 0 = (Glu.seqOf (at_ t r)).val
    rw [(index_g t).1, seqOf_at]; omega
  | 1 =>
    show win0_3.index t 1 * 1 + 1 * 0 = 0
    rw [(index_g t).2.1]
  | 2 =>
    show win0_3.index t 2 * 1024 + 1 * k.val = k.val
    rw [(index_g t).2.2]; omega

/-! ## The output array -/

/-- The heads the call takes. -/
def heads (o : FVec Ideal S16x32768x128 .bf16) (h : Fin 16) (i : Fin 32768) (d : Fin 64) : EReal := o (ix3 h i (Heads.lane d))

/-- The call's result as a function of its arguments. -/
def res : Glu.Out := Heads.result (heads (m (c.tc.loc main_arg0))) (m (c.tc.loc main_arg1)) (m (c.tc.loc main_arg2)) (m (c.tc.loc main_arg3))

/-- A head's product over the padded lanes. -/
theorem lanes (f : Fin 128 → EReal) (w : FVec Ideal S1024x1024 .f32) (h : Fin 16) (j : Fin 1024) :
    ∑ l, f l * padded w (ix3 h l j) = ∑ d : Fin 64, f (Heads.lane d) * w (ix2 (Heads.col h d) j) := by
  refine (Heads.sum_lanes f (fun l => padded w (ix3 h l j)) (fun l hl => padded_zero w h l hl j)).trans ?_
  simp only [padded_apply]

/-- What a point writes back, at an element. -/
theorem flushed_apply (r : Fin 256) (j : Fin 1024) :
    (dats m 0 c).flushed 4 t (ix2 r j) = res m c (ix2 (at_ t r) j) := by
  refine (congrFun (Value.flushed4 m c t) _).trans ?_
  refine (out_apply (iblk m c 0 t) (iblk m c 1 t) (iblk m c 2 t) (iblk m c 3 t) r j).trans ?_
  simp only [x_apply, g_apply m c t r, w_apply, o_apply, lanes]
  rfl

/-- The place in the output of an element of the output block. -/
theorem emb_r (r : Fin 256) (j : Fin 1024) : ((cfg0.win 4).blk t).view.emb (ix2 r j) = ix2 (at_ t r) j := by
  funext a
  apply Fin.ext
  match a with
  | 0 =>
    show win0_4.index t 0 * 256 + 1 * r.val = 256 * t.val + r.val
    rw [(index_r t).1]; omega
  | 1 =>
    show win0_4.index t 1 * 1024 + 1 * j.val = j.val
    rw [(index_r t).2]; omega

/-- The output array holds every row's result. -/
theorem out_eq : (dats m 0 c).arrAt 4 cfg0.N = res m c := by
  refine (dats m 0 c).arrAt_eq_of_cover 4 _ (fun t hf => ?_) (fun i => ?_)
  · funext y
    obtain ⟨r, j, rfl⟩ : ∃ (r : Fin 256) (j : Fin 1024), y = ix2 r j := ⟨y 0, y 1, funext fun a => by
      match a with
      | 0 => rfl
      | 1 => rfl⟩
    exact (flushed_apply m c t r j).trans (congrArg (res m c) (emb_r t r j)).symm
  · have h0 : (i 0).val < 32768 := (i 0).isLt
    have h1 : (i 1).val < 1024 := (i 1).isLt
    have hu : (i 0).val / 256 < grid0.N := lt_of_lt_of_eq (show (i 0).val / 256 < 128 by omega) N_0.symm
    have hm := ((cfg0.win 4).blk ⟨(i 0).val / 256, hu⟩).view.emb_mem_set (ix2 (⟨(i 0).val % 256, Nat.mod_lt _ (by decide)⟩ : Fin 256) (⟨(i 1).val, h1⟩ : Fin 1024))
    refine ⟨⟨(i 0).val / 256, hu⟩, flush0_4 _, ?_⟩
    rw [emb_r] at hm
    have e : (ix2 (at_ ⟨(i 0).val / 256, hu⟩ (⟨(i 0).val % 256, Nat.mod_lt _ (by decide)⟩ : Fin 256)) (⟨(i 1).val, h1⟩ : Fin 1024) : S32768x1024.Idx) = i := by
      funext a
      apply Fin.ext
      match a with
      | 0 =>
        show 256 * ((i 0).val / 256) + (i 0).val % 256 = (i 0).val
        omega
      | 1 => rfl
    rw [e] at hm
    exact hm

end Cert.Kernel3Ideal.Out

end
-- ==== Proof.OutRef.lean ====
/- The reference of the output call of the latent attention at an index, over the extended reals. -/
module

public import proofs.«01_k».proof.Proof.Gen.Reference3Ideal.Run
public import proofs.«01_k».proof.Proof.Heads
public import Idealize.ShloMosaic.Lib.Pointwise

@[expose] public section

set_option maxRecDepth 16384

noncomputable section

namespace Cert.Reference3Ideal.Out

open Cert.Reference3Ideal Cert.Reference3Ideal.Gen
open Idealize.ShloMosaic Idealize.ShloMosaic.TcCoe Idealize.SL.Sem

/-- The heads side by side. -/
def side (o : FVec Ideal S16x32768x128 .bf16) : FVec Ideal S4x8192x1024 .f32 :=
  shapeCast S4x8192x1024 (transpose S4x8192x16x64 [1, 2, 0, 3] (shapeCast S16x4x8192x64
    (extf .f32 (extractStridedSlice S16x32768x64 ![0, 0, 0] o slices_S16x32768x128_S16x32768x64_0_0_0) bitsLt_bf16_f32)
    shapeCasts_S16x32768x64_S16x4x8192x64) transposes_S16x4x8192x64_S4x8192x16x64_1_2_0_3) shapeCasts_S4x8192x16x64_S4x8192x1024

/-- The rows under the weights. -/
def prods (y : FVec Ideal S4x8192x1024 .f32) (w : FVec Ideal S1024x1024 .f32) : FVec Ideal S4x8192x1024 .f32 :=
  Host.dotGeneral dot_S4x8192x1024_S1024x1024_S4x8192x1024_2_0_01_1_n_n none y w

/-- The gate and the residual. -/
def finish (z x : FVec Ideal S4x8192x1024 .f32) (g : FVec Ideal S4x1024 .f32) : FVec Ideal S32768x1024 .f32 :=
  shapeCast S32768x1024 (addf x (mulf (broadcastInDim S4x8192x1024 ![0, 1, 2] bcast_S4x1x1024_S4x8192x1024_0_1_2
    (broadcastInDim S4x1x1024 ![0, 2] bcast_S4x1024_S4x1x1024_0_2 g)) z)) shapeCasts_S4x8192x1024_S32768x1024

/-- The stages in turn. -/
def whole (o : FVec Ideal S16x32768x128 .bf16) (x : FVec Ideal S4x8192x1024 .f32) (g : FVec Ideal S4x1024 .f32) (w : FVec Ideal S1024x1024 .f32) :
    FVec Ideal S32768x1024 .f32 := finish (prods (side o) w) x g

/-- Row `p` of sequence `s` among all rows. -/
def place (s : Fin 4) (p : Fin 8192) : Fin 32768 := ⟨s.val * 8192 + p.val, by omega⟩

/-- An input of the weights. -/
theorem side_apply (o : FVec Ideal S16x32768x128 .bf16) (s : Fin 4) (p : Fin 8192) (h : Fin 16) (d : Fin 64) :
    side o (ix3 s p (Heads.col h d)) = o (ix3 h (place s p) (Heads.lane d)) := by
  have e1 : ∀ y : FVec Ideal S4x8192x16x64 .f32, shapeCast S4x8192x1024 y shapeCasts_S4x8192x16x64_S4x8192x1024 (ix3 s p (Heads.col h d)) = y (ix4 s p h d) := fun y => by
    pointwise
    refine congrArg y ?_
    funext a
    apply Fin.ext
    have := h.isLt; have := d.isLt
    match a with
    | 0 => rfl
    | 1 => rfl
    | 2 => show (64 * h.val + d.val) / 64 = h.val; omega
    | 3 => show (64 * h.val + d.val) % 64 = d.val; omega
  have e2 : ∀ y : FVec Ideal S16x32768x64 .f32, shapeCast S16x4x8192x64 y shapeCasts_S16x32768x64_S16x4x8192x64 (ix4 h s p d) = y (ix3 h (place s p) d) := fun y => by
    pointwise
    rfl
  unfold side
  rw [e1]
  have e3 : ∀ y : FVec Ideal S16x4x8192x64 .f32, transpose S4x8192x16x64 [1, 2, 0, 3] y transposes_S16x4x8192x64_S4x8192x16x64_1_2_0_3 (ix4 s p h d) = y (ix4 h s p d) := fun y => by
    pointwise
  rw [e3, e2]
  pointwise
  rfl

/-- An output of a row. -/
theorem prods_apply (y : FVec Ideal S4x8192x1024 .f32) (w : FVec Ideal S1024x1024 .f32) (s : Fin 4) (p : Fin 8192) (j : Fin 1024) :
    prods y w (ix3 s p j) = ∑ k : Fin 1024, y (ix3 s p k) * w (ix2 k j) := by
  unfold prods
  simp only [Host.dotGeneral]
  rw [Ideal.dotGeneral_def]
  refine (Ideal.matmul_apply₁_of dot_S4x8192x1024_S1024x1024_S4x8192x1024_2_0_01_1_n_n (a := 2) rfl (K := 1024) rfl y w _ (ix3 s p j)
    (fun k => ix3 s p k) (fun k => ix2 k j) (fun k => ?_) (fun k => ?_)).trans ?_
  · pointwise
  · pointwise
  · exact zero_add _

/-- An element of the result. -/
theorem finish_apply (z x : FVec Ideal S4x8192x1024 .f32) (g : FVec Ideal S4x1024 .f32) (i : Fin 32768) (j : Fin 1024) :
    finish z x g (ix2 i j) = x (ix3 (Glu.seqOf i) (Glu.rowOf i) j) + g (ix2 (Glu.seqOf i) j) * z (ix3 (Glu.seqOf i) (Glu.rowOf i) j) := by
  pointwise [finish]
  rfl

/-- The rows' places. -/
theorem place_of (i : Fin 32768) : place (Glu.seqOf i) (Glu.rowOf i) = i := Fin.ext (by
  show i.val / 8192 * 8192 + i.val % 8192 = i.val
  omega)

/-- The reference's result is every row's. -/
theorem whole_eq (o : FVec Ideal S16x32768x128 .bf16) (x : FVec Ideal S4x8192x1024 .f32) (g : FVec Ideal S4x1024 .f32) (w : FVec Ideal S1024x1024 .f32) :
    whole o x g w = Heads.result (fun h i d => o (ix3 h i (Heads.lane d))) x g w := by
  funext i
  obtain ⟨a, j, rfl⟩ : ∃ (a : Fin 32768) (j : Fin 1024), i = ix2 a j := ⟨i 0, i 1, funext fun a => by
    match a with
    | 0 => rfl
    | 1 => rfl⟩
  unfold whole
  rw [finish_apply, prods_apply, Heads.sum_cols]
  simp only [side_apply, place_of]
  rfl

/-- The same at arguments equal to given arrays. -/
theorem whole_of (m : (ℓ : Loc nD τ sig) → Buf (Elt Ideal) ℓ) (c : Dev nD) (o : FVec Ideal S16x32768x128 .bf16) (x : Glu.Xs) (g : Glu.Mods) (w : Heads.Ws)
    (h : m (c.tc.loc main_arg0) = o ∧ m (c.tc.loc main_arg1) = x ∧ m (c.tc.loc main_arg2) = g ∧ m (c.tc.loc main_arg3) = w) :
    whole (m (c.tc.loc main_arg0)) (m (c.tc.loc main_arg1)) (m (c.tc.loc main_arg2)) (m (c.tc.loc main_arg3))
      = Heads.result (fun h i d => o (ix3 h i (Heads.lane d))) x g w := by
  obtain ⟨rfl, rfl, rfl, rfl⟩ := h
  exact whole_eq _ _ _ _

end Cert.Reference3Ideal.Out

end
-- ==== Proof.GatedRow.lean ====
/- What the body of the sparse attention's output call stores, at an index, over the extended reals. -/
module

public import proofs.«01_k».proof.Proof.Gen.Kernel4Ideal.Frame
public import proofs.«01_k».proof.Proof.Heads
public import Idealize.ShloMosaic.Lib.Pointwise

@[expose] public section

set_option maxRecDepth 16384

noncomputable section

namespace Cert.Kernel4Ideal.Out

open Cert.Kernel4Ideal Cert.Kernel4Ideal.Gen
open Idealize.ShloMosaic Idealize.ShloMosaic.TcCoe

/-- A head of a block is inside it, -/
theorem inside_o (h : Fin 16) : ∀ a, (![h.val, 0, 0] : Fin 3 → ℕ) a + S1x256x128.size a ≤ S16x256x128.size a := fun a => by
  have := h.isLt
  match a with
  | 0 => show h.val + 1 ≤ 16; omega
  | 1 => show 0 + 256 ≤ 256; omega
  | 2 => show 0 + 128 ≤ 128; omega
/-- and so are its weights. -/
theorem inside_w (h : Fin 16) : ∀ a, (![h.val, 0, 0] : Fin 3 → ℕ) a + S1x128x1024.size a ≤ S16x128x1024.size a := fun a => by
  have := h.isLt
  match a with
  | 0 => show h.val + 1 ≤ 16; omega
  | 1 => show 0 + 128 ≤ 128; omega
  | 2 => show 0 + 1024 ≤ 1024; omega
/-- A column of the gates is inside them. -/
theorem inside_g (n : Fin 128) : S256x128.Slices ![0, n.val] S256x1 := ⟨rfl, fun a => by
  have := n.isLt
  match a with
  | 0 => show 0 + 256 ≤ 256; omega
  | 1 => show n.val + 1 ≤ 128; omega⟩

/-- Head `h` of a block, -/
def head (x : FVec Ideal S16x256x128 .bf16) (h : Fin 16) : FVec Ideal S1x256x128 .bf16 :=
  View.ld (Val := Elt Ideal) (e' := .bf16) x (Rect.unit (s := S16x256x128) ![h.val, 0, 0] S1x256x128.size (inside_o h))
/-- and its weights. -/
def weight (w : FVec Ideal S16x128x1024 .bf16) (h : Fin 16) : FVec Ideal S1x128x1024 .bf16 :=
  View.ld (Val := Elt Ideal) (e' := .bf16) w (Rect.unit (s := S16x128x1024) ![h.val, 0, 0] S1x128x1024.size (inside_w h))

/-- The gates. -/
def gates (u : FVec Ideal S256x128 .f32) : FVec Ideal S256x128 .f32 :=
  divf (broadcast S256x128 (Scalar.ofBits .f32 0x3F800000#32)) (addf (broadcast S256x128 (Scalar.ofBits .f32 0x3F800000#32))
    (exp (subf (broadcast S256x128 (Scalar.ofBits .f32 0x00000000#32)) u)))

/-- A branch under one of the gates. -/
def gated (g : FVec Ideal S256x128 .f32) (n : Fin 128) (o : FVec Ideal S1x256x128 .bf16) : FVec Ideal S256x128 .f32 :=
  mulf (broadcastTo S256x128 (extractStridedSlice S256x1 ![0, n.val] g (inside_g n)) broadcasts_S256x1_S256x128)
    (extf .f32 (shapeCast S256x128 o shapeCasts_S1x256x128_S256x128) bitsLt_bf16_f32)

/-- The three branches of a head. -/
def blended (g : FVec Ideal S256x128 .f32) (h : Fin 16) (a b c : FVec Ideal S1x256x128 .bf16) : FVec Ideal S256x128 .bf16 :=
  truncf .bf16 (addf (addf (addf (broadcast S256x128 (Scalar.ofBits .f32 0x00000000#32)) (gated g (Heads.gateOf h 0) a))
    (gated g (Heads.gateOf h 1) b)) (gated g (Heads.gateOf h 2) c)) bitsLt_bf16_f32

/-- One head added. -/
def step (z : FVec Ideal S256x1024 .f32) (o : FVec Ideal S256x128 .bf16) (w : FVec Ideal S1x128x1024 .bf16) : FVec Ideal S256x1024 .f32 :=
  addf z (matmul dot_S256x128_S128x1024_S256x1024_1_0_0_1_n_n none o
    (shapeCast S128x1024 w shapeCasts_S1x128x1024_S128x1024) (constant S256x1024 .f32 0x00000000#32))

/-- A head and its weights added. -/
def add (g : FVec Ideal S256x128 .f32) (a b c : FVec Ideal S16x256x128 .bf16) (w : FVec Ideal S16x128x1024 .bf16) (z : FVec Ideal S256x1024 .f32)
    (h : Fin 16) : FVec Ideal S256x1024 .f32 := step z (blended g h (head a h) (head b h) (head c h)) (weight w h)

/-- The first heads added. -/
def sums (g : FVec Ideal S256x128 .f32) (a b c : FVec Ideal S16x256x128 .bf16) (w : FVec Ideal S16x128x1024 .bf16) :
    (n : ℕ) → n ≤ 16 → FVec Ideal S256x1024 .f32
  | 0, _ => broadcast S256x1024 (Scalar.ofBits .f32 0x00000000#32)
  | n + 1, hn => add g a b c w (sums g a b c w n (by omega)) ⟨n, hn⟩

/-- The gate and the residual. -/
def finish (a x : FVec Ideal S256x1024 .f32) (g : FVec Ideal S1x1x1024 .f32) : FVec Ideal S256x1024 .f32 :=
  addf (shapeCast S256x1024 x shapeCasts_S256x1024_S256x1024)
    (mulf (broadcastTo S256x1024 (shapeCast S1x1024 g shapeCasts_S1x1x1024_S1x1024) broadcasts_S1x1024_S256x1024) a)

/-- Offsets of zeros. -/
theorem zero2 : (![0, 0] : Fin 2 → ℕ) = fun _ => 0 := funext fun a => by fin_cases a <;> rfl
/-- Offsets of zeros, on three axes. -/
theorem zero3 : (![0, 0, 0] : Fin 3 → ℕ) = fun _ => 0 := funext fun a => by fin_cases a <;> rfl

/-- The sum over all heads, head by head. -/
theorem sums_all (g : FVec Ideal S256x128 .f32) (a b c : FVec Ideal S16x256x128 .bf16) (w : FVec Ideal S16x128x1024 .bf16) (h : 16 ≤ 16) :
    sums g a b c w 16 h = [0, 1, 2, 3, 4, 5, 6, 7, 8, 9, 10, 11, 12, 13, 14, 15].foldl (add g a b c w)
      (broadcast S256x1024 (Scalar.ofBits .f32 0x00000000#32)) := rfl

/-- The body's one store is the stages in turn. -/
theorem out_eq_stages (a b c : FVec Ideal S16x256x128 .bf16) (u : FVec Ideal S256x128 .f32) (w : FVec Ideal S16x128x1024 .bf16)
    (x : FVec Ideal S256x1024 .f32) (m : FVec Ideal S1x1x1024 .f32) :
    out0_7 (F := Ideal) a b c u w x m = finish (sums (gates u) a b c w 16 le_rfl) x m := by
  unfold out0_7 k0_pay34
  rw [View.canon_unit_zero zero2, View.ld_unit_zero zero2, View.ld_unit_zero zero2, View.ld_unit_zero zero3, sums_all]
  rfl

/-- A head at an index, -/
theorem head_apply (x : FVec Ideal S16x256x128 .bf16) (h : Fin 16) (i : Fin 256) (l : Fin 128) : head x h (ix3 0 i l) = x (ix3 h i l) := by
  refine congrArg x (funext fun a => Fin.ext ?_)
  match a with
  | 0 => show h.val + 1 * 0 = h.val; omega
  | 1 => show 0 + 1 * i.val = i.val; omega
  | 2 => show 0 + 1 * l.val = l.val; omega
/-- and its weights. -/
theorem weight_apply (w : FVec Ideal S16x128x1024 .bf16) (h : Fin 16) (l : Fin 128) (j : Fin 1024) : weight w h (ix3 0 l j) = w (ix3 h l j) := by
  refine congrArg w (funext fun a => Fin.ext ?_)
  match a with
  | 0 => show h.val + 1 * 0 = h.val; omega
  | 1 => show 0 + 1 * l.val = l.val; omega
  | 2 => show 0 + 1 * j.val = j.val; omega

/-- The product of a head and its weights. -/
theorem prod_apply (o : FVec Ideal S256x128 .bf16) (w : FVec Ideal S128x1024 .bf16) (i : Fin 256) (j : Fin 1024) :
    matmul dot_S256x128_S128x1024_S256x1024_1_0_0_1_n_n none o w (constant (F := Ideal) S256x1024 .f32 0x00000000#32) (ix2 i j)
      = ∑ l : Fin 128, o (ix2 i l) * w (ix2 l j) := by
  refine (Ideal.matmul_apply₁_of dot_S256x128_S128x1024_S256x1024_1_0_0_1_n_n (a := 1) rfl (K := 128) rfl o w _ (ix2 i j)
    (fun k => ix2 i k) (fun k => ix2 k j) (fun k => ?_) (fun k => ?_)).trans ?_
  · pointwise
  · pointwise
  · rw [show (constant (F := Ideal) S256x1024 .f32 0x00000000#32) (ix2 i j) = (0 : EReal) from Ideal.ofBits_zero_f32]; exact zero_add _

/-- A block without its leading axis. -/
theorem cast_o (o : FVec Ideal S1x256x128 .bf16) (i : Fin 256) (l : Fin 128) :
    shapeCast S256x128 o shapeCasts_S1x256x128_S256x128 (ix2 i l) = o (ix3 0 i l) := by
  pointwise
/-- A weight of a head, without the head's axis. -/
theorem cast_w (w : FVec Ideal S1x128x1024 .bf16) (l : Fin 128) (j : Fin 1024) :
    shapeCast S128x1024 w shapeCasts_S1x128x1024_S128x1024 (ix2 l j) = w (ix3 0 l j) := by
  pointwise

/-- A gate at an index. -/
theorem gates_apply (u : FVec Ideal S256x128 .f32) (i : Fin 256) (l : Fin 128) : gates u (ix2 i l) = Heads.logistic (u (ix2 i l)) := by
  show Ideal.div Glu.one (Glu.one + Ideal.exp (Ideal.ofBits .f32 0x00000000#32 - u (ix2 i l))) = _
  rw [Ideal.ofBits_zero_f32, zero_sub]
  rfl

/-- A column of the gates, spread over the lanes. -/
theorem column_apply (g : FVec Ideal S256x128 .f32) (n : Fin 128) (i : Fin 256) (l : Fin 128) :
    broadcastTo S256x128 (extractStridedSlice S256x1 ![0, n.val] g (inside_g n)) broadcasts_S256x1_S256x128 (ix2 i l) = g (ix2 i n) := by
  refine (broadcastTo_apply _ broadcasts_S256x1_S256x128 (ix2 i l) (ix2 i 0) (fun a => ?_)).trans (congrArg g (funext fun a => Fin.ext ?_))
  · match a with
    | 0 => rfl
    | 1 => rfl
  · match a with
    | 0 => show 0 + i.val = i.val; omega
    | 1 => rfl

/-- A gated branch at an index. -/
theorem gated_apply (g : FVec Ideal S256x128 .f32) (n : Fin 128) (o : FVec Ideal S1x256x128 .bf16) (i : Fin 256) (l : Fin 128) :
    gated g n o (ix2 i l) = g (ix2 i n) * o (ix3 0 i l) :=
  congrArg₂ (· * ·) (column_apply g n i l) (cast_o o i l)

/-- The branches of a head at an index. -/
theorem blended_apply (u : FVec Ideal S256x128 .f32) (h : Fin 16) (a b c : FVec Ideal S16x256x128 .bf16) (i : Fin 256) (l : Fin 128) :
    blended (gates u) h (head a h) (head b h) (head c h) (ix2 i l)
      = Heads.blend (fun n => u (ix2 i n)) h (a (ix3 h i l)) (b (ix3 h i l)) (c (ix3 h i l)) := by
  show Ideal.ofBits .f32 0x00000000#32 + gated (gates u) (Heads.gateOf h 0) (head a h) (ix2 i l)
    + gated (gates u) (Heads.gateOf h 1) (head b h) (ix2 i l) + gated (gates u) (Heads.gateOf h 2) (head c h) (ix2 i l) = _
  rw [Ideal.ofBits_zero_f32, zero_add, gated_apply, gated_apply, gated_apply]
  simp only [gates_apply, head_apply]
  rfl

/-- The first heads' sum at an index. -/
theorem sums_apply (u : FVec Ideal S256x128 .f32) (a b c : FVec Ideal S16x256x128 .bf16) (w : FVec Ideal S16x128x1024 .bf16) (i : Fin 256) (j : Fin 1024) :
    ∀ (n : ℕ) (hn : n ≤ 16), sums (gates u) a b c w n hn (ix2 i j)
      = ∑ h : Fin n, ∑ l : Fin 128, Heads.blend (fun n => u (ix2 i n)) ⟨h.val, by omega⟩ (a (ix3 ⟨h.val, by omega⟩ i l))
          (b (ix3 ⟨h.val, by omega⟩ i l)) (c (ix3 ⟨h.val, by omega⟩ i l)) * w (ix3 ⟨h.val, by omega⟩ l j)
  | 0, _ => Ideal.ofBits_zero_f32
  | n + 1, hn => by
    rw [Fin.sum_univ_castSucc]
    refine congrArg₂ (· + ·) (sums_apply u a b c w i j n (by omega)) ?_
    rw [prod_apply]
    simp only [cast_w, blended_apply, weight_apply]
    rfl

/-- The gated sum and the residual at an index. -/
theorem finish_apply (a x : FVec Ideal S256x1024 .f32) (g : FVec Ideal S1x1x1024 .f32) (i : Fin 256) (j : Fin 1024) :
    finish a x g (ix2 i j) = x (ix2 i j) + g (ix3 0 0 j) * a (ix2 i j) := by
  pointwise [finish]

/-- What the body stores, at an index. -/
theorem out_apply (a b c : FVec Ideal S16x256x128 .bf16) (u : FVec Ideal S256x128 .f32) (w : FVec Ideal S16x128x1024 .bf16)
    (x : FVec Ideal S256x1024 .f32) (m : FVec Ideal S1x1x1024 .f32) (i : Fin 256) (j : Fin 1024) :
    out0_7 (F := Ideal) a b c u w x m (ix2 i j) = x (ix2 i j) + m (ix3 0 0 j) * ∑ h : Fin 16, ∑ l : Fin 128,
      Heads.blend (fun n => u (ix2 i n)) h (a (ix3 h i l)) (b (ix3 h i l)) (c (ix3 h i l)) * w (ix3 h l j) := by
  rw [out_eq_stages, finish_apply, sums_apply]

end Cert.Kernel4Ideal.Out

end
-- ==== Proof.GatedValue.lean ====
/- What the output call of the sparse attention leaves in its output array, over the extended reals. -/
module

public import proofs.«01_k».proof.Proof.Gen.Kernel4Ideal.Value
public import proofs.«01_k».proof.Proof.GatedRow
public import Idealize.ShloMosaic.Lib.Pipeline.ValueKit
public import Idealize.ShloMosaic.Lib.Pipeline.Value

@[expose] public section

set_option maxRecDepth 16384

noncomputable section

namespace Cert.Kernel4Ideal.Out

open Cert.Kernel4Ideal Cert.Kernel4Ideal.Gen
open Idealize.ShloMosaic Idealize.ShloMosaic.TcCoe

variable (m : (ℓ : Loc nD τ sig) → Buf (Elt Ideal) ℓ) (c : Dev nD)

/-! ## The windows' arrays -/

/-- The weights, head by head and padded to 128 lanes. -/
def padded (w : FVec Ideal S1024x1024 .f32) : FVec Ideal S16x128x1024 .bf16 :=
  truncf (F := Ideal) (s := S16x128x1024) (φ := .f32) .bf16
    (pad S16x128x1024 ![0, 0, 0] ![0, 64, 0] ![0, 0, 0] (shapeCast S16x64x1024 w shapeCasts_S1024x1024_S16x64x1024)
      (sitofp (F := Ideal) .f32 (constantI S_ 32 0#32)) pads_S16x64x1024_S16x128x1024_000_0640_000 h_S_) bitsLt_bf16_f32

/-- The three branches and the gates' logits are arguments. -/
theorem branch0_eq : V m c main_arg0 = m (c.tc.loc main_arg0) := V_main_arg0 m c
/-- The second branch is an argument. -/
theorem branch1_eq : V m c main_arg1 = m (c.tc.loc main_arg1) := V_main_arg1 m c
/-- The third branch is an argument. -/
theorem branch2_eq : V m c main_arg2 = m (c.tc.loc main_arg2) := V_main_arg2 m c
/-- The gates' logits are an argument. -/
theorem logits_eq : V m c main_arg3 = m (c.tc.loc main_arg3) := V_main_arg3 m c
/-- The weights. -/
theorem weights_eq : V m c main_v2 = padded (m (c.tc.loc main_arg6)) := by
  unfold V; simp only [hostOps0, hostOps0_1, hostOps0_2, List.flatten_cons, List.flatten_nil, List.append_nil, List.cons_append, List.nil_append]; after_results; rfl
/-- The rows of the four sequences end to end. -/
theorem rows_eq : V m c main_v3 = shapeCast S32768x1024 (m (c.tc.loc main_arg4)) shapeCasts_S4x8192x1024_S32768x1024 := by
  unfold V; simp only [hostOps0, hostOps0_1, hostOps0_2, List.flatten_cons, List.flatten_nil, List.append_nil, List.cons_append, List.nil_append]; after_results; rfl
/-- The gates. -/
theorem gates_eq : V m c main_v4 = shapeCast S4x1x1024 (m (c.tc.loc main_arg5)) shapeCasts_S4x1024_S4x1x1024 := by
  unfold V; simp only [hostOps0, hostOps0_1, hostOps0_2, List.flatten_cons, List.flatten_nil, List.append_nil, List.cons_append, List.nil_append]; after_results; rfl

/-- A weight of a head, by its lane. -/
theorem padded_apply (w : FVec Ideal S1024x1024 .f32) (h : Fin 16) (d : Fin 64) (j : Fin 1024) :
    padded w (ix3 h (Heads.lane d) j) = w (ix2 (Heads.col h d) j) := by
  have hh := h.isLt
  have hd := d.isLt
  refine (dif_pos (c := ∀ a : Fin 3, _) ?_).trans ?_
  · intro a
    match a with
    | 0 => exact ⟨Nat.zero_le _, Nat.mod_one _, by show (h.val - 0) / 1 < 16; omega⟩
    | 1 => exact ⟨Nat.zero_le _, Nat.mod_one _, by show (d.val - 0) / 1 < 64; omega⟩
    | 2 => exact ⟨Nat.zero_le _, Nat.mod_one _, by have := j.isLt; show (j.val - 0) / 1 < 1024; omega⟩
  · have e : shapeCast S16x64x1024 w shapeCasts_S1024x1024_S16x64x1024 (ix3 h d j) = w (ix2 (Heads.col h d) j) := by
      pointwise
      exact congrArg (fun n => w (ix2 n j)) (Fin.ext (Nat.add_right_cancel_iff.mpr (Nat.mul_comm _ _)))
    refine (congrArg _ (funext fun a => Fin.ext ?_)).trans e
    match a with
    | 0 => exact Nat.div_one _
    | 1 => exact Nat.div_one _
    | 2 => exact Nat.div_one _

/-- The lanes past a head's have weight zero. -/
theorem padded_zero (w : FVec Ideal S1024x1024 .f32) (h : Fin 16) (l : Fin 128) (hl : 64 ≤ l.val) (j : Fin 1024) : padded w (ix3 h l j) = 0 := by
  refine (dif_neg (c := ∀ a : Fin 3, _) ?_).trans ?_
  · intro hin
    have h1 : (l.val - 0) / 1 < 64 := (hin 1).2.2
    omega
  · show ((((0#32 : BitVec 32).toInt : ℤ) : ℝ) : EReal) = 0
    simp

/-- A row of a sequence among all rows, -/
theorem rows_apply (x : FVec Ideal S4x8192x1024 .f32) (i : Fin 32768) (k : Fin 1024) :
    shapeCast S32768x1024 x shapeCasts_S4x8192x1024_S32768x1024 (ix2 i k) = x (ix3 (Glu.seqOf i) (Glu.rowOf i) k) := by
  pointwise
  rfl
/-- and a gate. -/
theorem mods_apply (g : FVec Ideal S4x1024 .f32) (s : Fin 4) (k : Fin 1024) :
    shapeCast S4x1x1024 g shapeCasts_S4x1024_S4x1x1024 (ix3 s 0 k) = g (ix2 s k) := by
  pointwise

/-! ## The blocks -/

/-- The blocks' numbers at a point. -/
theorem index_o0 : ∀ t : Fin grid0.N, win0_0.index t 0 = 0 ∧ win0_0.index t 1 = t.val ∧ win0_0.index t 2 = 0 := by decide +kernel
/-- The same for window 1. -/
theorem index_o1 : ∀ t : Fin grid0.N, win0_1.index t 0 = 0 ∧ win0_1.index t 1 = t.val ∧ win0_1.index t 2 = 0 := by decide +kernel
/-- The same for window 2. -/
theorem index_o2 : ∀ t : Fin grid0.N, win0_2.index t 0 = 0 ∧ win0_2.index t 1 = t.val ∧ win0_2.index t 2 = 0 := by decide +kernel
/-- The same for window 3. -/
theorem index_u : ∀ t : Fin grid0.N, win0_3.index t 0 = t.val ∧ win0_3.index t 1 = 0 := by decide +kernel
/-- The same for window 4. -/
theorem index_w : ∀ t : Fin grid0.N, win0_4.index t 0 = 0 ∧ win0_4.index t 1 = 0 ∧ win0_4.index t 2 = 0 := by decide +kernel
/-- The same for window 5. -/
theorem index_x : ∀ t : Fin grid0.N, win0_5.index t 0 = t.val ∧ win0_5.index t 1 = 0 := by decide +kernel
/-- The same for window 6. -/
theorem index_g : ∀ t : Fin grid0.N, win0_6.index t 0 = t.val / 32 ∧ win0_6.index t 1 = 0 ∧ win0_6.index t 2 = 0 := by decide +kernel
/-- The same for window 7. -/
theorem index_r : ∀ t : Fin grid0.N, win0_7.index t 0 = t.val ∧ win0_7.index t 1 = 0 := by decide +kernel

/-- Row `r` of the block of a point, -/
def at_ (t : Fin grid0.N) (r : Fin 256) : Fin 32768 :=
  ⟨256 * t.val + r.val, by have : t.val < 128 := lt_of_lt_of_eq t.isLt N_0; have := r.isLt; omega⟩
/-- and the sequence it is of. -/
theorem seqOf_at (t : Fin grid0.N) (r : Fin 256) : (Glu.seqOf (at_ t r)).val = t.val / 32 := by
  have := r.isLt
  show (256 * t.val + r.val) / 8192 = t.val / 32
  omega

variable (t : Fin grid0.N)

/-- The heads of a block in branch 0, -/
theorem o0_apply (h : Fin 16) (r : Fin 256) (l : Fin 128) : iblk m c 0 t (ix3 h r l) = m (c.tc.loc main_arg0) (ix3 h (at_ t r) l) := by
  refine (congrFun (branch0_eq m c) _).trans (congrArg (m (c.tc.loc main_arg0)) ?_)
  funext a
  apply Fin.ext
  match a with
  | 0 =>
    show win0_0.index t 0 * 16 + 1 * h.val = h.val
    rw [(index_o0 t).1]; omega
  | 1 =>
    show win0_0.index t 1 * 256 + 1 * r.val = 256 * t.val + r.val
    rw [(index_o0 t).2.1]; omega
  | 2 =>
    show win0_0.index t 2 * 128 + 1 * l.val = l.val
    rw [(index_o0 t).2.2]; omega
/-- The heads of a block in branch 1, -/
theorem o1_apply (h : Fin 16) (r : Fin 256) (l : Fin 128) : iblk m c 1 t (ix3 h r l) = m (c.tc.loc main_arg1) (ix3 h (at_ t r) l) := by
  refine (congrFun (branch1_eq m c) _).trans (congrArg (m (c.tc.loc main_arg1)) ?_)
  funext a
  apply Fin.ext
  match a with
  | 0 =>
    show win0_1.index t 0 * 16 + 1 * h.val = h.val
    rw [(index_o1 t).1]; omega
  | 1 =>
    show win0_1.index t 1 * 256 + 1 * r.val = 256 * t.val + r.val
    rw [(index_o1 t).2.1]; omega
  | 2 =>
    show win0_1.index t 2 * 128 + 1 * l.val = l.val
    rw [(index_o1 t).2.2]; omega
/-- The heads of a block in branch 2, -/
theorem o2_apply (h : Fin 16) (r : Fin 256) (l : Fin 128) : iblk m c 2 t (ix3 h r l) = m (c.tc.loc main_arg2) (ix3 h (at_ t r) l) := by
  refine (congrFun (branch2_eq m c) _).trans (congrArg (m (c.tc.loc main_arg2)) ?_)
  funext a
  apply Fin.ext
  match a with
  | 0 =>
    show win0_2.index t 0 * 16 + 1 * h.val = h.val
    rw [(index_o2 t).1]; omega
  | 1 =>
    show win0_2.index t 1 * 256 + 1 * r.val = 256 * t.val + r.val
    rw [(index_o2 t).2.1]; omega
  | 2 =>
    show win0_2.index t 2 * 128 + 1 * l.val = l.val
    rw [(index_o2 t).2.2]; omega
/-- the gates' logits, -/
theorem u_apply (r : Fin 256) (l : Fin 128) : iblk m c 3 t (ix2 r l) = m (c.tc.loc main_arg3) (ix2 (at_ t r) l) := by
  refine (congrFun (logits_eq m c) _).trans (congrArg (m (c.tc.loc main_arg3)) ?_)
  funext a
  apply Fin.ext
  match a with
  | 0 =>
    show win0_3.index t 0 * 256 + 1 * r.val = 256 * t.val + r.val
    rw [(index_u t).1]; omega
  | 1 =>
    show win0_3.index t 1 * 128 + 1 * l.val = l.val
    rw [(index_u t).2]; omega
/-- their weights, -/
theorem w_apply (h : Fin 16) (l : Fin 128) (j : Fin 1024) : iblk m c 4 t (ix3 h l j) = padded (m (c.tc.loc main_arg6)) (ix3 h l j) := by
  refine (congrFun (weights_eq m c) _).trans (congrArg (padded (m (c.tc.loc main_arg6))) ?_)
  funext a
  apply Fin.ext
  match a with
  | 0 =>
    show win0_4.index t 0 * 16 + 1 * h.val = h.val
    rw [(index_w t).1]; omega
  | 1 =>
    show win0_4.index t 1 * 128 + 1 * l.val = l.val
    rw [(index_w t).2.1]; omega
  | 2 =>
    show win0_4.index t 2 * 1024 + 1 * j.val = j.val
    rw [(index_w t).2.2]; omega
/-- the rows of the residual -/
theorem x_apply (r : Fin 256) (k : Fin 1024) :
    iblk m c 5 t (ix2 r k) = m (c.tc.loc main_arg4) (ix3 (Glu.seqOf (at_ t r)) (Glu.rowOf (at_ t r)) k) := by
  refine (congrFun (rows_eq m c) _).trans ((congrArg _ ?_).trans (rows_apply _ (at_ t r) k))
  funext a
  apply Fin.ext
  match a with
  | 0 =>
    show win0_5.index t 0 * 256 + 1 * r.val = 256 * t.val + r.val
    rw [(index_x t).1]; omega
  | 1 =>
    show win0_5.index t 1 * 1024 + 1 * k.val = k.val
    rw [(index_x t).2]; omega
/-- and the sequence's gates. -/
theorem g_apply (r : Fin 256) (k : Fin 1024) : iblk m c 6 t (ix3 0 0 k) = m (c.tc.loc main_arg5) (ix2 (Glu.seqOf (at_ t r)) k) := by
  refine (congrFun (gates_eq m c) _).trans ((congrArg _ ?_).trans (mods_apply _ (Glu.seqOf (at_ t r)) k))
  funext a
  apply Fin.ext
  match a with
  | 0 =>
    show win0_6.index t 0 * 1 + 1 * 0 = (Glu.seqOf (at_ t r)).val
    rw [(index_g t).1, seqOf_at]; omega
  | 1 =>
    show win0_6.index t 1 * 1 + 1 * 0 = 0
    rw [(index_g t).2.1]
  | 2 =>
    show win0_6.index t 2 * 1024 + 1 * k.val = k.val
    rw [(index_g t).2.2]; omega

/-! ## The output array -/

/-- The heads: the branches under their gates. -/
def heads (a b c : FVec Ideal S16x32768x128 .bf16) (u : FVec Ideal S32768x128 .f32) (h : Fin 16) (i : Fin 32768) (d : Fin 64) : EReal :=
  Heads.blend (fun n => u (ix2 i n)) h (a (ix3 h i (Heads.lane d))) (b (ix3 h i (Heads.lane d))) (c (ix3 h i (Heads.lane d)))

/-- The call's result as a function of its arguments. -/
def res : Glu.Out :=
  Heads.result (heads (m (c.tc.loc main_arg0)) (m (c.tc.loc main_arg1)) (m (c.tc.loc main_arg2)) (m (c.tc.loc main_arg3)))
    (m (c.tc.loc main_arg4)) (m (c.tc.loc main_arg5)) (m (c.tc.loc main_arg6))

/-- A head's product over the padded lanes. -/
theorem lanes (f : Fin 128 → EReal) (w : FVec Ideal S1024x1024 .f32) (h : Fin 16) (j : Fin 1024) :
    ∑ l, f l * padded w (ix3 h l j) = ∑ d : Fin 64, f (Heads.lane d) * w (ix2 (Heads.col h d) j) := by
  refine (Heads.sum_lanes f (fun l => padded w (ix3 h l j)) (fun l hl => padded_zero w h l hl j)).trans ?_
  simp only [padded_apply]

/-- What a point writes back, at an element. -/
theorem flushed_apply (r : Fin 256) (j : Fin 1024) :
    (dats m 0 c).flushed 7 t (ix2 r j) = res m c (ix2 (at_ t r) j) := by
  refine (congrFun (Value.flushed7 m c t) _).trans ?_
  refine (out_apply (iblk m c 0 t) (iblk m c 1 t) (iblk m c 2 t) (iblk m c 3 t) (iblk m c 4 t) (iblk m c 5 t) (iblk m c 6 t) r j).trans ?_
  simp only [x_apply, g_apply m c t r, w_apply, o0_apply, o1_apply, o2_apply, u_apply]
  simp only [lanes (fun l => Heads.blend (fun n => m (c.tc.loc main_arg3) (ix2 (at_ t r) n)) _ (m (c.tc.loc main_arg0) (ix3 _ (at_ t r) l))
    (m (c.tc.loc main_arg1) (ix3 _ (at_ t r) l)) (m (c.tc.loc main_arg2) (ix3 _ (at_ t r) l)))]
  rfl

/-- The place in the output of an element of the output block. -/
theorem emb_r (r : Fin 256) (j : Fin 1024) : ((cfg0.win 7).blk t).view.emb (ix2 r j) = ix2 (at_ t r) j := by
  funext a
  apply Fin.ext
  match a with
  | 0 =>
    show win0_7.index t 0 * 256 + 1 * r.val = 256 * t.val + r.val
    rw [(index_r t).1]; omega
  | 1 =>
    show win0_7.index t 1 * 1024 + 1 * j.val = j.val
    rw [(index_r t).2]; omega

/-- The output array holds every row's result. -/
theorem out_eq : (dats m 0 c).arrAt 7 cfg0.N = res m c := by
  refine (dats m 0 c).arrAt_eq_of_cover 7 _ (fun t hf => ?_) (fun i => ?_)
  · funext y
    obtain ⟨r, j, rfl⟩ : ∃ (r : Fin 256) (j : Fin 1024), y = ix2 r j := ⟨y 0, y 1, funext fun a => by
      match a with
      | 0 => rfl
      | 1 => rfl⟩
    exact (flushed_apply m c t r j).trans (congrArg (res m c) (emb_r t r j)).symm
  · have h0 : (i 0).val < 32768 := (i 0).isLt
    have h1 : (i 1).val < 1024 := (i 1).isLt
    have hu : (i 0).val / 256 < grid0.N := lt_of_lt_of_eq (show (i 0).val / 256 < 128 by omega) N_0.symm
    have hm := ((cfg0.win 7).blk ⟨(i 0).val / 256, hu⟩).view.emb_mem_set (ix2 (⟨(i 0).val % 256, Nat.mod_lt _ (by decide)⟩ : Fin 256) (⟨(i 1).val, h1⟩ : Fin 1024))
    refine ⟨⟨(i 0).val / 256, hu⟩, flush0_7 _, ?_⟩
    rw [emb_r] at hm
    have e : (ix2 (at_ ⟨(i 0).val / 256, hu⟩ (⟨(i 0).val % 256, Nat.mod_lt _ (by decide)⟩ : Fin 256)) (⟨(i 1).val, h1⟩ : Fin 1024) : S32768x1024.Idx) = i := by
      funext a
      apply Fin.ext
      match a with
      | 0 =>
        show 256 * ((i 0).val / 256) + (i 0).val % 256 = (i 0).val
        omega
      | 1 => rfl
    rw [e] at hm
    exact hm

end Cert.Kernel4Ideal.Out

end
-- ==== Proof.GatedRef.lean ====
/- The reference of the output call of the sparse attention at an index, over the extended reals. -/
module

public import proofs.«01_k».proof.Proof.Gen.Reference4Ideal.Run
public import proofs.«01_k».proof.Proof.Heads
public import Idealize.ShloMosaic.Lib.Pointwise

@[expose] public section

set_option maxRecDepth 16384

noncomputable section

namespace Cert.Reference4Ideal.Out

open Cert.Reference4Ideal Cert.Reference4Ideal.Gen
open Idealize.ShloMosaic Idealize.ShloMosaic.TcCoe Idealize.SL.Sem

/-- A branch, the heads of a row together. -/
def branch (o : FVec Ideal S16x32768x128 .bf16) : FVec Ideal S4x8192x16x64 .f32 :=
  transpose S4x8192x16x64 [1, 2, 0, 3] (shapeCast S16x4x8192x64
    (extf .f32 (extractStridedSlice S16x32768x64 ![0, 0, 0] o slices_S16x32768x128_S16x32768x64_0_0_0) bitsLt_bf16_f32)
    shapeCasts_S16x32768x64_S16x4x8192x64) transposes_S16x4x8192x64_S4x8192x16x64_1_2_0_3

/-- The gates of a row. -/
def gates (u : FVec Ideal S32768x128 .f32) : FVec Ideal S4x8192x16x3 .f32 :=
  shapeCast S4x8192x16x3 (Host.divf (broadcastInDim S32768x48 ![] bcast_S_S32768x48 (constant S_ .f32 0x3F800000#32))
    (addf (broadcastInDim S32768x48 ![] bcast_S_S32768x48 (constant S_ .f32 0x3F800000#32))
      (Host.exp (Host.negf (extractStridedSlice S32768x48 ![0, 0] u slices_S32768x128_S32768x48_0_0))))) shapeCasts_S32768x48_S4x8192x16x3

/-- The branches under their gates. -/
def blended (g : FVec Ideal S4x8192x16x3 .f32) (a b c : FVec Ideal S4x8192x16x64 .f32) : FVec Ideal S4x8192x16x64 .f32 :=
  addf (addf
    (mulf (broadcastInDim S4x8192x16x64 ![0, 1, 2, 3] bcast_S4x8192x16x1_S4x8192x16x64_0_1_2_3
      (extractStridedSlice S4x8192x16x1 ![0, 0, 0, 0] g slices_S4x8192x16x3_S4x8192x16x1_0_0_0_0)) a)
    (mulf (broadcastInDim S4x8192x16x64 ![0, 1, 2, 3] bcast_S4x8192x16x1_S4x8192x16x64_0_1_2_3
      (extractStridedSlice S4x8192x16x1 ![0, 0, 0, 1] g slices_S4x8192x16x3_S4x8192x16x1_0_0_0_1)) b))
    (mulf (broadcastInDim S4x8192x16x64 ![0, 1, 2, 3] bcast_S4x8192x16x1_S4x8192x16x64_0_1_2_3
      (extractStridedSlice S4x8192x16x1 ![0, 0, 0, 2] g slices_S4x8192x16x3_S4x8192x16x1_0_0_0_2)) c)

/-- The heads side by side. -/
def side (y : FVec Ideal S4x8192x16x64 .f32) : FVec Ideal S4x8192x1024 .f32 :=
  shapeCast S4x8192x1024 y shapeCasts_S4x8192x16x64_S4x8192x1024

/-- The rows under the weights. -/
def prods (y : FVec Ideal S4x8192x1024 .f32) (w : FVec Ideal S1024x1024 .f32) : FVec Ideal S4x8192x1024 .f32 :=
  Host.dotGeneral dot_S4x8192x1024_S1024x1024_S4x8192x1024_2_0_01_1_n_n none y w

/-- The gate and the residual. -/
def finish (z x : FVec Ideal S4x8192x1024 .f32) (g : FVec Ideal S4x1024 .f32) : FVec Ideal S32768x1024 .f32 :=
  shapeCast S32768x1024 (addf x (mulf (broadcastInDim S4x8192x1024 ![0, 1, 2] bcast_S4x1x1024_S4x8192x1024_0_1_2
    (broadcastInDim S4x1x1024 ![0, 2] bcast_S4x1024_S4x1x1024_0_2 g)) z)) shapeCasts_S4x8192x1024_S32768x1024

/-- The stages in turn. -/
def whole (a b c : FVec Ideal S16x32768x128 .bf16) (u : FVec Ideal S32768x128 .f32) (x : FVec Ideal S4x8192x1024 .f32) (g : FVec Ideal S4x1024 .f32)
    (w : FVec Ideal S1024x1024 .f32) : FVec Ideal S32768x1024 .f32 :=
  finish (prods (side (blended (gates u) (branch a) (branch b) (branch c))) w) x g

/-- Row `p` of sequence `s` among all rows. -/
def place (s : Fin 4) (p : Fin 8192) : Fin 32768 := ⟨s.val * 8192 + p.val, by omega⟩

/-- An input of the weights. -/
theorem side_apply (y : FVec Ideal S4x8192x16x64 .f32) (s : Fin 4) (p : Fin 8192) (h : Fin 16) (d : Fin 64) :
    side y (ix3 s p (Heads.col h d)) = y (ix4 s p h d) := by
  pointwise [side]
  refine congrArg y ?_
  funext a
  apply Fin.ext
  have := h.isLt; have := d.isLt
  match a with
  | 0 => rfl
  | 1 => rfl
  | 2 => show (64 * h.val + d.val) / 64 = h.val; omega
  | 3 => show (64 * h.val + d.val) % 64 = d.val; omega

/-- An element of a branch. -/
theorem branch_apply (o : FVec Ideal S16x32768x128 .bf16) (s : Fin 4) (p : Fin 8192) (h : Fin 16) (d : Fin 64) :
    branch o (ix4 s p h d) = o (ix3 h (place s p) (Heads.lane d)) := by
  have e2 : ∀ y : FVec Ideal S16x32768x64 .f32, shapeCast S16x4x8192x64 y shapeCasts_S16x32768x64_S16x4x8192x64 (ix4 h s p d) = y (ix3 h (place s p) d) := fun y => by
    pointwise
    rfl
  have e3 : ∀ y : FVec Ideal S16x4x8192x64 .f32, transpose S4x8192x16x64 [1, 2, 0, 3] y transposes_S16x4x8192x64_S4x8192x16x64_1_2_0_3 (ix4 s p h d) = y (ix4 h s p d) := fun y => by
    pointwise
  unfold branch
  rw [e3, e2]
  pointwise
  rfl

/-- A gate. -/
theorem gates_apply (u : FVec Ideal S32768x128 .f32) (s : Fin 4) (p : Fin 8192) (h : Fin 16) (c : Fin 3) :
    gates u (ix4 s p h c) = Heads.logistic (u (ix2 (place s p) (Heads.gateOf h c))) := by
  have e : ∀ y : FVec Ideal S32768x48 .f32, shapeCast S4x8192x16x3 y shapeCasts_S32768x48_S4x8192x16x3 (ix4 s p h c)
      = y (ix2 (place s p) ⟨3 * h.val + c.val, by omega⟩) := fun y => by
    pointwise
    refine congrArg y ?_
    funext a
    apply Fin.ext
    have := h.isLt; have := c.isLt
    match a with
    | 0 => rfl
    | 1 => show h.val * 3 + c.val = 3 * h.val + c.val; omega
  unfold gates Heads.logistic Glu.one
  rw [e, Ideal.ofBits_one_f32]
  pointwise
  rfl

/-- The branches under their gates. -/
theorem blended_apply (g : FVec Ideal S4x8192x16x3 .f32) (a b c : FVec Ideal S4x8192x16x64 .f32) (s : Fin 4) (p : Fin 8192) (h : Fin 16) (d : Fin 64) :
    blended g a b c (ix4 s p h d) = g (ix4 s p h 0) * a (ix4 s p h d) + g (ix4 s p h 1) * b (ix4 s p h d) + g (ix4 s p h 2) * c (ix4 s p h d) := by
  pointwise [blended]

/-- An output of a row. -/
theorem prods_apply (y : FVec Ideal S4x8192x1024 .f32) (w : FVec Ideal S1024x1024 .f32) (s : Fin 4) (p : Fin 8192) (j : Fin 1024) :
    prods y w (ix3 s p j) = ∑ k : Fin 1024, y (ix3 s p k) * w (ix2 k j) := by
  unfold prods
  simp only [Host.dotGeneral]
  rw [Ideal.dotGeneral_def]
  refine (Ideal.matmul_apply₁_of dot_S4x8192x1024_S1024x1024_S4x8192x1024_2_0_01_1_n_n (a := 2) rfl (K := 1024) rfl y w _ (ix3 s p j)
    (fun k => ix3 s p k) (fun k => ix2 k j) (fun k => ?_) (fun k => ?_)).trans ?_
  · pointwise
  · pointwise
  · exact zero_add _

/-- An element of the result. -/
theorem finish_apply (z x : FVec Ideal S4x8192x1024 .f32) (g : FVec Ideal S4x1024 .f32) (i : Fin 32768) (j : Fin 1024) :
    finish z x g (ix2 i j) = x (ix3 (Glu.seqOf i) (Glu.rowOf i) j) + g (ix2 (Glu.seqOf i) j) * z (ix3 (Glu.seqOf i) (Glu.rowOf i) j) := by
  pointwise [finish]
  rfl

/-- The rows' places. -/
theorem place_of (i : Fin 32768) : place (Glu.seqOf i) (Glu.rowOf i) = i := Fin.ext (by
  show i.val / 8192 * 8192 + i.val % 8192 = i.val
  omega)

/-- The reference's result is every row's. -/
theorem whole_eq (a b c : FVec Ideal S16x32768x128 .bf16) (u : FVec Ideal S32768x128 .f32) (x : FVec Ideal S4x8192x1024 .f32) (g : FVec Ideal S4x1024 .f32)
    (w : FVec Ideal S1024x1024 .f32) :
    whole a b c u x g w = Heads.result (fun h i d => Heads.blend (fun n => u (ix2 i n)) h (a (ix3 h i (Heads.lane d))) (b (ix3 h i (Heads.lane d)))
      (c (ix3 h i (Heads.lane d)))) x g w := by
  funext i
  obtain ⟨r, j, rfl⟩ : ∃ (r : Fin 32768) (j : Fin 1024), i = ix2 r j := ⟨i 0, i 1, funext fun a => by
    match a with
    | 0 => rfl
    | 1 => rfl⟩
  unfold whole
  rw [finish_apply, prods_apply, Heads.sum_cols]
  simp only [side_apply, blended_apply, gates_apply, branch_apply, place_of]
  rfl

/-- The same at arguments equal to given arrays. -/
theorem whole_of (m : (ℓ : Loc nD τ sig) → Buf (Elt Ideal) ℓ) (v : Dev nD) (a b c : FVec Ideal S16x32768x128 .bf16) (u : FVec Ideal S32768x128 .f32)
    (x : Glu.Xs) (g : Glu.Mods) (w : Heads.Ws)
    (h : m (v.tc.loc main_arg0) = a ∧ m (v.tc.loc main_arg1) = b ∧ m (v.tc.loc main_arg2) = c ∧ m (v.tc.loc main_arg3) = u
      ∧ m (v.tc.loc main_arg4) = x ∧ m (v.tc.loc main_arg5) = g ∧ m (v.tc.loc main_arg6) = w) :
    whole (m (v.tc.loc main_arg0)) (m (v.tc.loc main_arg1)) (m (v.tc.loc main_arg2)) (m (v.tc.loc main_arg3)) (m (v.tc.loc main_arg4))
        (m (v.tc.loc main_arg5)) (m (v.tc.loc main_arg6))
      = Heads.result (fun h i d => Heads.blend (fun n => u (ix2 i n)) h (a (ix3 h i (Heads.lane d))) (b (ix3 h i (Heads.lane d)))
          (c (ix3 h i (Heads.lane d)))) x g w := by
  obtain ⟨rfl, rfl, rfl, rfl, rfl, rfl, rfl⟩ := h
  exact whole_eq _ _ _ _ _ _ _

end Cert.Reference4Ideal.Out

end
-- ==== Proof.Conv.lean ====
/- The depthwise convolution, its norm and the product after it, over the extended reals. -/
module

public import proofs.«01_k».proof.Proof.Glu

@[expose] public section

noncomputable section

namespace Cert.Conv

open Idealize.ShloMosaic

/-- The mean of a row of 1024 numbers, -/
def mean (a : Fin 1024 → EReal) : EReal := Ideal.div (∑ k, a k) (Ideal.ofBits .f32 0x44800000#32)
/-- a row's distances from its mean, -/
def dev (a : Fin 1024 → EReal) (k : Fin 1024) : EReal := a k - mean a
/-- its inverse standard deviation, -/
def spread (a : Fin 1024 → EReal) : EReal := Ideal.rsqrt (mean (fun k => dev a k * dev a k) + Ideal.ofBits .f32 0x358637BD#32)
/-- and the row normed, under a factor and a shift. -/
def normed (a g b : Fin 1024 → EReal) (k : Fin 1024) : EReal := dev a k * spread a * g k + b k

/-- A number under its own logistic function. -/
def silu (z : EReal) : EReal := Glu.gate z z

/-- A convolved row to its result: norm, activation, product, gate and residual. -/
def tail (a g b : Fin 1024 → EReal) (w : Fin 1024 → Fin 1024 → EReal) (β : Fin 1024 → EReal) (x m : Fin 1024 → EReal) (j : Fin 1024) : EReal :=
  x j + m j * Glu.lin (fun k => silu (normed a g b k)) w β j

/-- The arrays of the call. -/
abbrev Taps := FVec Ideal ⟨2, ![31, 1024]⟩ .f32
abbrev Sq := FVec Ideal ⟨2, ![1024, 1024]⟩ .f32

/-- Column `k` of the row that tap `n` meets at row `p` of a sequence: nothing comes before the first row. -/
def past (u : Glu.Xs) (s : Fin 4) (p : Fin 8192) (n : Fin 31) (k : Fin 1024) : EReal :=
  if 30 ≤ p.val + n.val then u (ix3 s ⟨p.val + n.val - 30, by have := p.isLt; have := n.isLt; omega⟩ k) else 0

/-- The convolution at a row. -/
def conv (u : Glu.Xs) (w : Taps) (b : Glu.Gains) (s : Fin 4) (p : Fin 8192) (k : Fin 1024) : EReal :=
  ∑ n : Fin 31, past u s p n k * w (ix2 n k) + b (ix1 k)

/-- The result at a row. -/
def cell (u x : Glu.Xs) (m : Glu.Mods) (w : Taps) (b g h : Glu.Gains) (v : Sq) (β : Glu.Gains) (s : Fin 4) (p : Fin 8192) (j : Fin 1024) : EReal :=
  tail (conv u w b s p) (fun k => g (ix1 k)) (fun k => h (ix1 k)) (fun k i => v (ix2 k i)) (fun i => β (ix1 i)) (fun i => x (ix3 s p i))
    (fun i => m (ix2 s i)) j

/-- The whole result. -/
def result (u x : Glu.Xs) (m : Glu.Mods) (w : Taps) (b g h : Glu.Gains) (v : Sq) (β : Glu.Gains) : Glu.Out :=
  fun i => cell u x m w b g h v β (Glu.seqOf (i 0)) (Glu.rowOf (i 0)) (i 1)

end Cert.Conv

end
-- ==== Proof.ConvRow.lean ====
/- What the body of the convolution mixer's second call stores, at an index, over the extended reals. -/
module

public import proofs.«01_k».proof.Proof.Gen.Kernel5Ideal.Frame
public import proofs.«01_k».proof.Proof.Reductions
public import proofs.«01_k».proof.Proof.Conv
public import Idealize.ShloMosaic.Lib.Pointwise
public import Idealize.ShloMosaic.Lib.WholeRead

@[expose] public section

set_option maxRecDepth 16384

noncomputable section

namespace Cert.Kernel5Ideal.Mix

open Cert.Kernel5Ideal Cert.Kernel5Ideal.Gen
open Idealize.ShloMosaic Idealize.ShloMosaic.TcCoe

/-! ## The stages -/

/-- A tap's weights are inside theirs, -/
theorem inside_w (n : Fin 31) : ∀ a, (![n.val, 0] : Fin 2 → ℕ) a + S1x1024.size a ≤ S32x1024.size a := fun a => by
  have := n.isLt
  match a with
  | 0 => show n.val + 1 ≤ 32; omega
  | 1 => show 0 + 1024 ≤ 1024; omega
/-- and the rows it meets are inside the rows held. -/
theorem inside_e (n : Fin 31) : ∀ a, (![2 + n.val, 0] : Fin 2 → ℕ) a + S512x1024.size a ≤ S544x1024.size a := fun a => by
  have := n.isLt
  match a with
  | 0 => show 2 + n.val + 512 ≤ 544; omega
  | 1 => show 0 + 1024 ≤ 1024; omega

/-- The rows held: 32 rows before the block, and the block. -/
def held (z : FVec Ideal S32x1024 .f32) (x : FVec Ideal S512x1024 .f32) : FVec Ideal S544x1024 .f32 :=
  View.canon (Val := Elt Ideal) (e := .f32) [⟨Rect.unit (s := S544x1024) ![32, 0] S512x1024.size inb_S544x1024_S512x1024_32_0, x⟩,
    ⟨Rect.unit (s := S544x1024) ![0, 0] S32x1024.size inb_S544x1024_S32x1024_0_0, z⟩]

/-- The weights of tap `n`, -/
def weight (w : FVec Ideal S32x1024 .f32) (n : Fin 31) : FVec Ideal S1x1024 .f32 :=
  View.ld (Val := Elt Ideal) (e' := .f32) w (Rect.unit (s := S32x1024) ![n.val, 0] S1x1024.size (inside_w n))
/-- and the rows it meets. -/
def met (e : FVec Ideal S544x1024 .f32) (n : Fin 31) : FVec Ideal S512x1024 .f32 :=
  View.ld (Val := Elt Ideal) (e' := .f32) e (Rect.unit (s := S544x1024) ![2 + n.val, 0] S512x1024.size (inside_e n))

/-- A row of numbers over the block's rows. -/
def spreadRow (b : FVec Ideal S1x1024 .f32) : FVec Ideal S512x1024 .f32 :=
  broadcastTo S512x1024 (shapeCast S1x1024 b shapeCasts_S1x1024_S1x1024) broadcasts_S1x1024_S512x1024

/-- One tap added. -/
def add (w : FVec Ideal S32x1024 .f32) (e : FVec Ideal S544x1024 .f32) (z : FVec Ideal S512x1024 .f32) (n : Fin 31) : FVec Ideal S512x1024 .f32 :=
  addf z (mulf (spreadRow (weight w n)) (met e n))

/-- The bias alone. -/
def start (b : FVec Ideal S1x1024 .f32) : FVec Ideal S512x1024 .f32 :=
  addf (broadcast S512x1024 (Scalar.ofBits .f32 0x00000000#32)) (spreadRow b)

/-- The first taps added. -/
def sums (w : FVec Ideal S32x1024 .f32) (e : FVec Ideal S544x1024 .f32) (b : FVec Ideal S1x1024 .f32) :
    (n : ℕ) → n ≤ 31 → FVec Ideal S512x1024 .f32
  | 0, _ => start b
  | n + 1, hn => add w e (sums w e b n (by omega)) ⟨n, hn⟩

/-- The rows' means. -/
def means (a : FVec Ideal S512x1024 .f32) : FVec Ideal S512x1 .f32 :=
  divf (shapeCast S512x1 (multiReduction .add [1] S512 a 0x00000000#32 reduces_S512x1024_S512 (.inl rfl) rfl) shapeCasts_S512_S512x1)
    (broadcast S512x1 (Scalar.ofBits .f32 0x44800000#32))

/-- The distances from them. -/
def devs (a : FVec Ideal S512x1024 .f32) : FVec Ideal S512x1024 .f32 :=
  subf a (broadcastTo S512x1024 (means a) broadcasts_S512x1_S512x1024)

/-- The inverse standard deviations. -/
def spreads (d : FVec Ideal S512x1024 .f32) : FVec Ideal S512x1 .f32 :=
  rsqrt (addf (means (mulf d d)) (broadcast S512x1 (Scalar.ofBits .f32 0x358637BD#32)))

/-- The rows normed. -/
def norms (d : FVec Ideal S512x1024 .f32) (q : FVec Ideal S512x1 .f32) (g b : FVec Ideal S1x1024 .f32) : FVec Ideal S512x1024 .f32 :=
  addf (mulf (mulf d (broadcastTo S512x1024 q broadcasts_S512x1_S512x1024)) (spreadRow g)) (spreadRow b)

/-- The activation. -/
def acts (y : FVec Ideal S512x1024 .f32) : FVec Ideal S512x1024 .bf16 :=
  truncf .bf16 (mulf y (divf (broadcast S512x1024 (Scalar.ofBits .f32 0x3F800000#32))
    (addf (broadcast S512x1024 (Scalar.ofBits .f32 0x3F800000#32))
      (exp (subf (broadcast S512x1024 (Scalar.ofBits .f32 0x00000000#32)) y))))) bitsLt_bf16_f32

/-- The rows under the weights. -/
def prods (y : FVec Ideal S512x1024 .bf16) (w : FVec Ideal S1024x1024 .bf16) : FVec Ideal S512x1024 .f32 :=
  matmul dot_S512x1024_S1024x1024_S512x1024_1_0_0_1_n_n none y (shapeCast S1024x1024 w shapeCasts_S1024x1024_S1024x1024)
    (constant S512x1024 .f32 0x00000000#32)

/-- The product of the normed rows, with its bias. -/
def outs (a : FVec Ideal S512x1024 .f32) (g b : FVec Ideal S1x1024 .f32) (w : FVec Ideal S1024x1024 .bf16) (β : FVec Ideal S1x1024 .f32) :
    FVec Ideal S512x1024 .f32 := addf (prods (acts (norms (devs a) (spreads (devs a)) g b)) w) (spreadRow β)

/-- The gate and the residual. -/
def finish (a x : FVec Ideal S512x1024 .f32) (m : FVec Ideal S1x1x1024 .f32) : FVec Ideal S512x1024 .f32 :=
  addf (shapeCast S512x1024 x shapeCasts_S512x1024_S512x1024)
    (mulf (broadcastTo S512x1024 (shapeCast S1x1024 m shapeCasts_S1x1x1024_S1x1024) broadcasts_S1x1024_S512x1024) a)

/-! ## The body's one store -/

/-- Offsets of zeros. -/
theorem zero2 : (![0, 0] : Fin 2 → ℕ) = fun _ => 0 := funext fun a => by fin_cases a <;> rfl
/-- Offsets of zeros, on three axes. -/
theorem zero3 : (![0, 0, 0] : Fin 3 → ℕ) = fun _ => 0 := funext fun a => by fin_cases a <;> rfl

/-- A load of a window that holds an array is a load of the array. -/
theorem load_eq {s : Shape} {e : EltTy} (a : Memref sig .tc .vmem s e) (h : a.IsWhole) (x : s.Idx → Elt Ideal e) (r : Rect s) :
    a.view.readAt (Elt Ideal) r.toLoadRect (h.unread x) = View.ld x r := funext fun j => h.readAt_unread x _ j

/-- The sum over all taps, tap by tap. -/
theorem sums_all (w : FVec Ideal S32x1024 .f32) (e : FVec Ideal S544x1024 .f32) (b : FVec Ideal S1x1024 .f32) (h : 31 ≤ 31) :
    sums w e b 31 h = [0, 1, 2, 3, 4, 5, 6, 7, 8, 9, 10, 11, 12, 13, 14, 15, 16, 17, 18, 19, 20, 21, 22, 23, 24, 25, 26, 27, 28, 29, 30].foldl (add w e) (start b) := rfl

/-- The two stores into the rows held, read back. -/
theorem held_eq (c : Dev nD) (i : grid0.Coords) (arg1 : Memref sig .tc .vmem S512x1024 .f32) (harg1 : arg1.IsWhole) (arg2 : Memref sig .tc .vmem S32x1024 .f32) (harg2 : arg2.IsWhole)
    (arg12 : Memref sig .tc .vmem S544x1024 .f32) (x0 : FVec Ideal S512x1024 .f32) (x1 : FVec Ideal S32x1024 .f32) (r : Rect S544x1024) :
    arg12.view.readCov (kernelRun0_A.sl.HS0_2 (F := Ideal) c i arg1 harg1 arg2 harg2 x0 x1) r.toLoadRect
      = View.ld (Val := Elt Ideal) (e' := .f32) (held (k0_pay2 (F := Ideal) i x1) (k0_pay3 (F := Ideal) x0)) r := by
  rw [View.readCov_eq_canon']
  unfold held
  simp only [kernelRun0_A.sl.HS0_2, load_eq]
  rw [View.ld_unit_zero zero2, View.ld_unit_zero zero2]

/-- A tap added, from its weights and the rows it meets. -/
def tap (z : FVec Ideal S512x1024 .f32) (w : FVec Ideal S1x1024 .f32) (r : FVec Ideal S512x1024 .f32) : FVec Ideal S512x1024 .f32 :=
  addf z (mulf (spreadRow w) r)

/-- Six taps added to a sum, the first of them under weights spread before. -/
theorem pay6_eq (v28 v31 v32 v37 v43 v49 v55 v61 : FVec Ideal S512x1024 .f32) (v35 v41 v47 v53 v59 : FVec Ideal S1x1024 .f32) :
    k0_pay6 (F := Ideal) v28 v31 v32 v35 v37 v41 v43 v47 v49 v53 v55 v59 v61
      = tap (tap (tap (tap (tap (addf v28 (mulf v32 v31)) v35 v37) v41 v43) v47 v49) v53 v55) v59 v61 := rfl
/-- The weights of a tap over the rows. -/
theorem pay7_eq (w : FVec Ideal S1x1024 .f32) : k0_pay7 (F := Ideal) w = spreadRow w := rfl
/-- The next six. -/
theorem pay8_eq (v64 v67 v68 v73 v79 v85 v91 v97 : FVec Ideal S512x1024 .f32) (v71 v77 v83 v89 v95 : FVec Ideal S1x1024 .f32) :
    k0_pay8 (F := Ideal) v64 v67 v68 v71 v73 v77 v79 v83 v85 v89 v91 v95 v97
      = tap (tap (tap (tap (tap (addf v64 (mulf v68 v67)) v71 v73) v77 v79) v83 v85) v89 v91) v95 v97 := rfl
/-- The weights of a tap over the rows. -/
theorem pay9_eq (w : FVec Ideal S1x1024 .f32) : k0_pay9 (F := Ideal) w = spreadRow w := rfl
/-- The next six. -/
theorem pay10_eq (v100 v103 v104 v109 v115 v121 v127 v133 : FVec Ideal S512x1024 .f32) (v107 v113 v119 v125 v131 : FVec Ideal S1x1024 .f32) :
    k0_pay10 (F := Ideal) v100 v103 v104 v107 v109 v113 v115 v119 v121 v125 v127 v131 v133
      = tap (tap (tap (tap (tap (addf v100 (mulf v104 v103)) v107 v109) v113 v115) v119 v121) v125 v127) v131 v133 := rfl
/-- The weights of a tap over the rows. -/
theorem pay11_eq (w : FVec Ideal S1x1024 .f32) : k0_pay11 (F := Ideal) w = spreadRow w := rfl
/-- The next six. -/
theorem pay12_eq (v136 v139 v140 v145 v151 v157 v163 v169 : FVec Ideal S512x1024 .f32) (v143 v149 v155 v161 v167 : FVec Ideal S1x1024 .f32) :
    k0_pay12 (F := Ideal) v136 v139 v140 v143 v145 v149 v151 v155 v157 v161 v163 v167 v169
      = tap (tap (tap (tap (tap (addf v136 (mulf v140 v139)) v143 v145) v149 v151) v155 v157) v161 v163) v167 v169 := rfl
/-- The weights of a tap over the rows. -/
theorem pay13_eq (w : FVec Ideal S1x1024 .f32) : k0_pay13 (F := Ideal) w = spreadRow w := rfl
/-- The next six. -/
theorem pay14_eq (v172 v175 v176 v181 v187 v193 v199 v205 : FVec Ideal S512x1024 .f32) (v179 v185 v191 v197 v203 : FVec Ideal S1x1024 .f32) :
    k0_pay14 (F := Ideal) v172 v175 v176 v179 v181 v185 v187 v191 v193 v197 v199 v203 v205
      = tap (tap (tap (tap (tap (addf v172 (mulf v176 v175)) v179 v181) v185 v187) v191 v193) v197 v199) v203 v205 := rfl
/-- The weights of a tap over the rows. -/
theorem pay15_eq (w : FVec Ideal S1x1024 .f32) : k0_pay15 (F := Ideal) w = spreadRow w := rfl
/-- The sum starts from the bias. -/
theorem pay4_eq (w : FVec Ideal S1x1024 .f32) : k0_pay4 (F := Ideal) w = start w := rfl
/-- The weights of a tap over the rows. -/
theorem pay5_eq (w : FVec Ideal S1x1024 .f32) : k0_pay5 (F := Ideal) w = spreadRow w := rfl
/-- The tail's payload is its stages in turn. -/
theorem pay16_eq (v208 v211 v212 : FVec Ideal S512x1024 .f32) (v231 v235 : FVec Ideal S1x1024 .f32) (v248 : FVec Ideal S1024x1024 .bf16) (v251 : FVec Ideal S1x1024 .f32) :
    k0_pay16 (F := Ideal) v208 v211 v212 v231 v235 v248 v251 = outs (addf v208 (mulf v212 v211)) v231 v235 v248 v251 := rfl

/-- The rows a tap meets, by the first of them. -/
theorem met_of (e : FVec Ideal S544x1024 .f32) (n : Fin 31) (o : ℕ) (inb) (h : o = 2 + n.val) :
    View.ld (Val := Elt Ideal) (e' := .f32) e (Rect.unit (s := S544x1024) ![o, 0] S512x1024.size inb) = met e n := by
  subst h; rfl
/-- The weights of a tap, by their row. -/
theorem weight_of (w : FVec Ideal S32x1024 .f32) (n : Fin 31) (o : ℕ) (inb) (h : o = n.val) :
    View.ld (Val := Elt Ideal) (e' := .f32) w (Rect.unit (s := S32x1024) ![o, 0] S1x1024.size inb) = weight w n := by
  subst h; rfl

/-- The last payload is the gate and the residual. -/
theorem pay1_eq (a x : FVec Ideal S512x1024 .f32) (m : FVec Ideal S1x1x1024 .f32) : k0_pay1 (F := Ideal) a x m = finish a x m := rfl

/-- What the body leaves is the stages in turn. -/
theorem out_eq_stages (c : Dev nD) (i : grid0.Coords) (arg1 : Memref sig .tc .vmem S512x1024 .f32) (harg1 : arg1.IsWhole) (arg2 : Memref sig .tc .vmem S32x1024 .f32) (harg2 : arg2.IsWhole) (arg3 : Memref sig .tc .vmem S32x1024 .f32) (harg3 : arg3.IsWhole)
    (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
    (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole)
    (arg10 : Memref sig .tc .vmem S1x1x1024 .f32) (harg10 : arg10.IsWhole) (arg11 : Memref sig .tc .vmem S512x1024 .f32) (harg11 : arg11.IsWhole) (arg12 : Memref sig .tc .vmem S544x1024 .f32) (harg12 : arg12.IsWhole)
    (x0 : FVec Ideal S512x1024 .f32) (x1 x2 : FVec Ideal S32x1024 .f32) (x3 x4 x5 : FVec Ideal S1x1024 .f32) (x6 : FVec Ideal S1024x1024 .bf16)
    (x7 : FVec Ideal S1x1024 .f32) (x8 : FVec Ideal S512x1024 .f32) (x9 : FVec Ideal S1x1x1024 .f32) :
    out0_A_10 (F := Ideal) c i arg1 harg1 arg2 harg2 arg3 harg3 arg4 harg4 arg5 harg5 arg6 harg6 arg7 harg7 arg8 harg8 arg9 harg9 arg10 harg10 arg11 harg11
      arg12 harg12 x0 x1 x2 x3 x4 x5 x6 x7 x8 x9
      = finish (outs (sums x2 (held (k0_pay2 (F := Ideal) i x1) (k0_pay3 (F := Ideal) x0)) x3 31 le_rfl) x4 x5 x6 x7) x8 x9 := by
  unfold out0_A_10
  rw [View.read_writes_junk_eq_canon]
  unfold kernelRun0_A
  dsimp only
  rw [View.canon_unit_zero zero2]
  simp only [kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v31, kernelRun0_A.sl.v37, kernelRun0_A.sl.v43, kernelRun0_A.sl.v49, kernelRun0_A.sl.v55, kernelRun0_A.sl.v61, kernelRun0_A.sl.v67, kernelRun0_A.sl.v73, kernelRun0_A.sl.v79, kernelRun0_A.sl.v85, kernelRun0_A.sl.v91, kernelRun0_A.sl.v97, kernelRun0_A.sl.v103, kernelRun0_A.sl.v109, kernelRun0_A.sl.v115, kernelRun0_A.sl.v121, kernelRun0_A.sl.v127, kernelRun0_A.sl.v133, kernelRun0_A.sl.v139, kernelRun0_A.sl.v145, kernelRun0_A.sl.v151, kernelRun0_A.sl.v157, kernelRun0_A.sl.v163, kernelRun0_A.sl.v169, kernelRun0_A.sl.v175, kernelRun0_A.sl.v181, kernelRun0_A.sl.v187, kernelRun0_A.sl.v193, kernelRun0_A.sl.v199, kernelRun0_A.sl.v205, kernelRun0_A.sl.v211, held_eq, load_eq]
  rw [View.ld_unit_zero zero2, View.ld_unit_zero zero2, View.ld_unit_zero zero2, View.ld_unit_zero zero2, View.ld_unit_zero zero2, View.ld_unit_zero zero2, View.ld_unit_zero zero3, sums_all, pay1_eq, pay16_eq]
  simp only [pay6_eq, pay7_eq, pay8_eq, pay9_eq, pay10_eq, pay11_eq, pay12_eq, pay13_eq, pay14_eq, pay15_eq, pay4_eq, pay5_eq, tap, List.foldl, add]
  refine congrArg (fun z => finish (outs z x4 x5 x6 x7) x8 x9) ?_
  iterate 31 refine congrArg₂ addf ?_ (congrArg₂ mulf (congrArg spreadRow (weight_of _ _ _ _ rfl)) (met_of _ _ _ _ rfl))
  rfl

/-! ## The stages at an index -/

/-- A row held from the block, -/
theorem held_new (z : FVec Ideal S32x1024 .f32) (x : FVec Ideal S512x1024 .f32) (a : Fin 544) (r : Fin 512) (h : a.val = 32 + r.val) (k : Fin 1024) :
    held z x (ix2 a k) = x (ix2 r k) := by
  have e : (ix2 a k : S544x1024.Idx) = (Rect.unit (s := S544x1024) ![32, 0] S512x1024.size inb_S544x1024_S512x1024_32_0).emb (ix2 r k) := by
    funext b
    apply Fin.ext
    match b with
    | 0 => show a.val = 32 + 1 * r.val; omega
    | 1 => show k.val = 0 + 1 * k.val; omega
  exact (congrArg (held z x) e).trans (View.canon_cons_emb _ _ _ _)
/-- A row before the block is not of the block, -/
theorem old_not (a : Fin 544) (h : a.val < 32) (k : Fin 1024) :
    (ix2 a k : S544x1024.Idx) ∉ (Rect.unit (s := S544x1024) ![32, 0] S512x1024.size inb_S544x1024_S512x1024_32_0).set := fun hm => by
  have h0 : 32 ≤ a.val := (Rect.mem_set_unit.1 hm 0).1
  omega
/-- but of the rows before it, -/
theorem old_place (a : Fin 544) (r : Fin 32) (h : a.val = r.val) (k : Fin 1024) :
    (ix2 a k : S544x1024.Idx) = (Rect.unit (s := S544x1024) ![0, 0] S32x1024.size inb_S544x1024_S32x1024_0_0).emb (ix2 r k) := by
  funext b
  apply Fin.ext
  match b with
  | 0 => show a.val = 0 + 1 * r.val; omega
  | 1 => show k.val = 0 + 1 * k.val; omega
/-- where the first of two stores shows. -/
theorem canon_two {s : Shape} (r r' : Rect s) (w : r.shape.Idx → Elt Ideal .f32) (w' : r'.shape.Idx → Elt Ideal .f32) (y : s.Idx) (hy : y ∉ r.set)
    (x : r'.shape.Idx) (e : y = r'.emb x) : View.canon (Val := Elt Ideal) (e := .f32) [⟨r, w⟩, ⟨r', w'⟩] y = w' x := by
  subst e
  exact (View.canon_cons_of_not_mem _ _ hy).trans (View.canon_cons_emb _ _ _ _)
/-- So it is held as it is there. -/
theorem held_old (z : FVec Ideal S32x1024 .f32) (x : FVec Ideal S512x1024 .f32) (a : Fin 544) (r : Fin 32) (h : a.val = r.val) (k : Fin 1024) :
    held z x (ix2 a k) = z (ix2 r k) := by
  have h32 : a.val < 32 := by have := r.isLt; omega
  have o := old_not a h32 k
  have p := old_place a r h k
  have t := canon_two (Rect.unit (s := S544x1024) ![32, 0] S512x1024.size inb_S544x1024_S512x1024_32_0)
    (Rect.unit (s := S544x1024) ![0, 0] S32x1024.size inb_S544x1024_S32x1024_0_0) x z (ix2 a k) o (ix2 r k) p
  unfold held
  exact t

/-- Whether a block is a sequence's first, as the body finds it. -/
def first (i : grid0.Coords) : BitVec 1 :=
  let v0 : BitVec 32 := Scalar.muli (BitVec.ofNat 32 (i 0).val) 512#32
  let v2 : BitVec 32 := Scalar.select (Scalar.cmpi .eq 8192#32 0#32) 1#32 8192#32
  let v3 : BitVec 32 := Scalar.remsi v0 v2
  Scalar.cmpi .eq (Scalar.select (Scalar.andi (Scalar.xori (Scalar.cmpi .slt v3 0#32) (Scalar.cmpi .slt v2 0#32)) (Scalar.cmpi .ne v3 0#32))
    (Scalar.addi v3 v2) v3) 0#32

/-- The rows before a block: zeros at a sequence's start. -/
theorem before_apply (i : grid0.Coords) (z : FVec Ideal S32x1024 .f32) (r : Fin 32) (k : Fin 1024) :
    k0_pay2 (F := Ideal) i z (ix2 r k) = if first i = 1#1 then 0 else z (ix2 r k) := by
  have e : k0_pay2 (F := Ideal) i z = Scalar.select (first i) (broadcast S32x1024 (Scalar.ofBits (F := Ideal) .f32 0x00000000#32)) z := by
    show shapeCast S32x1024 (Scalar.select (first i) _ (shapeCast S32x1024 z _)) _ = _
    rw [Idealize.ShloMosaic.shapeCast_self, Idealize.ShloMosaic.shapeCast_self]
  rw [e]
  by_cases hf : first i = 1#1
  · rw [if_pos hf]
    exact (congrFun (if_pos hf) _).trans Ideal.ofBits_zero_f32
  · rw [if_neg hf]
    exact congrFun (if_neg hf) _

/-- The block itself. -/
theorem block_eq (x : FVec Ideal S512x1024 .f32) : k0_pay3 (F := Ideal) x = x := by
  show shapeCast S512x1024 (shapeCast S512x1024 x _) _ = _
  rw [Idealize.ShloMosaic.shapeCast_self, Idealize.ShloMosaic.shapeCast_self]

/-- A row a tap meets, -/
theorem met_apply (e : FVec Ideal S544x1024 .f32) (n : Fin 31) (r : Fin 512) (k : Fin 1024) :
    met e n (ix2 r k) = e (ix2 ⟨2 + n.val + r.val, by have := n.isLt; have := r.isLt; omega⟩ k) := by
  refine congrArg e (funext fun a => Fin.ext ?_)
  match a with
  | 0 => show 2 + n.val + 1 * r.val = 2 + n.val + r.val; omega
  | 1 => show 0 + 1 * k.val = k.val; omega
/-- and the tap's weights. -/
theorem weight_apply (w : FVec Ideal S32x1024 .f32) (n : Fin 31) (k : Fin 1024) :
    weight w n (ix2 0 k) = w (ix2 ⟨n.val, by have := n.isLt; omega⟩ k) := by
  refine congrArg w (funext fun a => Fin.ext ?_)
  match a with
  | 0 => show n.val + 1 * 0 = n.val; omega
  | 1 => show 0 + 1 * k.val = k.val; omega

/-- A row of numbers over the block's rows, at an index. -/
theorem spreadRow_apply (b : FVec Ideal S1x1024 .f32) (r : Fin 512) (k : Fin 1024) : spreadRow b (ix2 r k) = b (ix2 0 k) := by
  pointwise [spreadRow]

/-- The first taps' sum at an index. -/
theorem sums_apply (w : FVec Ideal S32x1024 .f32) (e : FVec Ideal S544x1024 .f32) (b : FVec Ideal S1x1024 .f32) (r : Fin 512) (k : Fin 1024) :
    ∀ (n : ℕ) (hn : n ≤ 31), sums w e b n hn (ix2 r k)
      = b (ix2 0 k) + ∑ h : Fin n, w (ix2 ⟨h.val, by omega⟩ k) * met e ⟨h.val, by omega⟩ (ix2 r k)
  | 0, _ => by
    show Ideal.ofBits .f32 0x00000000#32 + spreadRow b (ix2 r k) = _
    rw [Ideal.ofBits_zero_f32, zero_add, spreadRow_apply, Fin.sum_univ_zero, add_zero]
  | n + 1, hn => by
    rw [Fin.sum_univ_castSucc, ← add_assoc]
    refine congrArg₂ (· + ·) (sums_apply w e b r k n (by omega)) ?_
    show spreadRow (weight w _) (ix2 r k) * met e _ (ix2 r k) = _
    rw [spreadRow_apply, weight_apply]
    rfl

/-- A row's mean, -/
theorem means_apply (a : FVec Ideal S512x1024 .f32) (r : Fin 512) : means a (ix2 r 0) = Conv.mean (fun k => a (ix2 r k)) := by
  have e : ∀ q : FVec Ideal S512 .f32, divf (shapeCast S512x1 q shapeCasts_S512_S512x1) (broadcast S512x1 (Scalar.ofBits (F := Ideal) .f32 0x44800000#32)) (ix2 r 0)
      = Ideal.div (q (ix1 r)) (Ideal.ofBits .f32 0x44800000#32) := fun q => by pointwise
  unfold means Conv.mean
  exact (e _).trans (congrArg (fun z => Ideal.div z (Ideal.ofBits .f32 0x44800000#32)) (Reductions.rowSum _ _ _ _ _ r))
/-- its distances from it, -/
theorem devs_apply (a : FVec Ideal S512x1024 .f32) (r : Fin 512) (k : Fin 1024) : devs a (ix2 r k) = Conv.dev (fun k => a (ix2 r k)) k := by
  have e : ∀ q : FVec Ideal S512x1 .f32, subf a (broadcastTo S512x1024 q broadcasts_S512x1_S512x1024) (ix2 r k) = a (ix2 r k) - q (ix2 r 0) := fun q => by pointwise
  unfold devs Conv.dev
  rw [e, means_apply]
/-- and its inverse standard deviation. -/
theorem spreads_apply (a : FVec Ideal S512x1024 .f32) (r : Fin 512) : spreads (devs a) (ix2 r 0) = Conv.spread (fun k => a (ix2 r k)) := by
  show Ideal.rsqrt (means (mulf (devs a) (devs a)) (ix2 r 0) + Ideal.ofBits .f32 0x358637BD#32) = _
  rw [means_apply]
  unfold Conv.spread
  refine congrArg (fun f => Ideal.rsqrt (Conv.mean f + Ideal.ofBits .f32 0x358637BD#32)) (funext fun k => ?_)
  exact congrArg₂ (· * ·) (devs_apply a r k) (devs_apply a r k)

/-- A normed row. -/
theorem norms_apply (d : FVec Ideal S512x1024 .f32) (q : FVec Ideal S512x1 .f32) (g b : FVec Ideal S1x1024 .f32) (r : Fin 512) (k : Fin 1024) :
    norms d q g b (ix2 r k) = d (ix2 r k) * q (ix2 r 0) * g (ix2 0 k) + b (ix2 0 k) := by
  pointwise [norms, spreadRow]

/-- An activation. -/
theorem acts_apply (y : FVec Ideal S512x1024 .f32) (r : Fin 512) (k : Fin 1024) : acts y (ix2 r k) = Conv.silu (y (ix2 r k)) := by
  show y (ix2 r k) * Ideal.div Glu.one (Glu.one + Ideal.exp (Ideal.ofBits .f32 0x00000000#32 - y (ix2 r k))) = _
  rw [Ideal.ofBits_zero_f32, zero_sub]
  rfl

/-- An output of a row. -/
theorem prods_apply (y : FVec Ideal S512x1024 .bf16) (w : FVec Ideal S1024x1024 .bf16) (i : Fin 512) (j : Fin 1024) :
    prods y w (ix2 i j) = ∑ k : Fin 1024, y (ix2 i k) * w (ix2 k j) := by
  unfold prods
  rw [Idealize.ShloMosaic.shapeCast_self]
  refine (Ideal.matmul_apply₁_of dot_S512x1024_S1024x1024_S512x1024_1_0_0_1_n_n (a := 1) rfl (K := 1024) rfl y w _ (ix2 i j)
    (fun k => ix2 i k) (fun k => ix2 k j) (fun k => ?_) (fun k => ?_)).trans ?_
  · pointwise
  · pointwise
  · rw [show (constant (F := Ideal) S512x1024 .f32 0x00000000#32) (ix2 i j) = (0 : EReal) from Ideal.ofBits_zero_f32]; exact zero_add _

/-- The gate and the residual. -/
theorem finish_apply (a x : FVec Ideal S512x1024 .f32) (m : FVec Ideal S1x1x1024 .f32) (r : Fin 512) (j : Fin 1024) :
    finish a x m (ix2 r j) = x (ix2 r j) + m (ix3 0 0 j) * a (ix2 r j) := by
  pointwise [finish]

/-- A convolved row's result. -/
theorem tail_apply (a x : FVec Ideal S512x1024 .f32) (g b : FVec Ideal S1x1024 .f32) (w : FVec Ideal S1024x1024 .bf16) (β : FVec Ideal S1x1024 .f32)
    (m : FVec Ideal S1x1x1024 .f32) (r : Fin 512) (j : Fin 1024) :
    finish (outs a g b w β) x m (ix2 r j)
      = Conv.tail (fun k => a (ix2 r k)) (fun k => g (ix2 0 k)) (fun k => b (ix2 0 k)) (fun k i => w (ix2 k i)) (fun i => β (ix2 0 i))
          (fun i => x (ix2 r i)) (fun i => m (ix3 0 0 i)) j := by
  rw [finish_apply]
  unfold outs Conv.tail Glu.lin
  show _ + _ * (prods _ w (ix2 r j) + spreadRow β (ix2 r j)) = _
  rw [prods_apply, spreadRow_apply]
  simp only [acts_apply, norms_apply, devs_apply, spreads_apply]
  rfl

end Cert.Kernel5Ideal.Mix

end
-- ==== Proof.ConvValue.lean ====
/- What the second call of the convolution mixer leaves in its output array, over the extended reals. -/
module

public import proofs.«01_k».proof.Proof.Gen.Kernel5Ideal.Value
public import proofs.«01_k».proof.Proof.ConvRow
public import Idealize.ShloMosaic.Lib.Pipeline.ValueKit
public import Idealize.ShloMosaic.Lib.Pipeline.Value

@[expose] public section

set_option maxRecDepth 16384

noncomputable section

namespace Cert.Kernel5Ideal.Mix

open Cert.Kernel5Ideal Cert.Kernel5Ideal.Gen
open Idealize.ShloMosaic Idealize.ShloMosaic.TcCoe

variable (m : (ℓ : Loc nD τ sig) → Buf (Elt Ideal) ℓ) (c : Dev nD)

/-! ## The windows' arrays -/

/-- The taps' weights, with a row of zeros after them. -/
def padded (w : FVec Ideal S31x1024 .f32) : FVec Ideal S32x1024 .f32 :=
  pad S32x1024 ![0, 0] ![1, 0] ![0, 0] w (sitofp (F := Ideal) .f32 (constantI S_ 32 0#32)) pads_S31x1024_S32x1024_010_000 h_S_

/-- The gated rows of the four sequences end to end, -/
theorem gated_eq : V m c main_v0 = shapeCast S32768x1024 (m (c.tc.loc main_arg0)) shapeCasts_S4x8192x1024_S32768x1024 := by
  unfold V; simp only [hostOps0, hostOps0_1, hostOps0_2, List.flatten_cons, List.flatten_nil, List.append_nil, List.cons_append, List.nil_append]; after_results; rfl
/-- the residual's rows, -/
theorem rows_eq : V m c main_v1 = shapeCast S32768x1024 (m (c.tc.loc main_arg1)) shapeCasts_S4x8192x1024_S32768x1024 := by
  unfold V; simp only [hostOps0, hostOps0_1, hostOps0_2, List.flatten_cons, List.flatten_nil, List.append_nil, List.cons_append, List.nil_append]; after_results; rfl
/-- the gates, -/
theorem gates_eq : V m c main_v2 = shapeCast S4x1x1024 (m (c.tc.loc main_arg2)) shapeCasts_S4x1024_S4x1x1024 := by
  unfold V; simp only [hostOps0, hostOps0_1, hostOps0_2, List.flatten_cons, List.flatten_nil, List.append_nil, List.cons_append, List.nil_append]; after_results; rfl
/-- the taps' weights -/
theorem taps_eq : V m c main_v3 = padded (m (c.tc.loc main_arg3)) := by
  unfold V; simp only [hostOps0, hostOps0_1, hostOps0_2, List.flatten_cons, List.flatten_nil, List.append_nil, List.cons_append, List.nil_append]; after_results; rfl
/-- and their bias, -/
theorem bias_eq : V m c main_v4 = shapeCast S1x1024 (m (c.tc.loc main_arg4)) shapeCasts_S1024_S1x1024 := by
  unfold V; simp only [hostOps0, hostOps0_1, hostOps0_2, List.flatten_cons, List.flatten_nil, List.append_nil, List.cons_append, List.nil_append]; after_results; rfl
/-- the norm's factors -/
theorem factors_eq : V m c main_v5 = shapeCast S1x1024 (m (c.tc.loc main_arg5)) shapeCasts_S1024_S1x1024 := by
  unfold V; simp only [hostOps0, hostOps0_1, hostOps0_2, List.flatten_cons, List.flatten_nil, List.append_nil, List.cons_append, List.nil_append]; after_results; rfl
/-- and its shifts, -/
theorem shifts_eq : V m c main_v6 = shapeCast S1x1024 (m (c.tc.loc main_arg6)) shapeCasts_S1024_S1x1024 := by
  unfold V; simp only [hostOps0, hostOps0_1, hostOps0_2, List.flatten_cons, List.flatten_nil, List.append_nil, List.cons_append, List.nil_append]; after_results; rfl
/-- the product's weights -/
theorem weights_eq : V m c main_v7 = truncf (F := Ideal) (s := S1024x1024) (φ := .f32) .bf16 (m (c.tc.loc main_arg7)) bitsLt_bf16_f32 := by
  unfold V; simp only [hostOps0, hostOps0_1, hostOps0_2, List.flatten_cons, List.flatten_nil, List.append_nil, List.cons_append, List.nil_append]; after_results
/-- and its bias. -/
theorem last_eq : V m c main_v8 = shapeCast S1x1024 (m (c.tc.loc main_arg8)) shapeCasts_S1024_S1x1024 := by
  unfold V; simp only [hostOps0, hostOps0_1, hostOps0_2, List.flatten_cons, List.flatten_nil, List.append_nil, List.cons_append, List.nil_append]; after_results; rfl

/-- A tap's weight, -/
theorem padded_apply (w : FVec Ideal S31x1024 .f32) (n : Fin 31) (k : Fin 1024) :
    padded w (ix2 ⟨n.val, by have := n.isLt; omega⟩ k) = w (ix2 n k) := by
  have hn := n.isLt
  refine (dif_pos (c := ∀ a : Fin 2, _) ?_).trans ?_
  · intro a
    match a with
    | 0 => exact ⟨Nat.zero_le _, Nat.mod_one _, by show (n.val - 0) / 1 < 31; omega⟩
    | 1 => exact ⟨Nat.zero_le _, Nat.mod_one _, by have := k.isLt; show (k.val - 0) / 1 < 1024; omega⟩
  · refine congrArg w (funext fun a => Fin.ext ?_)
    match a with
    | 0 => exact Nat.div_one _
    | 1 => exact Nat.div_one _
/-- a row of a sequence among all rows, -/
theorem rows_apply (x : FVec Ideal S4x8192x1024 .f32) (i : Fin 32768) (k : Fin 1024) :
    shapeCast S32768x1024 x shapeCasts_S4x8192x1024_S32768x1024 (ix2 i k) = x (ix3 (Glu.seqOf i) (Glu.rowOf i) k) := by
  pointwise
  rfl
/-- a gate, -/
theorem mods_apply (g : FVec Ideal S4x1024 .f32) (s : Fin 4) (k : Fin 1024) :
    shapeCast S4x1x1024 g shapeCasts_S4x1024_S4x1x1024 (ix3 s 0 k) = g (ix2 s k) := by
  pointwise
/-- and a number of a row of them. -/
theorem gains_apply (b : FVec Ideal S1024 .f32) (k : Fin 1024) : shapeCast S1x1024 b shapeCasts_S1024_S1x1024 (ix2 0 k) = b (ix1 k) := by
  pointwise

/-! ## The blocks -/

/-- The blocks' numbers at a point. -/
theorem index_u : ∀ t : Fin grid0.N, win0_0.index t 0 = t.val ∧ win0_0.index t 1 = 0 := by decide +kernel
/-- The same for window 1. -/
theorem index_z : ∀ t : Fin grid0.N, win0_1.index t 0 = 16 * t.val - 1 ∧ win0_1.index t 1 = 0 := by decide +kernel
/-- The same for window 2. -/
theorem index_w : ∀ t : Fin grid0.N, win0_2.index t 0 = 0 ∧ win0_2.index t 1 = 0 := by decide +kernel
/-- The same for window 3. -/
theorem index_b : ∀ t : Fin grid0.N, win0_3.index t 0 = 0 ∧ win0_3.index t 1 = 0 := by decide +kernel
/-- The same for window 4. -/
theorem index_g : ∀ t : Fin grid0.N, win0_4.index t 0 = 0 ∧ win0_4.index t 1 = 0 := by decide +kernel
/-- The same for window 5. -/
theorem index_h : ∀ t : Fin grid0.N, win0_5.index t 0 = 0 ∧ win0_5.index t 1 = 0 := by decide +kernel
/-- The same for window 6. -/
theorem index_v : ∀ t : Fin grid0.N, win0_6.index t 0 = 0 ∧ win0_6.index t 1 = 0 := by decide +kernel
/-- The same for window 7. -/
theorem index_β : ∀ t : Fin grid0.N, win0_7.index t 0 = 0 ∧ win0_7.index t 1 = 0 := by decide +kernel
/-- The same for window 8. -/
theorem index_x : ∀ t : Fin grid0.N, win0_8.index t 0 = t.val ∧ win0_8.index t 1 = 0 := by decide +kernel
/-- The same for window 9. -/
theorem index_m : ∀ t : Fin grid0.N, win0_9.index t 0 = t.val / 16 ∧ win0_9.index t 1 = 0 ∧ win0_9.index t 2 = 0 := by decide +kernel
/-- The same for window 10. -/
theorem index_o : ∀ t : Fin grid0.N, win0_10.index t 0 = t.val ∧ win0_10.index t 1 = 0 := by decide +kernel
/-- A block is a sequence's first every sixteen. -/
theorem first_iff : ∀ t : Fin grid0.N, first (grid0.coords t) = 1#1 ↔ t.val % 16 = 0 := by decide +kernel

/-- Row `r` of the block of a point, -/
def at_ (t : Fin grid0.N) (r : Fin 512) : Fin 32768 :=
  ⟨512 * t.val + r.val, by have : t.val < 64 := lt_of_lt_of_eq t.isLt N_0; have := r.isLt; omega⟩
/-- the sequence it is of -/
theorem seqOf_at (t : Fin grid0.N) (r : Fin 512) : (Glu.seqOf (at_ t r)).val = t.val / 16 := by
  have := r.isLt
  show (512 * t.val + r.val) / 8192 = t.val / 16
  omega
/-- and its place there. -/
theorem rowOf_at (t : Fin grid0.N) (r : Fin 512) : (Glu.rowOf (at_ t r)).val = 512 * (t.val % 16) + r.val := by
  have := r.isLt
  show (512 * t.val + r.val) % 8192 = 512 * (t.val % 16) + r.val
  omega

variable (t : Fin grid0.N)

/-- The gated rows of a block, -/
theorem u_apply (r : Fin 512) (k : Fin 1024) :
    iblk m c 0 t (ix2 r k) = m (c.tc.loc main_arg0) (ix3 (Glu.seqOf (at_ t r)) (Glu.rowOf (at_ t r)) k) := by
  refine (congrFun (gated_eq m c) _).trans ((congrArg _ ?_).trans (rows_apply _ (at_ t r) k))
  have hr := r.isLt
  funext a
  apply Fin.ext
  match a with
  | 0 =>
    show win0_0.index t 0 * 512 + 1 * r.val = 512 * t.val + r.val
    rw [(index_u t).1]; omega
  | 1 =>
    show win0_0.index t 1 * 1024 + 1 * k.val = k.val
    rw [(index_u t).2]; omega
/-- the rows before it, -/
theorem z_apply (r : Fin 32) (i : Fin 32768) (h : i.val = 32 * (16 * t.val - 1) + r.val) (k : Fin 1024) :
    iblk m c 1 t (ix2 r k) = m (c.tc.loc main_arg0) (ix3 (Glu.seqOf i) (Glu.rowOf i) k) := by
  refine (congrFun (gated_eq m c) _).trans ((congrArg _ ?_).trans (rows_apply _ i k))
  funext a
  apply Fin.ext
  match a with
  | 0 =>
    show win0_1.index t 0 * 32 + 1 * r.val = i.val
    rw [(index_z t).1, h]; omega
  | 1 =>
    show win0_1.index t 1 * 1024 + 1 * k.val = k.val
    rw [(index_z t).2]; omega
/-- the taps' weights -/
theorem w_apply (n : Fin 31) (k : Fin 1024) :
    iblk m c 2 t (ix2 ⟨n.val, by have := n.isLt; omega⟩ k) = m (c.tc.loc main_arg3) (ix2 n k) := by
  refine (congrFun (taps_eq m c) _).trans ((congrArg _ ?_).trans (padded_apply _ n k))
  funext a
  apply Fin.ext
  match a with
  | 0 =>
    show win0_2.index t 0 * 32 + 1 * n.val = n.val
    rw [(index_w t).1]; omega
  | 1 =>
    show win0_2.index t 1 * 1024 + 1 * k.val = k.val
    rw [(index_w t).2]; omega
/-- their bias, -/
theorem b_apply (k : Fin 1024) : iblk m c 3 t (ix2 0 k) = m (c.tc.loc main_arg4) (ix1 k) := by
  refine (congrFun (bias_eq m c) _).trans ((congrArg _ ?_).trans (gains_apply _ k))
  funext a
  apply Fin.ext
  match a with
  | 0 =>
    show win0_3.index t 0 * 1 + 1 * 0 = 0
    rw [(index_b t).1]
  | 1 =>
    show win0_3.index t 1 * 1024 + 1 * k.val = k.val
    rw [(index_b t).2]; omega
/-- the norm's factors -/
theorem g_apply (k : Fin 1024) : iblk m c 4 t (ix2 0 k) = m (c.tc.loc main_arg5) (ix1 k) := by
  refine (congrFun (factors_eq m c) _).trans ((congrArg _ ?_).trans (gains_apply _ k))
  funext a
  apply Fin.ext
  match a with
  | 0 =>
    show win0_4.index t 0 * 1 + 1 * 0 = 0
    rw [(index_g t).1]
  | 1 =>
    show win0_4.index t 1 * 1024 + 1 * k.val = k.val
    rw [(index_g t).2]; omega
/-- and shifts, -/
theorem h_apply (k : Fin 1024) : iblk m c 5 t (ix2 0 k) = m (c.tc.loc main_arg6) (ix1 k) := by
  refine (congrFun (shifts_eq m c) _).trans ((congrArg _ ?_).trans (gains_apply _ k))
  funext a
  apply Fin.ext
  match a with
  | 0 =>
    show win0_5.index t 0 * 1 + 1 * 0 = 0
    rw [(index_h t).1]
  | 1 =>
    show win0_5.index t 1 * 1024 + 1 * k.val = k.val
    rw [(index_h t).2]; omega
/-- the product's bias -/
theorem β_apply (k : Fin 1024) : iblk m c 7 t (ix2 0 k) = m (c.tc.loc main_arg8) (ix1 k) := by
  refine (congrFun (last_eq m c) _).trans ((congrArg _ ?_).trans (gains_apply _ k))
  funext a
  apply Fin.ext
  match a with
  | 0 =>
    show win0_7.index t 0 * 1 + 1 * 0 = 0
    rw [(index_β t).1]
  | 1 =>
    show win0_7.index t 1 * 1024 + 1 * k.val = k.val
    rw [(index_β t).2]; omega
/-- and weights, -/
theorem v_apply (k n : Fin 1024) : iblk m c 6 t (ix2 k n) = m (c.tc.loc main_arg7) (ix2 k n) := by
  refine (congrFun (weights_eq m c) _).trans (congrArg (m (c.tc.loc main_arg7)) ?_)
  funext a
  apply Fin.ext
  match a with
  | 0 =>
    show win0_6.index t 0 * 1024 + 1 * k.val = k.val
    rw [(index_v t).1]; omega
  | 1 =>
    show win0_6.index t 1 * 1024 + 1 * n.val = n.val
    rw [(index_v t).2]; omega
/-- the residual's rows -/
theorem x_apply (r : Fin 512) (k : Fin 1024) :
    iblk m c 8 t (ix2 r k) = m (c.tc.loc main_arg1) (ix3 (Glu.seqOf (at_ t r)) (Glu.rowOf (at_ t r)) k) := by
  refine (congrFun (rows_eq m c) _).trans ((congrArg _ ?_).trans (rows_apply _ (at_ t r) k))
  have hr := r.isLt
  funext a
  apply Fin.ext
  match a with
  | 0 =>
    show win0_8.index t 0 * 512 + 1 * r.val = 512 * t.val + r.val
    rw [(index_x t).1]; omega
  | 1 =>
    show win0_8.index t 1 * 1024 + 1 * k.val = k.val
    rw [(index_x t).2]; omega
/-- and its sequence's gates. -/
theorem m_apply (r : Fin 512) (k : Fin 1024) :
    iblk m c 9 t (ix3 0 0 k) = m (c.tc.loc main_arg2) (ix2 (Glu.seqOf (at_ t r)) k) := by
  refine (congrFun (gates_eq m c) _).trans ((congrArg _ ?_).trans (mods_apply _ (Glu.seqOf (at_ t r)) k))
  funext a
  apply Fin.ext
  match a with
  | 0 =>
    show win0_9.index t 0 * 1 + 1 * 0 = (Glu.seqOf (at_ t r)).val
    rw [(index_m t).1, seqOf_at]; omega
  | 1 =>
    show win0_9.index t 1 * 1 + 1 * 0 = 0
    rw [(index_m t).2.1]
  | 2 =>
    show win0_9.index t 2 * 1024 + 1 * k.val = k.val
    rw [(index_m t).2.2]; omega

/-! ## The convolution of a block -/

/-- The rows held at a point. -/
def heldAt : FVec Ideal S544x1024 .f32 := held (k0_pay2 (F := Ideal) (grid0.coords t) (iblk m c 1 t)) (k0_pay3 (F := Ideal) (iblk m c 0 t))

/-- The same element of an array, by equal numbers. -/
theorem same (u : Glu.Xs) {s s' : Fin 4} {p p' : Fin 8192} (hs : s.val = s'.val) (hp : p.val = p'.val) (k : Fin 1024) :
    u (ix3 s p k) = u (ix3 s' p' k) := by rw [Fin.ext hs, Fin.ext hp]

/-- What a tap meets is the row of the past. -/
theorem met_past (n : Fin 31) (r : Fin 512) (k : Fin 1024) :
    met (heldAt m c t) n (ix2 r k)
      = Conv.past (m (c.tc.loc main_arg0)) (Glu.seqOf (at_ t r)) (Glu.rowOf (at_ t r)) n k := by
  have hn := n.isLt
  have hr := r.isLt
  have ht : t.val < 64 := lt_of_lt_of_eq t.isLt N_0
  have hs := seqOf_at t r
  have hp := rowOf_at t r
  rw [met_apply]
  unfold heldAt Conv.past
  by_cases h : 30 ≤ n.val + r.val
  · have h' : 30 ≤ (Glu.rowOf (at_ t r)).val + n.val := by omega
    rw [if_pos h', held_new _ _ _ ⟨n.val + r.val - 30, by omega⟩ (show 2 + n.val + r.val = 32 + (n.val + r.val - 30) by omega), block_eq, u_apply]
    refine same _ ?_ ?_ k
    · rw [seqOf_at, seqOf_at]
    · rw [rowOf_at]
      show 512 * (t.val % 16) + (n.val + r.val - 30) = (Glu.rowOf (at_ t r)).val + n.val - 30
      rw [rowOf_at]; omega
  · rw [held_old _ _ _ ⟨2 + n.val + r.val, by omega⟩ rfl, before_apply]
    by_cases hf : t.val % 16 = 0
    · rw [if_pos ((first_iff t).2 hf), if_neg (by omega)]
    · have h' : 30 ≤ (Glu.rowOf (at_ t r)).val + n.val := by omega
      rw [if_neg (fun hh => hf ((first_iff t).1 hh)), if_pos h',
        z_apply m c t _ ⟨512 * t.val + r.val + n.val - 30, by omega⟩
          (show 512 * t.val + r.val + n.val - 30 = 32 * (16 * t.val - 1) + (2 + n.val + r.val) by omega)]
      refine same _ ?_ ?_ k
      · rw [seqOf_at]
        show (512 * t.val + r.val + n.val - 30) / 8192 = t.val / 16
        omega
      · show (512 * t.val + r.val + n.val - 30) % 8192 = (Glu.rowOf (at_ t r)).val + n.val - 30
        rw [rowOf_at]; omega

/-- The sum over the taps is the convolution. -/
theorem sums_conv (r : Fin 512) (k : Fin 1024) :
    sums (iblk m c 2 t) (heldAt m c t) (iblk m c 3 t) 31 le_rfl (ix2 r k)
      = Conv.conv (m (c.tc.loc main_arg0)) (m (c.tc.loc main_arg3)) (m (c.tc.loc main_arg4)) (Glu.seqOf (at_ t r)) (Glu.rowOf (at_ t r)) k := by
  refine (sums_apply (iblk m c 2 t) (heldAt m c t) (iblk m c 3 t) r k 31 le_rfl).trans ?_
  unfold Conv.conv
  rw [add_comm, b_apply]
  refine congrArg (· + _) (Finset.sum_congr rfl fun n _ => ?_)
  rw [mul_comm]
  exact congrArg₂ (· * ·) (met_past m c t n r k) (w_apply m c t n k)

/-! ## The output array -/

/-- The call's result as a function of its arguments. -/
def res : Glu.Out := Conv.result (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))

/-- The tail of equal rows is equal. -/
theorem tail_congr {a a' g g' b b' : Fin 1024 → EReal} {w w' : Fin 1024 → Fin 1024 → EReal} {β β' x x' m m' : Fin 1024 → EReal}
    (ha : a = a') (hg : g = g') (hb : b = b') (hw : w = w') (hβ : β = β') (hx : x = x') (hm : m = m') (j : Fin 1024) :
    Conv.tail a g b w β x m j = Conv.tail a' g' b' w' β' x' m' j := by
  subst ha; subst hg; subst hb; subst hw; subst hβ; subst hx; subst hm; rfl

/-- What a point writes back is its stages in turn, -/
theorem flushed_eq : (dats m 0 c).flushed 10 t
    = finish (outs (sums (iblk m c 2 t) (heldAt m c t) (iblk m c 3 t) 31 le_rfl) (iblk m c 4 t) (iblk m c 5 t) (iblk m c 6 t) (iblk m c 7 t))
        (iblk m c 8 t) (iblk m c 9 t) :=
  (Value.flushed10_A m c t).trans (out_eq_stages c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) (iblk m c 0 t) (iblk m c 1 t) (iblk m c 2 t) (iblk m c 3 t) (iblk m c 4 t) (iblk m c 5 t) (iblk m c 6 t)
    (iblk m c 7 t) (iblk m c 8 t) (iblk m c 9 t))

/-- and at an element the result there. -/
theorem flushed_apply (r : Fin 512) (j : Fin 1024) :
    (dats m 0 c).flushed 10 t (ix2 r j) = res m c (ix2 (at_ t r) j) := by
  refine (congrFun (flushed_eq m c t) (ix2 r j)).trans ?_
  refine (tail_apply (sums (iblk m c 2 t) (heldAt m c t) (iblk m c 3 t) 31 le_rfl) (iblk m c 8 t) (iblk m c 4 t) (iblk m c 5 t) (iblk m c 6 t)
    (iblk m c 7 t) (iblk m c 9 t) r j).trans ?_
  exact tail_congr (funext fun k => sums_conv m c t r k) (funext fun k => g_apply m c t k) (funext fun k => h_apply m c t k)
    (funext fun k => funext fun i => v_apply m c t k i) (funext fun k => β_apply m c t k) (funext fun k => x_apply m c t r k)
    (funext fun k => m_apply m c t r k) j

/-- The place in the output of an element of the output block. -/
theorem emb_o (r : Fin 512) (j : Fin 1024) : ((cfg0.win 10).blk t).view.emb (ix2 r j) = ix2 (at_ t r) j := by
  funext a
  apply Fin.ext
  match a with
  | 0 =>
    show win0_10.index t 0 * 512 + 1 * r.val = 512 * t.val + r.val
    rw [(index_o t).1]; omega
  | 1 =>
    show win0_10.index t 1 * 1024 + 1 * j.val = j.val
    rw [(index_o t).2]; omega

/-- The output array holds the result of every row. -/
theorem out_eq : (dats m 0 c).arrAt 10 cfg0.N = res m c := by
  refine (dats m 0 c).arrAt_eq_of_cover 10 _ (fun t hf => ?_) (fun i => ?_)
  · funext y
    obtain ⟨r, j, rfl⟩ : ∃ (r : Fin 512) (j : Fin 1024), y = ix2 r j := ⟨y 0, y 1, funext fun a => by
      match a with
      | 0 => rfl
      | 1 => rfl⟩
    exact (flushed_apply m c t r j).trans (congrArg (res m c) (emb_o t r j)).symm
  · have h0 : (i 0).val < 32768 := (i 0).isLt
    have h1 : (i 1).val < 1024 := (i 1).isLt
    have hu : (i 0).val / 512 < grid0.N := lt_of_lt_of_eq (show (i 0).val / 512 < 64 by omega) N_0.symm
    have hm := ((cfg0.win 10).blk ⟨(i 0).val / 512, hu⟩).view.emb_mem_set (ix2 (⟨(i 0).val % 512, Nat.mod_lt _ (by decide)⟩ : Fin 512) (⟨(i 1).val, h1⟩ : Fin 1024))
    refine ⟨⟨(i 0).val / 512, hu⟩, flush0_10 _, ?_⟩
    rw [emb_o] at hm
    have e : (ix2 (at_ ⟨(i 0).val / 512, hu⟩ (⟨(i 0).val % 512, Nat.mod_lt _ (by decide)⟩ : Fin 512)) (⟨(i 1).val, h1⟩ : Fin 1024) : S32768x1024.Idx) = i := by
      funext a
      apply Fin.ext
      match a with
      | 0 =>
        show 512 * ((i 0).val / 512) + (i 0).val % 512 = (i 0).val
        omega
      | 1 => rfl
    rw [e] at hm
    exact hm

end Cert.Kernel5Ideal.Mix

end
-- ==== Proof.ConvRef.lean ====
/- The reference of the second call of the convolution mixer at an index, over the extended reals. -/
module

public import proofs.«01_k».proof.Proof.Gen.Reference5Ideal.Run
public import proofs.«01_k».proof.Proof.Reductions
public import proofs.«01_k».proof.Proof.Conv
public import Idealize.ShloMosaic.Lib.Pointwise

@[expose] public section

set_option maxRecDepth 16384

noncomputable section

namespace Cert.Reference5Ideal.Mix

open Cert.Reference5Ideal Cert.Reference5Ideal.Gen
open Idealize.ShloMosaic Idealize.ShloMosaic.TcCoe Idealize.SL.Sem

/-! ## The stages -/

/-- The rows a tap meets are inside the padded rows, -/
theorem inside_e (n : Fin 31) : S4x8222x1024.Slices ![0, n.val, 0] S4x8192x1024 := ⟨rfl, fun a => by
  have := n.isLt
  match a with
  | 0 => show 0 + 4 ≤ 4; omega
  | 1 => show n.val + 8192 ≤ 8222; omega
  | 2 => show 0 + 1024 ≤ 1024; omega⟩
/-- and its weights are a row of the weights. -/
theorem inside_w (n : Fin 31) : S31x1024.Slices ![n.val, 0] S1x1024 := ⟨rfl, fun a => by
  have := n.isLt
  match a with
  | 0 => show n.val + 1 ≤ 31; omega
  | 1 => show 0 + 1024 ≤ 1024; omega⟩

/-- The rows with thirty of zeros before them. -/
def padded (u : FVec Ideal S4x8192x1024 .f32) : FVec Ideal S4x8222x1024 .f32 :=
  pad S4x8222x1024 ![0, 30, 0] ![0, 0, 0] ![0, 0, 0] u (sitofp (F := Ideal) .f32 (constantI S_ 32 0#32)) pads_S4x8192x1024_S4x8222x1024_000_3000_000 h_S_

/-- The rows a tap meets, -/
def met (e : FVec Ideal S4x8222x1024 .f32) (n : Fin 31) : FVec Ideal S4x8192x1024 .f32 :=
  extractStridedSlice S4x8192x1024 ![0, n.val, 0] e (inside_e n)
/-- a row of numbers over all rows, -/
def spreadRow (b : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 b)
/-- and the tap's weights. -/
def weight (w : FVec Ideal S31x1024 .f32) (n : Fin 31) : FVec Ideal S1024 .f32 :=
  shapeCast S1024 (extractStridedSlice S1x1024 ![n.val, 0] w (inside_w n)) shapeCasts_S1x1024_S1024

/-- One tap added. -/
def add (e : FVec Ideal S4x8222x1024 .f32) (w : FVec Ideal S31x1024 .f32) (z : FVec Ideal S4x8192x1024 .f32) (n : Fin 31) : FVec Ideal S4x8192x1024 .f32 :=
  addf z (mulf (met e n) (spreadRow (weight w n)))

/-- No tap yet. -/
def start : FVec Ideal S4x8192x1024 .f32 := broadcastInDim S4x8192x1024 ![] bcast_S_S4x8192x1024 (constant S_ .f32 0x00000000#32)

/-- The first taps added. -/
def sums (e : FVec Ideal S4x8222x1024 .f32) (w : FVec Ideal S31x1024 .f32) : (n : ℕ) → n ≤ 31 → FVec Ideal S4x8192x1024 .f32
  | 0, _ => start
  | n + 1, hn => add e w (sums e w n (by omega)) ⟨n, hn⟩

/-- The rows' sums, -/
def rowSums (a : FVec Ideal S4x8192x1024 .f32) : FVec Ideal S4x8192 .f32 :=
  Host.reduceAdd a (constant S_ .f32 0x00000000#32) reducesTo_S4x8192x1024_S4x8192_d2 h_S_
/-- their means, -/
def means (q : FVec Ideal S4x8192 .f32) : FVec Ideal S4x8192x1 .f32 :=
  Host.divf (broadcastInDim S4x8192x1 ![0, 1] bcast_S4x8192_S4x8192x1_0_1 q) (broadcastInDim S4x8192x1 ![] bcast_S_S4x8192x1 (constant S_ .f32 0x44800000#32))
/-- the distances from them -/
def devs (a : FVec Ideal S4x8192x1024 .f32) : FVec Ideal S4x8192x1024 .f32 :=
  subf a (broadcastInDim S4x8192x1024 ![0, 1, 2] bcast_S4x8192x1_S4x8192x1024_0_1_2 (means (rowSums a)))
/-- and the inverse standard deviations. -/
def spreads (q : FVec Ideal S4x8192x1 .f32) : FVec Ideal S4x8192x1 .f32 :=
  Host.rsqrt (addf q (broadcastInDim S4x8192x1 ![] bcast_S_S4x8192x1 (constant S_ .f32 0x358637BD#32)))

/-- The rows normed. -/
def norms (d : FVec Ideal S4x8192x1024 .f32) (q : FVec Ideal S4x8192x1 .f32) (g b : FVec Ideal S1024 .f32) : FVec Ideal S4x8192x1024 .f32 :=
  addf (mulf (mulf d (broadcastInDim S4x8192x1024 ![0, 1, 2] bcast_S4x8192x1_S4x8192x1024_0_1_2 q)) (spreadRow g)) (spreadRow b)

/-- The activation. -/
def acts (y : FVec Ideal S4x8192x1024 .f32) : FVec Ideal S4x8192x1024 .f32 :=
  mulf y (Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf y))))

/-- The rows under the weights. -/
def prods (y : FVec Ideal S4x8192x1024 .f32) (w : FVec Ideal S1024x1024 .f32) : FVec Ideal S4x8192x1024 .f32 :=
  Host.dotGeneral dot_S4x8192x1024_S1024x1024_S4x8192x1024_2_0_01_1_n_n none y w

/-- The bias, the gate and the residual. -/
def finish (o x : FVec Ideal S4x8192x1024 .f32) (m : FVec Ideal S4x1024 .f32) (β : FVec Ideal S1024 .f32) : FVec Ideal S4x8192x1024 .f32 :=
  addf x (mulf (broadcastInDim S4x8192x1024 ![0, 1, 2] bcast_S4x1x1024_S4x8192x1024_0_1_2 (broadcastInDim S4x1x1024 ![0, 2] bcast_S4x1024_S4x1x1024_0_2 m))
    (addf o (spreadRow β)))

/-- The rows of the four sequences end to end. -/
def joined (x : FVec Ideal S4x8192x1024 .f32) : FVec Ideal S32768x1024 .f32 := shapeCast S32768x1024 x shapeCasts_S4x8192x1024_S32768x1024

/-- The convolved rows. -/
def convs (u : FVec Ideal S4x8192x1024 .f32) (w : FVec Ideal S31x1024 .f32) (b : FVec Ideal S1024 .f32) : FVec Ideal S4x8192x1024 .f32 :=
  addf (sums (padded u) w 31 le_rfl) (spreadRow b)

/-- The normed rows of convolved ones. -/
def normed (a : FVec Ideal S4x8192x1024 .f32) (g h : FVec Ideal S1024 .f32) : FVec Ideal S4x8192x1024 .f32 :=
  norms (devs a) (spreads (means (rowSums (mulf (devs a) (devs a))))) g h

/-- Normed rows to the result. -/
def tail (y x : FVec Ideal S4x8192x1024 .f32) (m : FVec Ideal S4x1024 .f32) (v : FVec Ideal S1024x1024 .f32) (β : FVec Ideal S1024 .f32) :
    FVec Ideal S32768x1024 .f32 := joined (finish (prods (acts y) v) x m β)

/-! ## The stages at an index -/

/-- A padded row. -/
theorem padded_apply (u : FVec Ideal S4x8192x1024 .f32) (s : Fin 4) (q : Fin 8222) (p : Fin 8192) (h : q.val = 30 + p.val) (k : Fin 1024) :
    padded u (ix3 s q k) = u (ix3 s p k) := by
  have hp := p.isLt
  refine (dif_pos (c := ∀ a : Fin 3, _) ?_).trans ?_
  · intro a
    match a with
    | 0 => exact ⟨Nat.zero_le _, Nat.mod_one _, by have := s.isLt; show (s.val - 0) / 1 < 4; omega⟩
    | 1 => exact ⟨by show 30 ≤ q.val; omega, Nat.mod_one _, by show (q.val - 30) / 1 < 8192; omega⟩
    | 2 => exact ⟨Nat.zero_le _, Nat.mod_one _, by have := k.isLt; show (k.val - 0) / 1 < 1024; omega⟩
  · refine congrArg u (funext fun a => Fin.ext ?_)
    match a with
    | 0 => exact Nat.div_one _
    | 1 => show (q.val - 30) / 1 = p.val; omega
    | 2 => exact Nat.div_one _

/-- The rows before them are zeros. -/
theorem padded_zero (u : FVec Ideal S4x8192x1024 .f32) (s : Fin 4) (q : Fin 8222) (h : q.val < 30) (k : Fin 1024) :
    padded u (ix3 s q k) = 0 := by
  refine (dif_neg (c := ∀ a : Fin 3, _) ?_).trans ?_
  · intro hin
    have h1 : 30 ≤ q.val := (hin 1).1
    omega
  · show ((((0#32 : BitVec 32).toInt : ℤ) : ℝ) : EReal) = 0
    simp

/-- A row a tap meets is the row of the past. -/
theorem met_apply (u : FVec Ideal S4x8192x1024 .f32) (n : Fin 31) (s : Fin 4) (p : Fin 8192) (k : Fin 1024) :
    met (padded u) n (ix3 s p k) = Conv.past u s p n k := by
  have hn := n.isLt
  have hp := p.isLt
  have e : ∀ q : FVec Ideal S4x8222x1024 .f32, met q n (ix3 s p k) = q (ix3 s ⟨p.val + n.val, by omega⟩ k) := fun q => by
    refine congrArg q (funext fun a => Fin.ext ?_)
    match a with
    | 0 => show 0 + s.val = s.val; omega
    | 1 => show n.val + p.val = p.val + n.val; omega
    | 2 => show 0 + k.val = k.val; omega
  rw [e]
  unfold Conv.past
  by_cases h : 30 ≤ p.val + n.val
  · rw [if_pos h]
    exact padded_apply u s _ ⟨p.val + n.val - 30, by omega⟩ (show p.val + n.val = 30 + (p.val + n.val - 30) by omega) k
  · rw [if_neg h]
    exact padded_zero u s _ (show p.val + n.val < 30 by omega) k

/-- A row of numbers over all rows. -/
theorem spreadRow_apply (b : FVec Ideal S1024 .f32) (s : Fin 4) (p : Fin 8192) (k : Fin 1024) : spreadRow b (ix3 s p k) = b (ix1 k) := by
  pointwise [spreadRow]

/-- A tap's weight. -/
theorem weight_apply (w : FVec Ideal S31x1024 .f32) (n : Fin 31) (k : Fin 1024) : weight w n (ix1 k) = w (ix2 n k) := by
  have e : ∀ q : FVec Ideal S1x1024 .f32, shapeCast S1024 q shapeCasts_S1x1024_S1024 (ix1 k) = q (ix2 0 k) := fun q => by pointwise
  unfold weight
  rw [e]
  refine congrArg w (funext fun a => Fin.ext ?_)
  match a with
  | 0 => show n.val + 0 = n.val; omega
  | 1 => show 0 + k.val = k.val; omega

/-- The first taps' sum. -/
theorem sums_apply (u : FVec Ideal S4x8192x1024 .f32) (w : FVec Ideal S31x1024 .f32) (s : Fin 4) (p : Fin 8192) (k : Fin 1024) :
    ∀ (n : ℕ) (hn : n ≤ 31), sums (padded u) w n hn (ix3 s p k)
      = ∑ h : Fin n, Conv.past u s p ⟨h.val, by omega⟩ k * w (ix2 ⟨h.val, by omega⟩ k)
  | 0, _ => by
    show Ideal.ofBits .f32 0x00000000#32 = _
    rw [Ideal.ofBits_zero_f32, Fin.sum_univ_zero]
  | n + 1, hn => by
    rw [Fin.sum_univ_castSucc]
    refine congrArg₂ (· + ·) (sums_apply u w s p k n (by omega)) ?_
    exact congrArg₂ (· * ·) (met_apply u _ s p k) ((spreadRow_apply _ s p k).trans (weight_apply w _ k))

/-- A convolved row. -/
theorem convs_apply (u : FVec Ideal S4x8192x1024 .f32) (w : FVec Ideal S31x1024 .f32) (b : FVec Ideal S1024 .f32) (s : Fin 4) (p : Fin 8192) (k : Fin 1024) :
    convs u w b (ix3 s p k) = Conv.conv u w b s p k :=
  congrArg₂ (· + ·) (sums_apply u w s p k 31 le_rfl) (spreadRow_apply b s p k)

/-- A row's mean, -/
theorem means_apply (a : FVec Ideal S4x8192x1024 .f32) (s : Fin 4) (p : Fin 8192) :
    means (rowSums a) (ix3 s p 0) = Conv.mean (fun k => a (ix3 s p k)) := by
  have e : ∀ q : FVec Ideal S4x8192 .f32, means q (ix3 s p 0) = Ideal.div (q (ix2 s p)) (Ideal.ofBits .f32 0x44800000#32) := fun q => by pointwise [means]
  exact (e _).trans (congrArg (fun z => Ideal.div z (Ideal.ofBits .f32 0x44800000#32)) (Reductions.lastSum3 _ _ _ s p))
/-- its distances from it -/
theorem devs_apply (a : FVec Ideal S4x8192x1024 .f32) (s : Fin 4) (p : Fin 8192) (k : Fin 1024) :
    devs a (ix3 s p k) = Conv.dev (fun k => a (ix3 s p k)) k := by
  have e : ∀ q : FVec Ideal S4x8192x1 .f32, subf a (broadcastInDim S4x8192x1024 ![0, 1, 2] bcast_S4x8192x1_S4x8192x1024_0_1_2 q) (ix3 s p k)
      = a (ix3 s p k) - q (ix3 s p 0) := fun q => by pointwise
  unfold devs Conv.dev
  rw [e, means_apply]
/-- and its inverse standard deviation. -/
theorem spreads_apply (a : FVec Ideal S4x8192x1024 .f32) (s : Fin 4) (p : Fin 8192) :
    spreads (means (rowSums (mulf (devs a) (devs a)))) (ix3 s p 0) = Conv.spread (fun k => a (ix3 s p k)) := by
  have e : ∀ q : FVec Ideal S4x8192x1 .f32, spreads q (ix3 s p 0) = Ideal.rsqrt (q (ix3 s p 0) + Ideal.ofBits .f32 0x358637BD#32) := fun q => by
    pointwise [spreads]
  rw [e, means_apply]
  unfold Conv.spread
  refine congrArg (fun f => Ideal.rsqrt (Conv.mean f + Ideal.ofBits .f32 0x358637BD#32)) (funext fun k => ?_)
  exact congrArg₂ (· * ·) (devs_apply a s p k) (devs_apply a s p k)

/-- A normed row. -/
theorem normed_apply (a : FVec Ideal S4x8192x1024 .f32) (g h : FVec Ideal S1024 .f32) (s : Fin 4) (p : Fin 8192) (k : Fin 1024) :
    normed a g h (ix3 s p k) = Conv.normed (fun k => a (ix3 s p k)) (fun k => g (ix1 k)) (fun k => h (ix1 k)) k := by
  have e : ∀ (d : FVec Ideal S4x8192x1024 .f32) (q : FVec Ideal S4x8192x1 .f32), norms d q g h (ix3 s p k)
      = d (ix3 s p k) * q (ix3 s p 0) * g (ix1 k) + h (ix1 k) := fun d q => by pointwise [norms, spreadRow]
  unfold normed Conv.normed
  rw [e, devs_apply, spreads_apply]

/-- An activation. -/
theorem acts_apply (y : FVec Ideal S4x8192x1024 .f32) (s : Fin 4) (p : Fin 8192) (k : Fin 1024) : acts y (ix3 s p k) = Conv.silu (y (ix3 s p k)) := by
  unfold Conv.silu Glu.gate Glu.one
  rw [Ideal.ofBits_one_f32]
  pointwise [acts]

/-- An output of a row. -/
theorem prods_apply (y : FVec Ideal S4x8192x1024 .f32) (w : FVec Ideal S1024x1024 .f32) (s : Fin 4) (p : Fin 8192) (j : Fin 1024) :
    prods y w (ix3 s p j) = ∑ k : Fin 1024, y (ix3 s p k) * w (ix2 k j) := by
  unfold prods
  simp only [Host.dotGeneral]
  rw [Ideal.dotGeneral_def]
  refine (Ideal.matmul_apply₁_of dot_S4x8192x1024_S1024x1024_S4x8192x1024_2_0_01_1_n_n (a := 2) rfl (K := 1024) rfl y w _ (ix3 s p j)
    (fun k => ix3 s p k) (fun k => ix2 k j) (fun k => ?_) (fun k => ?_)).trans ?_
  · pointwise
  · pointwise
  · exact zero_add _

/-- The gate and the residual of an output. -/
theorem finish_apply (o x : FVec Ideal S4x8192x1024 .f32) (m : FVec Ideal S4x1024 .f32) (β : FVec Ideal S1024 .f32) (s : Fin 4) (p : Fin 8192) (j : Fin 1024) :
    finish o x m β (ix3 s p j) = x (ix3 s p j) + m (ix2 s j) * (o (ix3 s p j) + β (ix1 j)) := by
  pointwise [finish, spreadRow]

/-- A row of the result. -/
theorem joined_apply (x : FVec Ideal S4x8192x1024 .f32) (i : Fin 32768) (k : Fin 1024) : joined x (ix2 i k) = x (ix3 (Glu.seqOf i) (Glu.rowOf i) k) := by
  pointwise [joined]
  rfl

/-- The stages in turn give the result. -/
theorem stages_eq (u x : FVec Ideal S4x8192x1024 .f32) (m : FVec Ideal S4x1024 .f32) (w : FVec Ideal S31x1024 .f32) (b g h : FVec Ideal S1024 .f32)
    (v : FVec Ideal S1024x1024 .f32) (β : FVec Ideal S1024 .f32) :
    tail (normed (convs u w b) g h) x m v β = Conv.result u x m w b g h v β := by
  funext i
  obtain ⟨a, j, rfl⟩ : ∃ (a : Fin 32768) (j : Fin 1024), i = ix2 a j := ⟨i 0, i 1, funext fun a => by
    match a with
    | 0 => rfl
    | 1 => rfl⟩
  unfold tail
  rw [joined_apply, finish_apply, prods_apply]
  simp only [acts_apply, normed_apply, convs_apply]
  rfl

/-! ## The run's term -/

/-- The rows a tap meets, by the first of them, -/
theorem met_of (e : FVec Ideal S4x8222x1024 .f32) (n : Fin 31) (o : ℕ) (inb : S4x8222x1024.Slices ![0, o, 0] S4x8192x1024) (h : o = n.val) :
    extractStridedSlice S4x8192x1024 ![0, o, 0] e inb = met e n := by
  subst h; rfl
/-- and its weights, by their row. -/
theorem weight_of (w : FVec Ideal S31x1024 .f32) (n : Fin 31) (o : ℕ) (inb : S31x1024.Slices ![o, 0] S1x1024) (h : o = n.val) :
    shapeCast S1024 (extractStridedSlice S1x1024 ![o, 0] w inb) shapeCasts_S1x1024_S1024 = weight w n := by
  subst h; rfl

variable (V0 : Valuation τ sig (Elt Ideal))

/-- The arguments the convolution reads. -/
def rows : FVec Ideal S4x8192x1024 .f32 := V0 (Proc.devRef .tc main_arg0)
def taps : FVec Ideal S31x1024 .f32 := V0 (Proc.devRef .tc main_arg3)

/-- The sum over the first taps as a chain, -/
theorem sums_11 (e : FVec Ideal S4x8222x1024 .f32) (w : FVec Ideal S31x1024 .f32) (h : 11 ≤ 31) :
    sums e w 11 h = [0, 1, 2, 3, 4, 5, 6, 7, 8, 9, 10].foldl (add e w) start := rfl
/-- over the next, -/
theorem sums_22 (e : FVec Ideal S4x8222x1024 .f32) (w : FVec Ideal S31x1024 .f32) (h : 22 ≤ 31) (h' : 11 ≤ 31) :
    sums e w 22 h = [11, 12, 13, 14, 15, 16, 17, 18, 19, 20, 21].foldl (add e w) (sums e w 11 h') := rfl
/-- and over the last. -/
theorem sums_31 (e : FVec Ideal S4x8222x1024 .f32) (w : FVec Ideal S31x1024 .f32) (h : 31 ≤ 31) (h' : 22 ≤ 31) :
    sums e w 31 h = [22, 23, 24, 25, 26, 27, 28, 29, 30].foldl (add e w) (sums e w 22 h') := rfl

/-- The first taps' sum, -/
theorem v78_eq : Value.res_main_v78 V0 = sums (padded (rows V0)) (taps V0) 11 (by decide) := by
  rw [sums_11]
  unfold Value.res_main_v78
  simp only [List.foldl, add]
  iterate 11 refine congrArg₂ addf ?_ (congrArg₂ mulf (met_of _ _ _ _ rfl) (congrArg spreadRow (weight_of _ _ _ _ rfl)))
  rfl
/-- the next taps' -/
theorem v155_eq : Value.res_main_v155 V0 = sums (padded (rows V0)) (taps V0) 22 (by decide) := by
  rw [sums_22 _ _ _ (by decide), ← v78_eq]
  unfold Value.res_main_v155
  simp only [List.foldl, add]
  iterate 11 refine congrArg₂ addf ?_ (congrArg₂ mulf (met_of _ _ _ _ rfl) (congrArg spreadRow (weight_of _ _ _ _ rfl)))
  rfl
/-- and the whole convolution, -/
theorem v221_eq : Value.res_main_v221 V0 = convs (rows V0) (taps V0) (V0 (Proc.devRef .tc main_arg4)) := by
  unfold convs
  rw [sums_31 _ _ _ (by decide), ← v155_eq]
  unfold Value.res_main_v221
  simp only [List.foldl, add]
  refine congrArg₂ addf ?_ rfl
  iterate 9 refine congrArg₂ addf ?_ (congrArg₂ mulf (met_of _ _ _ _ rfl) (congrArg spreadRow (weight_of _ _ _ _ rfl)))
  rfl
/-- normed. -/
theorem v245_eq : Value.res_main_v245 V0
    = normed (Value.res_main_v221 V0) (V0 (Proc.devRef .tc main_arg5)) (V0 (Proc.devRef .tc main_arg6)) := by
  unfold Value.res_main_v245 Value.res_main_v227 Value.res_main_v225
  rfl

/-- The reference's result at arguments equal to given arrays. -/
theorem whole_of (m : (ℓ : Loc nD τ sig) → Buf (Elt Ideal) ℓ) (c : Dev nD) (u x : Glu.Xs) (g : Glu.Mods) (w : Conv.Taps) (b lg lb : Glu.Gains)
    (v : Conv.Sq) (β : Glu.Gains)
    (h : m (c.tc.loc main_arg0) = u ∧ m (c.tc.loc main_arg1) = x ∧ m (c.tc.loc main_arg2) = g ∧ m (c.tc.loc main_arg3) = w
      ∧ m (c.tc.loc main_arg4) = b ∧ m (c.tc.loc main_arg5) = lg ∧ m (c.tc.loc main_arg6) = lb ∧ m (c.tc.loc main_arg7) = v
      ∧ m (c.tc.loc main_arg8) = β) :
    tail (Value.res_main_v245 (StableHlo.launchContents m c)) (m (c.tc.loc main_arg1)) (m (c.tc.loc main_arg2)) (m (c.tc.loc main_arg7))
      (m (c.tc.loc main_arg8)) = Conv.result u x g w b lg lb v β := by
  obtain ⟨rfl, rfl, rfl, rfl, rfl, rfl, rfl, rfl, rfl⟩ := h
  rw [v245_eq, v221_eq]
  exact stages_eq _ _ _ _ _ _ _ _ _

end Cert.Reference5Ideal.Mix

end
-- ==== Proof.Proj.lean ====
/- The projections of a normed row to heads, over the extended reals. -/
module

public import proofs.«01_k».proof.Proof.Glu

@[expose] public section

noncomputable section

namespace Cert.Proj

open Idealize.ShloMosaic

/-- The arrays of the call. -/
abbrev Ws := FVec Ideal ⟨2, ![1024, 2608]⟩ .f32
abbrev QGains := FVec Ideal ⟨1, ![64]⟩ .f32
abbrev KGains := FVec Ideal ⟨2, ![3, 64]⟩ .f32
abbrev Waves := FVec Ideal ⟨2, ![8192, 8]⟩ .f32
abbrev QOut := FVec Ideal ⟨3, ![16, 32768, 128]⟩ .bf16
abbrev KOut := FVec Ideal ⟨3, ![24, 32768, 128]⟩ .bf16
abbrev GOut := FVec Ideal ⟨2, ![32768, 128]⟩ .f32

/-- A head under its inverse root mean square. -/
def unit (z : Fin 64 → EReal) (d : Fin 64) : EReal :=
  z d * Ideal.rsqrt (Ideal.div (∑ k, z k * z k) (Ideal.ofBits .f32 0x42800000#32) + Ideal.ofBits .f32 0x358637BD#32)

/-- A head whose first 16 numbers are turned, in pairs eight apart, by eight angles. -/
def rot (t : Fin 64 → EReal) (c s : Fin 8 → EReal) (d : Fin 64) : EReal :=
  if h : d.val < 8 then t d * c ⟨d.val, h⟩ - t ⟨d.val + 8, by omega⟩ * s ⟨d.val, h⟩
  else if h' : d.val < 16 then t d * c ⟨d.val - 8, by omega⟩ + t ⟨d.val - 8, by omega⟩ * s ⟨d.val - 8, by omega⟩
  else t d

/-- A head laid in 128 lanes, zeros after it. -/
def lane (u : Fin 64 → EReal) (l : Fin 128) : EReal := if h : l.val < 64 then u ⟨l.val, h⟩ else 0

/-- Row `p` of sequence `s` under the weights. -/
def cell (x : Glu.Xs) (sc sh : Glu.Mods) (g : Glu.Gains) (w : Ws) (s : Fin 4) (p : Fin 8192) (n : Fin 2608) : EReal :=
  ∑ k, Glu.normed (fun k => x (ix3 s p k)) (Glu.factor g sc s) (fun k => sh (ix2 s k)) k * w (ix2 k n)

/-- Head `h` of 40. -/
def head (y : Fin 2608 → EReal) (h : Fin 40) (d : Fin 64) : EReal := y ⟨64 * h.val + d.val, by omega⟩

/-- Key and value head `h` of 24 among the 40. -/
def later (h : Fin 24) : Fin 40 := ⟨16 + h.val, by omega⟩

/-- A query head's numbers. -/
def query (y : Fin 2608 → EReal) (qg : QGains) (c s : Fin 8 → EReal) (h : Fin 16) : Fin 64 → EReal :=
  rot (fun d => unit (head y ⟨h.val, by omega⟩) d * (qg (ix1 d) * Ideal.ofBits .f32 0x3E000000#32)) c s

/-- A key or value head's numbers: the third and fifth groups of four are normed and turned. -/
def keyval (y : Fin 2608 → EReal) (kg : KGains) (c s : Fin 8 → EReal) (h : Fin 24) : Fin 64 → EReal :=
  if h.val / 4 = 2 then rot (fun d => unit (head y (later h)) d * kg (ix2 1 d)) c s
  else if h.val / 4 = 4 then rot (fun d => unit (head y (later h)) d * kg (ix2 2 d)) c s
  else head y (later h)

/-- A gate's logit in its lane, zeros after the 48. -/
def logit (y : Fin 2608 → EReal) (l : Fin 128) : EReal := if h : l.val < 48 then y ⟨2560 + l.val, by omega⟩ else 0

/-- The queries, -/
def queries (x : Glu.Xs) (sc sh : Glu.Mods) (g : Glu.Gains) (w : Ws) (qg : QGains) (C S : Waves) : QOut := fun j =>
  lane (query (cell x sc sh g w (Glu.seqOf (j 1)) (Glu.rowOf (j 1))) qg (fun k => C (ix2 (Glu.rowOf (j 1)) k)) (fun k => S (ix2 (Glu.rowOf (j 1)) k)) (j 0)) (j 2)
/-- the keys and values, -/
def keyvals (x : Glu.Xs) (sc sh : Glu.Mods) (g : Glu.Gains) (w : Ws) (kg : KGains) (C S : Waves) : KOut := fun j =>
  lane (keyval (cell x sc sh g w (Glu.seqOf (j 1)) (Glu.rowOf (j 1))) kg (fun k => C (ix2 (Glu.rowOf (j 1)) k)) (fun k => S (ix2 (Glu.rowOf (j 1)) k)) (j 0)) (j 2)
/-- and the gates' logits. -/
def logits (x : Glu.Xs) (sc sh : Glu.Mods) (g : Glu.Gains) (w : Ws) : GOut := fun j =>
  logit (cell x sc sh g w (Glu.seqOf (j 0)) (Glu.rowOf (j 0))) (j 1)

/-- Zeros stay out of a sum over the lanes. -/
theorem lane_squares (z : Fin 64 → EReal) : (∑ l, lane z l * lane z l) = ∑ k, z k * z k := by
  refine (Fin.sum_univ_add (a := 64) (b := 64) fun l => lane z l * lane z l).trans ?_
  have a : ∀ i : Fin 64, lane z (Fin.castAdd 64 i) = z i := fun i => by
    unfold lane
    rw [dif_pos (show (Fin.castAdd 64 i).val < 64 from i.isLt)]
    rfl
  have b : ∀ i : Fin 64, lane z (Fin.natAdd 64 i) = 0 := fun i => by
    unfold lane
    rw [dif_neg (show ¬ (Fin.natAdd 64 i).val < 64 from by show ¬ 64 + i.val < 64; omega)]
  simp only [a, b, mul_zero, Finset.sum_const_zero, add_zero]

/-- The word of 64 and that of its inverse. -/
theorem mul_word (a : EReal) : a * Ideal.ofBits .f32 0x3C800000#32 = Ideal.div a (Ideal.ofBits .f32 0x42800000#32) := by
  have e1 : Ideal.ofBits .f32 0x42800000#32 = ((64 : ℝ) : EReal) := by
    simp [Ideal.ofBits, Ideal.ieee]
    rw [← EReal.coe_mul]
    norm_num
  have e2 : Ideal.ofBits .f32 0x3C800000#32 = ((1 / 64 : ℝ) : EReal) := by
    simp [Ideal.ofBits, Ideal.ieee]
    rw [← EReal.coe_mul]
    norm_num
  rw [e1, e2, Ideal.div_coe (by norm_num)]

/-- A lane turned: its own number under `C`, the one eight after it under `A`, the one eight before it under `B`. -/
theorem turn (t : Fin 64 → EReal) (c s : Fin 8 → EReal) (C A B : Fin 128 → EReal)
    (hC : ∀ l, C l = if h : l.val < 16 then c ⟨l.val % 8, Nat.mod_lt _ (by decide)⟩ else 1)
    (hA : ∀ l, A l = if h : l.val < 8 then - s ⟨l.val, h⟩ else 0)
    (hB : ∀ l, B l = if h : 8 ≤ l.val ∧ l.val < 16 then s ⟨l.val - 8, by omega⟩ else 0) (l : Fin 128) :
    lane t l * C l + lane t ⟨(l.val + 8) % 128, Nat.mod_lt _ (by decide)⟩ * A l + lane t ⟨(l.val + 120) % 128, Nat.mod_lt _ (by decide)⟩ * B l
      = lane (rot t c s) l := by
  have hl := l.isLt
  rw [hC, hA, hB]
  by_cases h1 : l.val < 8
  · rw [dif_pos (by omega), dif_pos h1, dif_neg (by omega), mul_zero, add_zero]
    have e : lane t ⟨(l.val + 8) % 128, Nat.mod_lt _ (by decide)⟩ = t ⟨l.val + 8, by omega⟩ := by
      unfold lane
      rw [dif_pos (show (l.val + 8) % 128 < 64 by omega)]
      exact congrArg t (Fin.ext (show (l.val + 8) % 128 = l.val + 8 by omega))
    rw [e]
    unfold lane rot
    rw [dif_pos (show l.val < 64 by omega), dif_pos (show l.val < 64 by omega), dif_pos (show l.val < 8 from h1), mul_neg, sub_eq_add_neg]
    rw [show (⟨l.val % 8, Nat.mod_lt _ (by decide)⟩ : Fin 8) = ⟨l.val, h1⟩ from Fin.ext (Nat.mod_eq_of_lt h1)]
  · by_cases h2 : l.val < 16
    · rw [dif_pos h2, dif_neg h1, dif_pos ⟨by omega, h2⟩, mul_zero, add_zero]
      have e : lane t ⟨(l.val + 120) % 128, Nat.mod_lt _ (by decide)⟩ = t ⟨l.val - 8, by omega⟩ := by
        unfold lane
        rw [dif_pos (show (l.val + 120) % 128 < 64 by omega)]
        exact congrArg t (Fin.ext (show (l.val + 120) % 128 = l.val - 8 by omega))
      rw [e]
      unfold lane rot
      rw [dif_pos (show l.val < 64 by omega), dif_pos (show l.val < 64 by omega), dif_neg (show ¬ l.val < 8 from h1), dif_pos (show l.val < 16 from h2)]
      rw [show (⟨l.val % 8, Nat.mod_lt _ (by decide)⟩ : Fin 8) = ⟨l.val - 8, by omega⟩ from Fin.ext (show l.val % 8 = l.val - 8 by omega)]
    · rw [dif_neg h2, dif_neg h1, dif_neg (by omega), mul_zero, mul_zero, add_zero, add_zero, mul_one]
      unfold lane rot
      by_cases h3 : l.val < 64
      · rw [dif_pos h3, dif_pos h3, dif_neg (show ¬ l.val < 8 from h1), dif_neg (show ¬ l.val < 16 from h2)]
      · rw [dif_neg h3, dif_neg h3]

/-- A head in its lanes, normed under the lanes' gains. -/
def gained (z g : Fin 128 → EReal) (l : Fin 128) : EReal :=
  z l * Ideal.rsqrt ((∑ k, z k * z k) * Ideal.ofBits .f32 0x3C800000#32 + Ideal.ofBits .f32 0x358637BD#32) * g l

/-- That head turned. -/
def spin (z g C A B : Fin 128 → EReal) (l : Fin 128) : EReal :=
  gained z g l * C l + gained z g ⟨(l.val + 8) % 128, Nat.mod_lt _ (by decide)⟩ * A l
    + gained z g ⟨(l.val + 120) % 128, Nat.mod_lt _ (by decide)⟩ * B l

/-- The norm in the lanes is the head's. -/
theorem gained_lane (u k : Fin 64 → EReal) (l : Fin 128) : gained (lane u) (lane k) l = lane (fun d => unit u d * k d) l := by
  unfold gained
  rw [lane_squares, mul_word]
  unfold lane
  by_cases h : l.val < 64
  · rw [dif_pos h, dif_pos h, dif_pos h]
    rfl
  · rw [dif_neg h, dif_neg h, dif_neg h, mul_zero]

/-- The turn in the lanes is the head's. -/
theorem spin_lane (u k : Fin 64 → EReal) (c s : Fin 8 → EReal) (C A B : Fin 128 → EReal)
    (hC : ∀ l, C l = if h : l.val < 16 then c ⟨l.val % 8, Nat.mod_lt _ (by decide)⟩ else 1)
    (hA : ∀ l, A l = if h : l.val < 8 then - s ⟨l.val, h⟩ else 0)
    (hB : ∀ l, B l = if h : 8 ≤ l.val ∧ l.val < 16 then s ⟨l.val - 8, by omega⟩ else 0) (l : Fin 128) :
    spin (lane u) (lane k) C A B l = lane (rot (fun d => unit u d * k d) c s) l := by
  unfold spin
  rw [gained_lane, gained_lane, gained_lane]
  exact turn _ c s C A B hC hA hB l

end Cert.Proj

end
-- ==== Proof.ProjRow.lean ====
/- The payloads of the projections' call at an index, over the extended reals. -/
module

public import proofs.«01_k».proof.Proof.Gen.Kernel6Ideal.Frame
public import proofs.«01_k».proof.Proof.Reductions
public import proofs.«01_k».proof.Proof.Proj
public import Idealize.ShloMosaic.Lib.Pointwise
public import Idealize.ShloMosaic.Lib.KernelVsHost
public import Idealize.ShloMosaic.Lib.Pipeline.ValueKit
public import Idealize.ShloMosaic.Lib.Pipeline.Value

@[expose] public section

set_option maxRecDepth 16384

noncomputable section

namespace Cert.Kernel6Ideal.Proj

open Cert.Kernel6Ideal Cert.Kernel6Ideal.Gen
open Idealize.ShloMosaic Idealize.ShloMosaic.TcCoe

/-! ## The rows under the weights -/

/-- The rows' sums of squares. -/
def squares (x : FVec Ideal S256x1024 .f32) : FVec Ideal S256 .f32 :=
  multiReduction .add [1] S256 (mulf (shapeCast S256x1024 x shapeCasts_S256x1024_S256x1024) (shapeCast S256x1024 x shapeCasts_S256x1024_S256x1024))
    0x00000000#32 reduces_S256x1024_S256 (.inl rfl) rfl

/-- Their inverse root means. -/
def scales (q : FVec Ideal S256 .f32) : FVec Ideal S256x1 .f32 :=
  rsqrt (addf (divf (shapeCast S256x1 q shapeCasts_S256_S256x1) (broadcast S256x1 (FloatOps.ofBits .f32 0x44800000#32)))
    (broadcast S256x1 (FloatOps.ofBits .f32 0x358637BD#32)))

/-- The rows scaled and modulated. -/
def mods (x : FVec Ideal S256x1024 .f32) (r : FVec Ideal S256x1 .f32) (a b : FVec Ideal S1x1x1024 .f32) : FVec Ideal S256x1024 .bf16 :=
  truncf .bf16 (addf (mulf (mulf (shapeCast S256x1024 x shapeCasts_S256x1024_S256x1024) (broadcastTo S256x1024 r broadcasts_S256x1_S256x1024))
      (broadcastTo S256x1024 (shapeCast S1x1024 a shapeCasts_S1x1x1024_S1x1024) broadcasts_S1x1024_S256x1024))
    (broadcastTo S256x1024 (shapeCast S1x1024 b shapeCasts_S1x1x1024_S1x1024) broadcasts_S1x1024_S256x1024)) bitsLt_bf16_f32

/-- The rows under the weights. -/
def prods (y : FVec Ideal S256x1024 .bf16) (w : FVec Ideal S1024x5248 .bf16) : FVec Ideal S256x5248 .f32 :=
  matmul dot_S256x1024_S1024x5248_S256x5248_1_0_0_1_n_n none y (shapeCast S1024x5248 w shapeCasts_S1024x5248_S1024x5248)
    (constant S256x5248 .f32 0x00000000#32)

/-- The product is the stages in turn. -/
theorem pay3_eq (x : FVec Ideal S256x1024 .f32) (a b : FVec Ideal S1x1x1024 .f32) (w : FVec Ideal S1024x5248 .bf16) :
    k0_pay3 (F := Ideal) x a b w = prods (mods x (scales (squares x)) a b) w := rfl

/-- A row's sum of squares. -/
theorem squares_apply (x : FVec Ideal S256x1024 .f32) (r : Fin 256) : squares x (ix1 r) = ∑ k : Fin 1024, x (ix2 r k) * x (ix2 r k) := by
  unfold squares
  rw [Idealize.ShloMosaic.shapeCast_self]
  exact Reductions.rowSum _ _ _ _ _ r

/-- A row's scale. -/
theorem scales_apply (q : FVec Ideal S256 .f32) (r : Fin 256) :
    scales q (ix2 r 0) = Ideal.rsqrt (Ideal.div (q (ix1 r)) (Ideal.ofBits .f32 0x44800000#32) + Ideal.ofBits .f32 0x358637BD#32) := by
  pointwise [scales]

/-- An element of a modulated row. -/
theorem mods_apply (x : FVec Ideal S256x1024 .f32) (r : FVec Ideal S256x1 .f32) (a b : FVec Ideal S1x1x1024 .f32) (i : Fin 256) (k : Fin 1024) :
    mods x r a b (ix2 i k) = x (ix2 i k) * r (ix2 i 0) * a (ix3 0 0 k) + b (ix3 0 0 k) := by
  pointwise [mods]

/-- An output of a row. -/
theorem prods_apply (y : FVec Ideal S256x1024 .bf16) (w : FVec Ideal S1024x5248 .bf16) (i : Fin 256) (j : Fin 5248) :
    prods y w (ix2 i j) = ∑ k : Fin 1024, y (ix2 i k) * w (ix2 k j) := by
  unfold prods
  rw [Idealize.ShloMosaic.shapeCast_self]
  refine (Ideal.matmul_apply₁_of dot_S256x1024_S1024x5248_S256x5248_1_0_0_1_n_n (a := 1) rfl (K := 1024) rfl y w _ (ix2 i j)
    (fun k => ix2 i k) (fun k => ix2 k j) (fun k => ?_) (fun k => ?_)).trans ?_
  · pointwise
  · pointwise
  · rw [show (constant (F := Ideal) S256x5248 .f32 0x00000000#32) (ix2 i j) = (0 : EReal) from Ideal.ofBits_zero_f32]; exact zero_add _

/-- The product at an index. -/
theorem pay3_apply (x : FVec Ideal S256x1024 .f32) (a b : FVec Ideal S1x1x1024 .f32) (w : FVec Ideal S1024x5248 .bf16) (i : Fin 256) (j : Fin 5248) :
    k0_pay3 (F := Ideal) x a b w (ix2 i j)
      = ∑ k : Fin 1024, Glu.normed (fun k => x (ix2 i k)) (fun k => a (ix3 0 0 k)) (fun k => b (ix3 0 0 k)) k * w (ix2 k j) := by
  rw [pay3_eq, prods_apply]
  simp only [mods_apply, scales_apply, squares_apply]
  rfl

/-! ## The heads -/

/-- 128 of the product's columns. -/
def part (o : Fin 2 → ℕ) (h : S256x5248.Slices o S256x128) (R : FVec Ideal S256x5248 .f32) : FVec Ideal S256x128 .f32 :=
  extractStridedSlice S256x128 o R h

/-- The heads' sums of squares. -/
def lumps (z : FVec Ideal S256x128 .f32) : FVec Ideal S256 .f32 :=
  multiReduction .add [1] S256 (mulf z z) 0x00000000#32 reduces_S256x128_S256 (.inl rfl) rfl

/-- A head under its inverse root mean and the gain. -/
def scaled (z : FVec Ideal S256x128 .f32) (q : FVec Ideal S256 .f32) (g : FVec Ideal S1x128 .f32) : FVec Ideal S256x128 .f32 :=
  mulf (mulf z (broadcastTo S256x128 (rsqrt (addf (mulf (shapeCast S256x1 q shapeCasts_S256_S256x1) (broadcast S256x1 (Scalar.ofBits .f32 0x3C800000#32)))
      (broadcast S256x1 (Scalar.ofBits .f32 0x358637BD#32)))) broadcasts_S256x1_S256x128))
    (broadcastTo S256x128 (shapeCast S1x128 g shapeCasts_S1x128_S1x128) broadcasts_S1x128_S256x128)

/-- A head turned by its angles. -/
def turned (t C A B : FVec Ideal S256x128 .f32) : FVec Ideal S256x128 .f32 :=
  addf (addf (mulf t C) (mulf (dynamicRotate 1 120#32 none t rotates_S256x128_d1) A)) (mulf (dynamicRotate 1 8#32 none t rotates_S256x128_d1) B)

/-- A head as one of the output's. -/
def laid (z : FVec Ideal S256x128 .f32) : FVec Ideal S1x256x128 .bf16 :=
  shapeCast S1x256x128 (truncf .bf16 z bitsLt_bf16_f32) shapeCasts_S256x128_S1x256x128

/-- A normed and turned head. -/
def spun (o : Fin 2 → ℕ) (h : S256x5248.Slices o S256x128) (R : FVec Ideal S256x5248 .f32) (C A B : FVec Ideal S256x128 .f32) (g : FVec Ideal S1x128 .f32) :
    FVec Ideal S1x256x128 .bf16 :=
  laid (turned (scaled (part o h R) (lumps (part o h R)) g) C A B)

/-- An element of 128 columns. -/
theorem part_apply (n : ℕ) (h : S256x5248.Slices ![0, n] S256x128) (R : FVec Ideal S256x5248 .f32) (i : Fin 256) (l : Fin 128) (j : Fin 5248) (hj : j.val = n + l.val) :
    part ![0, n] h R (ix2 i l) = R (ix2 i j) := by
  refine extractStridedSlice_apply ![0, n] R h (ix2 i l) (ix2 i j) fun a => ?_
  match a with
  | 0 => show i.val = 0 + i.val; omega
  | 1 => show j.val = n + l.val; exact hj

/-- A head's sum of squares. -/
theorem lumps_apply (z : FVec Ideal S256x128 .f32) (i : Fin 256) : lumps z (ix1 i) = ∑ l : Fin 128, z (ix2 i l) * z (ix2 i l) :=
  Reductions.rowSum _ _ _ _ _ i

/-- An element of a scaled head. -/
theorem scaled_apply (z : FVec Ideal S256x128 .f32) (q : FVec Ideal S256 .f32) (g : FVec Ideal S1x128 .f32) (i : Fin 256) (l : Fin 128) :
    scaled z q g (ix2 i l) = z (ix2 i l) * Ideal.rsqrt (q (ix1 i) * Ideal.ofBits .f32 0x3C800000#32 + Ideal.ofBits .f32 0x358637BD#32) * g (ix2 0 l) := by
  pointwise [scaled]

/-- An element of a turned head. -/
theorem turned_apply (t C A B : FVec Ideal S256x128 .f32) (i : Fin 256) (l : Fin 128) :
    turned t C A B (ix2 i l) = t (ix2 i l) * C (ix2 i l) + t (ix2 i ⟨(l.val + 8) % 128, Nat.mod_lt _ (by decide)⟩) * A (ix2 i l)
      + t (ix2 i ⟨(l.val + 120) % 128, Nat.mod_lt _ (by decide)⟩) * B (ix2 i l) := by
  have e1 : dynamicRotate 1 120#32 none t rotates_S256x128_d1 (ix2 i l) = t (ix2 i ⟨(l.val + 8) % 128, Nat.mod_lt _ (by decide)⟩) := by
    refine dynamicRotate_apply 1 120#32 t _ _ _ fun b => ?_
    match b with
    | 0 => rfl
    | 1 =>
      have := l.isLt
      show (l.val + 8) % 128 = (l.val + 128 - 120 % 128) % 128
      omega
  have e2 : dynamicRotate 1 8#32 none t rotates_S256x128_d1 (ix2 i l) = t (ix2 i ⟨(l.val + 120) % 128, Nat.mod_lt _ (by decide)⟩) := by
    refine dynamicRotate_apply 1 8#32 t _ _ _ fun b => ?_
    match b with
    | 0 => rfl
    | 1 =>
      have := l.isLt
      show (l.val + 120) % 128 = (l.val + 128 - 8 % 128) % 128
      omega
  show t (ix2 i l) * C (ix2 i l) + dynamicRotate 1 120#32 none t rotates_S256x128_d1 (ix2 i l) * A (ix2 i l)
    + dynamicRotate 1 8#32 none t rotates_S256x128_d1 (ix2 i l) * B (ix2 i l) = _
  rw [e1, e2]

/-- An element of a head laid out. -/
theorem laid_apply (z : FVec Ideal S256x128 .f32) (i : Fin 256) (l : Fin 128) : laid z (ix3 0 i l) = z (ix2 i l) := by
  pointwise [laid]

end Cert.Kernel6Ideal.Proj

end
-- ==== Proof.ProjHeads.lean ====
/- The heads that a point of the projections' call stores, over the extended reals. -/
module

public import proofs.«01_k».proof.Proof.ProjRow

@[expose] public section

set_option maxRecDepth 16384

noncomputable section

namespace Cert.Kernel6Ideal.Proj

open Cert.Kernel6Ideal Cert.Kernel6Ideal.Gen
open Idealize.ShloMosaic Idealize.ShloMosaic.TcCoe

/-- A lane of 128 of the product's columns from head `n` of 40. -/
def span (R : FVec Ideal S256x5248 .f32) (i : Fin 256) (n : Fin 40) (l : Fin 128) : EReal := R (ix2 i ⟨128 * n.val + l.val, by omega⟩)

/-- A normed and turned head at an element. -/
theorem spun_apply (n : Fin 40) (o : ℕ) (ho : o = 128 * n.val) (h : S256x5248.Slices ![0, o] S256x128) (R : FVec Ideal S256x5248 .f32)
    (C A B : FVec Ideal S256x128 .f32) (g : FVec Ideal S1x128 .f32) (i : Fin 256) (l : Fin 128) :
    spun ![0, o] h R C A B g (ix3 0 i l)
      = Cert.Proj.spin (span R i n) (fun l => g (ix2 0 l)) (fun l => C (ix2 i l)) (fun l => A (ix2 i l)) (fun l => B (ix2 i l)) l := by
  have e : ∀ l : Fin 128, part ![0, o] h R (ix2 i l) = span R i n l := fun l =>
    part_apply o h R i l _ (by show 128 * n.val + l.val = o + l.val; omega)
  have f : ∀ l : Fin 128, scaled (part ![0, o] h R) (lumps (part ![0, o] h R)) g (ix2 i l)
      = Cert.Proj.gained (span R i n) (fun l => g (ix2 0 l)) l := fun l => by
    rw [scaled_apply, lumps_apply, e]
    simp only [e]
    rfl
  unfold spun
  rw [laid_apply, turned_apply, f, f, f]
  rfl

/-- A plain head at an element. -/
theorem plain_apply (n : Fin 40) (o : ℕ) (ho : o = 128 * n.val) (h : S256x5248.Slices ![0, o] S256x128) (R : FVec Ideal S256x5248 .f32)
    (i : Fin 256) (l : Fin 128) : laid (part ![0, o] h R) (ix3 0 i l) = span R i n l := by
  rw [laid_apply]
  exact part_apply o h R i l _ (by show 128 * n.val + l.val = o + l.val; omega)

/-- An index of one head. -/
theorem eq_head (x : S1x256x128.Idx) : x = ix3 0 (x 1) (x 2) := funext fun a => by
  match a with
  | 0 => exact Subsingleton.elim (α := Fin 1) _ _
  | 1 => rfl
  | 2 => rfl

/-! ## The queries -/

/-- The block of queries. -/
def qblock (R : FVec Ideal S256x5248 .f32) (C A B : FVec Ideal S256x128 .f32) (g : FVec Ideal S1x128 .f32) : Vec Ideal S16x256x128 .bf16 := fun y =>
  Cert.Proj.spin (span R (y 1) ⟨(y 0).val, by have : (y 0).val < 16 := (y 0).isLt; omega⟩) (fun l => g (ix2 0 l)) (fun l => C (ix2 (y 1) l)) (fun l => A (ix2 (y 1) l))
    (fun l => B (ix2 (y 1) l)) (y 2)

/-- One head of it. -/
theorem qpiece (R : FVec Ideal S256x5248 .f32) (C A B : FVec Ideal S256x128 .f32) (g : FVec Ideal S1x128 .f32) (n : ℕ) (hn : n < 16) (o : ℕ) (ho : o = 128 * n)
    (h : S256x5248.Slices ![0, o] S256x128) (x : S1x256x128.Idx) (y : S16x256x128.Idx) (h0 : (y 0).val = n + 1 * (x 0).val)
    (h1 : (y 1).val = 0 + 1 * (x 1).val) (h2 : (y 2).val = 0 + 1 * (x 2).val) : spun ![0, o] h R C A B g x = qblock R C A B g y := by
  have hx : (x 0).val < 1 := (x 0).isLt
  have e1 : y 1 = x 1 := Fin.ext (by omega)
  have e2 : y 2 = x 2 := Fin.ext (by omega)
  have e0 : (⟨(y 0).val, by have : (y 0).val < 16 := (y 0).isLt; omega⟩ : Fin 40) = ⟨n, by omega⟩ := Fin.ext (by show (y 0).val = n; omega)
  rw [eq_head x]
  unfold qblock
  rw [e0, e1, e2]
  exact spun_apply ⟨n, by omega⟩ o ho h R C A B g (x 1) (x 2)

/-! ## The keys and values -/

/-- The block of keys and values. -/
def kblock (R : FVec Ideal S256x5248 .f32) (C A B : FVec Ideal S256x128 .f32) (g g' : FVec Ideal S1x128 .f32) : Vec Ideal S24x256x128 .bf16 := fun y =>
  let z := span R (y 1) ⟨16 + (y 0).val, by have : (y 0).val < 24 := (y 0).isLt; omega⟩
  if (y 0).val / 4 = 2 then Cert.Proj.spin z (fun l => g (ix2 0 l)) (fun l => C (ix2 (y 1) l)) (fun l => A (ix2 (y 1) l)) (fun l => B (ix2 (y 1) l)) (y 2)
  else if (y 0).val / 4 = 4 then Cert.Proj.spin z (fun l => g' (ix2 0 l)) (fun l => C (ix2 (y 1) l)) (fun l => A (ix2 (y 1) l)) (fun l => B (ix2 (y 1) l)) (y 2)
  else z (y 2)

/-- One plain head of it, -/
theorem kplain (R : FVec Ideal S256x5248 .f32) (C A B : FVec Ideal S256x128 .f32) (g g' : FVec Ideal S1x128 .f32) (n : ℕ) (hn : n < 24)
    (h2' : n / 4 ≠ 2) (h4' : n / 4 ≠ 4) (o : ℕ) (ho : o = 128 * (16 + n))
    (h : S256x5248.Slices ![0, o] S256x128) (x : S1x256x128.Idx) (y : S24x256x128.Idx) (h0 : (y 0).val = n + 1 * (x 0).val)
    (h1 : (y 1).val = 0 + 1 * (x 1).val) (h2 : (y 2).val = 0 + 1 * (x 2).val) : laid (part ![0, o] h R) x = kblock R C A B g g' y := by
  have hx : (x 0).val < 1 := (x 0).isLt
  have e1 : y 1 = x 1 := Fin.ext (by omega)
  have e2 : y 2 = x 2 := Fin.ext (by omega)
  have e0 : (⟨16 + (y 0).val, by have : (y 0).val < 24 := (y 0).isLt; omega⟩ : Fin 40) = ⟨16 + n, by omega⟩ := Fin.ext (by show 16 + (y 0).val = 16 + n; omega)
  have e : (y 0).val = n := by omega
  rw [eq_head x]
  unfold kblock
  rw [e0, e1, e2, e, if_neg h2', if_neg h4']
  exact plain_apply ⟨16 + n, by omega⟩ o ho h R (x 1) (x 2)

/-- one of the third group, -/
theorem kthird (R : FVec Ideal S256x5248 .f32) (C A B : FVec Ideal S256x128 .f32) (g g' : FVec Ideal S1x128 .f32) (n : ℕ) (hn : n < 24)
    (h2' : n / 4 = 2) (o : ℕ) (ho : o = 128 * (16 + n))
    (h : S256x5248.Slices ![0, o] S256x128) (x : S1x256x128.Idx) (y : S24x256x128.Idx) (h0 : (y 0).val = n + 1 * (x 0).val)
    (h1 : (y 1).val = 0 + 1 * (x 1).val) (h2 : (y 2).val = 0 + 1 * (x 2).val) : spun ![0, o] h R C A B g x = kblock R C A B g g' y := by
  have hx : (x 0).val < 1 := (x 0).isLt
  have e1 : y 1 = x 1 := Fin.ext (by omega)
  have e2 : y 2 = x 2 := Fin.ext (by omega)
  have e0 : (⟨16 + (y 0).val, by have : (y 0).val < 24 := (y 0).isLt; omega⟩ : Fin 40) = ⟨16 + n, by omega⟩ := Fin.ext (by show 16 + (y 0).val = 16 + n; omega)
  have e : (y 0).val = n := by omega
  rw [eq_head x]
  unfold kblock
  rw [e0, e1, e2, e, if_pos h2']
  exact spun_apply ⟨16 + n, by omega⟩ o ho h R C A B g (x 1) (x 2)

/-- and one of the fifth. -/
theorem kfifth (R : FVec Ideal S256x5248 .f32) (C A B : FVec Ideal S256x128 .f32) (g g' : FVec Ideal S1x128 .f32) (n : ℕ) (hn : n < 24)
    (h2' : n / 4 ≠ 2) (h4' : n / 4 = 4) (o : ℕ) (ho : o = 128 * (16 + n))
    (h : S256x5248.Slices ![0, o] S256x128) (x : S1x256x128.Idx) (y : S24x256x128.Idx) (h0 : (y 0).val = n + 1 * (x 0).val)
    (h1 : (y 1).val = 0 + 1 * (x 1).val) (h2 : (y 2).val = 0 + 1 * (x 2).val) : spun ![0, o] h R C A B g' x = kblock R C A B g g' y := by
  have hx : (x 0).val < 1 := (x 0).isLt
  have e1 : y 1 = x 1 := Fin.ext (by omega)
  have e2 : y 2 = x 2 := Fin.ext (by omega)
  have e0 : (⟨16 + (y 0).val, by have : (y 0).val < 24 := (y 0).isLt; omega⟩ : Fin 40) = ⟨16 + n, by omega⟩ := Fin.ext (by show 16 + (y 0).val = 16 + n; omega)
  have e : (y 0).val = n := by omega
  rw [eq_head x]
  unfold kblock
  rw [e0, e1, e2, e, if_neg h2', if_pos h4']
  exact spun_apply ⟨16 + n, by omega⟩ o ho h R C A B g' (x 1) (x 2)

/-! ## What a point stores -/

variable (x0 : FVec Ideal S256x1024 .f32) (x1 x2 : FVec Ideal S1x1x1024 .f32) (x3 : FVec Ideal S1024x5248 .bf16) (x4 : Vec Ideal S1x128 .f32) (x5 : Vec Ideal S3x128 .f32)
  (x6 x7 x8 : FVec Ideal S256x128 .f32)

/-- The product of a point, -/
def R_ : FVec Ideal S256x5248 .f32 := k0_pay82 x0 x1 x2 x3 x4 x5 x6 x7 x8
/-- its three tables, -/
def C_ : FVec Ideal S256x128 .f32 := k0_pay83 x0 x1 x2 x3 x4 x5 x6 x7 x8
/-- the second -/
def A_ : FVec Ideal S256x128 .f32 := k0_pay84 x0 x1 x2 x3 x4 x5 x6 x7 x8
/-- and the third. -/
def B_ : FVec Ideal S256x128 .f32 := k0_pay85 x0 x1 x2 x3 x4 x5 x6 x7 x8

/-- The gains of a point's queries, -/
def qg_ : Vec Ideal S1x128 .f32 := View.ld x4 r0_4
/-- of its third group -/
def kg_ : Vec Ideal S1x128 .f32 := View.ld x5 r0_29
/-- and of its fifth. -/
def kg'_ : Vec Ideal S1x128 .f32 := View.ld x5 r0_38

/-- The stored queries are the block of them. -/
theorem out9_apply (y : S16x256x128.Idx) : out0_9 (F := Ideal) x0 x1 x2 x3 x4 x5 x6 x7 x8 y = qblock (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) y := by
  unfold out0_9
  refine View.canon_apply_of_pieces (qblock (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4)) _ ?_ y (cover0_9 _ _ _ _ _ _ _ _ _ _ _ _ _ _ _ _ y)
  intro pc hpc
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 15 (by decide) 1920 rfl slices_S256x5248_o0_1920_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 14 (by decide) 1792 rfl slices_S256x5248_o0_1792_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 13 (by decide) 1664 rfl slices_S256x5248_o0_1664_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 12 (by decide) 1536 rfl slices_S256x5248_o0_1536_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 11 (by decide) 1408 rfl slices_S256x5248_o0_1408_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 10 (by decide) 1280 rfl slices_S256x5248_o0_1280_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 9 (by decide) 1152 rfl slices_S256x5248_o0_1152_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 8 (by decide) 1024 rfl slices_S256x5248_o0_1024_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 7 (by decide) 896 rfl slices_S256x5248_o0_896_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 6 (by decide) 768 rfl slices_S256x5248_o0_768_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 5 (by decide) 640 rfl slices_S256x5248_o0_640_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 4 (by decide) 512 rfl slices_S256x5248_o0_512_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 3 (by decide) 384 rfl slices_S256x5248_o0_384_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 2 (by decide) 256 rfl slices_S256x5248_o0_256_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 1 (by decide) 128 rfl slices_S256x5248_o0_128_S256x128 x _ rfl rfl rfl
  rcases List.mem_cons.mp hpc with rfl | hpc
  · exact fun x => qpiece (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (qg_ x4) 0 (by decide) 0 rfl slices_S256x5248_o0_0_S256x128 x _ rfl rfl rfl
  nomatch hpc

/-- The stored keys and values are the block of them. -/
theorem out10_apply (y : S24x256x128.Idx) : out0_10 (F := Ideal) x0 x1 x2 x3 x4 x5 x6 x7 x8 y = kblock (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) y := by
  unfold out0_10
  refine View.canon_apply_of_pieces (kblock (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5)) _ ?_ y (cover0_10 _ _ _ _ _ _ _ _ _ _ _ _ _ _ _ _ _ _ _ _ _ _ _ _ y)
  intro pc hpc
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 23 (by decide) (by decide) (by decide) 4992 rfl slices_S256x5248_o0_4992_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 22 (by decide) (by decide) (by decide) 4864 rfl slices_S256x5248_o0_4864_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 21 (by decide) (by decide) (by decide) 4736 rfl slices_S256x5248_o0_4736_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 20 (by decide) (by decide) (by decide) 4608 rfl slices_S256x5248_o0_4608_S256x128 x _ rfl rfl rfl
  rcases List.mem_cons.mp hpc with rfl | hpc
  · exact fun x => kfifth (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 19 (by decide) (by decide) rfl 4480 rfl slices_S256x5248_o0_4480_S256x128 x _ rfl rfl rfl
  rcases List.mem_cons.mp hpc with rfl | hpc
  · exact fun x => kfifth (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 18 (by decide) (by decide) rfl 4352 rfl slices_S256x5248_o0_4352_S256x128 x _ rfl rfl rfl
  rcases List.mem_cons.mp hpc with rfl | hpc
  · exact fun x => kfifth (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 17 (by decide) (by decide) rfl 4224 rfl slices_S256x5248_o0_4224_S256x128 x _ rfl rfl rfl
  rcases List.mem_cons.mp hpc with rfl | hpc
  · exact fun x => kfifth (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 16 (by decide) (by decide) rfl 4096 rfl slices_S256x5248_o0_4096_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 15 (by decide) (by decide) (by decide) 3968 rfl slices_S256x5248_o0_3968_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 14 (by decide) (by decide) (by decide) 3840 rfl slices_S256x5248_o0_3840_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 13 (by decide) (by decide) (by decide) 3712 rfl slices_S256x5248_o0_3712_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 12 (by decide) (by decide) (by decide) 3584 rfl slices_S256x5248_o0_3584_S256x128 x _ rfl rfl rfl
  rcases List.mem_cons.mp hpc with rfl | hpc
  · exact fun x => kthird (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 11 (by decide) rfl 3456 rfl slices_S256x5248_o0_3456_S256x128 x _ rfl rfl rfl
  rcases List.mem_cons.mp hpc with rfl | hpc
  · exact fun x => kthird (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 10 (by decide) rfl 3328 rfl slices_S256x5248_o0_3328_S256x128 x _ rfl rfl rfl
  rcases List.mem_cons.mp hpc with rfl | hpc
  · exact fun x => kthird (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 9 (by decide) rfl 3200 rfl slices_S256x5248_o0_3200_S256x128 x _ rfl rfl rfl
  rcases List.mem_cons.mp hpc with rfl | hpc
  · exact fun x => kthird (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 8 (by decide) rfl 3072 rfl slices_S256x5248_o0_3072_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 7 (by decide) (by decide) (by decide) 2944 rfl slices_S256x5248_o0_2944_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 6 (by decide) (by decide) (by decide) 2816 rfl slices_S256x5248_o0_2816_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 5 (by decide) (by decide) (by decide) 2688 rfl slices_S256x5248_o0_2688_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 4 (by decide) (by decide) (by decide) 2560 rfl slices_S256x5248_o0_2560_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 3 (by decide) (by decide) (by decide) 2432 rfl slices_S256x5248_o0_2432_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 2 (by decide) (by decide) (by decide) 2304 rfl slices_S256x5248_o0_2304_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 1 (by decide) (by decide) (by decide) 2176 rfl slices_S256x5248_o0_2176_S256x128 x _ rfl rfl rfl
  rcases List.mem_cons.mp hpc with rfl | hpc
  · exact fun x => kplain (R_ x0 x1 x2 x3 x4 x5 x6 x7 x8) (C_ x0 x1 x2 x3 x4 x5 x6 x7 x8) (A_ x0 x1 x2 x3 x4 x5 x6 x7 x8) (B_ x0 x1 x2 x3 x4 x5 x6 x7 x8) (kg_ x5) (kg'_ x5) 0 (by decide) (by decide) (by decide) 2048 rfl slices_S256x5248_o0_2048_S256x128 x _ rfl rfl rfl
  nomatch hpc

end Cert.Kernel6Ideal.Proj

end
-- ==== Proof.Columns.lean ====
/- A block of columns written into a matrix, read at an index. -/
module

public import Idealize.ShloMosaic.Lib.Routing.OpsSet
public import Idealize.ShloMosaic.Lib.Routing.OpsOne

@[expose] public section

noncomputable section

namespace Cert.Columns

open Idealize.ShloMosaic Idealize.ShloMosaic.Routing Idealize.ShloMosaic.ValueIdx Idealize.ShloMosaic.LaneScatter

variable {A N U : ℕ}

/-- Where an update lands: in its own row, its column moved on by the index word. -/
theorem lands (d : ScatterDims ⟨2, ![A, N]⟩ ⟨1, ![1]⟩ ⟨2, ![A, U]⟩) (huw : d.updateWindowDims = [0, 1]) (hiw : d.insertedWindowDims = [])
    (hsd : d.scatterDimsToOperandDims = [1]) (idx : IVec ⟨1, ![1]⟩ 32) (k : ℕ) (hidx : (idx (ix1 0)).toInt = (k : Int))
    (w' w : Fin A) (u : Fin U) (e : Fin N) : d.resultIdx? (ix2 w' u) idx = some (ix2 w e) ↔ w' = w ∧ k + u.val = e.val := by
  have hm : (1 : Fin 2) ∈ d.scatterDimsToOperandDims := by rw [hsd]; exact List.mem_singleton.2 rfl
  have hkept : d.sKept = [0, 1] := by
    show Shape.kept (⟨2, ![A, N]⟩ : Shape) d.insertedWindowDims = _
    rw [hiw]
    rfl
  have hwin0 : d.window (ix2 w' u) 0 = w'.val := by
    unfold ScatterDims.window
    rw [dif_pos (by rw [hkept]; exact List.mem_cons_self)]
    have q : ∀ (l : List (Fin 2)) (_ : l = [0, 1]) (m : List (Fin 2)) (_ : m = [0, 1]) (b : m.idxOf 0 < l.length),
        (ix2 w' u (l[m.idxOf 0]'b)).val = w'.val := by
      rintro _ rfl _ rfl _
      rfl
    exact q _ huw _ hkept _
  have hwin1 : d.window (ix2 w' u) 1 = u.val := by
    unfold ScatterDims.window
    rw [dif_pos (by rw [hkept]; exact List.mem_cons_of_mem _ List.mem_cons_self)]
    have q : ∀ (l : List (Fin 2)) (_ : l = [0, 1]) (m : List (Fin 2)) (_ : m = [0, 1]) (b : m.idxOf 1 < l.length),
        (ix2 w' u (l[m.idxOf 1]'b)).val = u.val := by
      rintro _ rfl _ rfl _
      rfl
    exact q _ huw _ hkept _
  have hstart0 : d.start (ix2 w' u) idx 0 = 0 := by
    unfold ScatterDims.start
    rw [dif_neg fun h => by rw [hsd] at h; exact absurd (List.mem_singleton.1 h) (by decide : (0 : Fin 2) ≠ 1)]
  have hstart1 : d.start (ix2 w' u) idx 1 = (k : Int) := by
    unfold ScatterDims.start
    rw [dif_pos hm]
    have hsi : d.siIdx (ix2 w' u) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  rw [Fin.ext_iff, resultIdx?_ix2, hstart0, hwin0, hstart1, hwin1]
  omega

/-- Inside the block: the update. -/
theorem inside {α : Type} (d : ScatterDims ⟨2, ![A, N]⟩ ⟨1, ![1]⟩ ⟨2, ![A, U]⟩) (huw : d.updateWindowDims = [0, 1]) (hiw : d.insertedWindowDims = [])
    (hsd : d.scatterDimsToOperandDims = [1]) (x0 : (⟨2, ![A, N]⟩ : Shape).Idx → α) (idx : IVec ⟨1, ![1]⟩ 32) (upd : (⟨2, ![A, U]⟩ : Shape).Idx → α)
    (k : ℕ) (hidx : (idx (ix1 0)).toInt = (k : Int)) (w : Fin A) (e : Fin N) (u : Fin U) (h : k + u.val = e.val) :
    Host.scatter d (fun _ b => b) x0 idx upd (ix2 w e) = upd (ix2 w u) := by
  refine scatter_set_hit d x0 idx upd _ _ (fun j hj => ?_) (ix2 w u) ((lands d huw hiw hsd idx k hidx w w u e).2 ⟨rfl, h⟩)
  obtain ⟨r, v, rfl⟩ : ∃ (r : Fin A) (v : Fin U), j = ix2 r v := ⟨j 0, j 1, eq_ix2 j⟩
  obtain ⟨rfl, h'⟩ := (lands d huw hiw hsd idx k hidx r w v e).1 hj
  rw [show v = u from Fin.ext (by omega)]

/-- Outside it: the matrix. -/
theorem outside {α : Type} (d : ScatterDims ⟨2, ![A, N]⟩ ⟨1, ![1]⟩ ⟨2, ![A, U]⟩) (huw : d.updateWindowDims = [0, 1]) (hiw : d.insertedWindowDims = [])
    (hsd : d.scatterDimsToOperandDims = [1]) (x0 : (⟨2, ![A, N]⟩ : Shape).Idx → α) (idx : IVec ⟨1, ![1]⟩ 32) (upd : (⟨2, ![A, U]⟩ : Shape).Idx → α)
    (k : ℕ) (hidx : (idx (ix1 0)).toInt = (k : Int)) (w : Fin A) (e : Fin N) (h : e.val < k ∨ k + U ≤ e.val) :
    Host.scatter d (fun _ b => b) x0 idx upd (ix2 w e) = x0 (ix2 w e) := by
  refine scatter_set_miss d x0 idx upd _ fun j hj => ?_
  obtain ⟨r, v, rfl⟩ : ∃ (r : Fin A) (v : Fin U), j = ix2 r v := ⟨j 0, j 1, eq_ix2 j⟩
  have h' := ((lands d huw hiw hsd idx k hidx r w v e).1 hj).2
  have := v.isLt
  omega

end Cert.Columns

end
-- ==== Proof.ProjArrays.lean ====
/- The arrays that the projections' call is given, over the extended reals. -/
module

public import proofs.«01_k».proof.Proof.Gen.Kernel6Ideal.Frame
public import proofs.«01_k».proof.Proof.Proj
public import proofs.«01_k».proof.Proof.Columns
public import Idealize.ShloMosaic.Lib.Pipeline.ValueKit
public import Idealize.ShloMosaic.Lib.Pipeline.Value

@[expose] public section

set_option maxRecDepth 16384

noncomputable section

namespace Cert.Kernel6Ideal.Proj

open Cert.Kernel6Ideal Cert.Kernel6Ideal.Gen
open Idealize.ShloMosaic Idealize.ShloMosaic.TcCoe

/-! ## The weights -/

/-- The padding. -/
def none_ : FVec Ideal S_ .f32 := sitofp (F := Ideal) .f32 (constantI S_ 32 0#32)
/-- It is zero. -/
theorem none_apply (i : S_.Idx) : none_ i = 0 := by
  show ((((0#32 : BitVec 32).toInt : ℤ) : ℝ) : EReal) = 0
  simp

/-- The queries' weights, head by head, -/
def cut16 (w : FVec Ideal S1024x2608 .f32) : FVec Ideal S1024x16x64 .f32 :=
  shapeCast S1024x16x64 (extractStridedSlice S1024x1024 ![0, 0] w slices_S1024x2608_S1024x1024_0_0) shapeCasts_S1024x1024_S1024x16x64
/-- padded to 128 lanes. -/
def pad16 (w : FVec Ideal S1024x2608 .f32) : FVec Ideal S1024x16x128 .f32 :=
  pad S1024x16x128 ![0, 0, 0] ![0, 0, 64] ![0, 0, 0] (cut16 w) none_ pads_S1024x16x64_S1024x16x128_000_000_0640 h_S_
/-- The keys' and values' weights, head by head, -/
def cut24 (w : FVec Ideal S1024x2608 .f32) : FVec Ideal S1024x24x64 .f32 :=
  shapeCast S1024x24x64 (extractStridedSlice S1024x1536 ![0, 1024] w slices_S1024x2608_S1024x1536_0_1024) shapeCasts_S1024x1536_S1024x24x64
/-- padded to 128 lanes. -/
def pad24 (w : FVec Ideal S1024x2608 .f32) : FVec Ideal S1024x24x128 .f32 :=
  pad S1024x24x128 ![0, 0, 0] ![0, 0, 64] ![0, 0, 0] (cut24 w) none_ pads_S1024x24x64_S1024x24x128_000_000_0640 h_S_
/-- The gates' weights, -/
def cut48 (w : FVec Ideal S1024x2608 .f32) : FVec Ideal S1024x48 .f32 := extractStridedSlice S1024x48 ![0, 2560] w slices_S1024x2608_S1024x48_0_2560
/-- padded to 128 lanes. -/
def pad48 (w : FVec Ideal S1024x2608 .f32) : FVec Ideal S1024x128 .f32 :=
  pad S1024x128 ![0, 0] ![0, 80] ![0, 0] (cut48 w) none_ pads_S1024x48_S1024x128_000_0800 h_S_
/-- The heads' padded columns, -/
def flat16 (w : FVec Ideal S1024x2608 .f32) : FVec Ideal S1024x2048 .f32 := shapeCast S1024x2048 (pad16 w) shapeCasts_S1024x16x128_S1024x2048
/-- of the keys and values too. -/
def flat24 (w : FVec Ideal S1024x2608 .f32) : FVec Ideal S1024x3072 .f32 := shapeCast S1024x3072 (pad24 w) shapeCasts_S1024x24x128_S1024x3072
/-- All of them side by side. -/
def sides (w : FVec Ideal S1024x2608 .f32) : FVec Ideal S1024x5248 .f32 :=
  concatenate S1024x5248 1 [⟨S1024x2048, flat16 w⟩, ⟨S1024x3072, flat24 w⟩, ⟨S1024x128, pad48 w⟩] concatenates_S1024x2048_S1024x3072_S1024x128_S1024x5248_d1

/-- A query head's weight. -/
theorem cut16_apply (w : FVec Ideal S1024x2608 .f32) (k : Fin 1024) (h : Fin 16) (d : Fin 64) :
    cut16 w (ix3 k h d) = w (ix2 k ⟨64 * h.val + d.val, by omega⟩) := by
  have e : cut16 w (ix3 k h d) = extractStridedSlice S1024x1024 ![0, 0] w slices_S1024x2608_S1024x1024_0_0 (ix2 k ⟨64 * h.val + d.val, by omega⟩) := by
    unfold cut16
    generalize extractStridedSlice S1024x1024 ![0, 0] w slices_S1024x2608_S1024x1024_0_0 = z
    pointwise
    exact congrArg (fun n => z (ix2 k n)) (Fin.ext (Nat.add_right_cancel_iff.mpr (Nat.mul_comm _ _)))
  refine e.trans (extractStridedSlice_apply _ _ _ _ _ fun a => ?_)
  match a with
  | 0 => show k.val = 0 + k.val; omega
  | 1 => show 64 * h.val + d.val = 0 + (64 * h.val + d.val); omega
/-- A key or value head's weight. -/
theorem cut24_apply (w : FVec Ideal S1024x2608 .f32) (k : Fin 1024) (h : Fin 24) (d : Fin 64) :
    cut24 w (ix3 k h d) = w (ix2 k ⟨1024 + (64 * h.val + d.val), by omega⟩) := by
  have e : cut24 w (ix3 k h d) = extractStridedSlice S1024x1536 ![0, 1024] w slices_S1024x2608_S1024x1536_0_1024 (ix2 k ⟨64 * h.val + d.val, by omega⟩) := by
    unfold cut24
    generalize extractStridedSlice S1024x1536 ![0, 1024] w slices_S1024x2608_S1024x1536_0_1024 = z
    pointwise
    exact congrArg (fun n => z (ix2 k n)) (Fin.ext (Nat.add_right_cancel_iff.mpr (Nat.mul_comm _ _)))
  refine e.trans (extractStridedSlice_apply _ _ _ _ _ fun a => ?_)
  match a with
  | 0 => show k.val = 0 + k.val; omega
  | 1 => rfl
/-- A gate's weight. -/
theorem cut48_apply (w : FVec Ideal S1024x2608 .f32) (k : Fin 1024) (d : Fin 48) :
    cut48 w (ix2 k d) = w (ix2 k ⟨2560 + d.val, by omega⟩) := by
  refine extractStridedSlice_apply _ _ _ _ _ fun a => ?_
  match a with
  | 0 => show k.val = 0 + k.val; omega
  | 1 => rfl

/-- A query head's weights in its lanes. -/
theorem pad16_apply (w : FVec Ideal S1024x2608 .f32) (k : Fin 1024) (h : Fin 16) (l : Fin 128) :
    pad16 w (ix3 k h l) = Cert.Proj.lane (fun d => cut16 w (ix3 k h d)) l := by
  have hk := k.isLt
  have hh := h.isLt
  unfold Cert.Proj.lane
  by_cases hl : l.val < 64
  · rw [dif_pos hl]
    refine (dif_pos (c := ∀ a : Fin 3, _) ?_).trans ?_
    · intro a
      match a with
      | 0 => exact ⟨Nat.zero_le _, Nat.mod_one _, by show (k.val - 0) / 1 < 1024; omega⟩
      | 1 => exact ⟨Nat.zero_le _, Nat.mod_one _, by show (h.val - 0) / 1 < 16; omega⟩
      | 2 => exact ⟨Nat.zero_le _, Nat.mod_one _, by show (l.val - 0) / 1 < 64; omega⟩
    · refine congrArg _ (funext fun a => Fin.ext ?_)
      match a with
      | 0 => exact Nat.div_one _
      | 1 => exact Nat.div_one _
      | 2 => exact Nat.div_one _
  · rw [dif_neg hl]
    refine (dif_neg (c := ∀ a : Fin 3, _) ?_).trans (none_apply _)
    intro hin
    have h1 : (l.val - 0) / 1 < 64 := (hin 2).2.2
    omega
/-- A key or value head's weights in its lanes. -/
theorem pad24_apply (w : FVec Ideal S1024x2608 .f32) (k : Fin 1024) (h : Fin 24) (l : Fin 128) :
    pad24 w (ix3 k h l) = Cert.Proj.lane (fun d => cut24 w (ix3 k h d)) l := by
  have hk := k.isLt
  have hh := h.isLt
  unfold Cert.Proj.lane
  by_cases hl : l.val < 64
  · rw [dif_pos hl]
    refine (dif_pos (c := ∀ a : Fin 3, _) ?_).trans ?_
    · intro a
      match a with
      | 0 => exact ⟨Nat.zero_le _, Nat.mod_one _, by show (k.val - 0) / 1 < 1024; omega⟩
      | 1 => exact ⟨Nat.zero_le _, Nat.mod_one _, by show (h.val - 0) / 1 < 24; omega⟩
      | 2 => exact ⟨Nat.zero_le _, Nat.mod_one _, by show (l.val - 0) / 1 < 64; omega⟩
    · refine congrArg _ (funext fun a => Fin.ext ?_)
      match a with
      | 0 => exact Nat.div_one _
      | 1 => exact Nat.div_one _
      | 2 => exact Nat.div_one _
  · rw [dif_neg hl]
    refine (dif_neg (c := ∀ a : Fin 3, _) ?_).trans (none_apply _)
    intro hin
    have h1 : (l.val - 0) / 1 < 64 := (hin 2).2.2
    omega
/-- The gates' weights in their lanes. -/
theorem pad48_apply (w : FVec Ideal S1024x2608 .f32) (k : Fin 1024) (l : Fin 128) :
    pad48 w (ix2 k l) = if h : l.val < 48 then cut48 w (ix2 k ⟨l.val, h⟩) else 0 := by
  have hk := k.isLt
  by_cases hl : l.val < 48
  · rw [dif_pos hl]
    refine (dif_pos (c := ∀ a : Fin 2, _) ?_).trans ?_
    · intro a
      match a with
      | 0 => exact ⟨Nat.zero_le _, Nat.mod_one _, by show (k.val - 0) / 1 < 1024; omega⟩
      | 1 => exact ⟨Nat.zero_le _, Nat.mod_one _, by show (l.val - 0) / 1 < 48; omega⟩
    · refine congrArg _ (funext fun a => Fin.ext ?_)
      match a with
      | 0 => exact Nat.div_one _
      | 1 => exact Nat.div_one _
  · rw [dif_neg hl]
    refine (dif_neg (c := ∀ a : Fin 2, _) ?_).trans (none_apply _)
    intro hin
    have h1 : (l.val - 0) / 1 < 48 := (hin 1).2.2
    omega

/-- A lane among the columns, -/
theorem flat16_apply (w : FVec Ideal S1024x2608 .f32) (k : Fin 1024) (h : Fin 16) (l : Fin 128) :
    flat16 w (ix2 k ⟨128 * h.val + l.val, by omega⟩) = pad16 w (ix3 k h l) := by
  unfold flat16
  generalize pad16 w = z
  have e : ∀ j : Fin 2048, shapeCast S1024x2048 z shapeCasts_S1024x16x128_S1024x2048 (ix2 k j) = z (ix3 k ⟨j.val / 128, by omega⟩ ⟨j.val % 128, Nat.mod_lt _ (by decide)⟩) := fun j => by
    pointwise
  rw [e]
  have e1 : (⟨(128 * h.val + l.val) / 128, by omega⟩ : Fin 16) = h := Fin.ext (by show (128 * h.val + l.val) / 128 = h.val; omega)
  have e2 : (⟨(128 * h.val + l.val) % 128, Nat.mod_lt _ (by decide)⟩ : Fin 128) = l := Fin.ext (by show (128 * h.val + l.val) % 128 = l.val; omega)
  exact (congrArg (fun a => z (ix3 k a _)) e1).trans (congrArg (fun b => z (ix3 k h b)) e2)
/-- of the keys and values too. -/
theorem flat24_apply (w : FVec Ideal S1024x2608 .f32) (k : Fin 1024) (h : Fin 24) (l : Fin 128) :
    flat24 w (ix2 k ⟨128 * h.val + l.val, by omega⟩) = pad24 w (ix3 k h l) := by
  unfold flat24
  generalize pad24 w = z
  have e : ∀ j : Fin 3072, shapeCast S1024x3072 z shapeCasts_S1024x24x128_S1024x3072 (ix2 k j) = z (ix3 k ⟨j.val / 128, by omega⟩ ⟨j.val % 128, Nat.mod_lt _ (by decide)⟩) := fun j => by
    pointwise
  rw [e]
  have e1 : (⟨(128 * h.val + l.val) / 128, by omega⟩ : Fin 24) = h := Fin.ext (by show (128 * h.val + l.val) / 128 = h.val; omega)
  have e2 : (⟨(128 * h.val + l.val) % 128, Nat.mod_lt _ (by decide)⟩ : Fin 128) = l := Fin.ext (by show (128 * h.val + l.val) % 128 = l.val; omega)
  exact (congrArg (fun a => z (ix3 k a _)) e1).trans (congrArg (fun b => z (ix3 k h b)) e2)

/-- The pieces, for their places side by side. -/
def pieces (w : FVec Ideal S1024x2608 .f32) : List ((s : Shape) × (s.Idx → EReal)) :=
  [⟨S1024x2048, flat16 w⟩, ⟨S1024x3072, flat24 w⟩, ⟨S1024x128, pad48 w⟩]

/-- The columns of a head are its weights in its lanes, -/
theorem sides_head (w : FVec Ideal S1024x2608 .f32) (k : Fin 1024) (n : Fin 40) (l : Fin 128) :
    sides w (ix2 k ⟨128 * n.val + l.val, by omega⟩) = Cert.Proj.lane (fun d => w (ix2 k ⟨64 * n.val + d.val, by omega⟩)) l := by
  by_cases hn : n.val < 16
  · refine (concatenate_apply_piece (t := S1024x5248) 1 (pieces w) concatenates_S1024x2048_S1024x3072_S1024x128_S1024x5248_d1 _ 0 (by show 0 < 3; decide) S1024x2048 (flat16 w) rfl rfl 0 rfl
      (ix2 k ⟨128 * n.val + l.val, by omega⟩) (fun b hb => ?_) ?_).trans ?_
    · match b with
      | 0 => rfl
      | 1 => exact absurd rfl hb
    · show 0 + (128 * n.val + l.val) = 128 * n.val + l.val
      omega
    · refine (flat16_apply w k ⟨n.val, hn⟩ l).trans ((pad16_apply w k _ l).trans ?_)
      exact congrArg (fun f => Cert.Proj.lane f l) (funext fun d => cut16_apply w k _ d)
  · refine (concatenate_apply_piece (t := S1024x5248) 1 (pieces w) concatenates_S1024x2048_S1024x3072_S1024x128_S1024x5248_d1 _ 1 (by show 1 < 3; decide) S1024x3072 (flat24 w) rfl rfl 2048 rfl
      (ix2 k ⟨128 * (n.val - 16) + l.val, by omega⟩) (fun b hb => ?_) ?_).trans ?_
    · match b with
      | 0 => rfl
      | 1 => exact absurd rfl hb
    · show 2048 + (128 * (n.val - 16) + l.val) = 128 * n.val + l.val
      omega
    · refine (flat24_apply w k ⟨n.val - 16, by omega⟩ l).trans ((pad24_apply w k _ l).trans ?_)
      refine congrArg (fun f => Cert.Proj.lane f l) (funext fun d => (cut24_apply w k _ d).trans ?_)
      exact congrArg (fun n => w (ix2 k n)) (Fin.ext (by show 1024 + (64 * (n.val - 16) + d.val) = 64 * n.val + d.val; omega))
/-- and the last 128 the gates'. -/
theorem sides_gate (w : FVec Ideal S1024x2608 .f32) (k : Fin 1024) (l : Fin 128) :
    sides w (ix2 k ⟨5120 + l.val, by omega⟩) = if h : l.val < 48 then w (ix2 k ⟨2560 + l.val, by omega⟩) else 0 := by
  refine (concatenate_apply_piece (t := S1024x5248) 1 (pieces w) concatenates_S1024x2048_S1024x3072_S1024x128_S1024x5248_d1 _ 2 (by show 2 < 3; decide) S1024x128 (pad48 w) rfl rfl 5120 rfl
    (ix2 k l) (fun b hb => ?_) ?_).trans ?_
  · match b with
    | 0 => rfl
    | 1 => exact absurd rfl hb
  · rfl
  · refine (pad48_apply w k l).trans ?_
    by_cases h : l.val < 48
    · rw [dif_pos h, dif_pos h]
      exact cut48_apply w k _
    · rw [dif_neg h, dif_neg h]

/-! ## The gains -/

/-- The queries' gains in their lanes. -/
def qlanes (g : FVec Ideal S64 .f32) : FVec Ideal S1x128 .f32 :=
  pad S1x128 ![0, 0] ![0, 64] ![0, 0] (mulf (F := Ideal) (s := S1x64) (φ := .f32) (shapeCast S1x64 g shapeCasts_S64_S1x64)
    (broadcastInDim S1x64 ![] bcast_S_S1x64 (constant (F := Ideal) S_ .f32 0x3E000000#32))) none_ pads_S1x64_S1x128_000_0640 h_S_
/-- The keys' gains in their lanes. -/
def klanes (g : FVec Ideal S3x64 .f32) : FVec Ideal S3x128 .f32 := pad S3x128 ![0, 0] ![0, 64] ![0, 0] g none_ pads_S3x64_S3x128_000_0640 h_S_

/-- A query's gain, -/
theorem qlanes_apply (g : FVec Ideal S64 .f32) (l : Fin 128) :
    qlanes g (ix2 0 l) = Cert.Proj.lane (fun d => g (ix1 d) * Ideal.ofBits .f32 0x3E000000#32) l := by
  unfold Cert.Proj.lane
  by_cases hl : l.val < 64
  · rw [dif_pos hl]
    have e : mulf (F := Ideal) (s := S1x64) (φ := .f32) (shapeCast S1x64 g shapeCasts_S64_S1x64)
        (broadcastInDim S1x64 ![] bcast_S_S1x64 (constant (F := Ideal) S_ .f32 0x3E000000#32)) (ix2 0 ⟨l.val, hl⟩) = g (ix1 ⟨l.val, hl⟩) * Ideal.ofBits .f32 0x3E000000#32 := by
      pointwise
    refine (dif_pos (c := ∀ a : Fin 2, _) ?_).trans ?_
    · intro a
      match a with
      | 0 => exact ⟨Nat.zero_le _, Nat.mod_one _, by show (0 - 0) / 1 < 1; omega⟩
      | 1 => exact ⟨Nat.zero_le _, Nat.mod_one _, by show (l.val - 0) / 1 < 64; omega⟩
    · refine (congrArg _ (funext fun a => Fin.ext ?_)).trans e
      match a with
      | 0 => exact Nat.div_one _
      | 1 => exact Nat.div_one _
  · rw [dif_neg hl]
    refine (dif_neg (c := ∀ a : Fin 2, _) ?_).trans (none_apply _)
    intro hin
    have h1 : (l.val - 0) / 1 < 64 := (hin 1).2.2
    omega
/-- and a key's. -/
theorem klanes_apply (g : FVec Ideal S3x64 .f32) (r : Fin 3) (l : Fin 128) : klanes g (ix2 r l) = Cert.Proj.lane (fun d => g (ix2 r d)) l := by
  have hr := r.isLt
  unfold Cert.Proj.lane
  by_cases hl : l.val < 64
  · rw [dif_pos hl]
    refine (dif_pos (c := ∀ a : Fin 2, _) ?_).trans ?_
    · intro a
      match a with
      | 0 => exact ⟨Nat.zero_le _, Nat.mod_one _, by show (r.val - 0) / 1 < 3; omega⟩
      | 1 => exact ⟨Nat.zero_le _, Nat.mod_one _, by show (l.val - 0) / 1 < 64; omega⟩
    · refine congrArg _ (funext fun a => Fin.ext ?_)
      match a with
      | 0 => exact Nat.div_one _
      | 1 => exact Nat.div_one _
  · rw [dif_neg hl]
    refine (dif_neg (c := ∀ a : Fin 2, _) ?_).trans (none_apply _)
    intro hin
    have h1 : (l.val - 0) / 1 < 64 := (hin 1).2.2
    omega

/-! ## The angles' tables -/

/-- The angle of a position and a frequency. -/
def angles : FVec Ideal S8192x8 .f32 :=
  mulf (F := Ideal) (s := S8192x8) (φ := .f32)
    (broadcastInDim S8192x8 ![0, 1] bcast_S8192x1_S8192x8_0_1 (broadcastInDim S8192x1 ![0] bcast_S8192_S8192x1_0 (sitofp (F := Ideal) .f32 (iotaInDim S8192 32 0))))
    (broadcastInDim S8192x8 ![0, 1] bcast_S1x8_S8192x8_0_1 (broadcastInDim S1x8 ![1] bcast_S8_S1x8_1
      (Host.powf (F := Ideal) (s := S8) (φ := .f32) (broadcastInDim S8 ![] bcast_S_S8 (constant (F := Ideal) S_ .f32 0x48F42400#32))
        (Host.divf (F := Ideal) (s := S8) (φ := .f32)
          (Host.negf (F := Ideal) (s := S8) (φ := .f32) (addf (F := Ideal) (s := S8) (φ := .f32) (broadcastInDim S8 ![] bcast_S_S8 (constant (F := Ideal) S_ .f32 0x00000000#32))
            (mulf (F := Ideal) (s := S8) (φ := .f32) (broadcastInDim S8 ![] bcast_S_S8 (constant (F := Ideal) S_ .f32 0x40000000#32)) (sitofp (F := Ideal) .f32 (iotaInDim S8 32 0)))))
          (broadcastInDim S8 ![] bcast_S_S8 (constant (F := Ideal) S_ .f32 0x41800000#32))))))
/-- Its cosine -/
def cosines : FVec Ideal S8192x8 .f32 := Host.cos (F := Ideal) (s := S8192x8) (φ := .f32) angles
/-- and sine. -/
def sines : FVec Ideal S8192x8 .f32 := Host.sin (F := Ideal) (s := S8192x8) (φ := .f32) angles

/-- Two copies of a table side by side, -/
def twice (C : FVec Ideal S8192x8 .f32) : FVec Ideal S8192x16 .f32 :=
  concatenate S8192x16 1 [⟨S8192x8, C⟩, ⟨S8192x8, C⟩] concatenates_S8192x8_S8192x8_S8192x16_d1
/-- in the first lanes, ones after them. -/
def ctable (C : FVec Ideal S8192x8 .f32) : FVec Ideal S8192x128 .f32 :=
  Host.scatter scatter_S8192x128_S1_S8192x16_01_n_1_0 (fun _ b => b) (broadcastInDim S8192x128 ![] bcast_S_S8192x128 (constant (F := Ideal) S_ .f32 0x3F800000#32))
    (broadcastInDim S1 ![] bcast_S_S1 (constantI S_ 32 0#32)) (twice C)
/-- The sines' negatives in the first eight lanes, zeros after them. -/
def atable (S : FVec Ideal S8192x8 .f32) : FVec Ideal S8192x128 .f32 :=
  Host.scatter scatter_S8192x128_S1_S8192x8_01_n_1_0 (fun _ b => b) (broadcastInDim S8192x128 ![] bcast_S_S8192x128 (constant (F := Ideal) S_ .f32 0x00000000#32))
    (broadcastInDim S1 ![] bcast_S_S1 (constantI S_ 32 0#32)) (Host.negf (F := Ideal) (s := S8192x8) (φ := .f32) S)
/-- The sines in the next eight, zeros about them. -/
def btable (S : FVec Ideal S8192x8 .f32) : FVec Ideal S8192x128 .f32 :=
  Host.scatter scatter_S8192x128_S1_S8192x8_01_n_1_0 (fun _ b => b) (broadcastInDim S8192x128 ![] bcast_S_S8192x128 (constant (F := Ideal) S_ .f32 0x00000000#32))
    (broadcastInDim S1 ![] bcast_S_S1 (constantI S_ 32 8#32)) S

/-- The two copies. -/
theorem twice_apply (C : FVec Ideal S8192x8 .f32) (p : Fin 8192) (u : Fin 16) : twice C (ix2 p u) = C (ix2 p ⟨u.val % 8, Nat.mod_lt _ (by decide)⟩) := by
  have hu := u.isLt
  by_cases h : u.val < 8
  · refine (concatenate_pair_apply_left (t := S8192x16) 1 C C concatenates_S8192x8_S8192x8_S8192x16_d1 _ rfl (ix2 p ⟨u.val, h⟩) fun b => ?_).trans ?_
    · match b with
      | 0 => rfl
      | 1 => rfl
    · exact congrArg (fun n => C (ix2 p n)) (Fin.ext (Nat.mod_eq_of_lt h).symm)
  · refine (concatenate_pair_apply_right (t := S8192x16) 1 C C concatenates_S8192x8_S8192x8_S8192x16_d1 _ rfl rfl (ix2 p ⟨u.val - 8, by omega⟩) (fun b hb => ?_) ?_).trans ?_
    · match b with
      | 0 => rfl
      | 1 => exact absurd rfl hb
    · show u.val - 8 + 8 = u.val
      omega
    · exact congrArg (fun n => C (ix2 p n)) (Fin.ext (by show u.val - 8 = u.val % 8; omega))

/-- The table of cosines, -/
theorem ctable_apply (C : FVec Ideal S8192x8 .f32) (p : Fin 8192) (l : Fin 128) :
    ctable C (ix2 p l) = if h : l.val < 16 then C (ix2 p ⟨l.val % 8, Nat.mod_lt _ (by decide)⟩) else 1 := by
  by_cases h : l.val < 16
  · rw [dif_pos h]
    refine (Columns.inside scatter_S8192x128_S1_S8192x16_01_n_1_0 rfl rfl rfl _ _ _ 0 ?_ p l ⟨l.val, h⟩ (Nat.zero_add _)).trans (twice_apply C p _)
    rfl
  · rw [dif_neg h]
    refine (Columns.outside scatter_S8192x128_S1_S8192x16_01_n_1_0 rfl rfl rfl _ _ _ 0 ?_ p l (Or.inr (by omega))).trans ?_
    · rfl
    · show Ideal.ofBits .f32 0x3F800000#32 = 1
      simp [Ideal.ofBits, Ideal.ieee]
      rw [← EReal.coe_mul]
      norm_num
/-- that of the sines' negatives -/
theorem atable_apply (S : FVec Ideal S8192x8 .f32) (p : Fin 8192) (l : Fin 128) :
    atable S (ix2 p l) = if h : l.val < 8 then - S (ix2 p ⟨l.val, h⟩) else 0 := by
  by_cases h : l.val < 8
  · rw [dif_pos h]
    refine (Columns.inside scatter_S8192x128_S1_S8192x8_01_n_1_0 rfl rfl rfl _ _ _ 0 ?_ p l ⟨l.val, h⟩ (Nat.zero_add _)).trans ?_
    · rfl
    · rfl
  · rw [dif_neg h]
    refine (Columns.outside scatter_S8192x128_S1_S8192x8_01_n_1_0 rfl rfl rfl _ _ _ 0 ?_ p l (Or.inr (by omega))).trans ?_
    · rfl
    · show Ideal.ofBits .f32 0x00000000#32 = 0
      simp [Ideal.ofBits, Ideal.ieee]
/-- and that of the sines. -/
theorem btable_apply (S : FVec Ideal S8192x8 .f32) (p : Fin 8192) (l : Fin 128) :
    btable S (ix2 p l) = if h : 8 ≤ l.val ∧ l.val < 16 then S (ix2 p ⟨l.val - 8, by omega⟩) else 0 := by
  by_cases h : 8 ≤ l.val ∧ l.val < 16
  · rw [dif_pos h]
    refine (Columns.inside scatter_S8192x128_S1_S8192x8_01_n_1_0 rfl rfl rfl _ _ _ 8 ?_ p l ⟨l.val - 8, by omega⟩ (by show 8 + (l.val - 8) = l.val; omega))
    rfl
  · rw [dif_neg h]
    refine (Columns.outside scatter_S8192x128_S1_S8192x8_01_n_1_0 rfl rfl rfl _ _ _ 8 ?_ p l (by omega)).trans ?_
    · rfl
    · show Ideal.ofBits .f32 0x00000000#32 = 0
      simp [Ideal.ofBits, Ideal.ieee]

end Cert.Kernel6Ideal.Proj

end
-- ==== Proof.ProjValue.lean ====
/- What the projections' call leaves in its output arrays, over the extended reals. -/
module

public import proofs.«01_k».proof.Proof.Gen.Kernel6Ideal.Value
public import proofs.«01_k».proof.Proof.ProjHeads
public import proofs.«01_k».proof.Proof.ProjArrays

@[expose] public section

set_option maxRecDepth 16384

noncomputable section

namespace Cert.Kernel6Ideal.Proj

open Cert.Kernel6Ideal Cert.Kernel6Ideal.Gen
open Idealize.ShloMosaic Idealize.ShloMosaic.TcCoe

variable (m : (ℓ : Loc nD τ sig) → Buf (Elt Ideal) ℓ) (c : Dev nD)

/-! ## The windows' arrays -/

/-- The rows of the four sequences end to end. -/
theorem rows_eq : V m c main_v7 = shapeCast S32768x1024 (m (c.tc.loc main_arg0)) shapeCasts_S4x8192x1024_S32768x1024 := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The factors of the sequences. -/
theorem factors_eq : V m c main_v5
    = mulf (F := Ideal) (s := S4x1x1024) (φ := .f32) (broadcastInDim S4x1x1024 ![0, 1, 2] bcast_S1x1x1024_S4x1x1024_0_1_2 (broadcastInDim S1x1x1024 ![2] bcast_S1024_S1x1x1024_2 (m (c.tc.loc main_arg3))))
      (addf (broadcastInDim S4x1x1024 ![] bcast_S_S4x1x1024 (constant (F := Ideal) S_ .f32 0x3F800000#32))
        (shapeCast S4x1x1024 (m (c.tc.loc main_arg1)) shapeCasts_S4x1024_S4x1x1024)) := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- Their shifts. -/
theorem shifts_eq : V m c main_v6 = shapeCast S4x1x1024 (m (c.tc.loc main_arg2)) shapeCasts_S4x1024_S4x1x1024 := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The weights. -/
theorem weights_eq : V m c main_v19 = truncf (F := Ideal) (s := S1024x5248) (φ := .f32) .bf16 (sides (m (c.tc.loc main_arg4))) bitsLt_bf16_f32 := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The queries' gains. -/
theorem qgains_eq : V m c main_v53 = qlanes (m (c.tc.loc main_arg5)) := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The keys' gains. -/
theorem kgains_eq : V m c main_v54 = klanes (m (c.tc.loc main_arg6)) := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The table of cosines. -/
theorem ctable_eq : V m c main_v42 = ctable cosines := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The table of the sines' negatives. -/
theorem atable_eq : V m c main_v46 = atable sines := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl
/-- The table of sines. -/
theorem btable_eq : V m c main_v49 = btable sines := by
  unfold V; simp only [hostOps0, hostOps0_1, hostOps0_2, hostOps0_3, hostOps0_4, hostOps0_5, hostOps0_6, hostOps0_7, hostOps0_8, hostOps0_9, List.flatten_cons, List.flatten_nil, List.append_nil, List.cons_append, List.nil_append]; after_results; rfl

/-- A row of a sequence among all rows, -/
theorem rows_apply (x : FVec Ideal S4x8192x1024 .f32) (i : Fin 32768) (k : Fin 1024) :
    shapeCast S32768x1024 x shapeCasts_S4x8192x1024_S32768x1024 (ix2 i k) = x (ix3 (Glu.seqOf i) (Glu.rowOf i) k) := by
  pointwise
  rfl
/-- a factor, -/
theorem factors_apply (g : FVec Ideal S1024 .f32) (sc : FVec Ideal S4x1024 .f32) (s : Fin 4) (k : Fin 1024) :
    mulf (F := Ideal) (s := S4x1x1024) (φ := .f32) (broadcastInDim S4x1x1024 ![0, 1, 2] bcast_S1x1x1024_S4x1x1024_0_1_2 (broadcastInDim S1x1x1024 ![2] bcast_S1024_S1x1x1024_2 g))
      (addf (broadcastInDim S4x1x1024 ![] bcast_S_S4x1x1024 (constant (F := Ideal) S_ .f32 0x3F800000#32))
        (shapeCast S4x1x1024 sc shapeCasts_S4x1024_S4x1x1024)) (ix3 s 0 k) = g (ix1 k) * (Glu.one + sc (ix2 s k)) := by
  pointwise
/-- and a shift. -/
theorem shifts_apply (sh : FVec Ideal S4x1024 .f32) (s : Fin 4) (k : Fin 1024) :
    shapeCast S4x1x1024 sh shapeCasts_S4x1024_S4x1x1024 (ix3 s 0 k) = sh (ix2 s k) := by
  pointwise

/-! ## The blocks -/

/-- The blocks' numbers at a point. -/
theorem index_x : ∀ t : Fin grid0.N, win0_0.index t 0 = t.val ∧ win0_0.index t 1 = 0 := by decide +kernel
/-- The same for window 1. -/
theorem index_a : ∀ t : Fin grid0.N, win0_1.index t 0 = t.val / 32 ∧ win0_1.index t 1 = 0 ∧ win0_1.index t 2 = 0 := by decide +kernel
/-- The same for window 2. -/
theorem index_b : ∀ t : Fin grid0.N, win0_2.index t 0 = t.val / 32 ∧ win0_2.index t 1 = 0 ∧ win0_2.index t 2 = 0 := by decide +kernel
/-- The same for window 3. -/
theorem index_w : ∀ t : Fin grid0.N, win0_3.index t 0 = 0 ∧ win0_3.index t 1 = 0 := by decide +kernel
/-- The same for window 4. -/
theorem index_q : ∀ t : Fin grid0.N, win0_4.index t 0 = 0 ∧ win0_4.index t 1 = 0 := by decide +kernel
/-- The same for window 5. -/
theorem index_k : ∀ t : Fin grid0.N, win0_5.index t 0 = 0 ∧ win0_5.index t 1 = 0 := by decide +kernel
/-- The same for window 6. -/
theorem index_c : ∀ t : Fin grid0.N, win0_6.index t 0 = t.val % 32 ∧ win0_6.index t 1 = 0 := by decide +kernel
/-- The same for window 7. -/
theorem index_n : ∀ t : Fin grid0.N, win0_7.index t 0 = t.val % 32 ∧ win0_7.index t 1 = 0 := by decide +kernel
/-- The same for window 8. -/
theorem index_s : ∀ t : Fin grid0.N, win0_8.index t 0 = t.val % 32 ∧ win0_8.index t 1 = 0 := by decide +kernel
/-- The same for window 9. -/
theorem index_oq : ∀ t : Fin grid0.N, win0_9.index t 0 = 0 ∧ win0_9.index t 1 = t.val ∧ win0_9.index t 2 = 0 := by decide +kernel
/-- The same for window 10. -/
theorem index_ok : ∀ t : Fin grid0.N, win0_10.index t 0 = 0 ∧ win0_10.index t 1 = t.val ∧ win0_10.index t 2 = 0 := by decide +kernel
/-- The same for window 11. -/
theorem index_og : ∀ t : Fin grid0.N, win0_11.index t 0 = t.val ∧ win0_11.index t 1 = 0 := by decide +kernel

/-- Row `r` of the block of a point, -/
def at_ (t : Fin grid0.N) (r : Fin 256) : Fin 32768 :=
  ⟨256 * t.val + r.val, by have : t.val < 128 := lt_of_lt_of_eq t.isLt N_0; have := r.isLt; omega⟩
/-- and the sequence it is of. -/
theorem seqOf_at (t : Fin grid0.N) (r : Fin 256) : (Glu.seqOf (at_ t r)).val = t.val / 32 := by
  have := r.isLt
  show (256 * t.val + r.val) / 8192 = t.val / 32
  omega

variable (t : Fin grid0.N)

/-- The rows of a block, -/
theorem x_apply (r : Fin 256) (k : Fin 1024) :
    iblk m c 0 t (ix2 r k) = m (c.tc.loc main_arg0) (ix3 (Glu.seqOf (at_ t r)) (Glu.rowOf (at_ t r)) k) := by
  refine (congrFun (rows_eq m c) _).trans ((congrArg _ ?_).trans (rows_apply _ (at_ t r) k))
  have hr := r.isLt
  funext a
  apply Fin.ext
  match a with
  | 0 =>
    show win0_0.index t 0 * 256 + 1 * r.val = 256 * t.val + r.val
    rw [(index_x t).1]; omega
  | 1 =>
    show win0_0.index t 1 * 1024 + 1 * k.val = k.val
    rw [(index_x t).2]; omega
/-- its sequence's factors, -/
theorem a_apply (r : Fin 256) (k : Fin 1024) :
    iblk m c 1 t (ix3 0 0 k) = Glu.factor (m (c.tc.loc main_arg3)) (m (c.tc.loc main_arg1)) (Glu.seqOf (at_ t r)) k := by
  refine (congrFun (factors_eq m c) _).trans ((congrArg _ ?_).trans (factors_apply _ _ (Glu.seqOf (at_ t r)) k))
  funext a
  apply Fin.ext
  match a with
  | 0 =>
    show win0_1.index t 0 * 1 + 1 * 0 = (Glu.seqOf (at_ t r)).val
    rw [(index_a t).1, seqOf_at]; omega
  | 1 =>
    show win0_1.index t 1 * 1 + 1 * 0 = 0
    rw [(index_a t).2.1]
  | 2 =>
    show win0_1.index t 2 * 1024 + 1 * k.val = k.val
    rw [(index_a t).2.2]; omega
/-- its sequence's shifts, -/
theorem b_apply (r : Fin 256) (k : Fin 1024) :
    iblk m c 2 t (ix3 0 0 k) = m (c.tc.loc main_arg2) (ix2 (Glu.seqOf (at_ t r)) k) := by
  refine (congrFun (shifts_eq m c) _).trans ((congrArg _ ?_).trans (shifts_apply _ (Glu.seqOf (at_ t r)) k))
  funext a
  apply Fin.ext
  match a with
  | 0 =>
    show win0_2.index t 0 * 1 + 1 * 0 = (Glu.seqOf (at_ t r)).val
    rw [(index_b t).1, seqOf_at]; omega
  | 1 =>
    show win0_2.index t 1 * 1 + 1 * 0 = 0
    rw [(index_b t).2.1]
  | 2 =>
    show win0_2.index t 2 * 1024 + 1 * k.val = k.val
    rw [(index_b t).2.2]; omega
/-- the weights, -/
theorem w_apply (k : Fin 1024) (n : Fin 5248) : iblk m c 3 t (ix2 k n) = sides (m (c.tc.loc main_arg4)) (ix2 k n) := by
  refine (congrFun (weights_eq m c) _).trans (congrArg (sides (m (c.tc.loc main_arg4))) ?_)
  funext a
  apply Fin.ext
  match a with
  | 0 =>
    show win0_3.index t 0 * 1024 + 1 * k.val = k.val
    rw [(index_w t).1]; omega
  | 1 =>
    show win0_3.index t 1 * 5248 + 1 * n.val = n.val
    rw [(index_w t).2]; omega
/-- the queries' gains, -/
theorem q_apply (l : Fin 128) : iblk m c 4 t (ix2 0 l) = qlanes (m (c.tc.loc main_arg5)) (ix2 0 l) := by
  refine (congrFun (qgains_eq m c) _).trans (congrArg (qlanes (m (c.tc.loc main_arg5))) ?_)
  funext a
  apply Fin.ext
  match a with
  | 0 =>
    show win0_4.index t 0 * 1 + 1 * 0 = 0
    rw [(index_q t).1]
  | 1 =>
    show win0_4.index t 1 * 128 + 1 * l.val = l.val
    rw [(index_q t).2]; omega
/-- the keys', -/
theorem k_apply (r : Fin 3) (l : Fin 128) : iblk m c 5 t (ix2 r l) = klanes (m (c.tc.loc main_arg6)) (ix2 r l) := by
  refine (congrFun (kgains_eq m c) _).trans (congrArg (klanes (m (c.tc.loc main_arg6))) ?_)
  funext a
  apply Fin.ext
  match a with
  | 0 =>
    show win0_5.index t 0 * 3 + 1 * r.val = r.val
    rw [(index_k t).1]; omega
  | 1 =>
    show win0_5.index t 1 * 128 + 1 * l.val = l.val
    rw [(index_k t).2]; omega
/-- the cosines of its rows' positions, -/
theorem c_apply (r : Fin 256) (l : Fin 128) : iblk m c 6 t (ix2 r l) = ctable cosines (ix2 (Glu.rowOf (at_ t r)) l) := by
  refine (congrFun (ctable_eq m c) _).trans (congrArg (ctable cosines) ?_)
  have hr := r.isLt
  funext a
  apply Fin.ext
  match a with
  | 0 =>
    show win0_6.index t 0 * 256 + 1 * r.val = (256 * t.val + r.val) % 8192
    rw [(index_c t).1]; omega
  | 1 =>
    show win0_6.index t 1 * 128 + 1 * l.val = l.val
    rw [(index_c t).2]; omega
/-- the negatives of their sines -/
theorem n_apply (r : Fin 256) (l : Fin 128) : iblk m c 7 t (ix2 r l) = atable sines (ix2 (Glu.rowOf (at_ t r)) l) := by
  refine (congrFun (atable_eq m c) _).trans (congrArg (atable sines) ?_)
  have hr := r.isLt
  funext a
  apply Fin.ext
  match a with
  | 0 =>
    show win0_7.index t 0 * 256 + 1 * r.val = (256 * t.val + r.val) % 8192
    rw [(index_n t).1]; omega
  | 1 =>
    show win0_7.index t 1 * 128 + 1 * l.val = l.val
    rw [(index_n t).2]; omega
/-- and their sines. -/
theorem s_apply (r : Fin 256) (l : Fin 128) : iblk m c 8 t (ix2 r l) = btable sines (ix2 (Glu.rowOf (at_ t r)) l) := by
  refine (congrFun (btable_eq m c) _).trans (congrArg (btable sines) ?_)
  have hr := r.isLt
  funext a
  apply Fin.ext
  match a with
  | 0 =>
    show win0_8.index t 0 * 256 + 1 * r.val = (256 * t.val + r.val) % 8192
    rw [(index_s t).1]; omega
  | 1 =>
    show win0_8.index t 1 * 128 + 1 * l.val = l.val
    rw [(index_s t).2]; omega

/-! ## A point's heads -/

/-- The row of the call that a row of a block is, under the weights. -/
def row (r : Fin 256) : Fin 2608 → EReal :=
  Cert.Proj.cell (m (c.tc.loc main_arg0)) (m (c.tc.loc main_arg1)) (m (c.tc.loc main_arg2)) (m (c.tc.loc main_arg3)) (m (c.tc.loc main_arg4))
    (Glu.seqOf (at_ t r)) (Glu.rowOf (at_ t r))

/-- Offsets of zeros. -/
theorem zero2 : (![0, 0] : Fin 2 → ℕ) = fun _ => 0 := funext fun a => by fin_cases a <;> rfl
/-- Offsets of zeros, on three axes. -/
theorem zero3 : (![0, 0, 0] : Fin 3 → ℕ) = fun _ => 0 := funext fun a => by fin_cases a <;> rfl

section
variable (x0 : FVec Ideal S256x1024 .f32) (x1 x2 : FVec Ideal S1x1x1024 .f32) (x3 : FVec Ideal S1024x5248 .bf16) (x4 : Vec Ideal S1x128 .f32) (x5 : Vec Ideal S3x128 .f32)
  (x6 x7 x8 : FVec Ideal S256x128 .f32)
/-- The product is of the whole blocks, -/
theorem R_eq : R_ x0 x1 x2 x3 x4 x5 x6 x7 x8 = k0_pay3 (F := Ideal) x0 x1 x2 x3 := by
  unfold R_ k0_pay82
  rw [View.ld_unit_zero zero2, View.ld_unit_zero zero3, View.ld_unit_zero zero3, View.ld_unit_zero zero2]
/-- and the tables are the blocks: the cosines, -/
theorem C_eq (y : S256x128.Idx) : C_ x0 x1 x2 x3 x4 x5 x6 x7 x8 y = x6 y := by
  unfold C_ k0_pay83
  rw [View.ld_unit_zero zero2]
  exact congrFun (shapeCast_self _ _) y
/-- the negatives -/
theorem A_eq (y : S256x128.Idx) : A_ x0 x1 x2 x3 x4 x5 x6 x7 x8 y = x7 y := by
  unfold A_ k0_pay84
  rw [View.ld_unit_zero zero2]
  exact congrFun (shapeCast_self _ _) y
/-- and the sines. -/
theorem B_eq (y : S256x128.Idx) : B_ x0 x1 x2 x3 x4 x5 x6 x7 x8 y = x8 y := by
  unfold B_ k0_pay85
  rw [View.ld_unit_zero zero2]
  exact congrFun (shapeCast_self _ _) y
/-- The queries' gains are the block, -/
theorem qg_eq : qg_ x4 = x4 := by
  unfold qg_
  rw [View.ld_unit_zero zero2]
/-- the third group's its second row -/
theorem kg_eq (l : Fin 128) : kg_ x5 (ix2 0 l) = x5 (ix2 1 l) := by
  refine congrArg x5 (funext fun a => Fin.ext ?_)
  match a with
  | 0 => rfl
  | 1 =>
    show 0 + 1 * l.val = l.val
    omega
/-- and the fifth's its third. -/
theorem kg'_eq (l : Fin 128) : kg'_ x5 (ix2 0 l) = x5 (ix2 2 l) := by
  refine congrArg x5 (funext fun a => Fin.ext ?_)
  match a with
  | 0 => rfl
  | 1 =>
    show 0 + 1 * l.val = l.val
    omega
end

/-- An element of a point's product. -/
theorem prod_apply (r : Fin 256) (j : Fin 5248) : R_ (iblk m c 0 t) (iblk m c 1 t) (iblk m c 2 t) (iblk m c 3 t) (iblk m c 4 t) (iblk m c 5 t) (iblk m c 6 t) (iblk m c 7 t) (iblk m c 8 t) (ix2 r j)
    = ∑ k : Fin 1024, Glu.normed (fun k => m (c.tc.loc main_arg0) (ix3 (Glu.seqOf (at_ t r)) (Glu.rowOf (at_ t r)) k))
        (Glu.factor (m (c.tc.loc main_arg3)) (m (c.tc.loc main_arg1)) (Glu.seqOf (at_ t r)))
        (fun k => m (c.tc.loc main_arg2) (ix2 (Glu.seqOf (at_ t r)) k)) k * sides (m (c.tc.loc main_arg4)) (ix2 k j) := by
  refine (congrFun (R_eq (iblk m c 0 t) (iblk m c 1 t) (iblk m c 2 t) (iblk m c 3 t) (iblk m c 4 t) (iblk m c 5 t) (iblk m c 6 t) (iblk m c 7 t) (iblk m c 8 t)) _).trans ?_
  refine (pay3_apply (iblk m c 0 t) (iblk m c 1 t) (iblk m c 2 t) (iblk m c 3 t) r j).trans ?_
  simp only [x_apply, a_apply m c t r, b_apply m c t r, w_apply]

/-- A head of it in its lanes. -/
theorem span_eq (r : Fin 256) (n : Fin 40) : span (R_ (iblk m c 0 t) (iblk m c 1 t) (iblk m c 2 t) (iblk m c 3 t) (iblk m c 4 t) (iblk m c 5 t) (iblk m c 6 t) (iblk m c 7 t) (iblk m c 8 t)) r n = Cert.Proj.lane (Cert.Proj.head (row m c t r) n) := by
  funext l
  refine (prod_apply m c t r _).trans ?_
  simp only [sides_head]
  unfold Cert.Proj.lane
  by_cases h : l.val < 64
  · rw [dif_pos h]
    simp only [dif_pos h]
    rfl
  · rw [dif_neg h]
    simp only [dif_neg h, mul_zero, Finset.sum_const_zero]

/-- The cosines of a row. -/
theorem hC (r : Fin 256) (l : Fin 128) : C_ (iblk m c 0 t) (iblk m c 1 t) (iblk m c 2 t) (iblk m c 3 t) (iblk m c 4 t) (iblk m c 5 t) (iblk m c 6 t) (iblk m c 7 t) (iblk m c 8 t) (ix2 r l) = if h : l.val < 16 then (fun k => cosines (ix2 (Glu.rowOf (at_ t r)) k)) ⟨l.val % 8, Nat.mod_lt _ (by decide)⟩ else 1 :=
  (C_eq (iblk m c 0 t) (iblk m c 1 t) (iblk m c 2 t) (iblk m c 3 t) (iblk m c 4 t) (iblk m c 5 t) (iblk m c 6 t) (iblk m c 7 t) (iblk m c 8 t) _).trans ((c_apply m c t r l).trans (ctable_apply cosines _ l))
/-- The negatives of its sines. -/
theorem hA (r : Fin 256) (l : Fin 128) : A_ (iblk m c 0 t) (iblk m c 1 t) (iblk m c 2 t) (iblk m c 3 t) (iblk m c 4 t) (iblk m c 5 t) (iblk m c 6 t) (iblk m c 7 t) (iblk m c 8 t) (ix2 r l) = if h : l.val < 8 then - (fun k => sines (ix2 (Glu.rowOf (at_ t r)) k)) ⟨l.val, h⟩ else 0 :=
  (A_eq (iblk m c 0 t) (iblk m c 1 t) (iblk m c 2 t) (iblk m c 3 t) (iblk m c 4 t) (iblk m c 5 t) (iblk m c 6 t) (iblk m c 7 t) (iblk m c 8 t) _).trans ((n_apply m c t r l).trans (atable_apply sines _ l))
/-- Its sines. -/
theorem hB (r : Fin 256) (l : Fin 128) : B_ (iblk m c 0 t) (iblk m c 1 t) (iblk m c 2 t) (iblk m c 3 t) (iblk m c 4 t) (iblk m c 5 t) (iblk m c 6 t) (iblk m c 7 t) (iblk m c 8 t) (ix2 r l) = if h : 8 ≤ l.val ∧ l.val < 16 then (fun k => sines (ix2 (Glu.rowOf (at_ t r)) k)) ⟨l.val - 8, by omega⟩ else 0 :=
  (B_eq (iblk m c 0 t) (iblk m c 1 t) (iblk m c 2 t) (iblk m c 3 t) (iblk m c 4 t) (iblk m c 5 t) (iblk m c 6 t) (iblk m c 7 t) (iblk m c 8 t) _).trans ((s_apply m c t r l).trans (btable_apply sines _ l))

/-- A query's gain. -/
def qgain (g : FVec Ideal S64 .f32) (d : Fin 64) : EReal := g (ix1 d) * Ideal.ofBits .f32 0x3E000000#32

/-- The queries' gains in their lanes, -/
theorem qg_lane : (fun l : Fin 128 => qg_ (iblk m c 4 t) (ix2 0 l)) = Cert.Proj.lane (qgain (m (c.tc.loc main_arg5))) :=
  funext fun l => (congrFun (qg_eq (iblk m c 4 t)) _).trans ((q_apply m c t l).trans (qlanes_apply _ l))
/-- the third group's -/
theorem kg_lane : (fun l : Fin 128 => kg_ (iblk m c 5 t) (ix2 0 l)) = Cert.Proj.lane (fun d => m (c.tc.loc main_arg6) (ix2 1 d)) :=
  funext fun l => (kg_eq (iblk m c 5 t) l).trans ((k_apply m c t 1 l).trans (klanes_apply _ 1 l))
/-- and the fifth's. -/
theorem kg'_lane : (fun l : Fin 128 => kg'_ (iblk m c 5 t) (ix2 0 l)) = Cert.Proj.lane (fun d => m (c.tc.loc main_arg6) (ix2 2 d)) :=
  funext fun l => (kg'_eq (iblk m c 5 t) l).trans ((k_apply m c t 2 l).trans (klanes_apply _ 2 l))

/-! ## The output arrays -/

/-- The queries as a function of the call's arguments, -/
def qres : Cert.Proj.QOut := Cert.Proj.queries (m (c.tc.loc main_arg0)) (m (c.tc.loc main_arg1)) (m (c.tc.loc main_arg2)) (m (c.tc.loc main_arg3))
  (m (c.tc.loc main_arg4)) (m (c.tc.loc main_arg5)) cosines sines
/-- the keys and values -/
def kres : Cert.Proj.KOut := Cert.Proj.keyvals (m (c.tc.loc main_arg0)) (m (c.tc.loc main_arg1)) (m (c.tc.loc main_arg2)) (m (c.tc.loc main_arg3))
  (m (c.tc.loc main_arg4)) (m (c.tc.loc main_arg6)) cosines sines
/-- and the gates' logits. -/
def gres : Cert.Proj.GOut := Cert.Proj.logits (m (c.tc.loc main_arg0)) (m (c.tc.loc main_arg1)) (m (c.tc.loc main_arg2)) (m (c.tc.loc main_arg3))
  (m (c.tc.loc main_arg4))

/-- What a point writes back of the queries, -/
theorem qflushed_apply (h : Fin 16) (r : Fin 256) (l : Fin 128) : (dats m 0 c).flushed 9 t (ix3 h r l) = qres m c (ix3 h (at_ t r) l) := by
  refine (congrFun (Value.flushed9 m c t) _).trans ((out9_apply (iblk m c 0 t) (iblk m c 1 t) (iblk m c 2 t) (iblk m c 3 t) (iblk m c 4 t) (iblk m c 5 t) (iblk m c 6 t) (iblk m c 7 t) (iblk m c 8 t) (ix3 h r l)).trans ?_)
  show Cert.Proj.spin (span (R_ (iblk m c 0 t) (iblk m c 1 t) (iblk m c 2 t) (iblk m c 3 t) (iblk m c 4 t) (iblk m c 5 t) (iblk m c 6 t) (iblk m c 7 t) (iblk m c 8 t)) r ⟨h.val, by omega⟩) (fun l => qg_ (iblk m c 4 t) (ix2 0 l)) (fun l => C_ (iblk m c 0 t) (iblk m c 1 t) (iblk m c 2 t) (iblk m c 3 t) (iblk m c 4 t) (iblk m c 5 t) (iblk m c 6 t) (iblk m c 7 t) (iblk m c 8 t) (ix2 r l)) (fun l => A_ (iblk m c 0 t) (iblk m c 1 t) (iblk m c 2 t) (iblk m c 3 t) (iblk m c 4 t) (iblk m c 5 t) (iblk m c 6 t) (iblk m c 7 t) (iblk m c 8 t) (ix2 r l)) (fun l => B_ (iblk m c 0 t) (iblk m c 1 t) (iblk m c 2 t) (iblk m c 3 t) (iblk m c 4 t) (iblk m c 5 t) (iblk m c 6 t) (iblk m c 7 t) (iblk m c 8 t) (ix2 r l)) l = _
  rw [span_eq, qg_lane]
  exact Cert.Proj.spin_lane _ _ (fun k => cosines (ix2 (Glu.rowOf (at_ t r)) k)) (fun k => sines (ix2 (Glu.rowOf (at_ t r)) k)) _ _ _ (hC m c t r) (hA m c t r) (hB m c t r) l
/-- of the keys and values -/
theorem kflushed_apply (h : Fin 24) (r : Fin 256) (l : Fin 128) : (dats m 0 c).flushed 10 t (ix3 h r l) = kres m c (ix3 h (at_ t r) l) := by
  refine (congrFun (Value.flushed10 m c t) _).trans ((out10_apply (iblk m c 0 t) (iblk m c 1 t) (iblk m c 2 t) (iblk m c 3 t) (iblk m c 4 t) (iblk m c 5 t) (iblk m c 6 t) (iblk m c 7 t) (iblk m c 8 t) (ix3 h r l)).trans ?_)
  show (if h.val / 4 = 2 then Cert.Proj.spin (span (R_ (iblk m c 0 t) (iblk m c 1 t) (iblk m c 2 t) (iblk m c 3 t) (iblk m c 4 t) (iblk m c 5 t) (iblk m c 6 t) (iblk m c 7 t) (iblk m c 8 t)) r ⟨16 + h.val, by omega⟩) (fun l => kg_ (iblk m c 5 t) (ix2 0 l)) (fun l => C_ (iblk m c 0 t) (iblk m c 1 t) (iblk m c 2 t) (iblk m c 3 t) (iblk m c 4 t) (iblk m c 5 t) (iblk m c 6 t) (iblk m c 7 t) (iblk m c 8 t) (ix2 r l)) (fun l => A_ (iblk m c 0 t) (iblk m c 1 t) (iblk m c 2 t) (iblk m c 3 t) (iblk m c 4 t) (iblk m c 5 t) (iblk m c 6 t) (iblk m c 7 t) (iblk m c 8 t) (ix2 r l)) (fun l => B_ (iblk m c 0 t) (iblk m c 1 t) (iblk m c 2 t) (iblk m c 3 t) (iblk m c 4 t) (iblk m c 5 t) (iblk m c 6 t) (iblk m c 7 t) (iblk m c 8 t) (ix2 r l)) l
    else if h.val / 4 = 4 then Cert.Proj.spin (span (R_ (iblk m c 0 t) (iblk m c 1 t) (iblk m c 2 t) (iblk m c 3 t) (iblk m c 4 t) (iblk m c 5 t) (iblk m c 6 t) (iblk m c 7 t) (iblk m c 8 t)) r ⟨16 + h.val, by omega⟩) (fun l => kg'_ (iblk m c 5 t) (ix2 0 l)) (fun l => C_ (iblk m c 0 t) (iblk m c 1 t) (iblk m c 2 t) (iblk m c 3 t) (iblk m c 4 t) (iblk m c 5 t) (iblk m c 6 t) (iblk m c 7 t) (iblk m c 8 t) (ix2 r l)) (fun l => A_ (iblk m c 0 t) (iblk m c 1 t) (iblk m c 2 t) (iblk m c 3 t) (iblk m c 4 t) (iblk m c 5 t) (iblk m c 6 t) (iblk m c 7 t) (iblk m c 8 t) (ix2 r l)) (fun l => B_ (iblk m c 0 t) (iblk m c 1 t) (iblk m c 2 t) (iblk m c 3 t) (iblk m c 4 t) (iblk m c 5 t) (iblk m c 6 t) (iblk m c 7 t) (iblk m c 8 t) (ix2 r l)) l
    else span (R_ (iblk m c 0 t) (iblk m c 1 t) (iblk m c 2 t) (iblk m c 3 t) (iblk m c 4 t) (iblk m c 5 t) (iblk m c 6 t) (iblk m c 7 t) (iblk m c 8 t)) r ⟨16 + h.val, by omega⟩ l) = Cert.Proj.lane (Cert.Proj.keyval (row m c t r) (m (c.tc.loc main_arg6)) (fun k => cosines (ix2 (Glu.rowOf (at_ t r)) k)) (fun k => sines (ix2 (Glu.rowOf (at_ t r)) k)) h) l
  rw [span_eq, kg_lane, kg'_lane]
  unfold Cert.Proj.keyval
  by_cases h2 : h.val / 4 = 2
  · rw [if_pos h2, if_pos h2]
    exact Cert.Proj.spin_lane _ _ (fun k => cosines (ix2 (Glu.rowOf (at_ t r)) k)) (fun k => sines (ix2 (Glu.rowOf (at_ t r)) k)) _ _ _ (hC m c t r) (hA m c t r) (hB m c t r) l
  · rw [if_neg h2, if_neg h2]
    by_cases h4 : h.val / 4 = 4
    · rw [if_pos h4, if_pos h4]
      exact Cert.Proj.spin_lane _ _ (fun k => cosines (ix2 (Glu.rowOf (at_ t r)) k)) (fun k => sines (ix2 (Glu.rowOf (at_ t r)) k)) _ _ _ (hC m c t r) (hA m c t r) (hB m c t r) l
    · rw [if_neg h4, if_neg h4]
      rfl
/-- The stored logits are the product's last columns. -/
theorem out11_apply (x0 : FVec Ideal S256x1024 .f32) (x1 x2 : FVec Ideal S1x1x1024 .f32) (x3 : FVec Ideal S1024x5248 .bf16) (x4 : Vec Ideal S1x128 .f32) (x5 : Vec Ideal S3x128 .f32)
    (x6 x7 x8 : FVec Ideal S256x128 .f32) (r : Fin 256) (l : Fin 128) :
    out0_11 (F := Ideal) x0 x1 x2 x3 x4 x5 x6 x7 x8 (ix2 r l) = R_ x0 x1 x2 x3 x4 x5 x6 x7 x8 (ix2 r ⟨5120 + l.val, by omega⟩) := by
  unfold out0_11
  rw [View.canon_unit_zero zero2]
  unfold k0_pay2
  refine extractStridedSlice_apply _ _ _ _ _ fun a => ?_
  match a with
  | 0 => show r.val = 0 + r.val; omega
  | 1 => rfl
/-- and of the logits. -/
theorem gflushed_apply (r : Fin 256) (l : Fin 128) : (dats m 0 c).flushed 11 t (ix2 r l) = gres m c (ix2 (at_ t r) l) := by
  refine (congrFun (Value.flushed11 m c t) _).trans ((out11_apply (iblk m c 0 t) (iblk m c 1 t) (iblk m c 2 t) (iblk m c 3 t) (iblk m c 4 t) (iblk m c 5 t) (iblk m c 6 t) (iblk m c 7 t) (iblk m c 8 t) r l).trans ((prod_apply m c t r _).trans ?_))
  simp only [sides_gate]
  show _ = Cert.Proj.logit (row m c t r) l
  unfold Cert.Proj.logit
  by_cases h : l.val < 48
  · rw [dif_pos h]
    simp only [dif_pos h]
    rfl
  · rw [dif_neg h]
    simp only [dif_neg h, mul_zero, Finset.sum_const_zero]

/-- The place in its array of an element of a block of queries. -/
theorem qemb (h : Fin 16) (r : Fin 256) (l : Fin 128) : ((cfg0.win 9).blk t).view.emb (ix3 h r l) = ix3 h (at_ t r) l := by
  funext a
  apply Fin.ext
  match a with
  | 0 =>
    show win0_9.index t 0 * 16 + 1 * h.val = h.val
    rw [(index_oq t).1]; omega
  | 1 =>
    show win0_9.index t 1 * 256 + 1 * r.val = 256 * t.val + r.val
    rw [(index_oq t).2.1]; omega
  | 2 =>
    show win0_9.index t 2 * 128 + 1 * l.val = l.val
    rw [(index_oq t).2.2]; omega
/-- The array of queries. -/
theorem qout_eq : (dats m 0 c).arrAt 9 cfg0.N = qres m c := by
  refine (dats m 0 c).arrAt_eq_of_cover 9 _ (fun t hf => ?_) (fun i => ?_)
  · funext y
    obtain ⟨h, r, l, rfl⟩ : ∃ (h : Fin 16) (r : Fin 256) (l : Fin 128), y = ix3 h r l := ⟨y 0, y 1, y 2, funext fun a => by
      match a with
      | 0 => rfl
      | 1 => rfl
      | 2 => rfl⟩
    exact (qflushed_apply m c t h r l).trans (congrArg (qres m c) (qemb t h r l)).symm
  · have h0 : (i 0).val < 16 := (i 0).isLt
    have h1 : (i 1).val < 32768 := (i 1).isLt
    have h2 : (i 2).val < 128 := (i 2).isLt
    have hu : (i 1).val / 256 < grid0.N := lt_of_lt_of_eq (show (i 1).val / 256 < 128 by omega) N_0.symm
    have hm := ((cfg0.win 9).blk ⟨(i 1).val / 256, hu⟩).view.emb_mem_set (ix3 (⟨(i 0).val, h0⟩ : Fin 16) (⟨(i 1).val % 256, Nat.mod_lt _ (by decide)⟩ : Fin 256) (⟨(i 2).val, h2⟩ : Fin 128))
    refine ⟨⟨(i 1).val / 256, hu⟩, flush0_9 _, ?_⟩
    rw [qemb] at hm
    have e : (ix3 (⟨(i 0).val, h0⟩ : Fin 16) (at_ ⟨(i 1).val / 256, hu⟩ (⟨(i 1).val % 256, Nat.mod_lt _ (by decide)⟩ : Fin 256)) (⟨(i 2).val, h2⟩ : Fin 128) : S16x32768x128.Idx) = i := by
      funext a
      apply Fin.ext
      match a with
      | 0 => rfl
      | 1 =>
        show 256 * ((i 1).val / 256) + (i 1).val % 256 = (i 1).val
        omega
      | 2 => rfl
    rw [e] at hm
    exact hm

/-- The place in its array of an element of a block of keys and values. -/
theorem kemb (h : Fin 24) (r : Fin 256) (l : Fin 128) : ((cfg0.win 10).blk t).view.emb (ix3 h r l) = ix3 h (at_ t r) l := by
  funext a
  apply Fin.ext
  match a with
  | 0 =>
    show win0_10.index t 0 * 24 + 1 * h.val = h.val
    rw [(index_ok t).1]; omega
  | 1 =>
    show win0_10.index t 1 * 256 + 1 * r.val = 256 * t.val + r.val
    rw [(index_ok t).2.1]; omega
  | 2 =>
    show win0_10.index t 2 * 128 + 1 * l.val = l.val
    rw [(index_ok t).2.2]; omega
/-- The array of keys and values. -/
theorem kout_eq : (dats m 0 c).arrAt 10 cfg0.N = kres m c := by
  refine (dats m 0 c).arrAt_eq_of_cover 10 _ (fun t hf => ?_) (fun i => ?_)
  · funext y
    obtain ⟨h, r, l, rfl⟩ : ∃ (h : Fin 24) (r : Fin 256) (l : Fin 128), y = ix3 h r l := ⟨y 0, y 1, y 2, funext fun a => by
      match a with
      | 0 => rfl
      | 1 => rfl
      | 2 => rfl⟩
    exact (kflushed_apply m c t h r l).trans (congrArg (kres m c) (kemb t h r l)).symm
  · have h0 : (i 0).val < 24 := (i 0).isLt
    have h1 : (i 1).val < 32768 := (i 1).isLt
    have h2 : (i 2).val < 128 := (i 2).isLt
    have hu : (i 1).val / 256 < grid0.N := lt_of_lt_of_eq (show (i 1).val / 256 < 128 by omega) N_0.symm
    have hm := ((cfg0.win 10).blk ⟨(i 1).val / 256, hu⟩).view.emb_mem_set (ix3 (⟨(i 0).val, h0⟩ : Fin 24) (⟨(i 1).val % 256, Nat.mod_lt _ (by decide)⟩ : Fin 256) (⟨(i 2).val, h2⟩ : Fin 128))
    refine ⟨⟨(i 1).val / 256, hu⟩, flush0_10 _, ?_⟩
    rw [kemb] at hm
    have e : (ix3 (⟨(i 0).val, h0⟩ : Fin 24) (at_ ⟨(i 1).val / 256, hu⟩ (⟨(i 1).val % 256, Nat.mod_lt _ (by decide)⟩ : Fin 256)) (⟨(i 2).val, h2⟩ : Fin 128) : S24x32768x128.Idx) = i := by
      funext a
      apply Fin.ext
      match a with
      | 0 => rfl
      | 1 =>
        show 256 * ((i 1).val / 256) + (i 1).val % 256 = (i 1).val
        omega
      | 2 => rfl
    rw [e] at hm
    exact hm

/-- The place in its array of an element of a block of logits. -/
theorem gemb (r : Fin 256) (l : Fin 128) : ((cfg0.win 11).blk t).view.emb (ix2 r l) = ix2 (at_ t r) l := by
  funext a
  apply Fin.ext
  match a with
  | 0 =>
    show win0_11.index t 0 * 256 + 1 * r.val = 256 * t.val + r.val
    rw [(index_og t).1]; omega
  | 1 =>
    show win0_11.index t 1 * 128 + 1 * l.val = l.val
    rw [(index_og t).2]; omega
/-- The array of logits. -/
theorem gout_eq : (dats m 0 c).arrAt 11 cfg0.N = gres m c := by
  refine (dats m 0 c).arrAt_eq_of_cover 11 _ (fun t hf => ?_) (fun i => ?_)
  · funext y
    obtain ⟨r, l, rfl⟩ : ∃ (r : Fin 256) (l : Fin 128), y = ix2 r l := ⟨y 0, y 1, funext fun a => by
      match a with
      | 0 => rfl
      | 1 => rfl⟩
    exact (gflushed_apply m c t r l).trans (congrArg (gres m c) (gemb t r l)).symm
  · have h0 : (i 0).val < 32768 := (i 0).isLt
    have h1 : (i 1).val < 128 := (i 1).isLt
    have hu : (i 0).val / 256 < grid0.N := lt_of_lt_of_eq (show (i 0).val / 256 < 128 by omega) N_0.symm
    have hm := ((cfg0.win 11).blk ⟨(i 0).val / 256, hu⟩).view.emb_mem_set (ix2 (⟨(i 0).val % 256, Nat.mod_lt _ (by decide)⟩ : Fin 256) (⟨(i 1).val, h1⟩ : Fin 128))
    refine ⟨⟨(i 0).val / 256, hu⟩, flush0_11 _, ?_⟩
    rw [gemb] at hm
    have e : (ix2 (at_ ⟨(i 0).val / 256, hu⟩ (⟨(i 0).val % 256, Nat.mod_lt _ (by decide)⟩ : Fin 256)) (⟨(i 1).val, h1⟩ : Fin 128) : S32768x128.Idx) = i := by
      funext a
      apply Fin.ext
      match a with
      | 0 =>
        show 256 * ((i 0).val / 256) + (i 0).val % 256 = (i 0).val
        omega
      | 1 => rfl
    rw [e] at hm
    exact hm

end Cert.Kernel6Ideal.Proj

end
-- ==== Proof.ProjRef.lean ====
/- The reference of the projections at an index, over the extended reals. -/
module

public import proofs.«01_k».proof.Proof.Gen.Reference6Ideal.Run
public import proofs.«01_k».proof.Proof.Reductions
public import proofs.«01_k».proof.Proof.Proj
public import Idealize.ShloMosaic.Lib.Pointwise

@[expose] public section

set_option maxRecDepth 16384

noncomputable section

namespace Cert.Reference6Ideal.Proj

open Cert.Reference6Ideal Cert.Reference6Ideal.Gen
open Idealize.ShloMosaic Idealize.ShloMosaic.TcCoe Idealize.SL.Sem Idealize.ShloMosaic.StableHlo

/-! ## The rows under the weights -/

/-- The rows' sums of squares. -/
def squares (x : FVec Ideal S4x8192x1024 .f32) : FVec Ideal S4x8192 .f32 :=
  Host.reduceAdd (mulf x x) (constant S_ .f32 0x00000000#32) reducesTo_S4x8192x1024_S4x8192_d2 h_S_

/-- Their inverse root means. -/
def scales (q : FVec Ideal S4x8192 .f32) : FVec Ideal S4x8192x1 .f32 :=
  Host.rsqrt (addf (Host.divf (broadcastInDim S4x8192x1 ![0, 1] bcast_S4x8192_S4x8192x1_0_1 q)
      (broadcastInDim S4x8192x1 ![] bcast_S_S4x8192x1 (constant S_ .f32 0x44800000#32)))
    (broadcastInDim S4x8192x1 ![] bcast_S_S4x8192x1 (constant S_ .f32 0x358637BD#32)))

/-- The rows scaled and modulated. -/
def mods (x : FVec Ideal S4x8192x1024 .f32) (r : FVec Ideal S4x8192x1 .f32) (g : FVec Ideal S1024 .f32) (sc sh : FVec Ideal S4x1024 .f32) :
    FVec Ideal S4x8192x1024 .f32 :=
  addf (mulf (mulf (mulf x (broadcastInDim S4x8192x1024 ![0, 1, 2] bcast_S4x8192x1_S4x8192x1024_0_1_2 r))
      (broadcastInDim S4x8192x1024 ![0, 1, 2] bcast_S1x1x1024_S4x8192x1024_0_1_2 (broadcastInDim S1x1x1024 ![2] bcast_S1024_S1x1x1024_2 g)))
      (broadcastInDim S4x8192x1024 ![0, 1, 2] bcast_S4x1x1024_S4x8192x1024_0_1_2
        (addf (broadcastInDim S4x1x1024 ![] bcast_S_S4x1x1024 (constant S_ .f32 0x3F800000#32)) (broadcastInDim S4x1x1024 ![0, 2] bcast_S4x1024_S4x1x1024_0_2 sc))))
    (broadcastInDim S4x8192x1024 ![0, 1, 2] bcast_S4x1x1024_S4x8192x1024_0_1_2 (broadcastInDim S4x1x1024 ![0, 2] bcast_S4x1024_S4x1x1024_0_2 sh))

/-- The rows under the weights. -/
def prods (y : FVec Ideal S4x8192x1024 .f32) (w : FVec Ideal S1024x2608 .f32) : FVec Ideal S4x8192x2608 .f32 :=
  Host.dotGeneral dot_S4x8192x1024_S1024x2608_S4x8192x2608_2_0_01_1_n_n none y w

/-- These stages in turn. -/
def cells (x : FVec Ideal S4x8192x1024 .f32) (sc sh : FVec Ideal S4x1024 .f32) (g : FVec Ideal S1024 .f32) (w : FVec Ideal S1024x2608 .f32) : FVec Ideal S4x8192x2608 .f32 :=
  prods (mods x (scales (squares x)) g sc sh) w

/-- A row's sum of squares. -/
theorem squares_apply (x : FVec Ideal S4x8192x1024 .f32) (s : Fin 4) (p : Fin 8192) :
    squares x (ix2 s p) = ∑ k : Fin 1024, x (ix3 s p k) * x (ix3 s p k) :=
  Reductions.lastSum3 _ _ _ s p

/-- A row's scale. -/
theorem scales_apply (q : FVec Ideal S4x8192 .f32) (s : Fin 4) (p : Fin 8192) :
    scales q (ix3 s p 0) = Ideal.rsqrt (Ideal.div (q (ix2 s p)) (Ideal.ofBits .f32 0x44800000#32) + Ideal.ofBits .f32 0x358637BD#32) := by
  pointwise [scales]

/-- An element of a modulated row. -/
theorem mods_apply (x : FVec Ideal S4x8192x1024 .f32) (r : FVec Ideal S4x8192x1 .f32) (g : FVec Ideal S1024 .f32) (sc sh : FVec Ideal S4x1024 .f32)
    (s : Fin 4) (p : Fin 8192) (k : Fin 1024) :
    mods x r g sc sh (ix3 s p k) = x (ix3 s p k) * r (ix3 s p 0) * (g (ix1 k) * (Glu.one + sc (ix2 s k))) + sh (ix2 s k) := by
  have e : mods x r g sc sh (ix3 s p k) = x (ix3 s p k) * r (ix3 s p 0) * g (ix1 k) * (Glu.one + sc (ix2 s k)) + sh (ix2 s k) := by
    pointwise [mods]
  rw [e, mul_assoc (x (ix3 s p k) * r (ix3 s p 0))]

/-- An output of a row. -/
theorem prods_apply (y : FVec Ideal S4x8192x1024 .f32) (w : FVec Ideal S1024x2608 .f32) (s : Fin 4) (p : Fin 8192) (j : Fin 2608) :
    prods y w (ix3 s p j) = ∑ k : Fin 1024, y (ix3 s p k) * w (ix2 k j) := by
  unfold prods
  simp only [Host.dotGeneral]
  rw [Ideal.dotGeneral_def]
  refine (Ideal.matmul_apply₁_of dot_S4x8192x1024_S1024x2608_S4x8192x2608_2_0_01_1_n_n (a := 2) rfl (K := 1024) rfl y w _ (ix3 s p j)
    (fun k => ix3 s p k) (fun k => ix2 k j) (fun k => ?_) (fun k => ?_)).trans ?_
  · pointwise
  · pointwise
  · exact zero_add _

/-- They make the cells. -/
theorem cells_apply (x : FVec Ideal S4x8192x1024 .f32) (sc sh : FVec Ideal S4x1024 .f32) (g : FVec Ideal S1024 .f32) (w : FVec Ideal S1024x2608 .f32)
    (s : Fin 4) (p : Fin 8192) (n : Fin 2608) : cells x sc sh g w (ix3 s p n) = Cert.Proj.cell x sc sh g w s p n := by
  unfold cells
  rw [prods_apply]
  simp only [mods_apply, scales_apply, squares_apply]
  rfl

/-! ## The angles -/

/-- The angle of a position and a frequency. -/
def angles : FVec Ideal S8192x8 .f32 :=
  mulf (F := Ideal) (s := S8192x8) (φ := .f32)
    (broadcastInDim S8192x8 ![0, 1] bcast_S8192x1_S8192x8_0_1 (broadcastInDim S8192x1 ![0] bcast_S8192_S8192x1_0 (sitofp (F := Ideal) .f32 (iotaInDim S8192 32 0))))
    (broadcastInDim S8192x8 ![0, 1] bcast_S1x8_S8192x8_0_1 (broadcastInDim S1x8 ![1] bcast_S8_S1x8_1
      (Host.powf (F := Ideal) (s := S8) (φ := .f32) (broadcastInDim S8 ![] bcast_S_S8 (constant (F := Ideal) S_ .f32 0x48F42400#32))
        (Host.divf (F := Ideal) (s := S8) (φ := .f32)
          (Host.negf (F := Ideal) (s := S8) (φ := .f32) (addf (F := Ideal) (s := S8) (φ := .f32) (broadcastInDim S8 ![] bcast_S_S8 (constant (F := Ideal) S_ .f32 0x00000000#32))
            (mulf (F := Ideal) (s := S8) (φ := .f32) (broadcastInDim S8 ![] bcast_S_S8 (constant (F := Ideal) S_ .f32 0x40000000#32)) (sitofp (F := Ideal) .f32 (iotaInDim S8 32 0)))))
          (broadcastInDim S8 ![] bcast_S_S8 (constant (F := Ideal) S_ .f32 0x41800000#32))))))
/-- Its cosine -/
def cosines : FVec Ideal S8192x8 .f32 := Host.cos (F := Ideal) (s := S8192x8) (φ := .f32) angles
/-- and sine. -/
def sines : FVec Ideal S8192x8 .f32 := Host.sin (F := Ideal) (s := S8192x8) (φ := .f32) angles
/-- A table with an axis for the heads. -/
def tall (C : FVec Ideal S8192x8 .f32) : FVec Ideal S8192x1x8 .f32 := broadcastInDim S8192x1x8 ![0, 2] bcast_S8192x8_S8192x1x8_0_2 C
/-- An element of it. -/
theorem tall_apply (C : FVec Ideal S8192x8 .f32) (p : Fin 8192) (k : Fin 8) : tall C (ix3 p 0 k) = C (ix2 p k) := by
  pointwise [tall]

/-! ## Groups of 16 heads -/

/-- The heads' sums of squares. -/
def hsquares16 (z : FVec Ideal S4x8192x16x64 .f32) : FVec Ideal S4x8192x16 .f32 :=
  Host.reduceAdd (mulf z z) (constant S_ .f32 0x00000000#32) reducesTo_S4x8192x16x64_S4x8192x16_d3 h_S_
/-- Their inverse root means. -/
def hscales16 (q : FVec Ideal S4x8192x16 .f32) : FVec Ideal S4x8192x16x1 .f32 :=
  Host.rsqrt (addf (Host.divf (broadcastInDim S4x8192x16x1 ![0, 1, 2] bcast_S4x8192x16_S4x8192x16x1_0_1_2 q)
      (broadcastInDim S4x8192x16x1 ![] bcast_S_S4x8192x16x1 (constant S_ .f32 0x42800000#32)))
    (broadcastInDim S4x8192x16x1 ![] bcast_S_S4x8192x16x1 (constant S_ .f32 0x358637BD#32)))
/-- The heads scaled, under the gains. -/
def hgained16 (z : FVec Ideal S4x8192x16x64 .f32) (r : FVec Ideal S4x8192x16x1 .f32) (g : FVec Ideal S64 .f32) : FVec Ideal S4x8192x16x64 .f32 :=
  mulf (mulf z (broadcastInDim S4x8192x16x64 ![0, 1, 2, 3] bcast_S4x8192x16x1_S4x8192x16x64_0_1_2_3 r))
    (broadcastInDim S4x8192x16x64 ![0, 1, 2, 3] bcast_S1x1x1x64_S4x8192x16x64_0_1_2_3 (broadcastInDim S1x1x1x64 ![3] bcast_S64_S1x1x1x64_3 g))
/-- A table over all heads. -/
def wide16 (C : FVec Ideal S8192x1x8 .f32) : FVec Ideal S4x8192x16x8 .f32 :=
  broadcastInDim S4x8192x16x8 ![0, 1, 2, 3] bcast_S1x8192x1x8_S4x8192x16x8_0_1_2_3 (broadcastInDim S1x8192x1x8 ![1, 2, 3] bcast_S8192x1x8_S1x8192x1x8_1_2_3 C)
/-- The heads' first eight numbers -/
def first16 (z : FVec Ideal S4x8192x16x64 .f32) : FVec Ideal S4x8192x16x8 .f32 := extractStridedSlice S4x8192x16x8 ![0, 0, 0, 0] z slices_S4x8192x16x64_S4x8192x16x8_0_0_0_0
/-- and their next eight. -/
def second16 (z : FVec Ideal S4x8192x16x64 .f32) : FVec Ideal S4x8192x16x8 .f32 := extractStridedSlice S4x8192x16x8 ![0, 0, 0, 8] z slices_S4x8192x16x64_S4x8192x16x8_0_0_0_8
/-- The rest. -/
def rest16 (z : FVec Ideal S4x8192x16x64 .f32) : FVec Ideal S4x8192x16x48 .f32 := extractStridedSlice S4x8192x16x48 ![0, 0, 0, 16] z slices_S4x8192x16x64_S4x8192x16x48_0_0_0_16
/-- The turned first eight -/
def low16 (z : FVec Ideal S4x8192x16x64 .f32) (C S : FVec Ideal S8192x1x8 .f32) : FVec Ideal S4x8192x16x8 .f32 :=
  subf (mulf (first16 z) (wide16 C)) (mulf (second16 z) (wide16 S))
/-- and next eight. -/
def high16 (z : FVec Ideal S4x8192x16x64 .f32) (C S : FVec Ideal S8192x1x8 .f32) : FVec Ideal S4x8192x16x8 .f32 :=
  addf (mulf (second16 z) (wide16 C)) (mulf (first16 z) (wide16 S))
/-- The heads turned. -/
def turned16 (z : FVec Ideal S4x8192x16x64 .f32) (C S : FVec Ideal S8192x1x8 .f32) : FVec Ideal S4x8192x16x64 .f32 :=
  concatenate S4x8192x16x64 3 [⟨S4x8192x16x8, low16 z C S⟩, ⟨S4x8192x16x8, high16 z C S⟩, ⟨S4x8192x16x48, rest16 z⟩] concatenates_S4x8192x16x8_S4x8192x16x8_S4x8192x16x48_S4x8192x16x64_d3
/-- The heads first, the sequences end to end, -/
def flat16 (z : FVec Ideal S4x8192x16x64 .f32) : FVec Ideal S16x32768x64 .f32 :=
  shapeCast S16x32768x64 (transpose S16x4x8192x64 [2, 0, 1, 3] z transposes_S4x8192x16x64_S16x4x8192x64_2_0_1_3) shapeCasts_S16x4x8192x64_S16x32768x64
/-- in 128 lanes. -/
def laid16 (z : FVec Ideal S4x8192x16x64 .f32) : FVec Ideal S16x32768x128 .bf16 :=
  truncf (F := Ideal) (s := S16x32768x128) (φ := .f32) .bf16 (pad S16x32768x128 ![0, 0, 0] ![0, 0, 64] ![0, 0, 0] (flat16 z) (sitofp (F := Ideal) .f32 (constantI S_ 32 0#32))
    pads_S16x32768x64_S16x32768x128_000_000_0640 h_S_) bitsLt_bf16_f32

/-- A head's sum of squares. -/
theorem hsquares16_apply (z : FVec Ideal S4x8192x16x64 .f32) (s : Fin 4) (p : Fin 8192) (h : Fin 16) :
    hsquares16 z (ix3 s p h) = ∑ k : Fin 64, z (ix4 s p h k) * z (ix4 s p h k) :=
  Reductions.lastSum _ _ _ s p h
/-- A head's scale. -/
theorem hscales16_apply (q : FVec Ideal S4x8192x16 .f32) (s : Fin 4) (p : Fin 8192) (h : Fin 16) :
    hscales16 q (ix4 s p h 0) = Ideal.rsqrt (Ideal.div (q (ix3 s p h)) (Ideal.ofBits .f32 0x42800000#32) + Ideal.ofBits .f32 0x358637BD#32) := by
  pointwise [hscales16]
/-- A number of a scaled head. -/
theorem hgained16_apply (z : FVec Ideal S4x8192x16x64 .f32) (r : FVec Ideal S4x8192x16x1 .f32) (g : FVec Ideal S64 .f32) (s : Fin 4) (p : Fin 8192) (h : Fin 16) (d : Fin 64) :
    hgained16 z r g (ix4 s p h d) = z (ix4 s p h d) * r (ix4 s p h 0) * g (ix1 d) := by
  pointwise [hgained16]
/-- The heads normed. -/
theorem hnormed16 (z : FVec Ideal S4x8192x16x64 .f32) (g : FVec Ideal S64 .f32) (s : Fin 4) (p : Fin 8192) (h : Fin 16) (d : Fin 64) :
    hgained16 z (hscales16 (hsquares16 z)) g (ix4 s p h d) = Cert.Proj.unit (fun d => z (ix4 s p h d)) d * g (ix1 d) := by
  rw [hgained16_apply, hscales16_apply, hsquares16_apply]
  rfl
/-- A table's entry at a head. -/
theorem wide16_apply (C : FVec Ideal S8192x1x8 .f32) (s : Fin 4) (p : Fin 8192) (h : Fin 16) (k : Fin 8) : wide16 C (ix4 s p h k) = C (ix3 p 0 k) := by
  pointwise [wide16]
/-- The first eight at an index. -/
theorem first16_apply (z : FVec Ideal S4x8192x16x64 .f32) (s : Fin 4) (p : Fin 8192) (h : Fin 16) (k : Fin 8) : first16 z (ix4 s p h k) = z (ix4 s p h ⟨k.val, by omega⟩) := by
  refine extractStridedSlice_apply _ _ _ _ _ fun a => ?_
  match a with
  | 0 => show s.val = 0 + s.val; omega
  | 1 => show p.val = 0 + p.val; omega
  | 2 => show h.val = 0 + h.val; omega
  | 3 => show k.val = 0 + k.val; omega
/-- The next eight. -/
theorem second16_apply (z : FVec Ideal S4x8192x16x64 .f32) (s : Fin 4) (p : Fin 8192) (h : Fin 16) (k : Fin 8) : second16 z (ix4 s p h k) = z (ix4 s p h ⟨8 + k.val, by omega⟩) := by
  refine extractStridedSlice_apply _ _ _ _ _ fun a => ?_
  match a with
  | 0 => show s.val = 0 + s.val; omega
  | 1 => show p.val = 0 + p.val; omega
  | 2 => show h.val = 0 + h.val; omega
  | 3 => rfl
/-- The rest. -/
theorem rest16_apply (z : FVec Ideal S4x8192x16x64 .f32) (s : Fin 4) (p : Fin 8192) (h : Fin 16) (k : Fin 48) : rest16 z (ix4 s p h k) = z (ix4 s p h ⟨16 + k.val, by omega⟩) := by
  refine extractStridedSlice_apply _ _ _ _ _ fun a => ?_
  match a with
  | 0 => show s.val = 0 + s.val; omega
  | 1 => show p.val = 0 + p.val; omega
  | 2 => show h.val = 0 + h.val; omega
  | 3 => rfl
/-- The turned first eight. -/
theorem low16_apply (z : FVec Ideal S4x8192x16x64 .f32) (C S : FVec Ideal S8192x1x8 .f32) (s : Fin 4) (p : Fin 8192) (h : Fin 16) (k : Fin 8) :
    low16 z C S (ix4 s p h k) = z (ix4 s p h ⟨k.val, by omega⟩) * C (ix3 p 0 k) - z (ix4 s p h ⟨8 + k.val, by omega⟩) * S (ix3 p 0 k) := by
  show first16 z (ix4 s p h k) * wide16 C (ix4 s p h k) - second16 z (ix4 s p h k) * wide16 S (ix4 s p h k) = _
  rw [first16_apply, second16_apply, wide16_apply, wide16_apply]
/-- The turned next eight. -/
theorem high16_apply (z : FVec Ideal S4x8192x16x64 .f32) (C S : FVec Ideal S8192x1x8 .f32) (s : Fin 4) (p : Fin 8192) (h : Fin 16) (k : Fin 8) :
    high16 z C S (ix4 s p h k) = z (ix4 s p h ⟨8 + k.val, by omega⟩) * C (ix3 p 0 k) + z (ix4 s p h ⟨k.val, by omega⟩) * S (ix3 p 0 k) := by
  show second16 z (ix4 s p h k) * wide16 C (ix4 s p h k) + first16 z (ix4 s p h k) * wide16 S (ix4 s p h k) = _
  rw [first16_apply, second16_apply, wide16_apply, wide16_apply]
/-- The turned pieces. -/
def pieces16 (z : FVec Ideal S4x8192x16x64 .f32) (C S : FVec Ideal S8192x1x8 .f32) : List ((s : Shape) × (s.Idx → EReal)) :=
  [⟨S4x8192x16x8, low16 z C S⟩, ⟨S4x8192x16x8, high16 z C S⟩, ⟨S4x8192x16x48, rest16 z⟩]
/-- A number of a turned head. -/
theorem turned16_apply (z : FVec Ideal S4x8192x16x64 .f32) (C S : FVec Ideal S8192x1x8 .f32) (s : Fin 4) (p : Fin 8192) (h : Fin 16) (d : Fin 64) :
    turned16 z C S (ix4 s p h d) = Cert.Proj.rot (fun d => z (ix4 s p h d)) (fun k => C (ix3 p 0 k)) (fun k => S (ix3 p 0 k)) d := by
  have hd := d.isLt
  unfold Cert.Proj.rot
  by_cases h1 : d.val < 8
  · rw [dif_pos h1]
    refine (concatenate_apply_piece (t := S4x8192x16x64) 3 (pieces16 z C S) concatenates_S4x8192x16x8_S4x8192x16x8_S4x8192x16x48_S4x8192x16x64_d3 _ 0 (by show 0 < 3; decide) S4x8192x16x8 (low16 z C S) rfl rfl 0 rfl
      (ix4 s p h ⟨d.val, h1⟩) (fun b hb => ?_) ?_).trans ?_
    · match b with
      | 0 => rfl
      | 1 => rfl
      | 2 => rfl
      | 3 => exact absurd rfl hb
    · show 0 + d.val = d.val
      omega
    · rw [low16_apply]
      have e : (⟨8 + d.val, by omega⟩ : Fin 64) = ⟨d.val + 8, by omega⟩ := Fin.ext (Nat.add_comm _ _)
      exact congrArg (fun n => z (ix4 s p h d) * C (ix3 p 0 ⟨d.val, h1⟩) - z (ix4 s p h n) * S (ix3 p 0 ⟨d.val, h1⟩)) e
  · rw [dif_neg h1]
    by_cases h2 : d.val < 16
    · rw [dif_pos h2]
      refine (concatenate_apply_piece (t := S4x8192x16x64) 3 (pieces16 z C S) concatenates_S4x8192x16x8_S4x8192x16x8_S4x8192x16x48_S4x8192x16x64_d3 _ 1 (by show 1 < 3; decide) S4x8192x16x8 (high16 z C S) rfl rfl 8 rfl
        (ix4 s p h ⟨d.val - 8, by omega⟩) (fun b hb => ?_) ?_).trans ?_
      · match b with
        | 0 => rfl
        | 1 => rfl
        | 2 => rfl
        | 3 => exact absurd rfl hb
      · show 8 + (d.val - 8) = d.val
        omega
      · rw [high16_apply]
        have e : (⟨8 + (d.val - 8), by omega⟩ : Fin 64) = d := Fin.ext (by show 8 + (d.val - 8) = d.val; omega)
        exact congrArg (fun n => z (ix4 s p h n) * C (ix3 p 0 ⟨d.val - 8, by omega⟩) + z (ix4 s p h ⟨d.val - 8, by omega⟩) * S (ix3 p 0 ⟨d.val - 8, by omega⟩)) e
    · rw [dif_neg h2]
      refine (concatenate_apply_piece (t := S4x8192x16x64) 3 (pieces16 z C S) concatenates_S4x8192x16x8_S4x8192x16x8_S4x8192x16x48_S4x8192x16x64_d3 _ 2 (by show 2 < 3; decide) S4x8192x16x48 (rest16 z) rfl rfl 16 rfl
        (ix4 s p h ⟨d.val - 16, by omega⟩) (fun b hb => ?_) ?_).trans ?_
      · match b with
        | 0 => rfl
        | 1 => rfl
        | 2 => rfl
        | 3 => exact absurd rfl hb
      · show 16 + (d.val - 16) = d.val
        omega
      · rw [rest16_apply]
        exact congrArg (fun n => z (ix4 s p h n)) (Fin.ext (by show 16 + (d.val - 16) = d.val; omega))
/-- A number of a head of all rows, -/
theorem flat16_apply (z : FVec Ideal S4x8192x16x64 .f32) (h : Fin 16) (i : Fin 32768) (d : Fin 64) :
    flat16 z (ix3 h i d) = z (ix4 (Glu.seqOf i) (Glu.rowOf i) h d) := by
  have e1 : ∀ y : FVec Ideal S16x4x8192x64 .f32, shapeCast S16x32768x64 y shapeCasts_S16x4x8192x64_S16x32768x64 (ix3 h i d) = y (ix4 h (Glu.seqOf i) (Glu.rowOf i) d) := fun y => by
    pointwise
    rfl
  have e2 : ∀ (s : Fin 4) (p : Fin 8192), transpose S16x4x8192x64 [2, 0, 1, 3] z transposes_S4x8192x16x64_S16x4x8192x64_2_0_1_3 (ix4 h s p d) = z (ix4 s p h d) := fun s p => by
    pointwise
  exact (e1 _).trans (e2 _ _)
/-- and in its lane. -/
theorem laid16_apply (z : FVec Ideal S4x8192x16x64 .f32) (h : Fin 16) (i : Fin 32768) (l : Fin 128) :
    laid16 z (ix3 h i l) = Cert.Proj.lane (fun d => z (ix4 (Glu.seqOf i) (Glu.rowOf i) h d)) l := by
  have hi := i.isLt
  have hh := h.isLt
  unfold Cert.Proj.lane
  by_cases hl : l.val < 64
  · rw [dif_pos hl]
    refine (dif_pos (c := ∀ a : Fin 3, _) ?_).trans ?_
    · intro a
      match a with
      | 0 => exact ⟨Nat.zero_le _, Nat.mod_one _, by show (h.val - 0) / 1 < 16; omega⟩
      | 1 => exact ⟨Nat.zero_le _, Nat.mod_one _, by show (i.val - 0) / 1 < 32768; omega⟩
      | 2 => exact ⟨Nat.zero_le _, Nat.mod_one _, by show (l.val - 0) / 1 < 64; omega⟩
    · refine (congrArg _ (funext fun a => Fin.ext ?_)).trans (flat16_apply z h i ⟨l.val, hl⟩)
      match a with
      | 0 => exact Nat.div_one _
      | 1 => exact Nat.div_one _
      | 2 => exact Nat.div_one _
  · rw [dif_neg hl]
    refine (dif_neg (c := ∀ a : Fin 3, _) ?_).trans ?_
    · intro hin
      have h1 : (l.val - 0) / 1 < 64 := (hin 2).2.2
      omega
    · show ((((0#32 : BitVec 32).toInt : ℤ) : ℝ) : EReal) = 0
      simp

/-! ## Groups of 4 heads -/

/-- The heads' sums of squares. -/
def hsquares4 (z : FVec Ideal S4x8192x4x64 .f32) : FVec Ideal S4x8192x4 .f32 :=
  Host.reduceAdd (mulf z z) (constant S_ .f32 0x00000000#32) reducesTo_S4x8192x4x64_S4x8192x4_d3 h_S_
/-- Their inverse root means. -/
def hscales4 (q : FVec Ideal S4x8192x4 .f32) : FVec Ideal S4x8192x4x1 .f32 :=
  Host.rsqrt (addf (Host.divf (broadcastInDim S4x8192x4x1 ![0, 1, 2] bcast_S4x8192x4_S4x8192x4x1_0_1_2 q)
      (broadcastInDim S4x8192x4x1 ![] bcast_S_S4x8192x4x1 (constant S_ .f32 0x42800000#32)))
    (broadcastInDim S4x8192x4x1 ![] bcast_S_S4x8192x4x1 (constant S_ .f32 0x358637BD#32)))
/-- The heads scaled, under the gains. -/
def hgained4 (z : FVec Ideal S4x8192x4x64 .f32) (r : FVec Ideal S4x8192x4x1 .f32) (g : FVec Ideal S64 .f32) : FVec Ideal S4x8192x4x64 .f32 :=
  mulf (mulf z (broadcastInDim S4x8192x4x64 ![0, 1, 2, 3] bcast_S4x8192x4x1_S4x8192x4x64_0_1_2_3 r))
    (broadcastInDim S4x8192x4x64 ![0, 1, 2, 3] bcast_S1x1x1x64_S4x8192x4x64_0_1_2_3 (broadcastInDim S1x1x1x64 ![3] bcast_S64_S1x1x1x64_3 g))
/-- A table over all heads. -/
def wide4 (C : FVec Ideal S8192x1x8 .f32) : FVec Ideal S4x8192x4x8 .f32 :=
  broadcastInDim S4x8192x4x8 ![0, 1, 2, 3] bcast_S1x8192x1x8_S4x8192x4x8_0_1_2_3 (broadcastInDim S1x8192x1x8 ![1, 2, 3] bcast_S8192x1x8_S1x8192x1x8_1_2_3 C)
/-- The heads' first eight numbers -/
def first4 (z : FVec Ideal S4x8192x4x64 .f32) : FVec Ideal S4x8192x4x8 .f32 := extractStridedSlice S4x8192x4x8 ![0, 0, 0, 0] z slices_S4x8192x4x64_S4x8192x4x8_0_0_0_0
/-- and their next eight. -/
def second4 (z : FVec Ideal S4x8192x4x64 .f32) : FVec Ideal S4x8192x4x8 .f32 := extractStridedSlice S4x8192x4x8 ![0, 0, 0, 8] z slices_S4x8192x4x64_S4x8192x4x8_0_0_0_8
/-- The rest. -/
def rest4 (z : FVec Ideal S4x8192x4x64 .f32) : FVec Ideal S4x8192x4x48 .f32 := extractStridedSlice S4x8192x4x48 ![0, 0, 0, 16] z slices_S4x8192x4x64_S4x8192x4x48_0_0_0_16
/-- The turned first eight -/
def low4 (z : FVec Ideal S4x8192x4x64 .f32) (C S : FVec Ideal S8192x1x8 .f32) : FVec Ideal S4x8192x4x8 .f32 :=
  subf (mulf (first4 z) (wide4 C)) (mulf (second4 z) (wide4 S))
/-- and next eight. -/
def high4 (z : FVec Ideal S4x8192x4x64 .f32) (C S : FVec Ideal S8192x1x8 .f32) : FVec Ideal S4x8192x4x8 .f32 :=
  addf (mulf (second4 z) (wide4 C)) (mulf (first4 z) (wide4 S))
/-- The heads turned. -/
def turned4 (z : FVec Ideal S4x8192x4x64 .f32) (C S : FVec Ideal S8192x1x8 .f32) : FVec Ideal S4x8192x4x64 .f32 :=
  concatenate S4x8192x4x64 3 [⟨S4x8192x4x8, low4 z C S⟩, ⟨S4x8192x4x8, high4 z C S⟩, ⟨S4x8192x4x48, rest4 z⟩] concatenates_S4x8192x4x8_S4x8192x4x8_S4x8192x4x48_S4x8192x4x64_d3
/-- The heads first, the sequences end to end, -/
def flat4 (z : FVec Ideal S4x8192x4x64 .f32) : FVec Ideal S4x32768x64 .f32 :=
  shapeCast S4x32768x64 (transpose S4x4x8192x64 [2, 0, 1, 3] z transposes_S4x8192x4x64_S4x4x8192x64_2_0_1_3) shapeCasts_S4x4x8192x64_S4x32768x64
/-- in 128 lanes. -/
def laid4 (z : FVec Ideal S4x8192x4x64 .f32) : FVec Ideal S4x32768x128 .bf16 :=
  truncf (F := Ideal) (s := S4x32768x128) (φ := .f32) .bf16 (pad S4x32768x128 ![0, 0, 0] ![0, 0, 64] ![0, 0, 0] (flat4 z) (sitofp (F := Ideal) .f32 (constantI S_ 32 0#32))
    pads_S4x32768x64_S4x32768x128_000_000_0640 h_S_) bitsLt_bf16_f32

/-- A head's sum of squares. -/
theorem hsquares4_apply (z : FVec Ideal S4x8192x4x64 .f32) (s : Fin 4) (p : Fin 8192) (h : Fin 4) :
    hsquares4 z (ix3 s p h) = ∑ k : Fin 64, z (ix4 s p h k) * z (ix4 s p h k) :=
  Reductions.lastSum _ _ _ s p h
/-- A head's scale. -/
theorem hscales4_apply (q : FVec Ideal S4x8192x4 .f32) (s : Fin 4) (p : Fin 8192) (h : Fin 4) :
    hscales4 q (ix4 s p h 0) = Ideal.rsqrt (Ideal.div (q (ix3 s p h)) (Ideal.ofBits .f32 0x42800000#32) + Ideal.ofBits .f32 0x358637BD#32) := by
  pointwise [hscales4]
/-- A number of a scaled head. -/
theorem hgained4_apply (z : FVec Ideal S4x8192x4x64 .f32) (r : FVec Ideal S4x8192x4x1 .f32) (g : FVec Ideal S64 .f32) (s : Fin 4) (p : Fin 8192) (h : Fin 4) (d : Fin 64) :
    hgained4 z r g (ix4 s p h d) = z (ix4 s p h d) * r (ix4 s p h 0) * g (ix1 d) := by
  pointwise [hgained4]
/-- The heads normed. -/
theorem hnormed4 (z : FVec Ideal S4x8192x4x64 .f32) (g : FVec Ideal S64 .f32) (s : Fin 4) (p : Fin 8192) (h : Fin 4) (d : Fin 64) :
    hgained4 z (hscales4 (hsquares4 z)) g (ix4 s p h d) = Cert.Proj.unit (fun d => z (ix4 s p h d)) d * g (ix1 d) := by
  rw [hgained4_apply, hscales4_apply, hsquares4_apply]
  rfl
/-- A table's entry at a head. -/
theorem wide4_apply (C : FVec Ideal S8192x1x8 .f32) (s : Fin 4) (p : Fin 8192) (h : Fin 4) (k : Fin 8) : wide4 C (ix4 s p h k) = C (ix3 p 0 k) := by
  pointwise [wide4]
/-- The first eight at an index. -/
theorem first4_apply (z : FVec Ideal S4x8192x4x64 .f32) (s : Fin 4) (p : Fin 8192) (h : Fin 4) (k : Fin 8) : first4 z (ix4 s p h k) = z (ix4 s p h ⟨k.val, by omega⟩) := by
  refine extractStridedSlice_apply _ _ _ _ _ fun a => ?_
  match a with
  | 0 => show s.val = 0 + s.val; omega
  | 1 => show p.val = 0 + p.val; omega
  | 2 => show h.val = 0 + h.val; omega
  | 3 => show k.val = 0 + k.val; omega
/-- The next eight. -/
theorem second4_apply (z : FVec Ideal S4x8192x4x64 .f32) (s : Fin 4) (p : Fin 8192) (h : Fin 4) (k : Fin 8) : second4 z (ix4 s p h k) = z (ix4 s p h ⟨8 + k.val, by omega⟩) := by
  refine extractStridedSlice_apply _ _ _ _ _ fun a => ?_
  match a with
  | 0 => show s.val = 0 + s.val; omega
  | 1 => show p.val = 0 + p.val; omega
  | 2 => show h.val = 0 + h.val; omega
  | 3 => rfl
/-- The rest. -/
theorem rest4_apply (z : FVec Ideal S4x8192x4x64 .f32) (s : Fin 4) (p : Fin 8192) (h : Fin 4) (k : Fin 48) : rest4 z (ix4 s p h k) = z (ix4 s p h ⟨16 + k.val, by omega⟩) := by
  refine extractStridedSlice_apply _ _ _ _ _ fun a => ?_
  match a with
  | 0 => show s.val = 0 + s.val; omega
  | 1 => show p.val = 0 + p.val; omega
  | 2 => show h.val = 0 + h.val; omega
  | 3 => rfl
/-- The turned first eight. -/
theorem low4_apply (z : FVec Ideal S4x8192x4x64 .f32) (C S : FVec Ideal S8192x1x8 .f32) (s : Fin 4) (p : Fin 8192) (h : Fin 4) (k : Fin 8) :
    low4 z C S (ix4 s p h k) = z (ix4 s p h ⟨k.val, by omega⟩) * C (ix3 p 0 k) - z (ix4 s p h ⟨8 + k.val, by omega⟩) * S (ix3 p 0 k) := by
  show first4 z (ix4 s p h k) * wide4 C (ix4 s p h k) - second4 z (ix4 s p h k) * wide4 S (ix4 s p h k) = _
  rw [first4_apply, second4_apply, wide4_apply, wide4_apply]
/-- The turned next eight. -/
theorem high4_apply (z : FVec Ideal S4x8192x4x64 .f32) (C S : FVec Ideal S8192x1x8 .f32) (s : Fin 4) (p : Fin 8192) (h : Fin 4) (k : Fin 8) :
    high4 z C S (ix4 s p h k) = z (ix4 s p h ⟨8 + k.val, by omega⟩) * C (ix3 p 0 k) + z (ix4 s p h ⟨k.val, by omega⟩) * S (ix3 p 0 k) := by
  show second4 z (ix4 s p h k) * wide4 C (ix4 s p h k) + first4 z (ix4 s p h k) * wide4 S (ix4 s p h k) = _
  rw [first4_apply, second4_apply, wide4_apply, wide4_apply]
/-- The turned pieces. -/
def pieces4 (z : FVec Ideal S4x8192x4x64 .f32) (C S : FVec Ideal S8192x1x8 .f32) : List ((s : Shape) × (s.Idx → EReal)) :=
  [⟨S4x8192x4x8, low4 z C S⟩, ⟨S4x8192x4x8, high4 z C S⟩, ⟨S4x8192x4x48, rest4 z⟩]
/-- A number of a turned head. -/
theorem turned4_apply (z : FVec Ideal S4x8192x4x64 .f32) (C S : FVec Ideal S8192x1x8 .f32) (s : Fin 4) (p : Fin 8192) (h : Fin 4) (d : Fin 64) :
    turned4 z C S (ix4 s p h d) = Cert.Proj.rot (fun d => z (ix4 s p h d)) (fun k => C (ix3 p 0 k)) (fun k => S (ix3 p 0 k)) d := by
  have hd := d.isLt
  unfold Cert.Proj.rot
  by_cases h1 : d.val < 8
  · rw [dif_pos h1]
    refine (concatenate_apply_piece (t := S4x8192x4x64) 3 (pieces4 z C S) concatenates_S4x8192x4x8_S4x8192x4x8_S4x8192x4x48_S4x8192x4x64_d3 _ 0 (by show 0 < 3; decide) S4x8192x4x8 (low4 z C S) rfl rfl 0 rfl
      (ix4 s p h ⟨d.val, h1⟩) (fun b hb => ?_) ?_).trans ?_
    · match b with
      | 0 => rfl
      | 1 => rfl
      | 2 => rfl
      | 3 => exact absurd rfl hb
    · show 0 + d.val = d.val
      omega
    · rw [low4_apply]
      have e : (⟨8 + d.val, by omega⟩ : Fin 64) = ⟨d.val + 8, by omega⟩ := Fin.ext (Nat.add_comm _ _)
      exact congrArg (fun n => z (ix4 s p h d) * C (ix3 p 0 ⟨d.val, h1⟩) - z (ix4 s p h n) * S (ix3 p 0 ⟨d.val, h1⟩)) e
  · rw [dif_neg h1]
    by_cases h2 : d.val < 16
    · rw [dif_pos h2]
      refine (concatenate_apply_piece (t := S4x8192x4x64) 3 (pieces4 z C S) concatenates_S4x8192x4x8_S4x8192x4x8_S4x8192x4x48_S4x8192x4x64_d3 _ 1 (by show 1 < 3; decide) S4x8192x4x8 (high4 z C S) rfl rfl 8 rfl
        (ix4 s p h ⟨d.val - 8, by omega⟩) (fun b hb => ?_) ?_).trans ?_
      · match b with
        | 0 => rfl
        | 1 => rfl
        | 2 => rfl
        | 3 => exact absurd rfl hb
      · show 8 + (d.val - 8) = d.val
        omega
      · rw [high4_apply]
        have e : (⟨8 + (d.val - 8), by omega⟩ : Fin 64) = d := Fin.ext (by show 8 + (d.val - 8) = d.val; omega)
        exact congrArg (fun n => z (ix4 s p h n) * C (ix3 p 0 ⟨d.val - 8, by omega⟩) + z (ix4 s p h ⟨d.val - 8, by omega⟩) * S (ix3 p 0 ⟨d.val - 8, by omega⟩)) e
    · rw [dif_neg h2]
      refine (concatenate_apply_piece (t := S4x8192x4x64) 3 (pieces4 z C S) concatenates_S4x8192x4x8_S4x8192x4x8_S4x8192x4x48_S4x8192x4x64_d3 _ 2 (by show 2 < 3; decide) S4x8192x4x48 (rest4 z) rfl rfl 16 rfl
        (ix4 s p h ⟨d.val - 16, by omega⟩) (fun b hb => ?_) ?_).trans ?_
      · match b with
        | 0 => rfl
        | 1 => rfl
        | 2 => rfl
        | 3 => exact absurd rfl hb
      · show 16 + (d.val - 16) = d.val
        omega
      · rw [rest4_apply]
        exact congrArg (fun n => z (ix4 s p h n)) (Fin.ext (by show 16 + (d.val - 16) = d.val; omega))
/-- A number of a head of all rows, -/
theorem flat4_apply (z : FVec Ideal S4x8192x4x64 .f32) (h : Fin 4) (i : Fin 32768) (d : Fin 64) :
    flat4 z (ix3 h i d) = z (ix4 (Glu.seqOf i) (Glu.rowOf i) h d) := by
  have e1 : ∀ y : FVec Ideal S4x4x8192x64 .f32, shapeCast S4x32768x64 y shapeCasts_S4x4x8192x64_S4x32768x64 (ix3 h i d) = y (ix4 h (Glu.seqOf i) (Glu.rowOf i) d) := fun y => by
    pointwise
    rfl
  have e2 : ∀ (s : Fin 4) (p : Fin 8192), transpose S4x4x8192x64 [2, 0, 1, 3] z transposes_S4x8192x4x64_S4x4x8192x64_2_0_1_3 (ix4 h s p d) = z (ix4 s p h d) := fun s p => by
    pointwise
  exact (e1 _).trans (e2 _ _)
/-- and in its lane. -/
theorem laid4_apply (z : FVec Ideal S4x8192x4x64 .f32) (h : Fin 4) (i : Fin 32768) (l : Fin 128) :
    laid4 z (ix3 h i l) = Cert.Proj.lane (fun d => z (ix4 (Glu.seqOf i) (Glu.rowOf i) h d)) l := by
  have hi := i.isLt
  have hh := h.isLt
  unfold Cert.Proj.lane
  by_cases hl : l.val < 64
  · rw [dif_pos hl]
    refine (dif_pos (c := ∀ a : Fin 3, _) ?_).trans ?_
    · intro a
      match a with
      | 0 => exact ⟨Nat.zero_le _, Nat.mod_one _, by show (h.val - 0) / 1 < 4; omega⟩
      | 1 => exact ⟨Nat.zero_le _, Nat.mod_one _, by show (i.val - 0) / 1 < 32768; omega⟩
      | 2 => exact ⟨Nat.zero_le _, Nat.mod_one _, by show (l.val - 0) / 1 < 64; omega⟩
    · refine (congrArg _ (funext fun a => Fin.ext ?_)).trans (flat4_apply z h i ⟨l.val, hl⟩)
      match a with
      | 0 => exact Nat.div_one _
      | 1 => exact Nat.div_one _
      | 2 => exact Nat.div_one _
  · rw [dif_neg hl]
    refine (dif_neg (c := ∀ a : Fin 3, _) ?_).trans ?_
    · intro hin
      have h1 : (l.val - 0) / 1 < 64 := (hin 2).2.2
      omega
    · show ((((0#32 : BitVec 32).toInt : ℤ) : ℝ) : EReal) = 0
      simp

/-! ## The queries -/

/-- The queries' heads. -/
def qheads (y : FVec Ideal S4x8192x2608 .f32) : FVec Ideal S4x8192x16x64 .f32 :=
  shapeCast S4x8192x16x64 (extractStridedSlice S4x8192x1024 ![0, 0, 0] y slices_S4x8192x2608_S4x8192x1024_0_0_0) shapeCasts_S4x8192x1024_S4x8192x16x64
/-- Normed heads at an eighth. -/
def eighth (z : FVec Ideal S4x8192x16x64 .f32) : FVec Ideal S4x8192x16x64 .f32 :=
  mulf z (broadcastInDim S4x8192x16x64 ![] bcast_S_S4x8192x16x64 (constant S_ .f32 0x3E000000#32))
/-- The first result. -/
def qwhole (y : FVec Ideal S4x8192x2608 .f32) (g : FVec Ideal S64 .f32) (C S : FVec Ideal S8192x8 .f32) : FVec Ideal S16x32768x128 .bf16 :=
  laid16 (turned16 (eighth (hgained16 (qheads y) (hscales16 (hsquares16 (qheads y))) g)) (tall C) (tall S))

/-- A number of a query's head. -/
theorem qheads_apply (y : FVec Ideal S4x8192x2608 .f32) (s : Fin 4) (p : Fin 8192) (h : Fin 16) (d : Fin 64) :
    qheads y (ix4 s p h d) = Cert.Proj.head (fun n => y (ix3 s p n)) ⟨h.val, by omega⟩ d := by
  have e : ∀ z : FVec Ideal S4x8192x1024 .f32, shapeCast S4x8192x16x64 z shapeCasts_S4x8192x1024_S4x8192x16x64 (ix4 s p h d) = z (ix3 s p ⟨64 * h.val + d.val, by omega⟩) := fun z => by
    pointwise
    exact congrArg (fun n => z (ix3 s p n)) (Fin.ext (Nat.add_right_cancel_iff.mpr (Nat.mul_comm _ _)))
  refine (e _).trans (extractStridedSlice_apply _ _ _ _ _ fun a => ?_)
  match a with
  | 0 => show s.val = 0 + s.val; omega
  | 1 => show p.val = 0 + p.val; omega
  | 2 => show 64 * h.val + d.val = 0 + (64 * h.val + d.val); omega
/-- An eighth of a number. -/
theorem eighth_apply (z : FVec Ideal S4x8192x16x64 .f32) (s : Fin 4) (p : Fin 8192) (h : Fin 16) (d : Fin 64) :
    eighth z (ix4 s p h d) = z (ix4 s p h d) * Ideal.ofBits .f32 0x3E000000#32 := by
  pointwise [eighth]
/-- The first result holds the queries. -/
theorem qwhole_eq (x : FVec Ideal S4x8192x1024 .f32) (sc sh : FVec Ideal S4x1024 .f32) (g : FVec Ideal S1024 .f32) (w : FVec Ideal S1024x2608 .f32)
    (qg : FVec Ideal S64 .f32) (C S : FVec Ideal S8192x8 .f32) : qwhole (cells x sc sh g w) qg C S = Cert.Proj.queries x sc sh g w qg C S := by
  funext j
  obtain ⟨h, i, l, rfl⟩ : ∃ (h : Fin 16) (i : Fin 32768) (l : Fin 128), j = ix3 h i l := ⟨j 0, j 1, j 2, funext fun a => by
    match a with
    | 0 => rfl
    | 1 => rfl
    | 2 => rfl⟩
  unfold qwhole
  rw [laid16_apply]
  refine congrArg (fun f => Cert.Proj.lane f l) (funext fun d => ?_)
  rw [turned16_apply]
  simp only [eighth_apply, hnormed16, qheads_apply, cells_apply, tall_apply, mul_assoc]
  rfl

/-! ## The keys and values -/

/-- Four heads from column `o` of the product on. -/
def group (o : ℕ) (y : FVec Ideal S4x8192x2608 .f32) (h : S4x8192x2608.Slices ![0, 0, o] S4x8192x256) : FVec Ideal S4x8192x4x64 .f32 :=
  shapeCast S4x8192x4x64 (extractStridedSlice S4x8192x256 ![0, 0, o] y h) shapeCasts_S4x8192x256_S4x8192x4x64
/-- A group's gains. -/
def gains (r : ℕ) (g : FVec Ideal S3x64 .f32) (h : S3x64.Slices ![r, 0] S1x64) : FVec Ideal S64 .f32 := shapeCast S64 (extractStridedSlice S1x64 ![r, 0] g h) shapeCasts_S1x64_S64
/-- A group normed and turned. -/
def spun (z : FVec Ideal S4x8192x4x64 .f32) (g : FVec Ideal S64 .f32) (C S : FVec Ideal S8192x8 .f32) : FVec Ideal S4x8192x4x64 .f32 :=
  turned4 (hgained4 z (hscales4 (hsquares4 z)) g) (tall C) (tall S)
/-- The second result. -/
def kwhole (y : FVec Ideal S4x8192x2608 .f32) (g : FVec Ideal S3x64 .f32) (C S : FVec Ideal S8192x8 .f32) : FVec Ideal S24x32768x128 .bf16 :=
  concatenate S24x32768x128 0 [⟨S4x32768x128, laid4 (group 1024 y slices_S4x8192x2608_S4x8192x256_0_0_1024)⟩,
    ⟨S4x32768x128, laid4 (group 1280 y slices_S4x8192x2608_S4x8192x256_0_0_1280)⟩,
    ⟨S4x32768x128, laid4 (spun (group 1536 y slices_S4x8192x2608_S4x8192x256_0_0_1536) (gains 1 g slices_S3x64_S1x64_1_0) C S)⟩,
    ⟨S4x32768x128, laid4 (group 1792 y slices_S4x8192x2608_S4x8192x256_0_0_1792)⟩,
    ⟨S4x32768x128, laid4 (spun (group 2048 y slices_S4x8192x2608_S4x8192x256_0_0_2048) (gains 2 g slices_S3x64_S1x64_2_0) C S)⟩,
    ⟨S4x32768x128, laid4 (group 2304 y slices_S4x8192x2608_S4x8192x256_0_0_2304)⟩]
    concatenates_S4x32768x128_S4x32768x128_S4x32768x128_S4x32768x128_S4x32768x128_S4x32768x128_S24x32768x128_d0
/-- Its pieces. -/
def groups (y : FVec Ideal S4x8192x2608 .f32) (g : FVec Ideal S3x64 .f32) (C S : FVec Ideal S8192x8 .f32) : List ((s : Shape) × (s.Idx → EReal)) :=
  [⟨S4x32768x128, laid4 (group 1024 y slices_S4x8192x2608_S4x8192x256_0_0_1024)⟩,
    ⟨S4x32768x128, laid4 (group 1280 y slices_S4x8192x2608_S4x8192x256_0_0_1280)⟩,
    ⟨S4x32768x128, laid4 (spun (group 1536 y slices_S4x8192x2608_S4x8192x256_0_0_1536) (gains 1 g slices_S3x64_S1x64_1_0) C S)⟩,
    ⟨S4x32768x128, laid4 (group 1792 y slices_S4x8192x2608_S4x8192x256_0_0_1792)⟩,
    ⟨S4x32768x128, laid4 (spun (group 2048 y slices_S4x8192x2608_S4x8192x256_0_0_2048) (gains 2 g slices_S3x64_S1x64_2_0) C S)⟩,
    ⟨S4x32768x128, laid4 (group 2304 y slices_S4x8192x2608_S4x8192x256_0_0_2304)⟩]

/-- A number of a group's head. -/
theorem group_apply (o : ℕ) (y : FVec Ideal S4x8192x2608 .f32) (hs : S4x8192x2608.Slices ![0, 0, o] S4x8192x256) (s : Fin 4) (p : Fin 8192) (h : Fin 4) (d : Fin 64)
    (n : Fin 40) (hn : 64 * n.val = o + 64 * h.val) : group o y hs (ix4 s p h d) = Cert.Proj.head (fun n => y (ix3 s p n)) n d := by
  have e : ∀ z : FVec Ideal S4x8192x256 .f32, shapeCast S4x8192x4x64 z shapeCasts_S4x8192x256_S4x8192x4x64 (ix4 s p h d) = z (ix3 s p ⟨64 * h.val + d.val, by omega⟩) := fun z => by
    pointwise
    exact congrArg (fun n => z (ix3 s p n)) (Fin.ext (Nat.add_right_cancel_iff.mpr (Nat.mul_comm _ _)))
  refine (e _).trans (extractStridedSlice_apply _ _ _ _ _ fun a => ?_)
  match a with
  | 0 => show s.val = 0 + s.val; omega
  | 1 => show p.val = 0 + p.val; omega
  | 2 => show 64 * n.val + d.val = o + (64 * h.val + d.val); omega
/-- A group's gain. -/
theorem gains_apply (r : ℕ) (g : FVec Ideal S3x64 .f32) (h : S3x64.Slices ![r, 0] S1x64) (r' : Fin 3) (hr : r'.val = r) (d : Fin 64) : gains r g h (ix1 d) = g (ix2 r' d) := by
  have e : ∀ z : FVec Ideal S1x64 .f32, shapeCast S64 z shapeCasts_S1x64_S64 (ix1 d) = z (ix2 0 d) := fun z => by
    pointwise
  refine (e _).trans (extractStridedSlice_apply _ _ _ _ _ fun a => ?_)
  match a with
  | 0 => show r'.val = r + 0; omega
  | 1 => show d.val = 0 + d.val; omega
/-- A number of a turned group. -/
theorem spun_apply (z : FVec Ideal S4x8192x4x64 .f32) (g : FVec Ideal S64 .f32) (C S : FVec Ideal S8192x8 .f32) (s : Fin 4) (p : Fin 8192) (h : Fin 4) (d : Fin 64) :
    spun z g C S (ix4 s p h d)
      = Cert.Proj.rot (fun d => Cert.Proj.unit (fun d => z (ix4 s p h d)) d * g (ix1 d)) (fun k => C (ix2 p k)) (fun k => S (ix2 p k)) d := by
  unfold spun
  rw [turned4_apply]
  simp only [hnormed4, tall_apply]

section
variable (x : FVec Ideal S4x8192x1024 .f32) (sc sh : FVec Ideal S4x1024 .f32) (g : FVec Ideal S1024 .f32) (w : FVec Ideal S1024x2608 .f32)
  (kg : FVec Ideal S3x64 .f32) (C S : FVec Ideal S8192x8 .f32)

/-- A plain group of heads in its lanes, -/
theorem plain_eq (o : ℕ) (hs : S4x8192x2608.Slices ![0, 0, o] S4x8192x256) (q : Fin 6) (hq : o = 1024 + 256 * q.val) (h2 : q.val ≠ 2) (h4 : q.val ≠ 4)
    (h : Fin 24) (hh : h.val / 4 = q.val) (i : Fin 32768) (l : Fin 128) :
    laid4 (group o (cells x sc sh g w) hs) (ix3 ⟨h.val % 4, Nat.mod_lt _ (by decide)⟩ i l) = Cert.Proj.keyvals x sc sh g w kg C S (ix3 h i l) := by
  rw [laid4_apply]
  refine congrArg (fun f => Cert.Proj.lane f l) (funext fun d => ?_)
  show _ = Cert.Proj.keyval _ kg _ _ h d
  unfold Cert.Proj.keyval
  rw [hh, if_neg h2, if_neg h4, group_apply o _ hs _ _ _ d (Cert.Proj.later h) (by show 64 * (16 + h.val) = o + 64 * (h.val % 4); omega)]
  simp only [cells_apply]
  rfl
/-- the third -/
theorem third_eq (h : Fin 24) (hh : h.val / 4 = 2) (i : Fin 32768) (l : Fin 128) :
    laid4 (spun (group 1536 (cells x sc sh g w) slices_S4x8192x2608_S4x8192x256_0_0_1536) (gains 1 kg slices_S3x64_S1x64_1_0) C S) (ix3 ⟨h.val % 4, Nat.mod_lt _ (by decide)⟩ i l)
      = Cert.Proj.keyvals x sc sh g w kg C S (ix3 h i l) := by
  rw [laid4_apply]
  refine congrArg (fun f => Cert.Proj.lane f l) (funext fun d => ?_)
  show _ = Cert.Proj.keyval _ kg _ _ h d
  unfold Cert.Proj.keyval
  rw [if_pos hh, spun_apply]
  have e : ∀ d, group 1536 (cells x sc sh g w) slices_S4x8192x2608_S4x8192x256_0_0_1536 (ix4 (Glu.seqOf i) (Glu.rowOf i) ⟨h.val % 4, Nat.mod_lt _ (by decide)⟩ d) = _ := fun d =>
    group_apply 1536 (cells x sc sh g w) slices_S4x8192x2608_S4x8192x256_0_0_1536 (Glu.seqOf i) (Glu.rowOf i) ⟨h.val % 4, Nat.mod_lt _ (by decide)⟩ d (Cert.Proj.later h) (by show 64 * (16 + h.val) = 1536 + 64 * (h.val % 4); omega)
  simp only [e, gains_apply 1 kg slices_S3x64_S1x64_1_0 1 rfl, cells_apply]
  rfl
/-- and the fifth. -/
theorem fifth_eq (h : Fin 24) (hh : h.val / 4 = 4) (i : Fin 32768) (l : Fin 128) :
    laid4 (spun (group 2048 (cells x sc sh g w) slices_S4x8192x2608_S4x8192x256_0_0_2048) (gains 2 kg slices_S3x64_S1x64_2_0) C S) (ix3 ⟨h.val % 4, Nat.mod_lt _ (by decide)⟩ i l)
      = Cert.Proj.keyvals x sc sh g w kg C S (ix3 h i l) := by
  rw [laid4_apply]
  refine congrArg (fun f => Cert.Proj.lane f l) (funext fun d => ?_)
  show _ = Cert.Proj.keyval _ kg _ _ h d
  unfold Cert.Proj.keyval
  rw [hh, if_neg (by decide), if_pos rfl, spun_apply]
  have e : ∀ d, group 2048 (cells x sc sh g w) slices_S4x8192x2608_S4x8192x256_0_0_2048 (ix4 (Glu.seqOf i) (Glu.rowOf i) ⟨h.val % 4, Nat.mod_lt _ (by decide)⟩ d) = _ := fun d =>
    group_apply 2048 (cells x sc sh g w) slices_S4x8192x2608_S4x8192x256_0_0_2048 (Glu.seqOf i) (Glu.rowOf i) ⟨h.val % 4, Nat.mod_lt _ (by decide)⟩ d (Cert.Proj.later h) (by show 64 * (16 + h.val) = 2048 + 64 * (h.val % 4); omega)
  simp only [e, gains_apply 2 kg slices_S3x64_S1x64_2_0 2 rfl, cells_apply]
  rfl

/-- The second result holds the keys and values. -/
theorem kwhole_eq : kwhole (cells x sc sh g w) kg C S = Cert.Proj.keyvals x sc sh g w kg C S := by
  funext j
  obtain ⟨h, i, l, rfl⟩ : ∃ (h : Fin 24) (i : Fin 32768) (l : Fin 128), j = ix3 h i l := ⟨j 0, j 1, j 2, funext fun a => by
    match a with
    | 0 => rfl
    | 1 => rfl
    | 2 => rfl⟩
  have hlt := h.isLt
  have hq : h.val / 4 = 0 ∨ h.val / 4 = 1 ∨ h.val / 4 = 2 ∨ h.val / 4 = 3 ∨ h.val / 4 = 4 ∨ h.val / 4 = 5 := by omega
  rcases hq with hq | hq | hq | hq | hq | hq
  · refine (concatenate_apply_piece (t := S24x32768x128) 0 (groups (cells x sc sh g w) kg C S) concatenates_S4x32768x128_S4x32768x128_S4x32768x128_S4x32768x128_S4x32768x128_S4x32768x128_S24x32768x128_d0 _ 0 (by show 0 < 6; decide)
      S4x32768x128 (laid4 (group 1024 (cells x sc sh g w) slices_S4x8192x2608_S4x8192x256_0_0_1024)) rfl rfl 0 rfl (ix3 ⟨h.val % 4, Nat.mod_lt _ (by decide)⟩ i l) (fun b hb => ?_) ?_).trans (plain_eq x sc sh g w kg C S 1024 _ 0 rfl (by decide) (by decide) h hq i l)
    · match b with
      | 0 => exact absurd rfl hb
      | 1 => rfl
      | 2 => rfl
    · show 0 + h.val % 4 = h.val
      omega
  · refine (concatenate_apply_piece (t := S24x32768x128) 0 (groups (cells x sc sh g w) kg C S) concatenates_S4x32768x128_S4x32768x128_S4x32768x128_S4x32768x128_S4x32768x128_S4x32768x128_S24x32768x128_d0 _ 1 (by show 1 < 6; decide)
      S4x32768x128 (laid4 (group 1280 (cells x sc sh g w) slices_S4x8192x2608_S4x8192x256_0_0_1280)) rfl rfl 4 rfl (ix3 ⟨h.val % 4, Nat.mod_lt _ (by decide)⟩ i l) (fun b hb => ?_) ?_).trans (plain_eq x sc sh g w kg C S 1280 _ 1 rfl (by decide) (by decide) h hq i l)
    · match b with
      | 0 => exact absurd rfl hb
      | 1 => rfl
      | 2 => rfl
    · show 4 + h.val % 4 = h.val
      omega
  · refine (concatenate_apply_piece (t := S24x32768x128) 0 (groups (cells x sc sh g w) kg C S) concatenates_S4x32768x128_S4x32768x128_S4x32768x128_S4x32768x128_S4x32768x128_S4x32768x128_S24x32768x128_d0 _ 2 (by show 2 < 6; decide)
      S4x32768x128 (laid4 (spun (group 1536 (cells x sc sh g w) slices_S4x8192x2608_S4x8192x256_0_0_1536) (gains 1 kg slices_S3x64_S1x64_1_0) C S)) rfl rfl 8 rfl (ix3 ⟨h.val % 4, Nat.mod_lt _ (by decide)⟩ i l) (fun b hb => ?_) ?_).trans (third_eq x sc sh g w kg C S h hq i l)
    · match b with
      | 0 => exact absurd rfl hb
      | 1 => rfl
      | 2 => rfl
    · show 8 + h.val % 4 = h.val
      omega
  · refine (concatenate_apply_piece (t := S24x32768x128) 0 (groups (cells x sc sh g w) kg C S) concatenates_S4x32768x128_S4x32768x128_S4x32768x128_S4x32768x128_S4x32768x128_S4x32768x128_S24x32768x128_d0 _ 3 (by show 3 < 6; decide)
      S4x32768x128 (laid4 (group 1792 (cells x sc sh g w) slices_S4x8192x2608_S4x8192x256_0_0_1792)) rfl rfl 12 rfl (ix3 ⟨h.val % 4, Nat.mod_lt _ (by decide)⟩ i l) (fun b hb => ?_) ?_).trans (plain_eq x sc sh g w kg C S 1792 _ 3 rfl (by decide) (by decide) h hq i l)
    · match b with
      | 0 => exact absurd rfl hb
      | 1 => rfl
      | 2 => rfl
    · show 12 + h.val % 4 = h.val
      omega
  · refine (concatenate_apply_piece (t := S24x32768x128) 0 (groups (cells x sc sh g w) kg C S) concatenates_S4x32768x128_S4x32768x128_S4x32768x128_S4x32768x128_S4x32768x128_S4x32768x128_S24x32768x128_d0 _ 4 (by show 4 < 6; decide)
      S4x32768x128 (laid4 (spun (group 2048 (cells x sc sh g w) slices_S4x8192x2608_S4x8192x256_0_0_2048) (gains 2 kg slices_S3x64_S1x64_2_0) C S)) rfl rfl 16 rfl (ix3 ⟨h.val % 4, Nat.mod_lt _ (by decide)⟩ i l) (fun b hb => ?_) ?_).trans (fifth_eq x sc sh g w kg C S h hq i l)
    · match b with
      | 0 => exact absurd rfl hb
      | 1 => rfl
      | 2 => rfl
    · show 16 + h.val % 4 = h.val
      omega
  · refine (concatenate_apply_piece (t := S24x32768x128) 0 (groups (cells x sc sh g w) kg C S) concatenates_S4x32768x128_S4x32768x128_S4x32768x128_S4x32768x128_S4x32768x128_S4x32768x128_S24x32768x128_d0 _ 5 (by show 5 < 6; decide)
      S4x32768x128 (laid4 (group 2304 (cells x sc sh g w) slices_S4x8192x2608_S4x8192x256_0_0_2304)) rfl rfl 20 rfl (ix3 ⟨h.val % 4, Nat.mod_lt _ (by decide)⟩ i l) (fun b hb => ?_) ?_).trans (plain_eq x sc sh g w kg C S 2304 _ 5 rfl (by decide) (by decide) h hq i l)
    · match b with
      | 0 => exact absurd rfl hb
      | 1 => rfl
      | 2 => rfl
    · show 20 + h.val % 4 = h.val
      omega
end

/-! ## The gates' logits -/

/-- The third result. -/
def gwhole (y : FVec Ideal S4x8192x2608 .f32) : FVec Ideal S32768x128 .f32 :=
  pad S32768x128 ![0, 0] ![0, 80] ![0, 0] (shapeCast S32768x48 (extractStridedSlice S4x8192x48 ![0, 0, 2560] y slices_S4x8192x2608_S4x8192x48_0_0_2560) shapeCasts_S4x8192x48_S32768x48)
    (sitofp (F := Ideal) .f32 (constantI S_ 32 0#32)) pads_S32768x48_S32768x128_000_0800 h_S_
/-- It holds the logits. -/
theorem gwhole_eq (x : FVec Ideal S4x8192x1024 .f32) (sc sh : FVec Ideal S4x1024 .f32) (g : FVec Ideal S1024 .f32) (w : FVec Ideal S1024x2608 .f32) :
    gwhole (cells x sc sh g w) = Cert.Proj.logits x sc sh g w := by
  funext j
  obtain ⟨i, l, rfl⟩ : ∃ (i : Fin 32768) (l : Fin 128), j = ix2 i l := ⟨j 0, j 1, funext fun a => by
    match a with
    | 0 => rfl
    | 1 => rfl⟩
  have hi := i.isLt
  show gwhole (cells x sc sh g w) (ix2 i l) = Cert.Proj.logit (Cert.Proj.cell x sc sh g w (Glu.seqOf i) (Glu.rowOf i)) l
  unfold Cert.Proj.logit
  by_cases hl : l.val < 48
  · rw [dif_pos hl]
    have e : ∀ z : FVec Ideal S4x8192x48 .f32, shapeCast S32768x48 z shapeCasts_S4x8192x48_S32768x48 (ix2 i ⟨l.val, hl⟩) = z (ix3 (Glu.seqOf i) (Glu.rowOf i) ⟨l.val, hl⟩) := fun z => by
      pointwise
      rfl
    refine (dif_pos (c := ∀ a : Fin 2, _) ?_).trans ?_
    · intro a
      match a with
      | 0 => exact ⟨Nat.zero_le _, Nat.mod_one _, by show (i.val - 0) / 1 < 32768; omega⟩
      | 1 => exact ⟨Nat.zero_le _, Nat.mod_one _, by show (l.val - 0) / 1 < 48; omega⟩
    · refine (congrArg _ (funext fun a => Fin.ext ?_)).trans ((e _).trans ((extractStridedSlice_apply _ _ _ _ (ix3 (Glu.seqOf i) (Glu.rowOf i) ⟨2560 + l.val, by omega⟩) fun a => ?_).trans (cells_apply x sc sh g w _ _ _)))
      · match a with
        | 0 => exact Nat.div_one _
        | 1 => exact Nat.div_one _
      · match a with
        | 0 => show (Glu.seqOf i).val = 0 + (Glu.seqOf i).val; omega
        | 1 => show (Glu.rowOf i).val = 0 + (Glu.rowOf i).val; omega
        | 2 => rfl
  · rw [dif_neg hl]
    refine (dif_neg (c := ∀ a : Fin 2, _) ?_).trans ?_
    · intro hin
      have h1 : (l.val - 0) / 1 < 48 := (hin 1).2.2
      omega
    · show ((((0#32 : BitVec 32).toInt : ℤ) : ℝ) : EReal) = 0
      simp

/-- The results at arguments equal to given arrays. -/
theorem whole_of (m : (ℓ : Loc nD τ sig) → Buf (Elt Ideal) ℓ) (c : Dev nD) (x : Glu.Xs) (sc sh : Glu.Mods) (g : Glu.Gains) (w : Cert.Proj.Ws) (qg : Cert.Proj.QGains)
    (kg : Cert.Proj.KGains) (h : m (c.tc.loc main_arg0) = x ∧ m (c.tc.loc main_arg1) = sc ∧ m (c.tc.loc main_arg2) = sh ∧ m (c.tc.loc main_arg3) = g
      ∧ m (c.tc.loc main_arg4) = w ∧ m (c.tc.loc main_arg5) = qg ∧ m (c.tc.loc main_arg6) = kg) :
    qwhole (cells (m (c.tc.loc main_arg0)) (m (c.tc.loc main_arg1)) (m (c.tc.loc main_arg2)) (m (c.tc.loc main_arg3)) (m (c.tc.loc main_arg4)))
        (m (c.tc.loc main_arg5)) cosines sines = Cert.Proj.queries x sc sh g w qg cosines sines
    ∧ kwhole (cells (m (c.tc.loc main_arg0)) (m (c.tc.loc main_arg1)) (m (c.tc.loc main_arg2)) (m (c.tc.loc main_arg3)) (m (c.tc.loc main_arg4)))
        (m (c.tc.loc main_arg6)) cosines sines = Cert.Proj.keyvals x sc sh g w kg cosines sines
    ∧ gwhole (cells (m (c.tc.loc main_arg0)) (m (c.tc.loc main_arg1)) (m (c.tc.loc main_arg2)) (m (c.tc.loc main_arg3)) (m (c.tc.loc main_arg4)))
        = Cert.Proj.logits x sc sh g w := by
  obtain ⟨rfl, rfl, rfl, rfl, rfl, rfl, rfl⟩ := h
  exact ⟨qwhole_eq _ _ _ _ _ _ _ _, kwhole_eq _ _ _ _ _ _ _ _, gwhole_eq _ _ _ _ _⟩

/-- The first result of a run is the queries' stages, -/
theorem run_q (m : (ℓ : Loc nD τ sig) → Buf (Elt Ideal) ℓ) (c : Dev nD) :
    (truncf (F := Ideal) (s := S16x32768x128) (φ := .f32) .bf16 (pad S16x32768x128 ![0, 0, 0] ![0, 0, 64] ![0, 0, 0] (shapeCast _ (transpose S16x4x8192x64 [2, 0, 1, 3] ((concatenate S4x8192x16x64 3 [⟨S4x8192x16x8, ((subf (mulf (Cert.Reference6Ideal.Value.res_main_v67 (launchContents m c)) (broadcastInDim S4x8192x16x8 ![0, 1, 2, 3] bcast_S1x8192x1x8_S4x8192x16x8_0_1_2_3 (broadcastInDim S1x8192x1x8 ![1, 2, 3] bcast_S8192x1x8_S1x8192x1x8_1_2_3 (Cert.Reference6Ideal.Value.res_main_v18 (launchContents m c))))) (mulf (Cert.Reference6Ideal.Value.res_main_v68 (launchContents m c)) (broadcastInDim S4x8192x16x8 ![0, 1, 2, 3] bcast_S1x8192x1x8_S4x8192x16x8_0_1_2_3 (broadcastInDim S1x8192x1x8 ![1, 2, 3] bcast_S8192x1x8_S1x8192x1x8_1_2_3 (Cert.Reference6Ideal.Value.res_main_v20 (launchContents m c)))))) : (⟨S4x8192x16x8, .f32⟩ : BufTy).Contents (Elt Ideal))⟩, ⟨S4x8192x16x8, ((addf (mulf (Cert.Reference6Ideal.Value.res_main_v68 (launchContents m c)) (broadcastInDim S4x8192x16x8 ![0, 1, 2, 3] bcast_S1x8192x1x8_S4x8192x16x8_0_1_2_3 (broadcastInDim S1x8192x1x8 ![1, 2, 3] bcast_S8192x1x8_S1x8192x1x8_1_2_3 (Cert.Reference6Ideal.Value.res_main_v18 (launchContents m c))))) (mulf (Cert.Reference6Ideal.Value.res_main_v67 (launchContents m c)) (broadcastInDim S4x8192x16x8 ![0, 1, 2, 3] bcast_S1x8192x1x8_S4x8192x16x8_0_1_2_3 (broadcastInDim S1x8192x1x8 ![1, 2, 3] bcast_S8192x1x8_S1x8192x1x8_1_2_3 (Cert.Reference6Ideal.Value.res_main_v20 (launchContents m c)))))) : (⟨S4x8192x16x8, .f32⟩ : BufTy).Contents (Elt Ideal))⟩, ⟨S4x8192x16x48, ((extractStridedSlice S4x8192x16x48 ![0, 0, 0, 16] (Cert.Reference6Ideal.Value.res_main_v66 (launchContents m c)) slices_S4x8192x16x64_S4x8192x16x48_0_0_0_16) : (⟨S4x8192x16x48, .f32⟩ : BufTy).Contents (Elt Ideal))⟩] concatenates_S4x8192x16x8_S4x8192x16x8_S4x8192x16x48_S4x8192x16x64_d3 : (⟨S4x8192x16x64, .f32⟩ : BufTy).Contents (Elt Ideal))) transposes_S4x8192x16x64_S16x4x8192x64_2_0_1_3) shapeCasts_S16x4x8192x64_S16x32768x64) (sitofp .f32 (constantI S_ 32 0#32)) pads_S16x32768x64_S16x32768x128_000_000_0640 h_S_) bitsLt_bf16_f32)
      = qwhole (cells (m (c.tc.loc main_arg0)) (m (c.tc.loc main_arg1)) (m (c.tc.loc main_arg2)) (m (c.tc.loc main_arg3)) (m (c.tc.loc main_arg4)))
        (m (c.tc.loc main_arg5)) cosines sines := rfl
/-- its second the keys' and values' -/
theorem run_k (m : (ℓ : Loc nD τ sig) → Buf (Elt Ideal) ℓ) (c : Dev nD) :
    Cert.Reference6Ideal.Value.res_main_v187 (F := Ideal) (launchContents m c)
      = kwhole (cells (m (c.tc.loc main_arg0)) (m (c.tc.loc main_arg1)) (m (c.tc.loc main_arg2)) (m (c.tc.loc main_arg3)) (m (c.tc.loc main_arg4)))
        (m (c.tc.loc main_arg6)) cosines sines := rfl
/-- and its third the logits'. -/
theorem run_g (m : (ℓ : Loc nD τ sig) → Buf (Elt Ideal) ℓ) (c : Dev nD) :
    ((pad S32768x128 ![0, 0] ![0, 80] ![0, 0] (shapeCast _ (extractStridedSlice S4x8192x48 ![0, 0, 2560] (Cert.Reference6Ideal.Value.res_main_v42 (launchContents m c)) slices_S4x8192x2608_S4x8192x48_0_0_2560) shapeCasts_S4x8192x48_S32768x48) (sitofp .f32 (constantI S_ 32 0#32)) pads_S32768x48_S32768x128_000_0800 h_S_) : FVec Ideal S32768x128 .f32)
      = gwhole (cells (m (c.tc.loc main_arg0)) (m (c.tc.loc main_arg1)) (m (c.tc.loc main_arg2)) (m (c.tc.loc main_arg3)) (m (c.tc.loc main_arg4))) := rfl

end Cert.Reference6Ideal.Proj

end
-- ==== Proof.IdealTables.lean ====
/-
  The schedule tables of the causal attention call, and what they say.

  The call visits, for every query block `a` of a sequence (8 of them), the key blocks `0 … a` in turn: 36 steps in all.
  Four tables of 36 words list, step by step, the query block, the key block, whether the step is the query block's first,
  and whether it is its last. The host fills them with constants, so the pipeline is studied at exactly those contents.
-/
module

public import proofs.«01_k».proof.Proof.Gen.KernelIdeal
public import proofs.«01_k».proof.Proof.Gen.KernelIdeal.Launch
public import Idealize.ShloMosaic.Lib.Pipeline.TableIdle

@[expose] public section

set_option maxRecDepth 16384

noncomputable section

namespace Cert.KernelIdeal.Att

open Cert.KernelIdeal Cert.KernelIdeal.Gen
open Idealize.ShloMosaic Idealize.ShloMosaic.TcCoe

variable {F : FTy → Type} [FloatOps F] [Named F]

/-- The tables as the host fills them. -/
def tbl : pre0.Contents (Elt F) := fun
  | 0 => fun i => lit0 (S36.rowMajor i)
  | 1 => fun i => lit1 (S36.rowMajor i)
  | 2 => fun i => lit2 (S36.rowMajor i)
  | 3 => fun i => lit3 (S36.rowMajor i)
  | ⟨_ + 4, h⟩ => absurd h (Nat.not_lt.2 (Nat.le_add_left _ _))

/-- The query block of step `s`. -/
def qb (s : Fin 36) : ℕ := (lit0 s).toNat
/-- The key block of step `s`. -/
def kb (s : Fin 36) : ℕ := (lit1 s).toNat

/-- What the tables say of a step: query blocks number below 8, a key block is at most its query block, a step is first
    exactly when its key block is 0, and last exactly when its key block is its query block. -/
theorem lit_facts : ∀ s : Fin 36, (lit0 s).toNat < 8 ∧ (lit1 s).toNat ≤ (lit0 s).toNat
    ∧ lit2 s = (if (lit1 s).toNat = 0 then 1#32 else 0#32)
    ∧ lit3 s = (if (lit1 s).toNat = (lit0 s).toNat then 1#32 else 0#32) := by decide +kernel

/-- A query block of the schedule is one of eight. -/
theorem qb_lt (s : Fin 36) : qb s < 8 := (lit_facts s).1
/-- A step's key block is at most its query block. -/
theorem kb_le (s : Fin 36) : kb s ≤ qb s := (lit_facts s).2.1
/-- A key block of the schedule is one of eight. -/
theorem kb_lt (s : Fin 36) : kb s < 8 := lt_of_le_of_lt (kb_le s) (qb_lt s)

/-- A step number read as an index of a table. -/
def ix36 (s : Fin 36) : S36.Idx := fun a => ⟨s.val, by fin_cases a; exact s.isLt⟩

/-- The row-major position of a table's index is the step number. -/
theorem rowMajor_ix36 : ∀ s : Fin 36, (S36.rowMajor (ix36 s)).val = s.val := by decide +kernel

/-- The step a grid point runs. -/
def stp (i : grid0.Coords) : Fin 36 := i 2

/-- The body reads the tables at the step's place in the schedule. -/
theorem off1_eq (i : grid0.Coords) (a : Fin 1) : k0_off1 i a = (stp i).val := by
  have h : (i 2).val < 36 := (i 2).isLt
  fin_cases a
  show (BitVec.ofNat 32 (i 2).val).toNat = (i 2).val
  rw [BitVec.toNat_ofNat]; omega

/-- The rectangle of the table word that the body and the index maps read at a point. -/
abbrev rW (i : grid0.Coords) : Rect S36 := Rect.unit (s := S36) (k0_off1 i) S1.size (k0_off1_inb i)

/-- The one cell that the body reads of a table is the step's. -/
theorem rW_emb (i : grid0.Coords) (x : (rW i).shape.Idx) : (rW i).emb x = ix36 (stp i) := by
  funext a
  apply Fin.ext
  have h1 := off1_eq i a
  have h2 : (x a).val < 1 := by have := (x a).isLt; fin_cases a; exact this
  show k0_off1 i a + 1 * (x a).val = (stp i).val
  omega

/-- The words of the four tables at a grid point. -/
theorem word0 (i : grid0.Coords) (x : (rW i).shape.Idx) : tbl (F := F) 0 ((rW i).emb x) = lit0 (stp i) := by
  rw [rW_emb]; show lit0 (S36.rowMajor (ix36 (stp i))) = _; exact congrArg _ (Fin.ext (rowMajor_ix36 _))
/-- The word read from the second table is the step's key block. -/
theorem word1 (i : grid0.Coords) (x : (rW i).shape.Idx) : tbl (F := F) 1 ((rW i).emb x) = lit1 (stp i) := by
  rw [rW_emb]; show lit1 (S36.rowMajor (ix36 (stp i))) = _; exact congrArg _ (Fin.ext (rowMajor_ix36 _))
/-- The word read from the third table is the step's first-step flag. -/
theorem word2 (i : grid0.Coords) (x : (rW i).shape.Idx) : tbl (F := F) 2 ((rW i).emb x) = lit2 (stp i) := by
  rw [rW_emb]; show lit2 (S36.rowMajor (ix36 (stp i))) = _; exact congrArg _ (Fin.ext (rowMajor_ix36 _))
/-- The word read from the fourth table is the step's last-step flag. -/
theorem word3 (i : grid0.Coords) (x : (rW i).shape.Idx) : tbl (F := F) 3 ((rW i).emb x) = lit3 (stp i) := by
  rw [rW_emb]; show lit3 (S36.rowMajor (ix36 (stp i))) = _; exact congrArg _ (Fin.ext (rowMajor_ix36 _))

/-- A sequence's number times eight plus a small word, as a number. -/
theorem seq_word (b : ℕ) (hb : b < 4) (w : BitVec 32) (hw : w.toNat < 8) :
    (Scalar.addi (Scalar.muli (BitVec.ofNat 32 b) 8#32) w).toNat = 8 * b + w.toNat := by
  show (BitVec.ofNat 32 b * 8#32 + w).toNat = _
  rw [BitVec.toNat_add, BitVec.toNat_mul, BitVec.toNat_ofNat]
  show (b % 2 ^ 32 * 8 % 2 ^ 32 + w.toNat) % 2 ^ 32 = _
  omega

/-- A word below eight is not negative. -/
theorem max_word (w : BitVec 32) (hw : w.toNat < 8) : Scalar.maxsi w 0#32 = w := by
  have : ∀ n : Fin 8, Scalar.maxsi (BitVec.ofNat 32 n.val) 0#32 = BitVec.ofNat 32 n.val := by decide
  have h := this ⟨w.toNat, hw⟩
  simpa using h

/-- The block the query window and the output window take at a point. -/
def qIx (i : grid0.Coords) : Fin 3 → ℕ := ![(i 0).val, 8 * (i 1).val + qb (stp i), 0]
/-- The block the key window and the value window take at a point. -/
def kIx (i : grid0.Coords) : Fin 3 → ℕ := ![(i 0).val, 8 * (i 1).val + kb (stp i), 0]

/-- A head number survives its encoding as a word. -/
theorem head_word (i : grid0.Coords) : (BitVec.ofNat 32 (i 0).val).toNat = (i 0).val := by
  have h : (i 0).val < 16 := (i 0).isLt
  rw [BitVec.toNat_ofNat]; omega

/-- The query block index, computed from the table word, is the named one. -/
theorem qIx_of_word (i : grid0.Coords) (w : BitVec 32) (hw : w = lit0 (stp i)) :
    ![(BitVec.ofNat 32 (i 0).val).toNat, (Scalar.addi (Scalar.muli (BitVec.ofNat 32 (i 1).val) 8#32) w).toNat, 0] = qIx i := by
  rw [hw, head_word, seq_word _ (i 1).isLt _ (qb_lt _)]; rfl

/-- The key block index, computed from the table word, is the named one. -/
theorem kIx_of_word (i : grid0.Coords) (w : BitVec 32) (hw : w = lit1 (stp i)) :
    ![(BitVec.ofNat 32 (i 0).val).toNat, (Scalar.addi (Scalar.muli (BitVec.ofNat 32 (i 1).val) 8#32) (Scalar.maxsi w 0#32)).toNat, 0] = kIx i := by
  rw [hw, head_word, max_word _ (kb_lt _), seq_word _ (i 1).isLt _ (kb_lt _)]; rfl

/-- The four index maps at these tables. -/
theorem t0_eq (i : grid0.Coords) : cc0_transform_0 k0_off1_inb numel1_S1 (tbl (F := F)) i = qIx i :=
  qIx_of_word i _ (word0 (F := F) i _)
/-- The index map of the output is that of the queries. -/
theorem t3_eq (i : grid0.Coords) : cc0_transform_3 k0_off1_inb numel1_S1 (tbl (F := F)) i = qIx i :=
  qIx_of_word i _ (word0 (F := F) i _)
/-- The index map of the keys is the named key block index. -/
theorem t1_eq (i : grid0.Coords) : cc0_transform_1 k0_off1_inb numel1_S1 (tbl (F := F)) i = kIx i :=
  kIx_of_word i _ (word1 (F := F) i _)
/-- The index map of the values is the named key block index. -/
theorem t2_eq (i : grid0.Coords) : cc0_transform_2 k0_off1_inb numel1_S1 (tbl (F := F)) i = kIx i :=
  kIx_of_word i _ (word1 (F := F) i _)

/-- A block of one head and 1024 rows whose number is in range lies in the array, and is whole words. -/
theorem block_ok (f : Fin 3 → ℕ) (h0 : f 0 < 16) (h1 : f 1 < 32) (h2 : f 2 = 0) :
    ∃ h : (∀ a, (f a + 1) * S1x1024x128.size a ≤ S16x32768x128.size a),
      EltTy.bits .bf16 = 32 ∨ (Rect.block (s := S16x32768x128) S1x1024x128.size f h).WholeWords (EltTy.packing .bf16) := by
  have hb : ∀ a, (f a + 1) * S1x1024x128.size a ≤ S16x32768x128.size a := by
    intro a
    fin_cases a
    · show (f 0 + 1) * 1 ≤ 16; omega
    · show (f 1 + 1) * 1024 ≤ 32768; omega
    · show (f 2 + 1) * 128 ≤ 128; omega
  refine ⟨hb, .inr (.inl (.inr ⟨by decide, rfl, .inl ⟨?_, ?_⟩⟩))⟩
  · show 2 ∣ f 1 * 1024; omega
  · show 2 ∣ 1024; decide

/-- A query block lies inside the queries. -/
theorem q_ok (i : grid0.Coords) (f : Fin 3 → ℕ) (hf : f = qIx i) :
    ∃ h : (∀ a, (f a + 1) * S1x1024x128.size a ≤ S16x32768x128.size a),
      EltTy.bits .bf16 = 32 ∨ (Rect.block (s := S16x32768x128) S1x1024x128.size f h).WholeWords (EltTy.packing .bf16) := by
  have h0 : (i 0).val < 16 := (i 0).isLt
  have h1 : (i 1).val < 4 := (i 1).isLt
  have h2 := qb_lt (stp i)
  subst hf
  exact block_ok _ h0 (by show 8 * (i 1).val + qb (stp i) < 32; omega) rfl

/-- A key block lies inside the keys. -/
theorem k_ok (i : grid0.Coords) (f : Fin 3 → ℕ) (hf : f = kIx i) :
    ∃ h : (∀ a, (f a + 1) * S1x1024x128.size a ≤ S16x32768x128.size a),
      EltTy.bits .bf16 = 32 ∨ (Rect.block (s := S16x32768x128) S1x1024x128.size f h).WholeWords (EltTy.packing .bf16) := by
  have h0 : (i 0).val < 16 := (i 0).isLt
  have h1 : (i 1).val < 4 := (i 1).isLt
  have h2 := kb_lt (stp i)
  subst hf
  exact block_ok _ h0 (by show 8 * (i 1).val + kb (stp i) < 32; omega) rfl

/-- At these tables every block lies in its array. -/
theorem ok : ok0 (tbl (F := F)) :=
  ⟨fun i => q_ok i _ (t0_eq i), fun i => k_ok i _ (t1_eq i), fun i => k_ok i _ (t2_eq i), fun i => q_ok i _ (t3_eq i)⟩

/-- The contents the pipeline is run at. -/
def adm : (p : Fin 1) → (pcfgs (F := F) p).Adm := fun _ => ⟨tbl, ok⟩

/-- The pipeline at those contents. -/
abbrev cfgT : Pipeline.Cfg sig Λ₀ := Pipeline.pin (pcfgs (F := F)) adm 0

/-- The output is stored exactly at a query block's last step. -/
def lastStep (i : grid0.Coords) : Prop := kb (stp i) = qb (stp i)
instance (i : grid0.Coords) : Decidable (lastStep i) := by unfold lastStep; infer_instance
/-- The running statistics are reset exactly at a query block's first step. -/
def firstStep (i : grid0.Coords) : Prop := kb (stp i) = 0
instance (i : grid0.Coords) : Decidable (firstStep i) := by unfold firstStep; infer_instance

/-- The guard of the write to the output holds exactly on the last step of a query block. -/
theorem cond3_eq (i : grid0.Coords) : (k0_cond3 (lit3 (stp i)) = 1#1) ↔ lastStep i := by
  unfold lastStep qb kb
  rw [(lit_facts (stp i)).2.2.2]
  split <;> simp_all [k0_cond3, Scalar.cmpi, Scalar.extui, IntOp.cmpi]

end Cert.KernelIdeal.Att

end
-- ==== Proof.IdealBody.lean ====
/-
  The kernel's body, run once at any point.

  A point reads the query block, the key block and the value block, and three running statistics of each query row: the
  greatest score so far, the sum of the exponentials relative to it, and the weighted sum of the values. A first step
  resets the statistics before it uses them; a last step divides the weighted sum by the sum of exponentials and stores it.
-/
module

public import proofs.«01_k».proof.Proof.IdealTables
public import proofs.«01_k».proof.Proof.Gen.KernelIdeal.Skeleton
public import Idealize.ShloMosaic.Lib.Pipeline.Frame
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The running statistics: the greatest score, the sum of exponentials, the weighted sum of values. -/
structure St (F : FTy → Type) where
  /-- Each row's greatest score so far. -/
  m : Vec F S1024x1 .f32
  /-- Each row's sum of exponentials. -/
  l : Vec F S1024x1 .f32
  /-- Each row's weighted sum of values. -/
  acc : Vec F S1024x128 .f32

/-- The statistics at reset. -/
def init : St F := ⟨k0_pay1 (F := F), k0_pay2 (F := F), k0_pay3 (F := F)⟩

/-- One step: the words `a`, `b` are the query and key block numbers, `q`, `k`, `v` the three blocks. -/
def step (a b : BitVec 32) (q k v : Vec F S1x1024x128 .bf16) (s : St F) : St F :=
  ⟨k0_pay5 (k0_pay8 a b q k s.m),
   k0_pay11 a b q k s.m s.l,
   k0_pay4 (k0_pay10 a b q k s.m) (k0_pay12 a b q k s.m s.acc) v⟩

/-- The step of the point at coordinates `i`: a first step resets the statistics before it. -/
def stepAt (i : grid0.Coords) (q k v : Vec F S1x1024x128 .bf16) (s : St F) : St F :=
  step (lit0 (stp i)) (lit1 (stp i)) q k v (if firstStep i then init else s)

/-- The block a last step stores. -/
def outOf (s : St F) : Vec F S1x1024x128 .bf16 := k0_pay6 s.acc s.l

/-- A memref held whole at contents `X`, at share `p`. -/
abbrev at_ (c : Dev nD) {sp : Space} {S : Shape} {e : EltTy} (M : Memref sig .tc sp S e) (p : PosShare TreeShare) (X : S.Idx → Elt F e) : sProp 𝕄 :=
  M.view.loc (c : Thread nD τ) ↦[M.view.set]{p} M.view.rep X

/-- A memref whose elements hold contents that read `X` is held at `X`. -/
theorem at_of_read (c : Dev nD) {sp : Space} {S : Shape} {e : EltTy} (M : Memref sig .tc sp S e) (p : PosShare TreeShare)
    (f : M.view.ty.Contents (Elt F)) (X : S.Idx → Elt F e) (h : M.view.read (Elt F) f = X) :
    (M.view.loc (c : Thread nD τ) ↦[M.view.set]{p} f : sProp 𝕄) ⊢ at_ (F := F) c M p X := by
  refine Entails.of_eq (pointsTo_congr fun i hi => ?_)
  obtain ⟨x, -, rfl⟩ := Finset.mem_map.mp hi
  rw [View.rep_emb, ← h, View.read_apply, cast_cast, cast_eq]

/-- A store of a whole buffer reads back. -/
theorem read_store {sp : Space} {S : Shape} {e : EltTy} (V : View sig .tc sp S e) (f : V.ty.Contents (Elt F))
    {off : Fin S.rank → ℕ} (h : off = fun _ => 0) (inb : ∀ a, off a + S.size a ≤ S.size a) (X : S.Idx → Elt F e) :
    V.read (Elt F) (V.writes (Elt F) f [⟨Rect.unit off S.size inb, X⟩]) = X := by
  subst h; exact View.read_writes_whole V f X

/-- The zero offsets of a rank-2 buffer and of a rank-3 buffer. -/
theorem off2 : (![0, 0] : Fin 2 → ℕ) = fun _ => 0 := by decide
/-- The zero offset of a block, written as a vector, is the constant zero. -/
theorem off3 : (![0, 0, 0] : Fin 3 → ℕ) = fun _ => 0 := by decide

/-- The word a body reads of a table held at `T`. -/
theorem word_read (i : grid0.Coords) (V : View sig .tc .smem S36 .i32) (T : S36.Idx → BitVec 32) (w : BitVec 32)
    {off : Fin 1 → ℕ} (ho : off = k0_off1 i) (inb : ∀ a, off a + S1.size a ≤ S36.size a)
    (hw : ∀ x, T ((rW i).emb x) = w) (x : (Rect.unit (s := S36) off S1.size inb).shape.Idx) :
    V.readAt (Elt F) (Rect.unit (s := S36) off S1.size inb).toLoadRect (V.rep (Val := Elt F) T) x = w := by
  subst ho
  rw [View.readAt_rep]
  exact hw x

/-- The condition of the reset, and the condition every step meets, at the words of a step. -/
theorem cond1_eq (i : grid0.Coords) :
    Scalar.cmpi .ne (Scalar.extui (Scalar.cmpi .eq (lit2 (stp i)) 1#32) : BitVec 32) 0#32 = 1#1 ↔ firstStep i := by
  unfold firstStep kb
  rw [(lit_facts (stp i)).2.2.1]
  split <;> simp_all [Scalar.cmpi, Scalar.extui, IntOp.cmpi]
/-- Every step of the schedule names a key block, so the guard for a missing block always holds. -/
theorem cond2_eq : ∀ s : Fin 36, Scalar.cmpi .ne (Scalar.extui (Scalar.cmpi .sge (lit1 s) 0#32) : BitVec 32) 0#32 = 1#1 := by
  decide +kernel

/-- The body run at a point: the tables and the input blocks stay, the statistics step, and the output block is stored at
    a last step and stays otherwise. -/
theorem run (c : Dev nD) (i : grid0.Coords)
    (M3 : Memref sig .tc .smem S36 .i32) (h3 : M3.IsWhole)
    (M4 : Memref sig .tc .smem S36 .i32) (h4 : M4.IsWhole)
    (M5 : Memref sig .tc .smem S36 .i32) (h5 : M5.IsWhole)
    (M6 : Memref sig .tc .smem S36 .i32) (h6 : M6.IsWhole)
    (M7 : Memref sig .tc .vmem S1x1024x128 .bf16) (h7 : M7.IsWhole)
    (M8 : Memref sig .tc .vmem S1x1024x128 .bf16) (h8 : M8.IsWhole)
    (M9 : Memref sig .tc .vmem S1x1024x128 .bf16) (h9 : M9.IsWhole)
    (M10 : Memref sig .tc .vmem S1x1024x128 .bf16) (h10 : M10.IsWhole)
    (M11 : Memref sig .tc .vmem S1024x1 .f32) (h11 : M11.IsWhole)
    (M12 : Memref sig .tc .vmem S1024x1 .f32) (h12 : M12.IsWhole)
    (M13 : Memref sig .tc .vmem S1024x128 .f32) (h13 : M13.IsWhole)
    (q k v o : Vec F S1x1024x128 .bf16) (s : St F)
    (p : PosShare TreeShare) (K : PUnit → sProp 𝕄) :
    iprop(at_ (F := F) c M3 p (tbl (F := F) 0) ∗ at_ (F := F) c M4 p (tbl (F := F) 1)
      ∗ at_ (F := F) c M5 p (tbl (F := F) 2) ∗ at_ (F := F) c M6 p (tbl (F := F) 3)
      ∗ at_ (F := F) c M7 fullShare q ∗ at_ (F := F) c M8 fullShare k ∗ at_ (F := F) c M9 fullShare v ∗ at_ (F := F) c M10 fullShare o
      ∗ at_ (F := F) c M11 fullShare s.m ∗ at_ (F := F) c M12 fullShare s.l ∗ at_ (F := F) c M13 fullShare s.acc
      ∗ (iprop(at_ (F := F) c M3 p (tbl (F := F) 0) ∗ at_ (F := F) c M4 p (tbl (F := F) 1)
        ∗ at_ (F := F) c M5 p (tbl (F := F) 2) ∗ at_ (F := F) c M6 p (tbl (F := F) 3)
        ∗ at_ (F := F) c M7 fullShare q ∗ at_ (F := F) c M8 fullShare k ∗ at_ (F := F) c M9 fullShare v
        ∗ at_ (F := F) c M10 fullShare (if lastStep i then outOf (stepAt i q k v s) else o)
        ∗ at_ (F := F) c M11 fullShare (stepAt i q k v s).m ∗ at_ (F := F) c M12 fullShare (stepAt i q k v s).l
        ∗ at_ (F := F) c M13 fullShare (stepAt i q k v s).acc) -∗ K ⟨⟩))
      ⊢ wp frame (wpE (defs₀ (F := F)) Variants.none c none) Set.univ (cc0_flash_causal (F := F) i M3 h3 M4 h4 M5 h5 M6 h6 M7 h7 M8 h8 M9 h9 M10 h10 M11 h11 M12 h12 M13 h13) K := by
  rw [cc0_flash_causal_eq_skeleton]
  unfold cc0_flash_causal_skel
  rw [k0_part1_eq_skeleton]
  unfold k0_part1_skel
  iintro ⟨H3, H4, H5, H6, H7, H8, H9, H10, H11, H12, H13, HK⟩
  sl_exec! (disch := fail)
  sl_step
  have w0 : run.sl.r (F := F) i M3 = lit0 (stp i) := word_read i _ _ _ rfl _ (word0 (F := F) i) _
  have w1 : run.sl.r_1 (F := F) i M4 = lit1 (stp i) := word_read i _ _ _ rfl _ (word1 (F := F) i) _
  have w2 : (run.sl.v8 (F := F) i M5 = 1#1) = firstStep i := by
    rw [← cond1_eq]
    exact congrArg (fun w : BitVec 32 => Scalar.cmpi .ne (Scalar.extui (Scalar.cmpi .eq w 1#32) : BitVec 32) 0#32 = 1#1)
      (word_read i M5.view _ _ rfl (k0_off1_inb i) (word2 (F := F) i) (Shape.Idx.first (show 0 < S1.numel by decide)))
  have w3 : (k0_cond3 (run.sl.r_3 (F := F) i M6) = 1#1) = lastStep i := by
    rw [← cond3_eq]
    exact congrArg (fun w => k0_cond3 w = 1#1) (word_read i _ _ _ rfl _ (word3 (F := F) i) _)
  have w4 : (run.sl.v11 (F := F) i M4 = 1#1) = True := by
    rw [← eq_true (cond2_eq (stp i))]
    exact congrArg (fun w : BitVec 32 => Scalar.cmpi .ne (Scalar.extui (Scalar.cmpi .sge w 0#32) : BitVec 32) 0#32 = 1#1)
      (word_read i M4.view _ _ rfl (k0_off1_inb i) (word1 (F := F) i) (Shape.Idx.first (show 0 < S1.numel by decide)))
  have em : run.sl.v36 i M5 M11 s = (if firstStep i then init else s).m := by
    unfold run.sl.v36
    rw [View.readAt_full]
    simp only [w2]
    split
    · exact read_store _ _ off2 _ _
    · exact View.read_rep _ _
  have el : run.sl.v45 i M5 M12 s = (if firstStep i then init else s).l := by
    unfold run.sl.v45
    rw [View.readAt_full]
    simp only [w2]
    split
    · exact read_store _ _ off2 _ _
    · exact View.read_rep _ _
  have ea : run.sl.v53 i M5 M13 s = (if firstStep i then init else s).acc := by
    unfold run.sl.v53
    rw [View.readAt_full]
    simp only [w2]
    split
    · exact read_store _ _ off2 _ _
    · exact View.read_rep _ _
  have rd7 : View.readAt (Elt F) M7.view (Rect.unit ![0, 0, 0] S1x1024x128.size inb_S1x1024x128_S1x1024x128_0_0_0).toLoadRect
      (M7.view.rep q) = q := View.readAt_rep_full M7.view q _
  have rd8 : View.readAt (Elt F) M8.view (Rect.unit ![0, 0, 0] S1x1024x128.size inb_S1x1024x128_S1x1024x128_0_0_0).toLoadRect
      (M8.view.rep k) = k := View.readAt_rep_full M8.view k _
  have rd9 : View.readAt (Elt F) M9.view (Rect.unit ![0, 0, 0] S1x1024x128.size inb_S1x1024x128_S1x1024x128_0_0_0).toLoadRect
      (M9.view.rep v) = v := View.readAt_rep_full M9.view v _
  have e18 : run.sl.v18 i M3 M4 M5 M7 M8 M11 M12 q k s = (stepAt i q k v s).l := by
    unfold run.sl.v18
    rw [View.readAt_full]
    rw [rd7, rd8, dif_pos (of_eq_true w4), w0, w1, em, el]
    refine (read_store _ _ off2 _ _).trans ?_
    simp only [stepAt, step]
  have e17 : run.sl.v17 i M3 M4 M5 M7 M8 M9 M11 M13 q k v s = (stepAt i q k v s).acc := by
    unfold run.sl.v17
    rw [View.readAt_full]
    rw [rd7, rd8, rd9, dif_pos (of_eq_true w4), w0, w1, em, ea]
    refine (read_store _ _ off2 _ _).trans ?_
    simp only [stepAt, step]
  rw [rd7, rd8, rd9]
  simp only [w3, w4, w0, w1, em, el, ea, e17, e18, dite_true]
  have o10 := at_of_read (F := F) c M10 fullShare
    (if hc : lastStep i then M10.view.writes (Elt F) (M10.view.rep o)
        [⟨Rect.unit ![0, 0, 0] S1x1024x128.size inb_S1x1024x128_S1x1024x128_0_0_0, k0_pay6 (stepAt i q k v s).acc (stepAt i q k v s).l⟩]
      else M10.view.rep o)
    (if lastStep i then outOf (stepAt i q k v s) else o) (by
      split
      · exact read_store _ _ off3 _ _
      · exact View.read_rep _ _)
  have o11 := fun f => at_of_read (F := F) c M11 fullShare _ _ (read_store M11.view f off2 inb_S1024x1_S1024x1_0_0 (stepAt i q k v s).m)
  have o12 := fun f => at_of_read (F := F) c M12 fullShare _ _ (read_store M12.view f off2 inb_S1024x1_S1024x1_0_0 (stepAt i q k v s).l)
  have o13 := fun f => at_of_read (F := F) c M13 fullShare _ _ (read_store M13.view f off2 inb_S1024x128_S1024x128_0_0 (stepAt i q k v s).acc)
  simp only [stepAt, step] at o11 o12 o13 o10 ⊢
  ihave H10' := o10 $$ H10
  ihave H11' := o11 _ $$ H11
  ihave H12' := o12 _ $$ H12
  ihave H13' := o13 _ $$ H13
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10']; · iexact H10'
  isplitl [H11']; · iexact H11'
  isplitl [H12']; · iexact H12'
  iexact H13'

end Cert.KernelIdeal.Att

end
-- ==== Proof.IdealFrame.lean ====
/-
  The whole run of the kernel: the statistics after each point, the proof data, and the frame.
-/
module

public import proofs.«01_k».proof.Proof.IdealBody
public import proofs.«01_k».proof.Proof.Gen.KernelIdeal.Launch
public import Idealize.ShloMosaic.Lib.Pipeline.TableIdle

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The points -/

/-- A point's coordinates: the head, the sequence, the step. -/
theorem coords_0 (t : Fin grid0.N) : ((grid0.coords t) 0).val = t.val / 144 := by
  have h : t.val < 2304 := lt_of_lt_of_eq t.isLt N_0
  show t.val / grid0.stride 0 % 16 = _
  rw [show grid0.stride 0 = 144 by decide]; omega
/-- The second grid coordinate of a step is the sequence. -/
theorem coords_1 (t : Fin grid0.N) : ((grid0.coords t) 1).val = t.val / 36 % 4 := by
  show t.val / grid0.stride 1 % 4 = _
  rw [show grid0.stride 1 = 36 by decide]
/-- The third grid coordinate of a step is its place in the schedule. -/
theorem stp_val (t : Fin grid0.N) : (stp (grid0.coords t)).val = t.val % 36 := by
  show t.val / grid0.stride 2 % 36 = _
  rw [show grid0.stride 2 = 1 by decide, Nat.div_one]

/-- A step that is not last is followed by the next step of the same query block. -/
theorem next_step : ∀ s : Fin 36, kb s ≠ qb s → ∃ h : s.val + 1 < 36, qb ⟨s.val + 1, h⟩ = qb s ∧ kb ⟨s.val + 1, h⟩ = kb s + 1 := by
  unfold kb qb; decide +kernel
/-- A last step that is not the table's last is followed by the first step of the next query block. -/
theorem next_block : ∀ s : Fin 36, kb s = qb s → ∀ h : s.val + 1 < 36, qb ⟨s.val + 1, h⟩ = qb s + 1 ∧ kb ⟨s.val + 1, h⟩ = 0 := by
  unfold kb qb; decide +kernel
/-- The table starts with query block 0 and ends with the last step of query block 7. -/
theorem ends : qb 0 = 0 ∧ kb 0 = 0 ∧ qb 35 = 7 ∧ kb 35 = 7 := by unfold kb qb; decide +kernel

/-- The first point is a first step. -/
theorem first_zero (t : Fin grid0.N) (h : t.val = 0) : firstStep (grid0.coords t) := by
  unfold firstStep
  have : stp (grid0.coords t) = 0 := Fin.ext (by rw [stp_val, h]; rfl)
  rw [this]; exact ends.2.1

/-- The output window stays idle at the points that are not a last step. -/
theorem idle3 (i : grid0.Coords) : (cfgT (F := F)).idle 3 i = !decide (lastStep i) := by
  have hw : (tbl (F := F)).atD 3 (k0_off2 i) = lit3 (stp i) := by
    have hin : ∀ a : Fin (pre0.ref 3).ty.shape.rank, k0_off2 i a + 1 ≤ (pre0.ref 3).ty.shape.size a := by
      intro a
      have h := off1_eq i a
      have h' := (stp i).isLt
      have e : (pre0.ref 3).ty.shape.size a = 36 := by fin_cases a; rfl
      have e' : k0_off2 i a = k0_off1 i a := rfl
      omega
    exact (dif_pos hin).trans ((congrArg (tbl (F := F) 3) (funext fun a => Fin.ext rfl)).trans (word3 (F := F) i (fun a => ⟨0, by fin_cases a; exact Nat.one_pos⟩)))
  show (!(k0_cond3 ((tbl (F := F)).atD 3 (k0_off2 i)) == 1#1)) = _
  rw [hw]
  by_cases h : lastStep i
  · rw [(cond3_eq i).2 h]; simp [h]
  · have h' : k0_cond3 (lit3 (stp i)) ≠ 1#1 := fun e => h ((cond3_eq i).1 e)
    simp [h, h']

/-- The output window's block at a point. -/
theorem index3 (t : Fin grid0.N) : ((cfgT (F := F)).win 3).index t = qIx (grid0.coords t) := t3_eq _

/-- A point that is not a last step writes no block back. -/
theorem no_flush (t : Fin grid0.N) (h : ¬ lastStep (grid0.coords t)) : ((cfgT (F := F)).win 3).flush t = false := by
  have hN : t.val < 2304 := lt_of_lt_of_eq t.isLt N_0
  obtain ⟨h1, h2, -⟩ := next_step _ h
  have hs := stp_val t
  have hN' : t.val + 1 < grid0.N := lt_of_lt_of_eq (show t.val + 1 < 2304 by omega) N_0.symm
  rw [Pipeline.Window.flush_eq_flushF]
  unfold Pipeline.Window.flushF
  have e : ((cfgT (F := F)).win 3).index ⟨t.val + 1, hN'⟩ = ((cfgT (F := F)).win 3).index t := by
    rw [index3, index3]
    have hst : stp (grid0.coords ⟨t.val + 1, hN'⟩) = ⟨(stp (grid0.coords t)).val + 1, h1⟩ := Fin.ext (by
      rw [stp_val]; show (t.val + 1) % 36 = (stp (grid0.coords t)).val + 1; omega)
    unfold qIx
    rw [coords_0, coords_1, coords_0, coords_1, hst, h2]
    show ![(t.val + 1) / 144, 8 * ((t.val + 1) / 36 % 4) + _, 0] = _
    rw [show (t.val + 1) / 144 = t.val / 144 by omega, show (t.val + 1) / 36 = t.val / 36 by omega]
  have h3 : ¬ (t.val + 1 = grid0.N) := Nat.ne_of_lt hN'
  simp only [Bool.and_eq_false_iff, Bool.or_eq_false_iff, decide_eq_false_iff_not]
  refine .inr ⟨h3, ?_⟩
  rintro ⟨h', a, ha⟩
  exact ha (congrFun e a)

/-- A last step writes its block back. -/
theorem flush_last (t : Fin grid0.N) (h : lastStep (grid0.coords t)) : ((cfgT (F := F)).win 3).flush t = true := by
  have hN : t.val < 2304 := lt_of_lt_of_eq t.isLt N_0
  have hs := stp_val t
  rw [Pipeline.Window.flush_eq_flushF]
  unfold Pipeline.Window.flushF
  rw [Bool.and_eq_true]
  refine ⟨rfl, ?_⟩
  rw [Bool.or_eq_true, decide_eq_true_iff, decide_eq_true_iff]
  by_cases h3 : t.val + 1 = grid0.N
  · exact .inl h3
  · refine .inr ⟨by show t.val + 1 < grid0.N; have := t.isLt; omega, (1 : Fin 3), ?_⟩
    rw [index3, index3]
    show 8 * ((grid0.coords ⟨t.val + 1, _⟩) 1).val + qb (stp (grid0.coords ⟨t.val + 1, _⟩)) ≠ 8 * ((grid0.coords t) 1).val + qb (stp (grid0.coords t))
    rw [coords_1, coords_1]
    show 8 * ((t.val + 1) / 36 % 4) + _ ≠ _
    by_cases h1 : (stp (grid0.coords t)).val + 1 < 36
    · have hst : ∀ h', stp (grid0.coords ⟨t.val + 1, h'⟩) = ⟨(stp (grid0.coords t)).val + 1, h1⟩ := fun h' => Fin.ext (by
        rw [stp_val]; show (t.val + 1) % 36 = (stp (grid0.coords t)).val + 1; omega)
      rw [hst, (next_block _ h h1).1]
      omega
    · have hst : ∀ h', stp (grid0.coords ⟨t.val + 1, h'⟩) = 0 := fun h' => Fin.ext (by
        rw [stp_val]; show (t.val + 1) % 36 = 0; omega)
      have hst' : stp (grid0.coords t) = 35 := Fin.ext (by show _ = 35; omega)
      rw [hst, hst', ends.1, ends.2.2.1]
      omega

/-! ## The statistics after each point -/

variable (m : (ℓ : Loc nD τ sig) → Buf (Elt F) ℓ) (g : Dev nD → PrngReg)

/-- The buffers when the kernel starts: the host has filled the tables. -/
def V (c : Dev nD) (b : Ref sig .tc) : Buf (Elt F) ((c.tc : Thread nD τ).loc b) :=
  StableHlo.after (hostOps0 (F := F)) (fun b => m (c, b)) b

/-- Window `w`'s block at a point, read off its array. -/
def blkAt (c : Dev nD) (w : Fin 4) (t : Fin grid0.N) :
    (((cfgT (F := F)).win w).xblock (grid0.coords t)).Idx → Elt F ((cfgT (F := F)).win w).elt :=
  (((cfgT (F := F)).win w).blk t).view.read (Elt F) (V m c (Pipeline.arrRef spec0 w))

/-- The query block, the key block and the value block at a point. -/
def qAt (c : Dev nD) (t : Fin grid0.N) : Vec F S1x1024x128 .bf16 := blkAt m c 0 t
def kAt (c : Dev nD) (t : Fin grid0.N) : Vec F S1x1024x128 .bf16 := blkAt m c 1 t
def vAt (c : Dev nD) (t : Fin grid0.N) : Vec F S1x1024x128 .bf16 := blkAt m c 2 t

/-- The statistics before point `n`, where `n` is positive. -/
def traj (c : Dev nD) : ℕ → St F
  | 0 => init
  | n + 1 => if h : n < grid0.N then
      stepAt (grid0.coords ⟨n, h⟩) (qAt m c ⟨n, h⟩) (kAt m c ⟨n, h⟩) (vAt m c ⟨n, h⟩) (traj c n) else traj c n

/-- The state after one more step is the body applied to the state before it. -/
theorem traj_succ (c : Dev nD) (t : Fin grid0.N) :
    traj m c (t.val + 1) = stepAt (grid0.coords t) (qAt m c t) (kAt m c t) (vAt m c t) (traj m c t.val) := by
  rw [traj, dif_pos t.isLt]

/-- A first step does not depend on the statistics before it. -/
theorem stepAt_first (i : grid0.Coords) (q k v : Vec F S1x1024x128 .bf16) (s s' : St F) (h : firstStep i) :
    stepAt i q k v s = stepAt i q k v s' := by unfold stepAt; rw [if_pos h, if_pos h]

/-! ## The proof data -/

/-- The tables, and the scratch buffers at the statistics `s`. -/
def held (c : Dev nD) (s : St F) : sProp 𝕄 :=
  iprop(at_ (F := F) c (Memref.whole cc0_scratch0) fullShare s.m ∗ at_ (F := F) c (Memref.whole cc0_scratch1) fullShare s.l
    ∗ at_ (F := F) c (Memref.whole cc0_scratch2) fullShare s.acc)

/-- What the kernel keeps before point `n`: its scratch, at the statistics if some point has run, the random register
    and the tables. -/
def Phi (c : Dev nD) (n : ℕ) : sProp 𝕄 :=
  iprop((∃ s : St F, ⌜n ≠ 0 → s = traj m c n⌝ ∗ held c s) ∗ (∃ r, prngReg c r) ∗ Pipeline.ΦT (U := UR sig nD τ) pre0 (tbl (F := F)) c)

/-- The proof data on core `c`. -/
def dats (p : Fin 1) (c : Dev nD) : Dat τ (Elt F) Unit ℕ (UR sig nD τ) ℕ (Pipeline.pin (pcfgs (F := F)) adm p) c where
  A w := V m c (Pipeline.arrRef spec0 w)
  after w t := match w with
    | 0 => blkAt m c 0 t
    | 1 => blkAt m c 1 t
    | 2 => blkAt m c 2 t
    | 3 => outOf (traj m c (t.val + 1))
    | ⟨_ + 4, h⟩ => absurd h (Nat.not_lt.2 (Nat.le_add_left _ _))
  Φ t := Phi m c t.val
  q _ := fullShare
  owed _ := 0

/-- Before the body runs, the query buffer holds the step's query block. -/
theorem before_q (c : Dev nD) (t : Fin grid0.N) (d) : (dats m 0 c).before 0 t d = qAt m c t :=
  (dats m 0 c).before_in_eq_fetched 0 rfl (fun _ => rfl) (fun _ _ _ => rfl) (fun _ => rfl) t d
/-- Before the body runs, the key buffer holds the step's key block. -/
theorem before_k (c : Dev nD) (t : Fin grid0.N) (d) : (dats m 0 c).before 1 t d = kAt m c t :=
  (dats m 0 c).before_in_eq_fetched 1 rfl (fun _ => rfl) (fun _ _ _ => rfl) (fun _ => rfl) t d
/-- Before the body runs, the value buffer holds the step's value block. -/
theorem before_v (c : Dev nD) (t : Fin grid0.N) (d) : (dats m 0 c).before 2 t d = vAt m c t :=
  (dats m 0 c).before_in_eq_fetched 2 rfl (fun _ => rfl) (fun _ _ _ => rfl) (fun _ => rfl) t d

/-- A whole buffer held at contents is its points-to. -/
theorem at_whole (c : Dev nD) (b : Ref sig .tc) (p : PosShare TreeShare) (X : b.ty.Contents (Elt F)) :
    (at_ (F := F) c (Memref.whole b) p X : sProp 𝕄) = (((c : Thread nD τ).loc b) ↦{p} X) :=
  (owns_eq_rep (c : Thread nD τ) (Memref.whole b) p X).symm.trans (owns_whole (c : Thread nD τ) b p X)

/-- The tables one by one. -/
theorem tables_eq (c : Dev nD) : (Pipeline.ΦT (U := UR sig nD τ) pre0 (tbl (F := F)) c : sProp 𝕄)
    = iprop(at_ (F := F) c (Memref.whole main_c) fullShare.right (tbl (F := F) 0)
      ∗ at_ (F := F) c (Memref.whole main_c_0) fullShare.right (tbl (F := F) 1)
      ∗ at_ (F := F) c (Memref.whole main_c_1) fullShare.right (tbl (F := F) 2)
      ∗ at_ (F := F) c (Memref.whole main_c_2) fullShare.right (tbl (F := F) 3)) := by
  have h0 := at_whole (F := F) c main_c fullShare.right (tbl (F := F) 0)
  have h1 := at_whole (F := F) c main_c_0 fullShare.right (tbl (F := F) 1)
  have h2 := at_whole (F := F) c main_c_1 fullShare.right (tbl (F := F) 2)
  have h3 := at_whole (F := F) c main_c_2 fullShare.right (tbl (F := F) 3)
  exact (bigSep_W0 _).trans (congr (congrArg _ h0.symm) (congr (congrArg _ h1.symm) (congr (congrArg _ h2.symm) h3.symm)))

/-- The staging buffer of each window at a point. -/
abbrev st0 (t : Fin grid0.N) : Memref sig .tc .vmem S1x1024x128 .bf16 := spec0_0.stage ((cfgT (F := F)).slots t 0)
abbrev st1 (t : Fin grid0.N) : Memref sig .tc .vmem S1x1024x128 .bf16 := spec0_1.stage ((cfgT (F := F)).slots t 1)
abbrev st2 (t : Fin grid0.N) : Memref sig .tc .vmem S1x1024x128 .bf16 := spec0_2.stage ((cfgT (F := F)).slots t 2)
abbrev st3 (t : Fin grid0.N) : Memref sig .tc .vmem S1x1024x128 .bf16 := spec0_3.stage ((cfgT (F := F)).slots t 3)

/-- What the output window's buffer holds when the body starts. -/
def b3 (c : Dev nD) (t : Fin grid0.N) (d : Vec F S1x1024x128 .bf16) : Vec F S1x1024x128 .bf16 := (dats m 0 c).before 3 t d

/-- The query buffer that the pipeline hands over holds the query block. -/
theorem find0 (c : Dev nD) (t : Fin grid0.N) :
    iprop(∃ d, owns (c : Thread nD τ) (((cfgT (F := F)).win 0).stage ((cfgT (F := F)).slots t 0)) fullShare ((dats m 0 c).before 0 t d))
      ⊢ at_ (F := F) c (st0 (F := F) t) fullShare (qAt m c t) :=
  exists_elim fun d => by
    rw [before_q]
    exact rep_of_owns (c : Thread nD τ) (st0 (F := F) t) fullShare (qAt m c t)
/-- The query buffer meets its postcondition after the body. -/
theorem leaf0 (c : Dev nD) (t : Fin grid0.N) :
    at_ (F := F) c (st0 (F := F) t) fullShare (qAt m c t) ⊢ (dats m 0 c).leaves 0 t :=
  owns_of_rep (c : Thread nD τ) (st0 (F := F) t) fullShare (qAt m c t)
/-- The key buffer that the pipeline hands over holds the key block. -/
theorem find1 (c : Dev nD) (t : Fin grid0.N) :
    iprop(∃ d, owns (c : Thread nD τ) (((cfgT (F := F)).win 1).stage ((cfgT (F := F)).slots t 1)) fullShare ((dats m 0 c).before 1 t d))
      ⊢ at_ (F := F) c (st1 (F := F) t) fullShare (kAt m c t) :=
  exists_elim fun d => by
    rw [before_k]
    exact rep_of_owns (c : Thread nD τ) (st1 (F := F) t) fullShare (kAt m c t)
/-- The key buffer meets its postcondition after the body. -/
theorem leaf1 (c : Dev nD) (t : Fin grid0.N) :
    at_ (F := F) c (st1 (F := F) t) fullShare (kAt m c t) ⊢ (dats m 0 c).leaves 1 t :=
  owns_of_rep (c : Thread nD τ) (st1 (F := F) t) fullShare (kAt m c t)
/-- The value buffer that the pipeline hands over holds the value block. -/
theorem find2 (c : Dev nD) (t : Fin grid0.N) :
    iprop(∃ d, owns (c : Thread nD τ) (((cfgT (F := F)).win 2).stage ((cfgT (F := F)).slots t 2)) fullShare ((dats m 0 c).before 2 t d))
      ⊢ at_ (F := F) c (st2 (F := F) t) fullShare (vAt m c t) :=
  exists_elim fun d => by
    rw [before_v]
    exact rep_of_owns (c : Thread nD τ) (st2 (F := F) t) fullShare (vAt m c t)
/-- The value buffer meets its postcondition after the body. -/
theorem leaf2 (c : Dev nD) (t : Fin grid0.N) :
    at_ (F := F) c (st2 (F := F) t) fullShare (vAt m c t) ⊢ (dats m 0 c).leaves 2 t :=
  owns_of_rep (c : Thread nD τ) (st2 (F := F) t) fullShare (vAt m c t)
/-- The output buffer that the pipeline hands over, at its contents. -/
theorem find3 (c : Dev nD) (t : Fin grid0.N) (d) :
    owns (c : Thread nD τ) (((cfgT (F := F)).win 3).stage ((cfgT (F := F)).slots t 3)) fullShare ((dats m 0 c).before 3 t d)
      ⊢ at_ (F := F) c (st3 (F := F) t) fullShare (b3 m c t d) :=
  rep_of_owns (c : Thread nD τ) (st3 (F := F) t) fullShare (b3 m c t d)
/-- On the last step of a query block the output buffer holds the written block. -/
theorem leaf3_last (c : Dev nD) (t : Fin grid0.N) (h : lastStep (grid0.coords t)) :
    at_ (F := F) c (st3 (F := F) t) fullShare (outOf (traj m c (t.val + 1))) ⊢ (dats m 0 c).leaves 3 t := by
  unfold Dat.leaves
  have hi : (Pipeline.pin (pcfgs (F := F)) adm 0).idle 3 ((Pipeline.pin (pcfgs (F := F)) adm 0).grid.coords t) = false := by
    refine (idle3 _).trans ?_
    rw [Bool.not_eq_false', decide_eq_true_iff]; exact h
  rw [hi]
  exact owns_of_rep (c : Thread nD τ) (st3 (F := F) t) fullShare (outOf (traj m c (t.val + 1)))
/-- On any other step the output buffer is as it was. -/
theorem leaf3_idle (c : Dev nD) (t : Fin grid0.N) (d) (h : ¬ lastStep (grid0.coords t)) :
    at_ (F := F) c (st3 (F := F) t) fullShare (b3 m c t d) ⊢ (dats m 0 c).leaves 3 t := by
  unfold Dat.leaves
  have hi : (Pipeline.pin (pcfgs (F := F)) adm 0).idle 3 ((Pipeline.pin (pcfgs (F := F)) adm 0).grid.coords t) = true := by
    refine (idle3 _).trans ?_
    rw [Bool.not_eq_true', decide_eq_false_iff_not]; exact h
  have hf : ((Pipeline.pin (pcfgs (F := F)) adm 0).win 3).flush t = false := no_flush t h
  rw [hi, hf]
  iintro H; iexists d
  iapply (owns_of_rep (c : Thread nD τ) (st3 (F := F) t) fullShare (b3 m c t d)) $$ H
/-- The output buffer meets its postcondition after the body, whether it was written or not. -/
theorem leaf3 (c : Dev nD) (t : Fin grid0.N) (d) :
    at_ (F := F) c (st3 (F := F) t) fullShare (if lastStep (grid0.coords t) then outOf (traj m c (t.val + 1)) else b3 m c t d)
      ⊢ (dats m 0 c).leaves 3 t := by
  by_cases h : lastStep (grid0.coords t)
  · rw [if_pos h]; exact leaf3_last m c t h
  · rw [if_neg h]; exact leaf3_idle m c t d h

/-- The body run at point `t` on the buffers the pipeline gives it. -/
theorem point (c : Dev nD) (t : Fin grid0.N) (d : Vec F S1x1024x128 .bf16) (R : sProp 𝕄) :
    iprop(Phi m c t.val ∗ R ∗ at_ (F := F) c (st0 (F := F) t) fullShare (qAt m c t) ∗ at_ (F := F) c (st1 (F := F) t) fullShare (kAt m c t)
        ∗ at_ (F := F) c (st2 (F := F) t) fullShare (vAt m c t) ∗ at_ (F := F) c (st3 (F := F) t) fullShare (b3 m c t d))
      ⊢ wp frame (wpE (defs₀ (F := F)) Variants.none c none) Set.univ
        (cc0_flash_causal (F := F) (grid0.coords t) (Memref.whole main_c) (Memref.isWhole_whole _) (Memref.whole main_c_0) (Memref.isWhole_whole _)
          (Memref.whole main_c_1) (Memref.isWhole_whole _) (Memref.whole main_c_2) (Memref.isWhole_whole _)
          (st0 (F := F) t) (hstage0_0 (((cfgT (F := F)).slots t 0).cast nbuf0_0)) (st1 (F := F) t) (hstage0_1 (((cfgT (F := F)).slots t 1).cast nbuf0_1))
          (st2 (F := F) t) (hstage0_2 (((cfgT (F := F)).slots t 2).cast nbuf0_2)) (st3 (F := F) t) (hstage0_3 (((cfgT (F := F)).slots t 3).cast nbuf0_3))
          (Memref.whole cc0_scratch0) (Memref.isWhole_whole _) (Memref.whole cc0_scratch1) (Memref.isWhole_whole _) (Memref.whole cc0_scratch2) (Memref.isWhole_whole _))
        fun _ => iprop(Phi m c (t.val + 1) ∗ R ∗ at_ (F := F) c (st0 (F := F) t) fullShare (qAt m c t) ∗ at_ (F := F) c (st1 (F := F) t) fullShare (kAt m c t)
          ∗ at_ (F := F) c (st2 (F := F) t) fullShare (vAt m c t)
          ∗ at_ (F := F) c (st3 (F := F) t) fullShare (if lastStep (grid0.coords t) then outOf (traj m c (t.val + 1)) else b3 m c t d)) := by
  unfold Phi held
  rw [tables_eq]
  iintro ⟨⟨⟨%s, %hs, S0, S1, S2⟩, Hg, T0, T1, T2, T3⟩, HR, H0, H1, H2, H3⟩
  have hst : stepAt (grid0.coords t) (qAt m c t) (kAt m c t) (vAt m c t) s = traj m c (t.val + 1) := by
    rw [traj_succ]
    by_cases h0 : t.val = 0
    · exact stepAt_first _ _ _ _ _ _ (first_zero t h0)
    · rw [hs h0]
  iapply (run (F := F) c (grid0.coords t) (Memref.whole main_c) (Memref.isWhole_whole _) (Memref.whole main_c_0) (Memref.isWhole_whole _)
    (Memref.whole main_c_1) (Memref.isWhole_whole _) (Memref.whole main_c_2) (Memref.isWhole_whole _)
    (st0 (F := F) t) (hstage0_0 (((cfgT (F := F)).slots t 0).cast nbuf0_0))
    (st1 (F := F) t) (hstage0_1 (((cfgT (F := F)).slots t 1).cast nbuf0_1))
    (st2 (F := F) t) (hstage0_2 (((cfgT (F := F)).slots t 2).cast nbuf0_2))
    (st3 (F := F) t) (hstage0_3 (((cfgT (F := F)).slots t 3).cast nbuf0_3))
    (Memref.whole cc0_scratch0) (Memref.isWhole_whole _) (Memref.whole cc0_scratch1) (Memref.isWhole_whole _) (Memref.whole cc0_scratch2) (Memref.isWhole_whole _)
    (qAt m c t) (kAt m c t) (vAt m c t) (b3 m c t d) s fullShare.right _)
  rw [hst]
  isplitl [T0]; · iexact T0
  isplitl [T1]; · iexact T1
  isplitl [T2]; · iexact T2
  isplitl [T3]; · iexact T3
  isplitl [H0]; · iexact H0
  isplitl [H1]; · iexact H1
  isplitl [H2]; · iexact H2
  isplitl [H3]; · iexact H3
  isplitl [S0]; · iexact S0
  isplitl [S1]; · iexact S1
  isplitl [S2]; · iexact S2
  iintro ⟨T0, T1, T2, T3, H0, H1, H2, H3, S0, S1, S2⟩
  isplitl [T0 T1 T2 T3 S0 S1 S2 Hg]
  · isplitl [S0 S1 S2]
    · iexists (traj m c (t.val + 1))
      isplitr
      · ipureintro; exact fun _ => rfl
      isplitl [S0]; · iexact S0
      isplitl [S1]; · iexact S1
      iexact S2
    isplitl [Hg]; · iexact Hg
    isplitl [T0]; · iexact T0
    isplitl [T1]; · iexact T1
    isplitl [T2]; · iexact T2
    iexact T3
  isplitl [HR]; · iexact HR
  isplitl [H0]; · iexact H0
  isplitl [H1]; · iexact H1
  isplitl [H2]; · iexact H2
  iexact H3

/-- What the windows' buffers hold after a point. -/
theorem leaves_all (c : Dev nD) (t : Fin grid0.N) (d) :
    iprop(at_ (F := F) c (st0 (F := F) t) fullShare (qAt m c t) ∗ at_ (F := F) c (st1 (F := F) t) fullShare (kAt m c t)
        ∗ at_ (F := F) c (st2 (F := F) t) fullShare (vAt m c t)
        ∗ at_ (F := F) c (st3 (F := F) t) fullShare (if lastStep (grid0.coords t) then outOf (traj m c (t.val + 1)) else b3 m c t d))
      ⊢ (bigSep Finset.univ fun w : Fin 4 => (dats m 0 c).leaves w t : sProp 𝕄) := by
  rw [bigSep_W0]
  exact BIClass.sep_mono (leaf0 m c t) (BIClass.sep_mono (leaf1 m c t) (BIClass.sep_mono (leaf2 m c t) (leaf3 m c t d)))

/-- The body obligation at a point, the output buffer's contents named. -/
theorem point' (c : Dev nD) (t : Fin grid0.N) (d : Vec F S1x1024x128 .bf16) :
    iprop((dats m 0 c).Φ t.castSucc ∗ (dats m 0 c).owesAt () t.castSucc ∗ at_ (F := F) c (st0 (F := F) t) fullShare (qAt m c t)
        ∗ at_ (F := F) c (st1 (F := F) t) fullShare (kAt m c t)
        ∗ at_ (F := F) c (st2 (F := F) t) fullShare (vAt m c t) ∗ at_ (F := F) c (st3 (F := F) t) fullShare (b3 m c t d))
      ⊢ wp frame (wpE (defs₀ (F := F)) Variants.none c none) Set.univ
        ((defs₀ (F := F)) .tc (cfgT (F := F)).body ((cfgT (F := F)).bodyArgs t ((cfgT (F := F)).slots t)))
        fun _ => iprop((dats m 0 c).Φ t.succ ∗ (dats m 0 c).owesAt () t.succ ∗ bigSep Finset.univ fun w : Fin 4 => (dats m 0 c).leaves w t) :=
  triple_restated (point m c t d ((dats m 0 c).owesAt () t.castSucc)) rfl .rfl
    (fun _ => BIClass.sep_mono .rfl (BIClass.sep_mono .rfl (leaves_all m c t d)))

/-- What the pipeline hands the body, window by window. -/
theorem finds_all (c : Dev nD) (t : Fin grid0.N) :
    (bigSep Finset.univ fun w : Fin 4 => iprop(∃ d, owns (c : Thread nD τ) (((cfgT (F := F)).win w).stage ((cfgT (F := F)).slots t w)) fullShare
        ((dats m 0 c).before w t d)) : sProp 𝕄)
      ⊢ iprop(at_ (F := F) c (st0 (F := F) t) fullShare (qAt m c t) ∗ at_ (F := F) c (st1 (F := F) t) fullShare (kAt m c t)
        ∗ at_ (F := F) c (st2 (F := F) t) fullShare (vAt m c t) ∗ ∃ d, at_ (F := F) c (st3 (F := F) t) fullShare (b3 m c t d)) := by
  rw [bigSep_W0]
  exact BIClass.sep_mono (find0 m c t) (BIClass.sep_mono (find1 m c t) (BIClass.sep_mono (find2 m c t)
    (exists_elim fun d => (find3 m c t d).trans (exists_intro (Φ := fun d => at_ (F := F) c (st3 (F := F) t) fullShare (b3 m c t d)) d))))

/-- The body obligation. -/
theorem obligation (c : Dev nD) : BodyObligationLoose (dats m 0 c) (defs₀ (F := F)) Variants.none () Set.univ := by
  intro t
  refine (BIClass.sep_mono .rfl (BIClass.sep_mono .rfl (finds_all m c t))).trans ?_
  have h := BIClass.exists_elim fun d => point' m c t d
  refine BIBase.Entails.trans ?_ h
  iintro ⟨HΦ, Howe, H0, H1, H2, ⟨%d, H3⟩⟩
  iexists d
  isplitl [HΦ]; · iexact HΦ
  isplitl [Howe]; · iexact Howe
  isplitl [H0]; · iexact H0
  isplitl [H1]; · iexact H1
  isplitl [H2]; · iexact H2
  iexact H3

/-! ## The launch -/

/-- The tables' buffers hold the tables when the kernel starts. -/
theorem V_tables (c : Dev nD) (k : Fin 4) : V m c (pre0.ref k) = tbl (F := F) k := by
  unfold V
  match k with
  | 0 => after_results; rfl
  | 1 => after_results; rfl
  | 2 => after_results; rfl
  | 3 => after_results; rfl

/-- The scratch buffers and the register at anything, and the tables, are what the kernel keeps before its first point. -/
theorem enter (c : Dev nD) :
    iprop(Pipeline.ΦA (U := UR sig nD τ) (Val := Elt F) (cfgT (F := F)).spec c ∗ Pipeline.ΦT (U := UR sig nD τ) pre0 (tbl (F := F)) c) ⊢ Phi m c 0 := by
  unfold Pipeline.ΦA Phi held
  rw [show (Pipeline.scopedRest (Ix := Unit) (Name := ℕ) (U := UR sig nD τ) (Lvl := ℕ) (Val := Elt F) (cfgT (F := F)).spec c : sProp 𝕄) = _ from scopedRest0_eq c]
  iintro ⟨⟨⟨⟨%f0, S0⟩, ⟨%f1, S1⟩, ⟨%f2, S2⟩⟩, Hg⟩, HT⟩
  isplitl [S0 S1 S2]
  · iexists (⟨f0, f1, f2⟩ : St F)
    isplitr
    · ipureintro; exact fun h => absurd rfl h
    isplitl [S0]; · iapply (Entails.of_eq (at_whole c cc0_scratch0 fullShare f0).symm) $$ S0
    isplitl [S1]; · iapply (Entails.of_eq (at_whole c cc0_scratch1 fullShare f1).symm) $$ S1
    iapply (Entails.of_eq (at_whole c cc0_scratch2 fullShare f2).symm) $$ S2
  isplitl [Hg]; · iexact Hg
  iexact HT

/-- And after its last point it gives them back. -/
theorem leave (c : Dev nD) (n : ℕ) : Phi m c n ⊢ Pipeline.ΦA (U := UR sig nD τ) (Val := Elt F) (cfgT (F := F)).spec c := by
  unfold Pipeline.ΦA Phi held
  rw [show (Pipeline.scopedRest (Ix := Unit) (Name := ℕ) (U := UR sig nD τ) (Lvl := ℕ) (Val := Elt F) (cfgT (F := F)).spec c : sProp 𝕄) = _ from scopedRest0_eq c]
  iintro ⟨⟨%s, -, S0, S1, S2⟩, Hg, -⟩
  isplitl [S0 S1 S2]
  · isplitl [S0]; · iexists s.m; iapply (Entails.of_eq (at_whole c cc0_scratch0 fullShare s.m)) $$ S0
    isplitl [S1]; · iexists s.l; iapply (Entails.of_eq (at_whole c cc0_scratch1 fullShare s.l)) $$ S1
    iexists s.acc; iapply (Entails.of_eq (at_whole c cc0_scratch2 fullShare s.acc)) $$ S2
  iexact Hg

set_option backward.isDefEq.respectTransparency.types false in
/-- The kernel runs to its end: every array holds what the write-backs left, every other buffer what it held when the
    kernel started, and every counter is zero. -/
theorem run_main : θ_run (defs (F := F)) (onTc (τ := τ) main) ⟨m, fun _ => 0, g⟩
    (fun r => Pipeline.FramePost (Pipeline.pin (pcfgs (F := F)) adm) (dats m) 0 (V m) r ∧ r.2.sem = fun _ => 0) :=
  Pipeline.θ_run_frameP_track pcfgs adm (dats m) 0 launch0 defs₀ Variants.none m g main
    (fun c => obligation m c) (fun _ _ => ite_self _) (fun _ _ => rfl) (V m)
    (Pipeline.hmainP_prefix pcfgs 0 defs₀ Variants.none m main hostOps0 hostOps0_sub ⟨rfl, rfl, rfl, rfl⟩ main_chain)
    (fun _ _ => rfl) (fun c k => V_tables m c k) (fun c => enter m c) (fun c => leave m c _)
    (Q' := fun r => Pipeline.FramePost (Pipeline.pin (pcfgs (F := F)) adm) (dats m) 0 (V m) r ∧ r.2.sem = fun _ => 0) (fun _ h => h)

/-- The three arguments are as they were. -/
theorem args_kept (r : PUnit × MemSt nD τ sig (Elt F)) (h : Pipeline.FramePost (Pipeline.pin (pcfgs (F := F)) adm) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  have e0 : V m c main_arg0 = m ((c.tc : Thread nD τ).loc main_arg0) := by unfold V; after_results
  have e1 : V m c main_arg1 = m ((c.tc : Thread nD τ).loc main_arg1) := by unfold V; after_results
  have e2 : V m c main_arg2 = m ((c.tc : Thread nD τ).loc main_arg2) := by unfold V; after_results
  refine ⟨?_, ?_, ?_⟩
  · exact (((h c).1 0).trans ((dats m 0 c).arrAt_in 0 rfl _)).trans e0
  · exact (((h c).1 1).trans ((dats m 0 c).arrAt_in 1 rfl _)).trans e1
  · exact (((h c).1 2).trans ((dats m 0 c).arrAt_in 2 rfl _)).trans e2

end Cert.KernelIdeal.Att

end
-- ==== Proof.IdealRow.lean ====
/- The kernel's payloads at an index, over the extended reals. -/
module

public import proofs.«01_k».proof.Proof.IdealFrame
public import proofs.«01_k».proof.Proof.Reductions
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe

/-- The named constant is −∞. -/
theorem mask_eq : Named.named (F := Ideal) (φ := .f32) κ "mask" 0xF149F2CA#32 = (⊥ : EReal) :=
  IdealRules.named_const.ideal_named_scalar _ _ _ _ rfl

/-- The causal comparison of two positions spelt in words. -/
theorem causal_word (a b : BitVec 32) (ha : a.toNat < 8) (hb : b.toNat < 8) (r j : ℕ) (hr : r < 1024) (hj : j < 1024) :
    IntOp.cmpi .sle (IntOp.addi (Scalar.muli b 1024#32) (BitVec.ofNat 32 j)) (IntOp.addi (Scalar.muli a 1024#32) (BitVec.ofNat 32 r))
      = BitVec.ofBool (decide (b.toNat * 1024 + j ≤ a.toNat * 1024 + r)) := by
  have e : ∀ w : BitVec 32, w.toNat < 8 → ∀ n : ℕ, n < 1024 → (IntOp.addi (Scalar.muli w 1024#32) (BitVec.ofNat 32 n)).toNat = w.toNat * 1024 + n := by
    intro w hw n hn
    show (w * 1024#32 + BitVec.ofNat 32 n).toNat = _
    rw [BitVec.toNat_add, BitVec.toNat_mul, BitVec.toNat_ofNat]
    show (w.toNat * 1024 % 2 ^ 32 + n % 2 ^ 32) % 2 ^ 32 = _
    omega
  show BitVec.ofBool (BitVec.sle _ _) = _
  rw [BitVec.sle_eq_decide, BitVec.toInt_eq_toNat_of_lt (by rw [e b hb j hj]; omega), BitVec.toInt_eq_toNat_of_lt (by rw [e a ha r hr]; omega),
    e b hb j hj, e a ha r hr]
  congr 1
  exact decide_eq_decide.2 Int.ofNat_le

/-- The masked score of a row and a key of the block. -/
theorem pay7_apply (a b : BitVec 32) (ha : a.toNat < 8) (hb : b.toNat < 8) (q k : FVec Ideal S1x1024x128 .bf16) (r j : Fin 1024) :
    k0_pay7 (F := Ideal) a b q k (ix2 r j)
      = if b.toNat * 1024 + j.val ≤ a.toNat * 1024 + r.val then ∑ d : Fin 128, q (ix3 0 r d) * k (ix3 0 j d) else ⊥ := by
  pointwise [k0_pay7]
  rw [causal_word a b ha hb r.val j.val r.isLt j.isLt, mask_eq]
  by_cases h : b.toNat * 1024 + j.val ≤ a.toNat * 1024 + r.val
  · rw [if_pos h, decide_eq_true h]; rfl
  · rw [if_neg h, decide_eq_false h]; rfl

/-- A column's maximum with a vector's elements, -/
theorem col_max (m : FVec Ideal S1024x1 .f32) (x : FVec Ideal S1024 .f32) (r : Fin 1024) :
    maximumf m (shapeCast S1024x1 x shapeCasts_S1024_S1024x1) (ix2 r 0) = max (m (ix2 r 0)) (x (ix1 r)) := by
  pointwise

/-- and a scaled column's sum with them. -/
theorem col_add (e l : FVec Ideal S1024x1 .f32) (x : FVec Ideal S1024 .f32) (r : Fin 1024) :
    shapeCast S1024x1 (addf (mulf e l) (shapeCast S1024x1 x shapeCasts_S1024_S1024x1)) shapeCasts_S1024x1_S1024x1 (ix2 r 0)
      = e (ix2 r 0) * l (ix2 r 0) + x (ix1 r) := by
  pointwise

/-- The row's new maximum. -/
theorem pay8_apply (a b : BitVec 32) (q k : FVec Ideal S1x1024x128 .bf16) (m : FVec Ideal S1024x1 .f32) (r : Fin 1024) :
    k0_pay8 (F := Ideal) a b q k m (ix2 r 0)
      = max (m (ix2 r 0)) ((Finset.univ : Finset (Fin 1024)).sup fun j => k0_pay7 (F := Ideal) a b q k (ix2 r j)) :=
  (col_max m _ r).trans (congrArg (max (m (ix2 r 0))) (Reductions.rowMax (k0_pay7 (F := Ideal) a b q k) reduces_S1024x1024_S1024 (.inl rfl) rfl r))

/-- The row's new maximum, as stored. -/
theorem pay5_apply (x : FVec Ideal S1024x1 .f32) (r : Fin 1024) : k0_pay5 (F := Ideal) x (ix2 r 0) = x (ix2 r 0) := by
  pointwise [k0_pay5]

/-- The weight of what was summed before, -/
theorem pay9_apply (a b : BitVec 32) (q k : FVec Ideal S1x1024x128 .bf16) (m : FVec Ideal S1024x1 .f32) (r : Fin 1024) :
    k0_pay9 (F := Ideal) a b q k m (ix2 r 0) = Ideal.exp (m (ix2 r 0) - k0_pay8 (F := Ideal) a b q k m (ix2 r 0)) := by
  pointwise [k0_pay9]

/-- The exponential of an array's difference with a column, -/
theorem weights_apply (x : FVec Ideal S1024x1024 .f32) (m : FVec Ideal S1024x1 .f32) (r j : Fin 1024) :
    exp (subf x (broadcastTo S1024x1024 m broadcasts_S1024x1_S1024x1024)) (ix2 r j) = Ideal.exp (x (ix2 r j) - m (ix2 r 0)) := by
  pointwise

/-- and the weights of the block's keys. -/
theorem pay10_apply (a b : BitVec 32) (q k : FVec Ideal S1x1024x128 .bf16) (m : FVec Ideal S1024x1 .f32) (r j : Fin 1024) :
    k0_pay10 (F := Ideal) a b q k m (ix2 r j)
      = Ideal.exp (k0_pay7 (F := Ideal) a b q k (ix2 r j) - k0_pay8 (F := Ideal) a b q k m (ix2 r 0)) :=
  weights_apply (k0_pay7 (F := Ideal) a b q k) (k0_pay8 (F := Ideal) a b q k m) r j

/-- The row's new sum of weights. -/
theorem pay11_apply (a b : BitVec 32) (q k : FVec Ideal S1x1024x128 .bf16) (m l : FVec Ideal S1024x1 .f32) (r : Fin 1024) :
    k0_pay11 (F := Ideal) a b q k m l (ix2 r 0)
      = Ideal.exp (m (ix2 r 0) - k0_pay8 (F := Ideal) a b q k m (ix2 r 0)) * l (ix2 r 0)
        + ∑ j : Fin 1024, Ideal.exp (k0_pay7 (F := Ideal) a b q k (ix2 r j) - k0_pay8 (F := Ideal) a b q k m (ix2 r 0)) :=
  (col_add (k0_pay9 (F := Ideal) a b q k m) l _ r).trans (congrArg₂ (· + ·) (congrArg (· * l (ix2 r 0)) (pay9_apply a b q k m r))
    ((Reductions.rowSum (k0_pay10 (F := Ideal) a b q k m) _ reduces_S1024x1024_S1024 (.inl rfl) rfl r).trans
      (Finset.sum_congr rfl fun j _ => pay10_apply a b q k m r j)))

/-- The weighted sum of a block's values: the product of the weights and the values, -/
theorem weigh_apply (w : FVec Ideal S1024x1024 .f32) (v : FVec Ideal S1024x128 .bf16) (r : Fin 1024) (d : Fin 128) :
    matmul dot_S1024x1024_S1024x128_S1024x128_1_0_0_1_n_n none (truncf .bf16 w bitsLt_bf16_f32) v
        (constant (F := Ideal) S1024x128 .f32 0x00000000#32) (ix2 r d)
      = ∑ j : Fin 1024, w (ix2 r j) * v (ix2 j d) := by
  refine (Ideal.matmul_apply₁_of dot_S1024x1024_S1024x128_S1024x128_1_0_0_1_n_n (a := 1) rfl (K := 1024) rfl w v _ (ix2 r d)
    (fun j => ix2 r j) (fun j => ix2 j d) (fun j => ?_) (fun j => ?_)).trans ?_
  · pointwise
  · pointwise
  · exact (congrArg (· + _) Ideal.ofBits_zero_f32).trans (zero_add _)

/-- and the row's sum carried on, at the product's element. -/
theorem carry_apply (e : FVec Ideal S1024x1 .f32) (acc x : FVec Ideal S1024x128 .f32) (r : Fin 1024) (d : Fin 128) :
    shapeCast S1024x128 (addf (mulf (broadcastTo S1024x128 e broadcasts_S1024x1_S1024x128) acc) x) shapeCasts_S1024x128_S1024x128 (ix2 r d)
      = e (ix2 r 0) * acc (ix2 r d) + x (ix2 r d) := by
  pointwise

/-- The block's values as the kernel reads them. -/
theorem values_apply (v : FVec Ideal S1x1024x128 .bf16) (j : Fin 1024) (d : Fin 128) :
    shapeCast S1024x128 v shapeCasts_S1x1024x128_S1024x128 (ix2 j d) = v (ix3 0 j d) := by
  pointwise

/-- The row's new weighted sum of values. -/
theorem pay4_apply (a b : BitVec 32) (q k v : FVec Ideal S1x1024x128 .bf16) (m : FVec Ideal S1024x1 .f32) (acc : FVec Ideal S1024x128 .f32) (r : Fin 1024) (d : Fin 128) :
    k0_pay4 (F := Ideal) (k0_pay10 a b q k m) (k0_pay12 a b q k m acc) v (ix2 r d)
      = Ideal.exp (m (ix2 r 0) - k0_pay8 (F := Ideal) a b q k m (ix2 r 0)) * acc (ix2 r d)
        + ∑ j : Fin 1024, Ideal.exp (k0_pay7 (F := Ideal) a b q k (ix2 r j) - k0_pay8 (F := Ideal) a b q k m (ix2 r 0)) * v (ix3 0 j d) :=
  (carry_apply (k0_pay9 (F := Ideal) a b q k m) acc _ r d).trans (congrArg₂ (· + ·) (congrArg (· * acc (ix2 r d)) (pay9_apply a b q k m r))
    ((weigh_apply (k0_pay10 (F := Ideal) a b q k m) (shapeCast S1024x128 v shapeCasts_S1x1024x128_S1024x128) r d).trans
      (Finset.sum_congr rfl fun j _ => congrArg₂ (· * ·) (pay10_apply a b q k m r j) (values_apply v j d))))

/-- What the row stores. -/
theorem pay6_apply (acc : FVec Ideal S1024x128 .f32) (l : FVec Ideal S1024x1 .f32) (r : Fin 1024) (d : Fin 128) :
    k0_pay6 (F := Ideal) acc l (ix3 0 r d) = Ideal.div (acc (ix2 r d)) (l (ix2 r 0)) := by
  pointwise [k0_pay6]

/-- What the statistics start from. -/
theorem init_apply (r : Fin 1024) (d : Fin 128) :
    k0_pay1 (F := Ideal) (ix2 r 0) = (⊥ : EReal) ∧ k0_pay2 (F := Ideal) (ix2 r 0) = (0 : EReal) ∧ k0_pay3 (F := Ideal) (ix2 r d) = (0 : EReal) := by
  refine ⟨?_, ?_, ?_⟩
  · pointwise [k0_pay1]
    exact mask_eq
  · pointwise [k0_pay2]
  · pointwise [k0_pay3]

end Cert.KernelIdeal.Att

end
-- ==== Proof.Softmax.lean ====
/- Softmax taken block by block, over the extended reals. A row has a score `σ j` and a value `v j` for each key `j`;
   a masked key's score is −∞. The row's running maximum, the running sum of the weights and the running weighted sum
   of the values over the first `n` keys, each relative to the maximum so far, are followed as `n` grows by a block,
   and their quotient is the weighted sum of the values with the weights divided first. -/
module

public import Idealize.ShloMosaic.PureOps.Ideal

@[expose] public section

noncomputable section

namespace Cert.Softmax

open Idealize.ShloMosaic

/-! ## The exponential -/

/-- The exponential is not negative. -/
theorem exp_nonneg (x : EReal) : 0 ≤ Ideal.exp x := by
  induction x with
  | bot => simp
  | top => simp
  | coe r => rw [Ideal.exp_coe]; exact_mod_cast (Real.exp_pos r).le

/-- A number that is not +∞ less a real number is −∞ or real. -/
theorem sub_cases (x : EReal) (hx : x ≠ ⊤) (a : ℝ) : x - (a : EReal) = ⊥ ∧ x = ⊥ ∨ ∃ r : ℝ, x = (r : EReal) ∧ x - (a : EReal) = ((r - a : ℝ) : EReal) := by
  induction x with
  | bot => exact .inl ⟨EReal.bot_sub _, rfl⟩
  | top => exact absurd rfl hx
  | coe r => exact .inr ⟨r, rfl, (EReal.coe_sub r a).symm⟩

/-- Its exponential is a real number. -/
theorem exp_sub_real (x : EReal) (hx : x ≠ ⊤) (a : ℝ) : ∃ r : ℝ, 0 ≤ r ∧ Ideal.exp (x - (a : EReal)) = (r : EReal) := by
  rcases sub_cases x hx a with ⟨h, -⟩ | ⟨r, -, h⟩
  · exact ⟨0, le_rfl, by rw [h]; rfl⟩
  · exact ⟨Real.exp (r - a), (Real.exp_pos _).le, by rw [h, Ideal.exp_coe]⟩

/-- Moving the number that exponents are taken relative to. -/
theorem exp_shift (x : EReal) (hx : x ≠ ⊤) (a b : ℝ) :
    Ideal.exp ((a : EReal) - (b : EReal)) * Ideal.exp (x - (a : EReal)) = Ideal.exp (x - (b : EReal)) := by
  rw [← EReal.coe_sub, Ideal.exp_coe]
  induction x with
  | bot => rw [EReal.bot_sub, EReal.bot_sub, Ideal.exp_bot, mul_zero]
  | top => exact absurd rfl hx
  | coe r => rw [← EReal.coe_sub, ← EReal.coe_sub, Ideal.exp_coe, Ideal.exp_coe, ← EReal.coe_mul, ← Real.exp_add]; congr 2; ring

/-- A nonnegative real factor goes through a finite sum, whatever its terms are. -/
theorem mul_sum_real (a : ℝ) (ha : 0 ≤ a) (s : Finset ℕ) (f : ℕ → EReal) : (a : EReal) * ∑ j ∈ s, f j = ∑ j ∈ s, (a : EReal) * f j := by
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum of real numbers is real. -/
theorem sum_real (s : Finset ℕ) (f : ℕ → EReal) (h : ∀ j ∈ s, ∃ r : ℝ, 0 ≤ r ∧ f j = (r : EReal)) : ∃ r : ℝ, 0 ≤ r ∧ ∑ j ∈ s, f j = (r : EReal) := by
  induction s using Finset.induction_on with
  | empty => exact ⟨0, le_rfl, by simp⟩
  | insert i s hi ih =>
    obtain ⟨r, hr, e⟩ := ih fun j hj => h j (Finset.mem_insert_of_mem hj)
    obtain ⟨q, hq, e'⟩ := h i (Finset.mem_insert_self i s)
    exact ⟨q + r, add_nonneg hq hr, by rw [Finset.sum_insert hi, e, e', EReal.coe_add]⟩

/-! ## The running statistics -/

variable (σ v : ℕ → EReal)

/-- The largest of the first `n` scores. -/
def top (n : ℕ) : EReal := (Finset.range n).sup σ
/-- The sum of their weights relative to it. -/
def mass (n : ℕ) : EReal := ∑ j ∈ Finset.range n, Ideal.exp (σ j - top σ n)
/-- The sum of the values under those weights. -/
def blend (n : ℕ) : EReal := ∑ j ∈ Finset.range n, Ideal.exp (σ j - top σ n) * v j

/-- The running maximum of no scores is minus infinity. -/
@[simp] theorem top_zero : top σ 0 = ⊥ := by simp [top]
@[simp] theorem mass_zero : mass σ 0 = 0 := by simp [mass]
@[simp] theorem blend_zero : blend σ v 0 = 0 := by simp [blend]

/-- The largest score after another block. -/
theorem top_add (n w : ℕ) : top σ (n + w) = max (top σ n) ((Finset.range w).sup fun j => σ (n + j)) := by
  apply le_antisymm
  · refine Finset.sup_le fun j hj => ?_
    rw [Finset.mem_range] at hj
    rcases lt_or_ge j n with h | h
    · exact le_max_of_le_left (Finset.le_sup (f := σ) (Finset.mem_range.2 h))
    · obtain ⟨k, rfl⟩ := Nat.exists_eq_add_of_le h
      exact le_max_of_le_right (Finset.le_sup (f := fun j => σ (n + j)) (Finset.mem_range.2 (by omega)))
  · refine max_le (Finset.sup_le fun j hj => ?_) (Finset.sup_le fun j hj => ?_)
    · rw [Finset.mem_range] at hj; exact Finset.le_sup (f := σ) (Finset.mem_range.2 (by omega))
    · rw [Finset.mem_range] at hj; exact Finset.le_sup (f := σ) (Finset.mem_range.2 (by omega))

variable (hσ : ∀ j, σ j ≠ ⊤) (h0 : σ 0 ≠ ⊥)
include hσ h0

/-- The largest of some scores is a real number. -/
theorem top_real (n : ℕ) (hn : 0 < n) : ∃ a : ℝ, top σ n = (a : EReal) := by
  have hb : top σ n ≠ ⊥ := fun h => h0 (le_bot_iff.1 (h ▸ Finset.le_sup (f := σ) (Finset.mem_range.2 hn)))
  have ht : top σ n ≠ ⊤ := by
    refine ne_of_lt ((Finset.sup_lt_iff (by simp)).2 fun j _ => lt_top_iff_ne_top.2 (hσ j))
  exact ⟨(top σ n).toReal, (EReal.coe_toReal ht hb).symm⟩

/-- A sum over the first keys, weighted relative to the old maximum, is brought to the new one by one factor. -/
theorem rescale (n N : ℕ) (hN : 0 < N) (u : ℕ → EReal) :
    Ideal.exp (top σ n - top σ N) * ∑ j ∈ Finset.range n, Ideal.exp (σ j - top σ n) * u j
      = ∑ j ∈ Finset.range n, Ideal.exp (σ j - top σ N) * u j := by
  rcases Nat.eq_zero_or_pos n with rfl | hn
  · simp
  obtain ⟨a, ha⟩ := top_real σ hσ h0 n hn
  obtain ⟨b, hb⟩ := top_real σ hσ h0 N hN
  obtain ⟨r, hr, er⟩ := exp_sub_real (a : EReal) (EReal.coe_ne_top a) b
  rw [ha, hb, er, mul_sum_real r hr]
  refine Finset.sum_congr rfl fun j _ => ?_
  rw [← er, ← mul_assoc, exp_shift _ (hσ j)]

/-- The weights' sum after another block. -/
theorem mass_add (n w : ℕ) (hw : 0 < w) :
    mass σ (n + w) = Ideal.exp (top σ n - top σ (n + w)) * mass σ n + ∑ j ∈ Finset.range w, Ideal.exp (σ (n + j) - top σ (n + w)) := by
  have h := rescale σ hσ h0 n (n + w) (by omega) (fun _ => 1)
  simp only [mul_one] at h
  unfold mass
  rw [h, Finset.sum_range_add]

/-- The weighted sum after another block. -/
theorem blend_add (n w : ℕ) (hw : 0 < w) :
    blend σ v (n + w) = Ideal.exp (top σ n - top σ (n + w)) * blend σ v n
      + ∑ j ∈ Finset.range w, Ideal.exp (σ (n + j) - top σ (n + w)) * v (n + j) := by
  unfold blend
  rw [rescale σ hσ h0 n (n + w) (by omega) v, Finset.sum_range_add]

/-- Keys whose score is −∞ add nothing. -/
theorem skip (n N : ℕ) (hn : 0 < n) (hN : n ≤ N) (hm : ∀ j, n ≤ j → σ j = ⊥) :
    top σ N = top σ n ∧ mass σ N = mass σ n ∧ blend σ v N = blend σ v n := by
  obtain ⟨w, rfl⟩ := Nat.exists_eq_add_of_le hN
  have e : top σ (n + w) = top σ n := by
    rw [top_add]
    refine max_eq_left (Finset.sup_le fun j _ => ?_)
    rw [hm _ (by omega)]; exact bot_le
  obtain ⟨a, ha⟩ := top_real σ hσ h0 n hn
  have z : ∀ j, Ideal.exp (σ (n + j) - top σ n) = 0 := fun j => by rw [hm _ (by omega), EReal.bot_sub, Ideal.exp_bot]
  refine ⟨e, ?_, ?_⟩
  · unfold mass; rw [Finset.sum_range_add, e]; simp [z]
  · unfold blend; rw [Finset.sum_range_add, e]; simp [z]

/-- The weights' sum is a positive real number. -/
theorem mass_real (n : ℕ) (hn : 0 < n) : ∃ r : ℝ, 0 < r ∧ mass σ n = (r : EReal) := by
  obtain ⟨a, ha⟩ := top_real σ hσ h0 n hn
  obtain ⟨r, hr, e⟩ := sum_real (Finset.range n) (fun j => Ideal.exp (σ j - top σ n)) fun j _ => by
    rw [ha]; exact exp_sub_real _ (hσ j) a
  refine ⟨r, lt_of_le_of_ne hr fun h => ?_, e⟩
  have hz : ∑ j ∈ Finset.range n, Ideal.exp (σ j - top σ n) = 0 := by rw [e, ← h]; rfl
  have h1 := (Finset.sum_eq_zero_iff_of_nonneg fun j _ => exp_nonneg _).1 hz 0 (Finset.mem_range.2 hn)
  rw [ha] at h1
  rcases sub_cases (σ 0) (hσ 0) a with ⟨-, hb⟩ | ⟨q, -, hq⟩
  · exact h0 hb
  · rw [hq, Ideal.exp_coe] at h1
    exact absurd (by exact_mod_cast h1) (Real.exp_pos (q - a)).ne'

/-- The quotient of the weighted sum by the weights' sum is the sum of the values under the divided weights. -/
theorem quotient (n : ℕ) (hn : 0 < n) :
    Ideal.div (blend σ v n) (mass σ n) = ∑ j ∈ Finset.range n, Ideal.div (Ideal.exp (σ j - top σ n)) (mass σ n) * v j := by
  obtain ⟨r, hr, e⟩ := mass_real σ hσ h0 n hn
  simp only [e, Ideal.div_coe hr.ne']
  unfold blend
  rw [mul_comm, mul_sum_real _ (by positivity)]
  refine Finset.sum_congr rfl fun j _ => ?_
  rw [← mul_assoc, mul_comm (((1 / r : ℝ)) : EReal)]

end Cert.Softmax

end
-- ==== Proof.Attention.lean ====
/- Causal attention within sequences of 8192 rows, four of them end to end in each of sixteen heads: the scores of a
   query row, and the result at an index, over the extended reals. -/
module

public import proofs.«01_k».proof.Proof.Softmax
public import Idealize.ShloMosaic.Lib.Pointwise

@[expose] public section

noncomputable section

namespace Cert.Attention

open Idealize.ShloMosaic Cert.Softmax

/-- An array of sixteen heads of 32768 rows of 128 numbers. -/
abbrev Arr : Type := (⟨3, ![16, 32768, 128]⟩ : Shape).Idx → EReal

/-- The row of the array that is row `p` of sequence `b`. -/
def row (b p : ℕ) : Fin 32768 := ⟨(8192 * b + p) % 32768, Nat.mod_lt _ (by decide)⟩

/-- The score of query row `p` and key row `j` of sequence `b`: their inner product, or −∞ where the key is later. -/
def score (q k : Arr) (h : Fin 16) (b p j : ℕ) : EReal :=
  if j ≤ p then ∑ d : Fin 128, q (ix3 h (row b p) d) * k (ix3 h (row b j) d) else ⊥

/-- Column `d` of the value of key row `j` of sequence `b`. -/
def value (v : Arr) (h : Fin 16) (b : ℕ) (d : Fin 128) (j : ℕ) : EReal := v (ix3 h (row b j) d)

/-- The result: the values under the softmax of the scores of all of the sequence's keys. -/
def result (q k v : Arr) (h : Fin 16) (b p : ℕ) (d : Fin 128) : EReal :=
  Ideal.div (blend (score q k h b p) (value v h b d) 8192) (mass (score q k h b p) 8192)

/-- Every element is a real number. -/
def Finite (x : Arr) : Prop := ∀ i, ∃ r : ℝ, x i = (r : EReal)

/-- An inner product of real numbers is real. -/
theorem inner_real (f g : Fin 128 → EReal) (hf : ∀ d, ∃ r : ℝ, f d = (r : EReal)) (hg : ∀ d, ∃ r : ℝ, g d = (r : EReal)) :
    ∃ r : ℝ, ∑ d : Fin 128, f d * g d = (r : EReal) := by
  choose F hF using hf
  choose G hG using hg
  refine ⟨∑ d : Fin 128, F d * G d, ?_⟩
  simp only [hF, hG, ← EReal.coe_mul]
  induction (Finset.univ : Finset (Fin 128)) using Finset.induction_on with
  | empty => simp
  | insert i s hi ih => rw [Finset.sum_insert hi, Finset.sum_insert hi, ih, EReal.coe_add]

variable (q k v : Arr) (hq : Finite q) (hk : Finite k)
include hq hk

/-- With finite queries and keys no score is +∞, -/
theorem score_ne_top (h : Fin 16) (b p j : ℕ) : score q k h b p j ≠ ⊤ := by
  unfold score
  split
  · obtain ⟨r, e⟩ := inner_real (fun d => q (ix3 h (row b p) d)) (fun d => k (ix3 h (row b j) d)) (fun _ => hq _) (fun _ => hk _)
    rw [e]; exact EReal.coe_ne_top r
  · exact bot_ne_top

/-- and that of the first key is not −∞. -/
theorem score_zero (h : Fin 16) (b p : ℕ) : score q k h b p 0 ≠ ⊥ := by
  unfold score
  rw [if_pos (Nat.zero_le p)]
  obtain ⟨r, e⟩ := inner_real (fun d => q (ix3 h (row b p) d)) (fun d => k (ix3 h (row b 0) d)) (fun _ => hq _) (fun _ => hk _)
  rw [e]; exact EReal.coe_ne_bot r

/-- The keys past the query's row add nothing: any number of keys that goes past it gives the result. -/
theorem result_of_prefix (h : Fin 16) (b p n : ℕ) (d : Fin 128) (hp : p < n) (hn : n ≤ 8192) :
    Ideal.div (blend (score q k h b p) (value v h b d) n) (mass (score q k h b p) n) = result q k v h b p d := by
  obtain ⟨-, e, e'⟩ := skip (score q k h b p) (value v h b d) (score_ne_top q k hq hk h b p) (score_zero q k hq hk h b p) n 8192
    (by omega) hn fun j hj => if_neg (by omega)
  unfold result
  rw [e, e']

/-- The result with the weights divided first. -/
theorem result_eq (h : Fin 16) (b p : ℕ) (d : Fin 128) :
    result q k v h b p d = ∑ j ∈ Finset.range 8192,
      Ideal.div (Ideal.exp (score q k h b p j - top (score q k h b p) 8192)) (mass (score q k h b p) 8192) * value v h b d j :=
  quotient _ _ (score_ne_top q k hq hk h b p) (score_zero q k hq hk h b p) 8192 (by decide)

end Cert.Attention

end
-- ==== Proof.IdealValue.lean ====
/- What the idealized kernel computes: the statistics after each point, and the output array. -/
module

public import proofs.«01_k».proof.Proof.IdealRow
public import proofs.«01_k».proof.Proof.IdealFrame
public import proofs.«01_k».proof.Proof.Attention
public import Idealize.ShloMosaic.Lib.Pipeline.ValueKit

@[expose] public section

set_option maxRecDepth 16384

noncomputable section

namespace Cert.KernelIdeal.Att

open Cert.KernelIdeal Cert.KernelIdeal.Gen
open Idealize.ShloMosaic Idealize.ShloMosaic.TcCoe
open Cert.Softmax Cert.Attention

/-! ## One step -/

/-- The statistics of row `r`, and its weighted sum in column `d`, are those over the first `n` keys. -/
structure Follows (σ w : ℕ → EReal) (s : St Ideal) (r : Fin 1024) (d : Fin 128) (n : ℕ) : Prop where
  m : s.m (ix2 r 0) = top σ n
  l : s.l (ix2 r 0) = mass σ n
  acc : s.acc (ix2 r d) = blend σ w n

/-- They start so. -/
theorem follows_init (σ w : ℕ → EReal) (r : Fin 1024) (d : Fin 128) : Follows σ w (init (F := Ideal)) r d 0 where
  m := (init_apply r d).1.trans (top_zero σ).symm
  l := (init_apply r d).2.1.trans (mass_zero σ).symm
  acc := (init_apply r d).2.2.trans (blend_zero σ w).symm

/-- A step takes in one more block of keys. -/
theorem follows_step (σ w : ℕ → EReal) (hσ : ∀ j, σ j ≠ ⊤) (h0 : σ 0 ≠ ⊥) (a b : BitVec 32) (q k v : FVec Ideal S1x1024x128 .bf16)
    (s : St Ideal) (r : Fin 1024) (d : Fin 128) (n : ℕ) (h : Follows σ w s r d n)
    (hp : ∀ j : Fin 1024, k0_pay7 (F := Ideal) a b q k (ix2 r j) = σ (n + j.val)) (hv : ∀ j : Fin 1024, v (ix3 0 j d) = w (n + j.val)) :
    Follows σ w (step a b q k v s) r d (n + 1024) := by
  have e8 : k0_pay8 (F := Ideal) a b q k s.m (ix2 r 0) = top σ (n + 1024) := by
    rw [pay8_apply, top_add, h.m]
    simp only [hp]
    exact congrArg _ (Reductions.sup_fin (fun j => σ (n + j)) 1024)
  refine ⟨(pay5_apply _ r).trans e8, ?_, ?_⟩
  · refine (pay11_apply a b q k s.m s.l r).trans ?_
    rw [e8, h.m, h.l, mass_add σ hσ h0 n 1024 (by decide), Finset.sum_range]
    simp only [hp]
  · refine (pay4_apply a b q k v s.m s.acc r d).trans ?_
    rw [e8, h.m, h.acc, blend_add σ w hσ h0 n 1024 (by decide), Finset.sum_range]
    simp only [hp, hv]

/-! ## The blocks -/

variable (m : (ℓ : Loc nD τ sig) → Buf (Elt Ideal) ℓ) (c : Dev nD)

/-- The head and the sequence of a point. -/
def hd (t : Fin grid0.N) : Fin 16 := ⟨t.val / 144, by have : t.val < 2304 := lt_of_lt_of_eq t.isLt N_0; omega⟩
def sq (t : Fin grid0.N) : ℕ := t.val / 36 % 4

/-- The query window's block index at a step. -/
theorem index0 (t : Fin grid0.N) : ((cfgT (F := Ideal)).win 0).index t = qIx (grid0.coords t) := t0_eq _
/-- The key window's block index at a step. -/
theorem index1 (t : Fin grid0.N) : ((cfgT (F := Ideal)).win 1).index t = kIx (grid0.coords t) := t1_eq _
/-- The value window's block index at a step. -/
theorem index2 (t : Fin grid0.N) : ((cfgT (F := Ideal)).win 2).index t = kIx (grid0.coords t) := t2_eq _

/-- The sequence of a step is one of four. -/
theorem sq_lt (t : Fin grid0.N) : sq t < 4 := Nat.mod_lt _ (by decide)

/-- The array's index under an element of a block that starts at row `1024 (8 b + x)` of a head. -/
theorem place (t : Fin grid0.N) (x : ℕ) (hx : x < 8) (i : S16x32768x128.Idx) (r : Fin 1024) (d : Fin 128)
    (h0 : (i 0).val = t.val / 144) (h1 : (i 1).val = (8 * (t.val / 36 % 4) + x) * 1024 + r.val) (h2 : (i 2).val = d.val) :
    i = ix3 (hd t) (row (sq t) (1024 * x + r.val)) d := by
  have hs := sq_lt t
  have hr := r.isLt
  have e : (row (sq t) (1024 * x + r.val)).val = (i 1).val := by
    show (8192 * sq t + (1024 * x + r.val)) % 32768 = _
    rw [h1]; unfold sq at *; omega
  funext a
  match a with
  | 0 => exact Fin.ext h0
  | 1 => exact Fin.ext e.symm
  | 2 => exact Fin.ext h2

/-- An element of a window's block in its array. -/
theorem emb_q (t : Fin grid0.N) (y : (((cfgT (F := Ideal)).win 0).xblock (grid0.coords t)).Idx) (a : Fin 3) :
    ((((cfgT (F := Ideal)).win 0).blk t).view.emb y a).val = qIx (grid0.coords t) a * S1x1024x128.size a + (y a).val := by
  have h : ((((cfgT (F := Ideal)).win 0).blk t).view.emb y a).val = ((cfgT (F := Ideal)).win 0).index t a * S1x1024x128.size a + 1 * (y a).val := rfl
  rw [h, index0, one_mul]
/-- The place in the keys of an element of the key block. -/
theorem emb_k (t : Fin grid0.N) (y : (((cfgT (F := Ideal)).win 1).xblock (grid0.coords t)).Idx) (a : Fin 3) :
    ((((cfgT (F := Ideal)).win 1).blk t).view.emb y a).val = kIx (grid0.coords t) a * S1x1024x128.size a + (y a).val := by
  have h : ((((cfgT (F := Ideal)).win 1).blk t).view.emb y a).val = ((cfgT (F := Ideal)).win 1).index t a * S1x1024x128.size a + 1 * (y a).val := rfl
  rw [h, index1, one_mul]
/-- The place in the values of an element of the value block. -/
theorem emb_v (t : Fin grid0.N) (y : (((cfgT (F := Ideal)).win 2).xblock (grid0.coords t)).Idx) (a : Fin 3) :
    ((((cfgT (F := Ideal)).win 2).blk t).view.emb y a).val = kIx (grid0.coords t) a * S1x1024x128.size a + (y a).val := by
  have h : ((((cfgT (F := Ideal)).win 2).blk t).view.emb y a).val = ((cfgT (F := Ideal)).win 2).index t a * S1x1024x128.size a + 1 * (y a).val := rfl
  rw [h, index2, one_mul]
/-- The place in the output of an element of the output block. -/
theorem emb_o (t : Fin grid0.N) (y : (((cfgT (F := Ideal)).win 3).xblock (grid0.coords t)).Idx) (a : Fin 3) :
    ((((cfgT (F := Ideal)).win 3).blk t).view.emb y a).val = qIx (grid0.coords t) a * S1x1024x128.size a + (y a).val := by
  have h : ((((cfgT (F := Ideal)).win 3).blk t).view.emb y a).val = ((cfgT (F := Ideal)).win 3).index t a * S1x1024x128.size a + 1 * (y a).val := rfl
  rw [h, index3, one_mul]

/-- A block number's three coordinates. -/
theorem qIx_0 (t : Fin grid0.N) : qIx (grid0.coords t) 0 = t.val / 144 := coords_0 t
/-- The row block that a step takes of the queries. -/
theorem qIx_1 (t : Fin grid0.N) : qIx (grid0.coords t) 1 = 8 * (t.val / 36 % 4) + qb (stp (grid0.coords t)) :=
  congrArg (fun x => 8 * x + qb (stp (grid0.coords t))) (coords_1 t)
/-- The head that a step takes of the keys. -/
theorem kIx_0 (t : Fin grid0.N) : kIx (grid0.coords t) 0 = t.val / 144 := coords_0 t
/-- The row block that a step takes of the keys. -/
theorem kIx_1 (t : Fin grid0.N) : kIx (grid0.coords t) 1 = 8 * (t.val / 36 % 4) + kb (stp (grid0.coords t)) :=
  congrArg (fun x => 8 * x + kb (stp (grid0.coords t))) (coords_1 t)

/-- The query block at a point, at an element, -/
theorem q_apply (t : Fin grid0.N) (r : Fin 1024) (d : Fin 128) :
    qAt m c t (ix3 0 r d) = m (c.tc.loc main_arg0) (ix3 (hd t) (row (sq t) (1024 * qb (stp (grid0.coords t)) + r.val)) d) := by
  have hV : V m c main_arg0 = m (c.tc.loc main_arg0) := by unfold V; after_results
  refine (congrFun hV _).trans (congrArg (m (c.tc.loc main_arg0)) (place t _ (qb_lt _) _ r d ?_ ?_ ?_))
  · exact (emb_q t (ix3 0 r d) 0).trans (by rw [qIx_0]; exact (Nat.mul_one _).trans rfl)
  · exact (emb_q t (ix3 0 r d) 1).trans (by rw [qIx_1]; rfl)
  · exact (emb_q t (ix3 0 r d) 2).trans (by show 0 * 128 + d.val = d.val; omega)
/-- the key block, -/
theorem k_apply (t : Fin grid0.N) (r : Fin 1024) (d : Fin 128) :
    kAt m c t (ix3 0 r d) = m (c.tc.loc main_arg1) (ix3 (hd t) (row (sq t) (1024 * kb (stp (grid0.coords t)) + r.val)) d) := by
  have hV : V m c main_arg1 = m (c.tc.loc main_arg1) := by unfold V; after_results
  refine (congrFun hV _).trans (congrArg (m (c.tc.loc main_arg1)) (place t _ (kb_lt _) _ r d ?_ ?_ ?_))
  · exact (emb_k t (ix3 0 r d) 0).trans (by rw [kIx_0]; exact (Nat.mul_one _).trans rfl)
  · exact (emb_k t (ix3 0 r d) 1).trans (by rw [kIx_1]; rfl)
  · exact (emb_k t (ix3 0 r d) 2).trans (by show 0 * 128 + d.val = d.val; omega)
/-- and the value block. -/
theorem v_apply (t : Fin grid0.N) (r : Fin 1024) (d : Fin 128) :
    vAt m c t (ix3 0 r d) = m (c.tc.loc main_arg2) (ix3 (hd t) (row (sq t) (1024 * kb (stp (grid0.coords t)) + r.val)) d) := by
  have hV : V m c main_arg2 = m (c.tc.loc main_arg2) := by unfold V; after_results
  refine (congrFun hV _).trans (congrArg (m (c.tc.loc main_arg2)) (place t _ (kb_lt _) _ r d ?_ ?_ ?_))
  · exact (emb_v t (ix3 0 r d) 0).trans (by rw [kIx_0]; exact (Nat.mul_one _).trans rfl)
  · exact (emb_v t (ix3 0 r d) 1).trans (by rw [kIx_1]; rfl)
  · exact (emb_v t (ix3 0 r d) 2).trans (by show 0 * 128 + d.val = d.val; omega)

/-! ## The statistics after each point -/

/-- A step that is not first follows a step of the same query block. -/
theorem prev_step : ∀ s : Fin 36, kb s ≠ 0 → ∃ h : 0 < s.val, qb ⟨s.val - 1, by omega⟩ = qb s ∧ kb ⟨s.val - 1, by omega⟩ + 1 = kb s := by
  unfold kb qb; decide +kernel

/-- Every query block has a last step. -/
theorem last_step : ∀ a : Fin 8, ∃ s : Fin 36, qb s = a.val ∧ kb s = a.val := by
  unfold kb qb; decide +kernel

/-- The scores and the values that row `r` of a point's query block takes in. -/
def scoreAt (q k : Arr) (t : Fin grid0.N) (r : Fin 1024) : ℕ → EReal :=
  score q k (hd t) (sq t) (1024 * qb (stp (grid0.coords t)) + r.val)
def valueAt (v : Arr) (t : Fin grid0.N) (d : Fin 128) : ℕ → EReal := value v (hd t) (sq t) d

section Run

variable (q k v : Arr) (hq : Finite q) (hk : Finite k)
  (eq : m (c.tc.loc main_arg0) = q) (ek : m (c.tc.loc main_arg1) = k) (ev : m (c.tc.loc main_arg2) = v)
include hq hk eq ek ev

/-- A point's step takes its key block in. -/
theorem follows_point (t : Fin grid0.N) (r : Fin 1024) (d : Fin 128) (s : St Ideal)
    (h : Follows (scoreAt q k t r) (valueAt v t d) s r d (1024 * kb (stp (grid0.coords t)))) :
    Follows (scoreAt q k t r) (valueAt v t d)
      (step (lit0 (stp (grid0.coords t))) (lit1 (stp (grid0.coords t))) (qAt m c t) (kAt m c t) (vAt m c t) s) r d
      (1024 * kb (stp (grid0.coords t)) + 1024) := by
  refine follows_step _ _ (score_ne_top q k hq hk _ _ _) (score_zero q k hq hk _ _ _) _ _ (qAt m c t) (kAt m c t) (vAt m c t) s r d _ h
    (fun j => ?_) (fun j => ?_)
  · refine (pay7_apply _ _ (qb_lt _) (kb_lt _) (qAt m c t) (kAt m c t) r j).trans ?_
    unfold score
    have e : (lit1 (stp (grid0.coords t))).toNat * 1024 + j.val ≤ (lit0 (stp (grid0.coords t))).toNat * 1024 + r.val
        ↔ 1024 * kb (stp (grid0.coords t)) + j.val ≤ 1024 * qb (stp (grid0.coords t)) + r.val := by
      unfold qb kb; omega
    simp only [e, q_apply, k_apply, eq, ek]
  · rw [v_apply, ev]; rfl

/-- After a point, the statistics are those over the keys up to its key block. -/
theorem follows_traj (n : ℕ) : ∀ (t : Fin grid0.N), t.val = n → ∀ (r : Fin 1024) (d : Fin 128),
    Follows (scoreAt q k t r) (valueAt v t d) (traj m c (t.val + 1)) r d (1024 * kb (stp (grid0.coords t)) + 1024) := by
  induction n with
  | zero =>
    intro t ht r d
    have hf := first_zero t ht
    rw [traj_succ]
    unfold stepAt
    rw [if_pos hf]
    refine follows_point m c q k v hq hk eq ek ev t r d _ ?_
    rw [show kb (stp (grid0.coords t)) = 0 from hf]
    exact follows_init _ _ r d
  | succ n ih =>
    intro t ht r d
    rw [traj_succ]
    unfold stepAt
    refine follows_point m c q k v hq hk eq ek ev t r d _ ?_
    by_cases hf : firstStep (grid0.coords t)
    · rw [if_pos hf, show kb (stp (grid0.coords t)) = 0 from hf]
      exact follows_init _ _ r d
    · rw [if_neg hf]
      obtain ⟨hp, e1, e2⟩ := prev_step _ hf
      have hs := stp_val t
      have hN : t.val < 2304 := lt_of_lt_of_eq t.isLt N_0
      have hu : t.val - 1 < grid0.N := lt_of_lt_of_eq (show t.val - 1 < 2304 by omega) N_0.symm
      have hst : stp (grid0.coords ⟨t.val - 1, hu⟩) = ⟨(stp (grid0.coords t)).val - 1, by omega⟩ := Fin.ext (by
        rw [stp_val]; show (t.val - 1) % 36 = (stp (grid0.coords t)).val - 1; omega)
      have h := ih ⟨t.val - 1, hu⟩ (by show t.val - 1 = n; omega) r d
      have eh : hd ⟨t.val - 1, hu⟩ = hd t := Fin.ext (by show (t.val - 1) / 144 = t.val / 144; omega)
      have es : sq ⟨t.val - 1, hu⟩ = sq t := by show (t.val - 1) / 36 % 4 = t.val / 36 % 4; omega
      unfold scoreAt valueAt at h ⊢
      rw [eh, es, hst, e1, show (⟨t.val - 1, hu⟩ : Fin grid0.N).val + 1 = t.val by show t.val - 1 + 1 = _; omega] at h
      rw [← e2, Nat.mul_add]
      exact h

/-- What a last step stores. -/
theorem out_apply (t : Fin grid0.N) (hl : lastStep (grid0.coords t)) (r : Fin 1024) (d : Fin 128) :
    outOf (traj m c (t.val + 1)) (ix3 0 r d) = result q k v (hd t) (sq t) (1024 * qb (stp (grid0.coords t)) + r.val) d := by
  have h := follows_traj m c q k v hq hk eq ek ev t.val t rfl r d
  have hb := qb_lt (stp (grid0.coords t))
  have hr := r.isLt
  refine (pay6_apply _ _ r d).trans ?_
  rw [h.l, h.acc, show kb (stp (grid0.coords t)) = qb (stp (grid0.coords t)) from hl]
  exact result_of_prefix q k v hq hk _ _ _ _ d (by omega) (by omega)

/-! ## The output array -/

/-- The output array holds the attention of every query row. -/
theorem out_eq : (dats m 0 c).arrAt 3 (cfgT (F := Ideal)).N
    = (fun i : S16x32768x128.Idx => result q k v (i 0) ((i 1).val / 8192) ((i 1).val % 8192) (i 2)) := by
  refine (dats m 0 c).arrAt_eq_of_cover 3 _ (fun t hf => ?_) (fun i => ?_)
  · have hl : lastStep (grid0.coords t) := by
      by_contra h
      exact absurd ((no_flush t h).symm.trans hf) Bool.false_ne_true
    have hb := qb_lt (stp (grid0.coords t))
    have hs := sq_lt t
    funext y
    obtain ⟨r, d, rfl⟩ : ∃ (r : Fin 1024) (d : Fin 128), y = ix3 (0 : Fin 1) r d := ⟨y 1, y 2, funext fun a => by
      match a with
      | 0 => exact Fin.ext (Nat.lt_one_iff.1 (y 0).isLt)
      | 1 => rfl
      | 2 => rfl⟩
    have hr := r.isLt
    have hi : (((cfgT (F := Ideal)).win 3).blk t).view.emb (ix3 (0 : Fin 1) r d)
        = ix3 (hd t) (row (sq t) (1024 * qb (stp (grid0.coords t)) + r.val)) d := by
      refine place t _ hb _ r d ?_ ?_ ?_
      · exact (emb_o t (ix3 0 r d) 0).trans (by rw [qIx_0]; exact (Nat.mul_one _).trans rfl)
      · exact (emb_o t (ix3 0 r d) 1).trans (by rw [qIx_1]; rfl)
      · exact (emb_o t (ix3 0 r d) 2).trans (by show 0 * 128 + d.val = d.val; omega)
    refine (out_apply m c q k v hq hk eq ek ev t hl r d).trans ?_
    have hrow : (row (sq t) (1024 * qb (stp (grid0.coords t)) + r.val)).val = 8192 * sq t + (1024 * qb (stp (grid0.coords t)) + r.val) :=
      Nat.mod_eq_of_lt (by omega)
    refine Eq.trans ?_ (congrArg (fun i : S16x32768x128.Idx => result q k v (i 0) ((i 1).val / 8192) ((i 1).val % 8192) (i 2)) hi).symm
    show _ = result q k v (hd t) ((row (sq t) (1024 * qb (stp (grid0.coords t)) + r.val)).val / 8192)
      ((row (sq t) (1024 * qb (stp (grid0.coords t)) + r.val)).val % 8192) d
    rw [hrow]
    congr 1 <;> omega
  · have h0 : (i 0).val < 16 := (i 0).isLt
    have h1 : (i 1).val < 32768 := (i 1).isLt
    have h2 : (i 2).val < 128 := (i 2).isLt
    obtain ⟨s, e1, e2⟩ := last_step ⟨(i 1).val % 8192 / 1024, by omega⟩
    have hs := s.isLt
    have hu : 144 * (i 0).val + 36 * ((i 1).val / 8192) + s.val < grid0.N :=
      lt_of_lt_of_eq (show 144 * (i 0).val + 36 * ((i 1).val / 8192) + s.val < 2304 by omega) N_0.symm
    have hst : stp (grid0.coords ⟨144 * (i 0).val + 36 * ((i 1).val / 8192) + s.val, hu⟩) = s := Fin.ext (by
      rw [stp_val]; show (144 * (i 0).val + 36 * ((i 1).val / 8192) + s.val) % 36 = s.val; omega)
    refine ⟨⟨144 * (i 0).val + 36 * ((i 1).val / 8192) + s.val, hu⟩, flush_last _ (by unfold lastStep; rw [hst, e1, e2]), ?_⟩
    have e : (((cfgT (F := Ideal)).win 3).blk ⟨144 * (i 0).val + 36 * ((i 1).val / 8192) + s.val, hu⟩).view.emb
        (ix3 (0 : Fin 1) (⟨(i 1).val % 1024, Nat.mod_lt _ (by decide)⟩ : Fin 1024) (⟨(i 2).val, h2⟩ : Fin 128)) = i := by
      funext a
      apply Fin.ext
      refine (emb_o _ _ a).trans ?_
      match a with
      | 0 =>
        rw [qIx_0]
        show (144 * (i 0).val + 36 * ((i 1).val / 8192) + s.val) / 144 * 1 + 0 = (i 0).val
        omega
      | 1 =>
        rw [qIx_1, hst, e1]
        show (8 * ((144 * (i 0).val + 36 * ((i 1).val / 8192) + s.val) / 36 % 4) + (i 1).val % 8192 / 1024) * 1024 + (i 1).val % 1024 = (i 1).val
        omega
      | 2 =>
        show 0 * 128 + (i 2).val = (i 2).val
        omega
    have hm := (((cfgT (F := Ideal)).win 3).blk ⟨144 * (i 0).val + 36 * ((i 1).val / 8192) + s.val, hu⟩).view.emb_mem_set
      (ix3 (0 : Fin 1) (⟨(i 1).val % 1024, Nat.mod_lt _ (by decide)⟩ : Fin 1024) (⟨(i 2).val, h2⟩ : Fin 128))
    rw [e] at hm
    exact hm

end Run

end Cert.KernelIdeal.Att

end
-- ==== Proof.RefValue.lean ====
/- The reference's result at an index, over the extended reals. -/
module

public import proofs.«01_k».proof.Proof.Attention
public import proofs.«01_k».proof.Proof.Reductions
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Att

open Cert.ReferenceIdeal Cert.ReferenceIdeal.Gen
open Idealize.ShloMosaic Idealize.ShloMosaic.TcCoe

/-- The rows of the four sequences apart. -/
def split (x : FVec Ideal S16x32768x128 .bf16) : FVec Ideal S16x4x8192x128 .f32 :=
  shapeCast S16x4x8192x128 (extf .f32 x bitsLt_bf16_f32) shapeCasts_S16x32768x128_S16x4x8192x128

/-- Which keys a query row takes in: those not after it. -/
def keep : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The masked scores of all rows and keys. -/
def scores (q k : FVec Ideal S16x4x8192x128 .f32) : FVec Ideal S16x4x8192x8192 .f32 :=
  select (broadcastInDim S16x4x8192x8192 ![2, 3] bcast_S8192x8192_S16x4x8192x8192_2_3 keep)
    (Host.dotGeneral dot_S16x4x8192x128_S16x4x8192x128_S16x4x8192x8192_3_3_2_2_01_01 none q k)
    (broadcastInDim S16x4x8192x8192 ![] bcast_S_S16x4x8192x8192 (id (constant (F := Ideal) S_ .f32 0xFF800000#32)))

/-- The maximum of each row's scores. -/
def peak (x : FVec Ideal S16x4x8192x8192 .f32) : FVec Ideal S16x4x8192 .f32 :=
  Host.reduce FloatOps.maximumf x (constant (F := Ideal) S_ .f32 0xFF800000#32) reducesTo_S16x4x8192x8192_S16x4x8192_d3 h_S_

/-- The exponentials of scores under given maxima. -/
def weights (x : FVec Ideal S16x4x8192x8192 .f32) (m : FVec Ideal S16x4x8192 .f32) : FVec Ideal S16x4x8192x8192 .f32 :=
  Host.exp (subf x (broadcastInDim S16x4x8192x8192 ![0, 1, 2, 3] bcast_S16x4x8192x1_S16x4x8192x8192_0_1_2_3
    (broadcastInDim S16x4x8192x1 ![0, 1, 2] bcast_S16x4x8192_S16x4x8192x1_0_1_2
      (maximumf (broadcastInDim S16x4x8192 ![] bcast_S_S16x4x8192 (constant (F := Ideal) S_ .f32 0xFF800000#32)) m))))

/-- The sum of each row's weights. -/
def total (w : FVec Ideal S16x4x8192x8192 .f32) : FVec Ideal S16x4x8192 .f32 :=
  Host.reduceAdd w (constant (F := Ideal) S_ .f32 0x00000000#32) reducesTo_S16x4x8192x8192_S16x4x8192_d3 h_S_

/-- Weights divided by given sums. -/
def shares (w : FVec Ideal S16x4x8192x8192 .f32) (s : FVec Ideal S16x4x8192 .f32) : FVec Ideal S16x4x8192x8192 .f32 :=
  Host.divf w (broadcastInDim S16x4x8192x8192 ![0, 1, 2, 3] bcast_S16x4x8192x1_S16x4x8192x8192_0_1_2_3
    (broadcastInDim S16x4x8192x1 ![0, 1, 2] bcast_S16x4x8192_S16x4x8192x1_0_1_2 s))

/-- The values under given shares. -/
def mix (p : FVec Ideal S16x4x8192x8192 .f32) (v : FVec Ideal S16x4x8192x128 .f32) : FVec Ideal S16x4x8192x128 .f32 :=
  Host.dotGeneral dot_S16x4x8192x8192_S16x4x8192x128_S16x4x8192x128_3_2_2_3_01_01 none p v

/-- The rows of the four sequences end to end again. -/
def join (x : FVec Ideal S16x4x8192x128 .f32) : FVec Ideal S16x32768x128 .bf16 :=
  truncf .bf16 (shapeCast S16x32768x128 x shapeCasts_S16x4x8192x128_S16x32768x128) bitsLt_bf16_f32

/-- The reference's result is the stages in turn. -/
theorem res_eq (m : (ℓ : Loc nD τ sig) → Buf (Elt Ideal) ℓ) (c : Dev nD) (x : FVec Ideal S16x4x8192x8192 .f32)
    (hx : x = scores (split (m (c.tc.loc main_arg0))) (split (m (c.tc.loc main_arg1))))
    (w : FVec Ideal S16x4x8192x8192 .f32) (hw : w = weights x (peak x)) :
    Value.res_main_v27 m c = join (mix (shares w (total w)) (split (m (c.tc.loc main_arg2)))) := by
  subst hw hx
  rfl

/-- Row `p` of sequence `b` of an array. -/
theorem split_apply (x : FVec Ideal S16x32768x128 .bf16) (h : Fin 16) (b : Fin 4) (p : Fin 8192) (d : Fin 128) :
    split x (ix4 h b p d) = x (ix3 h (Attention.row b.val p.val) d) := by
  pointwise [split]
  congr 2
  exact Fin.ext (by show b.val * 8192 + p.val = (8192 * b.val + p.val) % 32768; have := b.isLt; have := p.isLt; omega)

/-- The comparison of two positions spelt in words. -/
theorem keep_apply (p j : Fin 8192) : keep (ix2 p j) = BitVec.ofBool (decide (j.val ≤ p.val)) := by
  pointwise [keep]
  show BitVec.ofBool (BitVec.sle _ _) = _
  have e : ∀ n : Fin 8192, (BitVec.ofNat 32 n.val).toNat = n.val := fun n => by rw [BitVec.toNat_ofNat]; have := n.isLt; omega
  rw [BitVec.sle_eq_decide, BitVec.toInt_eq_toNat_of_lt (by rw [e]; omega), BitVec.toInt_eq_toNat_of_lt (by rw [e]; omega), e, e]
  congr 1
  exact decide_eq_decide.2 Int.ofNat_le

/-- The masked score of a row and a key. -/
theorem scores_apply (q k : FVec Ideal S16x4x8192x128 .f32) (h : Fin 16) (b : Fin 4) (p j : Fin 8192) :
    scores q k (ix4 h b p j) = if j.val ≤ p.val then ∑ d : Fin 128, q (ix4 h b p d) * k (ix4 h b j d) else ⊥ := by
  pointwise [scores]
  rw [keep_apply]
  by_cases e : j.val ≤ p.val
  · rw [if_pos e, decide_eq_true e]; rfl
  · rw [if_neg e, decide_eq_false e]; exact Reductions.bot_word

/-- The exponential of a score under a maximum. -/
theorem weights_apply (x : FVec Ideal S16x4x8192x8192 .f32) (m : FVec Ideal S16x4x8192 .f32) (h : Fin 16) (b : Fin 4) (p j : Fin 8192) :
    weights x m (ix4 h b p j) = Ideal.exp (x (ix4 h b p j) - m (ix3 h b p)) := by
  pointwise [weights]
  rw [Reductions.bot_word, bot_sup_eq]

/-- A weight over a sum. -/
theorem shares_apply (w : FVec Ideal S16x4x8192x8192 .f32) (s : FVec Ideal S16x4x8192 .f32) (h : Fin 16) (b : Fin 4) (p j : Fin 8192) :
    shares w s (ix4 h b p j) = Ideal.div (w (ix4 h b p j)) (s (ix3 h b p)) := by
  pointwise [shares]

/-- A row of the mixed values. -/
theorem mix_apply (p : FVec Ideal S16x4x8192x8192 .f32) (v : FVec Ideal S16x4x8192x128 .f32) (h : Fin 16) (b : Fin 4) (r : Fin 8192) (d : Fin 128) :
    mix p v (ix4 h b r d) = ∑ j : Fin 8192, p (ix4 h b r j) * v (ix4 h b j d) := by
  unfold mix
  simp only [Host.dotGeneral]
  rw [Ideal.dotGeneral_def]
  refine (Ideal.matmul_apply₁_of dot_S16x4x8192x8192_S16x4x8192x128_S16x4x8192x128_3_2_2_3_01_01 (a := 3) rfl (K := 8192) rfl p v _ (ix4 h b r d)
    (fun j => ix4 h b r j) (fun j => ix4 h b j d) (fun j => ?_) (fun j => ?_)).trans ?_
  · pointwise
  · pointwise
  · exact zero_add _

/-- A row of the result. -/
theorem join_apply (x : FVec Ideal S16x4x8192x128 .f32) (h : Fin 16) (b : Fin 4) (p : Fin 8192) (d : Fin 128) :
    join x (ix3 h (Attention.row b.val p.val) d) = x (ix4 h b p d) := by
  have e : (Attention.row b.val p.val).val = 8192 * b.val + p.val :=
    Nat.mod_eq_of_lt (show 8192 * b.val + p.val < 32768 by have := b.isLt; have := p.isLt; omega)
  pointwise [join]
  congr 1
  congr 1 <;> exact Fin.ext (by simp only [e]; have := p.isLt; omega)

open Cert.Softmax Cert.Attention in
/-- The reference's result at an index is the attention of the query row there. -/
theorem res_apply (m : (ℓ : Loc nD τ sig) → Buf (Elt Ideal) ℓ) (c : Dev nD) (q k v : Arr) (hq : Finite q) (hk : Finite k)
    (eq : m (c.tc.loc main_arg0) = q) (ek : m (c.tc.loc main_arg1) = k) (ev : m (c.tc.loc main_arg2) = v)
    (h : Fin 16) (b : Fin 4) (p : Fin 8192) (d : Fin 128) :
    Value.res_main_v27 m c (ix3 h (row b.val p.val) d) = result q k v h b.val p.val d := by
  obtain ⟨x, hx⟩ : ∃ x, x = scores (split (m (c.tc.loc main_arg0))) (split (m (c.tc.loc main_arg1))) := ⟨_, rfl⟩
  obtain ⟨w, hw⟩ : ∃ w, w = weights x (peak x) := ⟨_, rfl⟩
  obtain ⟨z, hz⟩ : ∃ z, z = split (m (c.tc.loc main_arg2)) := ⟨_, rfl⟩
  have xs : ∀ j : Fin 8192, x (ix4 h b p j) = score q k h b.val p.val j.val := fun j => by
    rw [hx, scores_apply]
    unfold score
    simp only [split_apply, eq, ek]
  have zs : ∀ j : Fin 8192, z (ix4 h b j d) = value v h b.val d j.val := fun j => by
    rw [hz, split_apply, ev]; rfl
  have ps : peak x (ix3 h b p) = top (score q k h b.val p.val) 8192 :=
    (Reductions.lastMax x reducesTo_S16x4x8192x8192_S16x4x8192_d3 h_S_ h b p).trans (by simp only [xs]; exact Reductions.sup_fin _ 8192)
  have ws : ∀ j : Fin 8192, w (ix4 h b p j)
      = Ideal.exp (score q k h b.val p.val j.val - top (score q k h b.val p.val) 8192) := fun j => by
    rw [hw, weights_apply, xs, ps]
  have ts : total w (ix3 h b p) = mass (score q k h b.val p.val) 8192 :=
    (Reductions.lastSum w reducesTo_S16x4x8192x8192_S16x4x8192_d3 h_S_ h b p).trans (by
      simp only [ws]
      unfold mass
      rw [Finset.sum_range])
  have e : join (mix (shares w (total w)) z) (ix3 h (row b.val p.val) d) = result q k v h b.val p.val d := by
    rw [result_eq q k v hq hk, Finset.sum_range, join_apply, mix_apply]
    refine Finset.sum_congr rfl fun j _ => ?_
    rw [shares_apply, ws, ts, zs]
  exact (congrFun (res_eq m c x hx w hw) (ix3 h (row b.val p.val) d)).trans (hz ▸ e)

end Cert.ReferenceIdeal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.GluValue
public import proofs.«01_k».proof.Proof.GluRef
public import proofs.«01_k».proof.Proof.OutValue
public import proofs.«01_k».proof.Proof.OutRef
public import proofs.«01_k».proof.Proof.GatedValue
public import proofs.«01_k».proof.Proof.GatedRef
public import proofs.«01_k».proof.Proof.ConvValue
public import proofs.«01_k».proof.Proof.ConvRef
public import proofs.«01_k».proof.Proof.ProjValue
public import proofs.«01_k».proof.Proof.ProjRef
public import proofs.«01_k».proof.Proof.Frame
public import proofs.«01_k».proof.Proof.IdealFrame
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic Idealize.SL.Sem

/-- The side conditions the precondition's function states. -/
theorem finite_facts : Cert.Pre_finite.Facts := ⟨by decide, by decide⟩

/-- The kernel runs, keeps its arguments and leaves every counter at zero. -/
theorem frame_kernel : Cert.quiescent_Kernel (hKernel := Cert.Kernel.Gen.facts) := fun m g _ =>
  (θ_run Cert.Kernel.defs _ _).mono (fun r h => ⟨fun c => Cert.Kernel.Att.args_kept m r h.1 c, h.2⟩) (Cert.Kernel.Att.run_main m g)

/-- So does its idealization. -/
theorem frame_ideal : Cert.quiescent_KernelIdeal (hKernelIdeal := Cert.KernelIdeal.Gen.facts) := fun m g _ =>
  (θ_run Cert.KernelIdeal.defs _ _).mono (fun r h => ⟨fun c => Cert.KernelIdeal.Att.args_kept m r h.1 c, h.2⟩) (Cert.KernelIdeal.Att.run_main m g)

/-- So does the reference, which has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The f32 word of +∞. -/
theorem top_word : Ideal.ofBits .f32 0x7F800000#32 = (⊤ : EReal) := by simp [Ideal.ofBits, Ideal.ieee]

/-- A number whose absolute value is below +∞ is real. -/
theorem real_of_abs_lt (x : EReal) (h : Ideal.cmp .olt (max x (-x)) (Ideal.ofBits .f32 0x7F800000#32) = 1#1) : ∃ r : ℝ, x = (r : EReal) := by
  rw [top_word] at h
  induction x with
  | bot => simp [Ideal.cmp] at h
  | top => simp [Ideal.cmp] at h
  | coe r => exact ⟨r, rfl⟩

/-- The precondition says that the queries and the keys are real numbers. -/
theorem finite_of_pre (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    Attention.Finite (m (c.tc.loc Cert.KernelIdeal.main_arg0)) ∧ Attention.Finite (m (c.tc.loc Cert.KernelIdeal.main_arg1)) :=
  ⟨fun i => real_of_abs_lt _ (congrFun (h c).1 i), fun i => real_of_abs_lt _ (congrFun (h c).2 i)⟩

/-- The attention of every query row, as an array. -/
def attention (q k v : Attention.Arr) : Attention.Arr :=
  fun i => Attention.result q k v (i 0) ((i 1).val / 8192) ((i 1).val % 8192) (i 2)

/-- The reference computes it. -/
theorem reference_eq (m : (ℓ : Loc Cert.ReferenceIdeal.nD Cert.ReferenceIdeal.τ Cert.ReferenceIdeal.sig) → Buf (Elt Ideal) ℓ)
    (c : Dev Cert.ReferenceIdeal.nD) (q k v : Attention.Arr) (hq : Attention.Finite q) (hk : Attention.Finite k)
    (eq : m (c.tc.loc Cert.ReferenceIdeal.main_arg0) = q) (ek : m (c.tc.loc Cert.ReferenceIdeal.main_arg1) = k)
    (ev : m (c.tc.loc Cert.ReferenceIdeal.main_arg2) = v) :
    Cert.ReferenceIdeal.Value.res_main_v27 m c = attention q k v := by
  funext i
  have h1 : (i 1).val < 32768 := (i 1).isLt
  have e : i = ix3 (i 0) (Attention.row ((i 1).val / 8192) ((i 1).val % 8192)) (i 2) := by
    funext a
    match a with
    | 0 => rfl
    | 1 => exact Fin.ext (by show (i 1).val = (8192 * ((i 1).val / 8192) + (i 1).val % 8192) % 32768; omega)
    | 2 => rfl
  have h := Cert.ReferenceIdeal.Att.res_apply m c q k v hq hk eq ek ev (i 0) ⟨(i 1).val / 8192, by omega⟩
    ⟨(i 1).val % 8192, Nat.mod_lt _ (by decide)⟩ (i 2)
  exact (congrArg (Cert.ReferenceIdeal.Value.res_main_v27 m c) e).trans h

/-- The idealization and the reference end with equal results. -/
theorem equal : Cert.algebraic_KernelIdeal_ReferenceIdeal_pre_finite (hKernelIdeal := Cert.KernelIdeal.Gen.facts)
    (hReferenceIdeal := Cert.ReferenceIdeal.Gen.facts) (hPre_finite := finite_facts) := fun m g m' g' hp ha =>
  ⟨fun c => attention (m (c.tc.loc Cert.KernelIdeal.main_arg0)) (m (c.tc.loc Cert.KernelIdeal.main_arg1)) (m (c.tc.loc Cert.KernelIdeal.main_arg2)),
    (θ_run Cert.KernelIdeal.defs _ _).mono (fun r h c => ⟨((h.1 c).1 3).trans
        (Cert.KernelIdeal.Att.out_eq m c _ _ _ (finite_of_pre m hp c).1 (finite_of_pre m hp c).2 rfl rfl rfl),
      Cert.KernelIdeal.Att.args_kept m r h.1 c⟩) (Cert.KernelIdeal.Att.run_main m g),
    (θ_run Cert.ReferenceIdeal.defs _ _).mono (fun r h c => ⟨(h c).1.trans
        (reference_eq m' c _ _ _ (finite_of_pre m hp c).1 (finite_of_pre m hp c).2 (ha c).1 (ha c).2.1 (ha c).2.2), (h c).2⟩)
      (Cert.ReferenceIdeal.Value.run (F := Ideal) m' g')⟩

/-! ## The first call of the convolution mixer -/

/-- The reference of it keeps its arguments and has no counter. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The idealization and the reference of it end with equal results. -/
theorem equal2 : Cert.algebraic_Kernel2Ideal_Reference2Ideal (hKernel2Ideal := Cert.Kernel2Ideal.Gen.facts)
    (hReference2Ideal := Cert.Reference2Ideal.Gen.facts) := fun m g m' g' _ ha =>
  ⟨fun c => Cert.Kernel2Ideal.Mix.res m c,
    (θ_run Cert.Kernel2Ideal.defs _ _).mono (fun _ h c => ⟨(h c).1.trans (Cert.Kernel2Ideal.Mix.out_eq m c), (h c).2⟩)
      (Cert.Kernel2Ideal.Value.run_blocks m g),
    (θ_run Cert.Reference2Ideal.defs _ _).mono (fun _ h c => ⟨(h c).1.trans (Cert.Reference2Ideal.Mix.whole_of m' c _ _ _ _ _ _ (ha c)), (h c).2⟩)
      (Cert.Reference2Ideal.Value.run (F := Ideal) m' g')⟩

/-! ## The latent attention's output call -/

/-- The reference of it keeps its arguments and has no counter. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The idealization and the reference of it end with equal results. -/
theorem equal3 : Cert.algebraic_Kernel3Ideal_Reference3Ideal (hKernel3Ideal := Cert.Kernel3Ideal.Gen.facts)
    (hReference3Ideal := Cert.Reference3Ideal.Gen.facts) := fun m g m' g' _ ha =>
  ⟨fun c => Cert.Kernel3Ideal.Out.res m c,
    (θ_run Cert.Kernel3Ideal.defs _ _).mono (fun _ h c => ⟨(h c).1.trans (Cert.Kernel3Ideal.Out.out_eq m c), (h c).2⟩)
      (Cert.Kernel3Ideal.Value.run_blocks m g),
    (θ_run Cert.Reference3Ideal.defs _ _).mono (fun _ h c => ⟨(h c).1.trans (Cert.Reference3Ideal.Out.whole_of m' c _ _ _ _ (ha c)), (h c).2⟩)
      (Cert.Reference3Ideal.Value.run (F := Ideal) m' g')⟩

/-! ## The sparse attention's output call -/

/-- The reference of it keeps its arguments and has no counter. -/
theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The idealization and the reference of it end with equal results. -/
theorem equal4 : Cert.algebraic_Kernel4Ideal_Reference4Ideal (hKernel4Ideal := Cert.Kernel4Ideal.Gen.facts)
    (hReference4Ideal := Cert.Reference4Ideal.Gen.facts) := fun m g m' g' _ ha =>
  ⟨fun c => Cert.Kernel4Ideal.Out.res m c,
    (θ_run Cert.Kernel4Ideal.defs _ _).mono (fun _ h c => ⟨(h c).1.trans (Cert.Kernel4Ideal.Out.out_eq m c), (h c).2⟩)
      (Cert.Kernel4Ideal.Value.run_blocks m g),
    (θ_run Cert.Reference4Ideal.defs _ _).mono (fun _ h c => ⟨(h c).1.trans (Cert.Reference4Ideal.Out.whole_of m' c _ _ _ _ _ _ _ (ha c)), (h c).2⟩)
      (Cert.Reference4Ideal.Value.run (F := Ideal) m' g')⟩

/-! ## The second call of the convolution mixer -/

/-- The reference of it keeps its arguments and has no counter. -/
theorem frame_reference5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The idealization and the reference of it end with equal results. -/
theorem equal5 : Cert.algebraic_Kernel5Ideal_Reference5Ideal (hKernel5Ideal := Cert.Kernel5Ideal.Gen.facts)
    (hReference5Ideal := Cert.Reference5Ideal.Gen.facts) := fun m g m' g' _ ha =>
  ⟨fun c => Cert.Kernel5Ideal.Mix.res m c,
    (θ_run Cert.Kernel5Ideal.defs _ _).mono (fun _ h c => ⟨(h c).1.trans (Cert.Kernel5Ideal.Mix.out_eq m c), (h c).2⟩)
      (Cert.Kernel5Ideal.Value.run_blocks m g),
    (θ_run Cert.Reference5Ideal.defs _ _).mono (fun _ h c => ⟨(h c).1.trans (Cert.Reference5Ideal.Mix.whole_of m' c _ _ _ _ _ _ _ _ _ (ha c)), (h c).2⟩)
      (Cert.Reference5Ideal.Value.run (F := Ideal) m' g')⟩

/-! ## The projections' call of the sparse attention -/

/-- The reference of it keeps its arguments and has no counter. -/
theorem frame_reference6 : Cert.quiescent_Reference6Ideal (hReference6Ideal := Cert.Reference6Ideal.Gen.facts) := fun m g _ =>
  (θ_run Cert.Reference6Ideal.defs _ _).mono (fun r h => ⟨fun c => (h c).2.2.2, sem_eq_zero_of_no_sems (by decide) r.2⟩)
    (Cert.Reference6Ideal.Value.run (F := Ideal) m g)

/-- The angles of both are the same. -/
theorem angles_eq : Cert.Reference6Ideal.Proj.angles = Cert.Kernel6Ideal.Proj.angles := rfl
/-- So are their cosines -/
theorem cosines_eq : Cert.Reference6Ideal.Proj.cosines = Cert.Kernel6Ideal.Proj.cosines := by
  unfold Cert.Reference6Ideal.Proj.cosines Cert.Kernel6Ideal.Proj.cosines
  rw [angles_eq]
/-- and sines. -/
theorem sines_eq : Cert.Reference6Ideal.Proj.sines = Cert.Kernel6Ideal.Proj.sines := by
  unfold Cert.Reference6Ideal.Proj.sines Cert.Kernel6Ideal.Proj.sines
  rw [angles_eq]

/-- The idealization and the reference of it end with equal results. -/
theorem equal6 : Cert.algebraic_Kernel6Ideal_Reference6Ideal (hKernel6Ideal := Cert.Kernel6Ideal.Gen.facts)
    (hReference6Ideal := Cert.Reference6Ideal.Gen.facts) := fun m g m' g' _ ha =>
  ⟨fun c => Cert.Kernel6Ideal.Proj.qres m c, fun c => Cert.Kernel6Ideal.Proj.kres m c, fun c => Cert.Kernel6Ideal.Proj.gres m c,
    (θ_run Cert.Kernel6Ideal.defs _ _).mono (fun _ h c => ⟨(h c).1.trans (Cert.Kernel6Ideal.Proj.qout_eq m c),
        (h c).2.1.trans (Cert.Kernel6Ideal.Proj.kout_eq m c), (h c).2.2.1.trans (Cert.Kernel6Ideal.Proj.gout_eq m c), (h c).2.2.2⟩)
      (Cert.Kernel6Ideal.Value.run_blocks m g),
    (θ_run Cert.Reference6Ideal.defs _ _).mono (fun _ h c => by
        have w := Cert.Reference6Ideal.Proj.whole_of m' c _ _ _ _ _ _ _ (ha c)
        rw [cosines_eq, sines_eq] at w
        have q := Cert.Reference6Ideal.Proj.run_q m' c
        have k := Cert.Reference6Ideal.Proj.run_k m' c
        rw [cosines_eq, sines_eq] at q k
        exact ⟨(h c).1.trans (q.trans w.1), (h c).2.1.trans (k.trans w.2.1),
          (h c).2.2.1.trans ((Cert.Reference6Ideal.Proj.run_g m' c).trans w.2.2), (h c).2.2.2⟩)
      (Cert.Reference6Ideal.Value.run (F := Ideal) m' g')⟩

/-- All the claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, finite_facts,
  frame_kernel, frame_ideal, fun m g _ => frame_ideal m g trivial, frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  IdealRules.named_const.statement Cert.KernelIdeal.κ "mask" .f32 0xF149F2CA#32 ⊥ rfl, equal, trivial, equal2, trivial, equal3, trivial, equal4, trivial, equal5, trivial, equal6⟩

end Cert.Proof

end
